-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_hidden_finite [hPre_hidden_finite : Cert.Pre_hidden_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_hidden_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_hidden_finite [hPre_hidden_finite : Cert.Pre_hidden_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_hidden_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_glu_finite [hPre_glu_finite : Cert.Pre_glu_finite.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_glu_finite.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4)) (m ((c.tc : Thread Cert.Kernel33Ideal.nD Cert.Kernel33Ideal.τ).loc Cert.Kernel33Ideal.main_arg5)) (m ((c.tc : Thread Cert.Kernel33Ideal.nD Cert.Kernel33Ideal.τ).loc Cert.Kernel33Ideal.main_arg6))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_glu_finite [hPre_glu_finite : Cert.Pre_glu_finite.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_glu_finite.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4)) (m ((c.tc : Thread Cert.Reference33Ideal.nD Cert.Reference33Ideal.τ).loc Cert.Reference33Ideal.main_arg5)) (m ((c.tc : Thread Cert.Reference33Ideal.nD Cert.Reference33Ideal.τ).loc Cert.Reference33Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_hidden_finite [hKernel2Ideal : Cert.Kernel2Ideal.Facts] [hPre_hidden_finite : Cert.Pre_hidden_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_hidden_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_hidden_finite [hReference2Ideal : Cert.Reference2Ideal.Facts] [hPre_hidden_finite : Cert.Pre_hidden_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_hidden_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Kernel33Ideal_pre_glu_finite [hKernel33Ideal : Cert.Kernel33Ideal.Facts] [hPre_glu_finite : Cert.Pre_glu_finite.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_glu_finite m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def quiescent_Reference33Ideal_pre_glu_finite [hReference33Ideal : Cert.Reference33Ideal.Facts] [hPre_glu_finite : Cert.Pre_glu_finite.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_glu_finite m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_hidden_finite [hKernel2Ideal : Cert.Kernel2Ideal.Facts] [hReference2Ideal : Cert.Reference2Ideal.Facts] [hPre_hidden_finite : Cert.Pre_hidden_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_hidden_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)) (v3 : (c : Dev Cert.Kernel10Ideal.nD) → Buf (Elt Ideal) ((c.tc : Thread Cert.Kernel10Ideal.nD Cert.Kernel10Ideal.τ).loc Cert.Kernel10Ideal.main_v8_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_v8_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v10_0)) (v1 : (c : Dev Cert.Kernel17Ideal.nD) → Buf (Elt Ideal) ((c.tc : Thread Cert.Kernel17Ideal.nD Cert.Kernel17Ideal.τ).loc Cert.Kernel17Ideal.main_v10_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v10_0) = v0 c
          ∧ r.2.mem ((c.tc : Thread Cert.Kernel17Ideal.nD Cert.Kernel17Ideal.τ).loc Cert.Kernel17Ideal.main_v10_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v10)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v10) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v20) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v6_0)) (v1 : (c : Dev Cert.Kernel21Ideal.nD) → Buf (Elt Ideal) ((c.tc : Thread Cert.Kernel21Ideal.nD Cert.Kernel21Ideal.τ).loc Cert.Kernel21Ideal.main_v6_1)) (v2 : (c : Dev Cert.Kernel21Ideal.nD) → Buf (Elt Ideal) ((c.tc : Thread Cert.Kernel21Ideal.nD Cert.Kernel21Ideal.τ).loc Cert.Kernel21Ideal.main_v6_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6_0) = v0 c
          ∧ r.2.mem ((c.tc : Thread Cert.Kernel21Ideal.nD Cert.Kernel21Ideal.τ).loc Cert.Kernel21Ideal.main_v6_1) = v1 c
          ∧ r.2.mem ((c.tc : Thread Cert.Kernel21Ideal.nD Cert.Kernel21Ideal.τ).loc Cert.Kernel21Ideal.main_v6_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v52) = v0 c
          ∧ r.2.mem ((c.tc : Thread Cert.Reference21Ideal.nD Cert.Reference21Ideal.τ).loc Cert.Reference21Ideal.main_v53) = v1 c
          ∧ r.2.mem ((c.tc : Thread Cert.Reference21Ideal.nD Cert.Reference21Ideal.τ).loc Cert.Reference21Ideal.main_v54) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v6_0)) (v1 : (c : Dev Cert.Kernel22Ideal.nD) → Buf (Elt Ideal) ((c.tc : Thread Cert.Kernel22Ideal.nD Cert.Kernel22Ideal.τ).loc Cert.Kernel22Ideal.main_v6_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6_0) = v0 c
          ∧ r.2.mem ((c.tc : Thread Cert.Kernel22Ideal.nD Cert.Kernel22Ideal.τ).loc Cert.Kernel22Ideal.main_v6_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v11) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v6_0)) (v1 : (c : Dev Cert.Kernel25Ideal.nD) → Buf (Elt Ideal) ((c.tc : Thread Cert.Kernel25Ideal.nD Cert.Kernel25Ideal.τ).loc Cert.Kernel25Ideal.main_v6_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v6_0) = v0 c
          ∧ r.2.mem ((c.tc : Thread Cert.Kernel25Ideal.nD Cert.Kernel25Ideal.τ).loc Cert.Kernel25Ideal.main_v6_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_v14) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v9)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v9) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v10)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v10) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v10)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v10) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v17) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  IdealRules.named_const.Statement Cert.Kernel33Ideal.κ "gelu_a" .f32 0x3D372713#32 ((8943 / 200000 : ℝ) : EReal)
  ∧ IdealRules.named_const.Statement Cert.Kernel33Ideal.κ "gelu_3a" .f32 0x3E095D4F#32 ((26829 / 200000 : ℝ) : EReal)

def algebraic_Kernel33Ideal_Reference33Ideal_pre_glu_finite [hKernel33Ideal : Cert.Kernel33Ideal.Facts] [hReference33Ideal : Cert.Reference33Ideal.Facts] [hPre_glu_finite : Cert.Pre_glu_finite.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_glu_finite m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)) →
    ∃ (v0 : (c : Dev Cert.Kernel33Ideal.nD) → Buf (Elt Ideal) ((c.tc : Thread Cert.Kernel33Ideal.nD Cert.Kernel33Ideal.τ).loc Cert.Kernel33Ideal.main_v6_0)) (v1 : (c : Dev Cert.Kernel33Ideal.nD) → Buf (Elt Ideal) ((c.tc : Thread Cert.Kernel33Ideal.nD Cert.Kernel33Ideal.τ).loc Cert.Kernel33Ideal.main_v6_1)) (v2 : (c : Dev Cert.Kernel33Ideal.nD) → Buf (Elt Ideal) ((c.tc : Thread Cert.Kernel33Ideal.nD Cert.Kernel33Ideal.τ).loc Cert.Kernel33Ideal.main_v6_2)) (v3 : (c : Dev Cert.Kernel33Ideal.nD) → Buf (Elt Ideal) ((c.tc : Thread Cert.Kernel33Ideal.nD Cert.Kernel33Ideal.τ).loc Cert.Kernel33Ideal.main_v6_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v6_0) = v0 c
          ∧ r.2.mem ((c.tc : Thread Cert.Kernel33Ideal.nD Cert.Kernel33Ideal.τ).loc Cert.Kernel33Ideal.main_v6_1) = v1 c
          ∧ r.2.mem ((c.tc : Thread Cert.Kernel33Ideal.nD Cert.Kernel33Ideal.τ).loc Cert.Kernel33Ideal.main_v6_2) = v2 c
          ∧ r.2.mem ((c.tc : Thread Cert.Kernel33Ideal.nD Cert.Kernel33Ideal.τ).loc Cert.Kernel33Ideal.main_v6_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v64) = v0 c
          ∧ r.2.mem ((c.tc : Thread Cert.Reference33Ideal.nD Cert.Reference33Ideal.τ).loc Cert.Reference33Ideal.main_v65) = v1 c
          ∧ r.2.mem ((c.tc : Thread Cert.Reference33Ideal.nD Cert.Reference33Ideal.τ).loc Cert.Reference33Ideal.main_v60) = v2 c
          ∧ r.2.mem ((c.tc : Thread Cert.Reference33Ideal.nD Cert.Reference33Ideal.τ).loc Cert.Reference33Ideal.main_v63) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_qk_finite : Cert.Pre_qk_finite.Facts) (hPre_hidden_finite : Cert.Pre_hidden_finite.Facts) (hPre_glu_finite : Cert.Pre_glu_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Kernel2Ideal_pre_hidden_finite (hKernel2Ideal := hKernel2Ideal) (hPre_hidden_finite := hPre_hidden_finite)
    ∧ quiescent_Reference2Ideal (hReference2Ideal := hReference2Ideal)
    ∧ quiescent_Reference2Ideal_pre_hidden_finite (hReference2Ideal := hReference2Ideal) (hPre_hidden_finite := hPre_hidden_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_glu_finite (hKernel33Ideal := hKernel33Ideal) (hPre_glu_finite := hPre_glu_finite)
    ∧ quiescent_Reference33Ideal (hReference33Ideal := hReference33Ideal)
    ∧ quiescent_Reference33Ideal_pre_glu_finite (hReference33Ideal := hReference33Ideal) (hPre_glu_finite := hPre_glu_finite)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal_pre_hidden_finite (hKernel2Ideal := hKernel2Ideal) (hReference2Ideal := hReference2Ideal) (hPre_hidden_finite := hPre_hidden_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_glu_finite (hKernel33Ideal := hKernel33Ideal) (hReference33Ideal := hReference33Ideal) (hPre_glu_finite := hPre_glu_finite)
-- ==== Pre_glu_finite.lean ====
abbrev S4096x2048 : Shape := ⟨2, ![4096, 2048]⟩
abbrev S4096x1024 : Shape := ⟨2, ![4096, 1024]⟩
abbrev S512x2048 : Shape := ⟨2, ![512, 2048]⟩
abbrev S1024x512 : Shape := ⟨2, ![1024, 512]⟩
abbrev S4096x512 : Shape := ⟨2, ![4096, 512]⟩
abbrev S1x512 : Shape := ⟨2, ![1, 512]⟩
abbrev S512x1024 : Shape := ⟨2, ![512, 1024]⟩
abbrev S9216x1024 : Shape := ⟨2, ![9216, 1024]⟩
abbrev S_ : Shape := ⟨0, ![]⟩

class Facts : Prop where
  slices_S4096x2048_S4096x1024_0_0 : S4096x2048.Slices ![0, 0] S4096x1024
  slices_S512x2048_S512x1024_0_0 : S512x2048.Slices ![0, 0] S512x1024
  slices_S512x2048_S512x1024_0_1024 : S512x2048.Slices ![0, 1024] S512x1024
  concatenates_S4096x1024_S4096x1024_S512x1024_S512x1024_S9216x1024_d0 : Shape.Concatenates [S4096x1024, S4096x1024, S512x1024, S512x1024] S9216x1024 0
  bcast_S_S9216x1024 : S_.BroadcastsInDim S9216x1024 (![] : Fin 0 → Fin S9216x1024.rank)

variable [Facts]

def fn {F : FTy → Type} [FloatOps F] (main_arg0 : FVec F S4096x2048 .f32) (main_arg1 : FVec F S4096x1024 .f32) (main_arg2 : FVec F S512x2048 .f32) (main_arg3 : FVec F S1024x512 .f32) (main_arg4 : FVec F S4096x512 .f32) (main_arg5 : FVec F S4096x512 .f32) (main_arg6 : FVec F S1x512 .f32) : IVec S9216x1024 1 :=
  let main_v0 : FVec F S4096x1024 .f32 := (extractStridedSlice S4096x1024 ![0, 0] · slices_S4096x2048_S4096x1024_0_0) main_arg0
  let main_v1 : FVec F S512x1024 .f32 := (extractStridedSlice S512x1024 ![0, 0] · slices_S512x2048_S512x1024_0_0) main_arg2
  let main_v2 : FVec F S512x1024 .f32 := (extractStridedSlice S512x1024 ![0, 1024] · slices_S512x2048_S512x1024_0_1024) main_arg2
  let main_v3 : FVec F S9216x1024 .f32 := concatenate S9216x1024 0 [⟨S4096x1024, main_arg1⟩, ⟨S4096x1024, main_v0⟩, ⟨S512x1024, main_v1⟩, ⟨S512x1024, main_v2⟩] concatenates_S4096x1024_S4096x1024_S512x1024_S512x1024_S9216x1024_d0
  let main_cst : FVec F S_ .f32 := constant S_ .f32 0xFF800000#32
  let main_v4 : FVec F S9216x1024 .f32 := broadcastInDim S9216x1024 ![] bcast_S_S9216x1024 main_cst
  let main_v5 : IVec S9216x1024 1 := cmpf .ogt main_v3 main_v4
  let main_cst_0 : FVec F S_ .f32 := constant S_ .f32 0x7F800000#32
  let main_v6 : FVec F S9216x1024 .f32 := broadcastInDim S9216x1024 ![] bcast_S_S9216x1024 main_cst_0
  let main_v7 : IVec S9216x1024 1 := cmpf .olt main_v3 main_v6
  let main_v8 : IVec S9216x1024 1 := andi main_v5 main_v7
  main_v8
-- ==== Pre_hidden_finite.lean ====
abbrev S4096x1024 : Shape := ⟨2, ![4096, 1024]⟩
abbrev S4096x2816 : Shape := ⟨2, ![4096, 2816]⟩
abbrev S2816x1024 : Shape := ⟨2, ![2816, 1024]⟩
abbrev S11264x1024 : Shape := ⟨2, ![11264, 1024]⟩
abbrev S18176x1024 : Shape := ⟨2, ![18176, 1024]⟩
abbrev S_ : Shape := ⟨0, ![]⟩

class Facts : Prop where
  shapeCasts_S4096x2816_S11264x1024 : S4096x2816.ShapeCasts S11264x1024
  concatenates_S4096x1024_S11264x1024_S2816x1024_S18176x1024_d0 : Shape.Concatenates [S4096x1024, S11264x1024, S2816x1024] S18176x1024 0
  bcast_S_S18176x1024 : S_.BroadcastsInDim S18176x1024 (![] : Fin 0 → Fin S18176x1024.rank)

variable [Facts]

def fn {F : FTy → Type} [FloatOps F] (main_arg0 : FVec F S4096x1024 .f32) (main_arg1 : FVec F S4096x2816 .f32) (main_arg2 : FVec F S4096x2816 .f32) (main_arg3 : FVec F S2816x1024 .f32) : IVec S18176x1024 1 :=
  let main_v0 : FVec F S11264x1024 .f32 := shapeCast S11264x1024 main_arg2 shapeCasts_S4096x2816_S11264x1024
  let main_v1 : FVec F S18176x1024 .f32 := concatenate S18176x1024 0 [⟨S4096x1024, main_arg0⟩, ⟨S11264x1024, main_v0⟩, ⟨S2816x1024, main_arg3⟩] concatenates_S4096x1024_S11264x1024_S2816x1024_S18176x1024_d0
  let main_cst : FVec F S_ .f32 := constant S_ .f32 0xFF800000#32
  let main_v2 : FVec F S18176x1024 .f32 := broadcastInDim S18176x1024 ![] bcast_S_S18176x1024 main_cst
  let main_v3 : IVec S18176x1024 1 := cmpf .ogt main_v1 main_v2
  let main_cst_0 : FVec F S_ .f32 := constant S_ .f32 0x7F800000#32
  let main_v4 : FVec F S18176x1024 .f32 := broadcastInDim S18176x1024 ![] bcast_S_S18176x1024 main_cst_0
  let main_v5 : IVec S18176x1024 1 := cmpf .olt main_v1 main_v4
  let main_v6 : IVec S18176x1024 1 := andi main_v3 main_v5
  main_v6
-- ==== Pre_qk_finite.lean ====
abbrev S4096x1024 : Shape := ⟨2, ![4096, 1024]⟩
abbrev S256x1024 : Shape := ⟨2, ![256, 1024]⟩
abbrev S1024x1024 : Shape := ⟨2, ![1024, 1024]⟩
abbrev S4352x1024 : Shape := ⟨2, ![4352, 1024]⟩
abbrev S_ : Shape := ⟨0, ![]⟩

class Facts : Prop where
  concatenates_S4096x1024_S256x1024_S4352x1024_d0 : Shape.Concatenates [S4096x1024, S256x1024] S4352x1024 0
  bcast_S_S4352x1024 : S_.BroadcastsInDim S4352x1024 (![] : Fin 0 → Fin S4352x1024.rank)

variable [Facts]

def fn {F : FTy → Type} [FloatOps F] (main_arg0 : FVec F S4096x1024 .f32) (main_arg1 : FVec F S4096x1024 .f32) (main_arg2 : FVec F S256x1024 .f32) (main_arg3 : FVec F S256x1024 .f32) (main_arg4 : FVec F S1024x1024 .f32) (main_arg5 : FVec F S1024x1024 .f32) (main_arg6 : FVec F S1024x1024 .f32) (main_arg7 : FVec F S1024x1024 .f32) : IVec S4352x1024 1 :=
  let main_v0 : FVec F S4352x1024 .f32 := (fun a b => concatenate S4352x1024 0 [⟨S4096x1024, a⟩, ⟨S256x1024, b⟩] concatenates_S4096x1024_S256x1024_S4352x1024_d0) main_arg1 main_arg2
  let main_cst : FVec F S_ .f32 := constant S_ .f32 0xFF800000#32
  let main_v1 : FVec F S4352x1024 .f32 := broadcastInDim S4352x1024 ![] bcast_S_S4352x1024 main_cst
  let main_v2 : IVec S4352x1024 1 := cmpf .ogt main_v0 main_v1
  let main_cst_0 : FVec F S_ .f32 := constant S_ .f32 0x7F800000#32
  let main_v3 : FVec F S4352x1024 .f32 := broadcastInDim S4352x1024 ![] bcast_S_S4352x1024 main_cst_0
  let main_v4 : IVec S4352x1024 1 := cmpf .olt main_v0 main_v3
  let main_v5 : IVec S4352x1024 1 := andi main_v2 main_v4
  main_v5
-- ==== Kernel.lean ====
abbrev S4096x1024 : Shape := ⟨2, ![4096, 1024]⟩
abbrev S256x1024 : Shape := ⟨2, ![256, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S512x1024 : Shape := ⟨2, ![512, 1024]⟩
abbrev S1x256x1024 : Shape := ⟨3, ![1, 256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x256x1024, .bf16⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x256x1024, .f32⟩
  | .hbm, ⟨15, _⟩ => ⟨S4x256x1024, .bf16⟩
  | .hbm, ⟨16, _⟩ => ⟨S4x1024x1024, .bf16⟩
  | .hbm, ⟨17, _⟩ => ⟨S4096x1024, .bf16⟩
  | .hbm, ⟨18, _⟩ => ⟨S256x1024, .bf16⟩
  | .hbm, ⟨19, _⟩ => ⟨S256x1024, .bf16⟩
  | .hbm, ⟨20, _⟩ => ⟨S4096x1024, .bf16⟩
  | .hbm, ⟨21, _⟩ => ⟨S256x1024, .f32⟩
  | .hbm, ⟨22, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .bf16⟩
  | .local _ .vmem, ⟨11, _⟩ => ⟨S512x1024, .bf16⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_5 (i : grid0.Coords) : Fin 3 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat]

def cc0_transform_6 (i : grid0.Coords) : Fin 3 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  ![c2_i32.toNat, c3_i32.toNat, c0_i32.toNat]

def cc0_transform_7 (i : grid0.Coords) : Fin 3 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  ![c3_i32.toNat, c3_i32_0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S256x1024 : Shape := ⟨2, ![256, 1024]⟩
abbrev S1024x1024 : Shape := ⟨2, ![1024, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x4x256, .f32⟩
  | .hbm, ⟨59, _⟩ => ⟨S4x256x4096, .f32⟩
  | .hbm, ⟨60, _⟩ => ⟨S4x4096x256, .f32⟩
  | .hbm, ⟨61, _⟩ => ⟨S4x256x256, .f32⟩
  | .hbm, ⟨62, _⟩ => ⟨S256x4x256, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x256, .f32⟩
  | .hbm, ⟨81, _⟩ => ⟨S256x4x256, .f32⟩
  | .hbm, ⟨82, _⟩ => ⟨S4x4096x256, .f32⟩
  | .hbm, ⟨83, _⟩ => ⟨S4096x4x256, .f32⟩
  | .hbm, ⟨84, _⟩ => ⟨S256x1024, .f32⟩
  | .hbm, ⟨85, _⟩ => ⟨S256x1024, .f32⟩
  | .hbm, ⟨86, _⟩ => ⟨S4096x1024, .f32⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S2816x1024 : Shape := ⟨2, ![2816, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4x704x1024, .f32⟩
  | .hbm, ⟨5, _⟩ => ⟨S4x704x1024, .bf16⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4x4096x704, .bf16⟩
  | .hbm, ⟨13, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S2816x1024 : Shape := ⟨2, ![2816, 1024]⟩
abbrev S4x704x1024 : Shape := ⟨3, ![4, 704, 1024]⟩
abbrev S4x1408x1024 : Shape := ⟨3, ![4, 1408, 1024]⟩
abbrev S4096x4x704 : Shape := ⟨3, ![4096, 4, 704]⟩
abbrev S4x4096x704 : Shape := ⟨3, ![4, 4096, 704]⟩
abbrev S1x1024 : Shape := ⟨2, ![1, 1024]⟩
abbrev S4x512x704 : Shape := ⟨3, ![4, 512, 704]⟩
abbrev S512x1024 : Shape := ⟨2, ![512, 1024]⟩
abbrev S1x704x1024 : Shape := ⟨3, ![1, 704, 1024]⟩
abbrev S1x512x704 : Shape := ⟨3, ![1, 512, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 23
  | .vmem => 20
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x1408x1024, .bf16⟩
  | .hbm, ⟨14, _⟩ => ⟨S4096x4x704, .f32⟩
  | .hbm, ⟨15, _⟩ => ⟨S4x4096x704, .f32⟩
  | .hbm, ⟨16, _⟩ => ⟨S4x4096x704, .bf16⟩
  | .hbm, ⟨17, _⟩ => ⟨S4096x4x704, .f32⟩
  | .hbm, ⟨18, _⟩ => ⟨S4x4096x704, .f32⟩
  | .hbm, ⟨19, _⟩ => ⟨S4x4096x704, .bf16⟩
  | .hbm, ⟨20, _⟩ => ⟨S1x1024, .f32⟩
  | .hbm, ⟨21, _⟩ => ⟨S4096x1024, .f32⟩
  | .hbm, ⟨22, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_10 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_11 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_12 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x704x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x704x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x704x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4x704x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .f32⟩
  | .local _ .vmem, ⟨3, _⟩ => ⟨S1024x1024, .f32⟩
  | .local _ .vmem, ⟨4, _⟩ => ⟨S4x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x2816 : Shape := ⟨2, ![4096, 2816]⟩
abbrev S4096x1024 : Shape := ⟨2, ![4096, 1024]⟩
abbrev S4x704x1024 : Shape := ⟨3, ![4, 704, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x704x1024, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S4x1408x1024 : Shape := ⟨3, ![4, 1408, 1024]⟩
abbrev S4096x4x704 : Shape := ⟨3, ![4096, 4, 704]⟩
abbrev S4x4096x704 : Shape := ⟨3, ![4, 4096, 704]⟩
abbrev S4x1024x704 : Shape := ⟨3, ![4, 1024, 704]⟩
abbrev S1024x1024 : Shape := ⟨2, ![1024, 1024]⟩
abbrev S4x704x1024 : Shape := ⟨3, ![4, 704, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 8
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x1408x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S4x1408x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x2816 : Shape := ⟨2, ![4096, 2816]⟩
abbrev S4096x1024 : Shape := ⟨2, ![4096, 1024]⟩
abbrev S4x1408x1024 : Shape := ⟨3, ![4, 1408, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x1408x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .f32⟩
  | .hbm, ⟨11, _⟩ => ⟨S4x1408x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S4x1408x1024 : Shape := ⟨3, ![4, 1408, 1024]⟩
abbrev S4096x4x704 : Shape := ⟨3, ![4096, 4, 704]⟩
abbrev S4x4096x704 : Shape := ⟨3, ![4, 4096, 704]⟩
abbrev S4x1024x704 : Shape := ⟨3, ![4, 1024, 704]⟩
abbrev S1024x1024 : Shape := ⟨2, ![1024, 1024]⟩
abbrev S4x704x1024 : Shape := ⟨3, ![4, 704, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 8
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x1408x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S4x1408x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x2816 : Shape := ⟨2, ![4096, 2816]⟩
abbrev S4096x1024 : Shape := ⟨2, ![4096, 1024]⟩
abbrev S4x1408x1024 : Shape := ⟨3, ![4, 1408, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x1408x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x1408x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4x1024x1024 : Shape := ⟨3, ![4, 1024, 1024]⟩
abbrev S2048x1024 : Shape := ⟨2, ![2048, 1024]⟩
abbrev S4x256x1024 : Shape := ⟨3, ![4, 256, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .f32⟩
  | .hbm, ⟨3, _⟩ => ⟨S4096x1024, .bf16⟩
  | .hbm, ⟨4, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S4096x1024 : Shape := ⟨2, ![4096, 1024]⟩
abbrev S4x1024x1024 : Shape := ⟨3, ![4, 1024, 1024]⟩
abbrev S_ : Shape := ⟨0, ![]⟩
abbrev S1024x1024 : Shape := ⟨2, ![1024, 1024]⟩
abbrev S4x768x1024 : Shape := ⟨3, ![4, 768, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x768x1024, .f32⟩
  | .hbm, ⟨9, _⟩ => ⟨S4x256x1024, .f32⟩
  | .hbm, ⟨10, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S4x1024x1024 : Shape := ⟨3, ![4, 1024, 1024]⟩
abbrev S2048x1024 : Shape := ⟨2, ![2048, 1024]⟩
abbrev S4x256x1024 : Shape := ⟨3, ![4, 256, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .f32⟩
  | .hbm, ⟨3, _⟩ => ⟨S4096x1024, .bf16⟩
  | .hbm, ⟨4, _⟩ => ⟨S4096x1024, .bf16⟩
  | .hbm, ⟨5, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x1024 : Shape := ⟨2, ![4096, 1024]⟩
abbrev S4x1024x1024 : Shape := ⟨3, ![4, 1024, 1024]⟩
abbrev S_ : Shape := ⟨0, ![]⟩
abbrev S1024x1024 : Shape := ⟨2, ![1024, 1024]⟩
abbrev S4x256x1024 : Shape := ⟨3, ![4, 256, 1024]⟩
abbrev S4x768x1024 : Shape := ⟨3, ![4, 768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x768x1024, .f32⟩
  | .hbm, ⟨10, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024 : Shape := ⟨1, ![1024]⟩
abbrev S4x256x1024 : Shape := ⟨3, ![4, 256, 1024]⟩
abbrev S4x1024x1024 : Shape := ⟨3, ![4, 1024, 1024]⟩
abbrev S1x1024 : Shape := ⟨2, ![1, 1024]⟩
abbrev S512x1024 : Shape := ⟨2, ![512, 1024]⟩
abbrev S1x256x1024 : Shape := ⟨3, ![1, 256, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4x256x1024, .f32⟩
  | .hbm, ⟨9, _⟩ => ⟨S4x256x1024, .bf16⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x256x1024, .f32⟩
  | .hbm, ⟨15, _⟩ => ⟨S4x256x1024, .bf16⟩
  | .hbm, ⟨16, _⟩ => ⟨S4x1024x1024, .bf16⟩
  | .hbm, ⟨17, _⟩ => ⟨S4096x1024, .bf16⟩
  | .hbm, ⟨18, _⟩ => ⟨S1x1024, .f32⟩
  | .hbm, ⟨19, _⟩ => ⟨S4096x1024, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S4x1408x1024 : Shape := ⟨3, ![4, 1408, 1024]⟩
abbrev S1x1024 : Shape := ⟨2, ![1, 1024]⟩
abbrev S4x4096x704 : Shape := ⟨3, ![4, 4096, 704]⟩
abbrev S512x1024 : Shape := ⟨2, ![512, 1024]⟩
abbrev S1x704x1024 : Shape := ⟨3, ![1, 704, 1024]⟩
abbrev S4x512x704 : Shape := ⟨3, ![4, 512, 704]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x1408x1024, .bf16⟩
  | .hbm, ⟨11, _⟩ => ⟨S1x1024, .f32⟩
  | .hbm, ⟨12, _⟩ => ⟨S4096x1024, .bf16⟩
  | .hbm, ⟨13, _⟩ => ⟨S4x4096x704, .bf16⟩
  | .hbm, ⟨14, _⟩ => ⟨S4x4096x704, .bf16⟩
  | .hbm, ⟨15, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S512x1024, .bf16⟩
  | .local _ .vmem, ⟨12, _⟩ => ⟨S512x1024, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S4x512x704, .bf16⟩
  | .local _ .vmem, ⟨18, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_8 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_9 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .bf16⟩
  | .hbm, ⟨33, _⟩ => ⟨S4096x4x704, .f32⟩
  | .hbm, ⟨34, _⟩ => ⟨S4x4096x704, .f32⟩
  | .hbm, ⟨35, _⟩ => ⟨S4x4096x704, .bf16⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S4x512x704 : Shape := ⟨3, ![4, 512, 704]⟩
abbrev S512x1024 : Shape := ⟨2, ![512, 1024]⟩
abbrev S1x704x1024 : Shape := ⟨3, ![1, 704, 1024]⟩
abbrev S1x512x704 : Shape := ⟨3, ![1, 512, 704]⟩
abbrev S512x704 : Shape := ⟨2, ![512, 704]⟩
abbrev S704x1024 : Shape := ⟨2, ![704, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4x704x1024, .f32⟩
  | .hbm, ⟨4, _⟩ => ⟨S4x704x1024, .bf16⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S512x1024, .f32⟩
  | .local _ .vmem, ⟨9, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1024x4x512 : Shape := ⟨3, ![1024, 4, 512]⟩
abbrev S4x1024x512 : Shape := ⟨3, ![4, 1024, 512]⟩
abbrev S1x1024 : Shape := ⟨2, ![1, 1024]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference12Ideal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4x1024x512, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference13Ideal.lean ====
abbrev S4096x1024 : Shape := ⟨2, ![4096, 1024]⟩
abbrev S4096x2048 : Shape := ⟨2, ![4096, 2048]⟩
abbrev S4x1024x512 : Shape := ⟨3, ![4, 1024, 512]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S2x1024x512 : Shape := ⟨3, ![2, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4x1024x512, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x4x512, .f32⟩
  | .hbm, ⟨9, _⟩ => ⟨S4x1024x512, .f32⟩
  | .hbm, ⟨10, _⟩ => ⟨S2x1024x512, .f32⟩
  | .hbm, ⟨11, _⟩ => ⟨S2x1024x512, .f32⟩
  | .hbm, ⟨12, _⟩ => ⟨S4x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4x1024x512, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference14Ideal.lean ====
abbrev S4096x1024 : Shape := ⟨2, ![4096, 1024]⟩
abbrev S4096x2048 : Shape := ⟨2, ![4096, 2048]⟩
abbrev S4x1024x512 : Shape := ⟨3, ![4, 1024, 512]⟩
abbrev S_ : Shape := ⟨0, ![]⟩
abbrev S1024x2048 : Shape := ⟨2, ![1024, 2048]⟩
abbrev S2048x1024 : Shape := ⟨2, ![2048, 1024]⟩
abbrev S2x1024x512 : Shape := ⟨3, ![2, 1024, 512]⟩
abbrev S1024x4x512 : Shape := ⟨3, ![1024, 4, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4x1024x512, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S2x1024x512, .f32⟩
  | .hbm, ⟨9, _⟩ => ⟨S1024x4x512, .f32⟩
  | .hbm, ⟨10, _⟩ => ⟨S4x1024x512, .f32⟩
  | .hbm, ⟨11, _⟩ => ⟨S2x1024x512, .f32⟩
  | .hbm, ⟨12, _⟩ => ⟨S4x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S4096x1024 : Shape := ⟨2, ![4096, 1024]⟩
abbrev S4x256x1024 : Shape := ⟨3, ![4, 256, 1024]⟩
abbrev S2048x1024 : Shape := ⟨2, ![2048, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x1024, .f32⟩
  | .hbm, ⟨3, _⟩ => ⟨S4096x1024, .bf16⟩
  | .hbm, ⟨4, _⟩ => ⟨S4x256x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference15Ideal.lean ====
abbrev S4096x1024 : Shape := ⟨2, ![4096, 1024]⟩
abbrev S4x256x1024 : Shape := ⟨3, ![4, 256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S4x256x1024 : Shape := ⟨3, ![4, 256, 1024]⟩
abbrev S512x1024 : Shape := ⟨2, ![512, 1024]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4x256x1024, .f32⟩
  | .hbm, ⟨3, _⟩ => ⟨S4x256x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S1x1024 : Shape := ⟨2, ![1, 1024]⟩
abbrev S512x1024 : Shape := ⟨2, ![512, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .hbm, ⟨7, _⟩ => ⟨S4x256x1024, .bf16⟩
  | .hbm, ⟨8, _⟩ => ⟨S4x256x1024, .f32⟩
  | .hbm, ⟨9, _⟩ => ⟨S4x256x1024, .bf16⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x1024x1024, .bf16⟩
  | .hbm, ⟨15, _⟩ => ⟨S1x1024, .f32⟩
  | .hbm, ⟨16, _⟩ => ⟨S4096x1024, .bf16⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S512x1024 : Shape := ⟨2, ![512, 1024]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .hbm, ⟨7, _⟩ => ⟨S4x256x1024, .bf16⟩
  | .hbm, ⟨8, _⟩ => ⟨S4x256x1024, .f32⟩
  | .hbm, ⟨9, _⟩ => ⟨S4x256x1024, .bf16⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x1024x1024, .bf16⟩
  | .hbm, ⟨15, _⟩ => ⟨S4096x1024, .bf16⟩
  | .hbm, ⟨16, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_3 (i : grid0.Coords) : Fin 3 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat]

def cc0_transform_4 (i : grid0.Coords) : Fin 3 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  ![c2_i32.toNat, c3_i32.toNat, c0_i32.toNat]

def cc0_transform_5 (i : grid0.Coords) : Fin 3 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  ![c3_i32.toNat, c3_i32_0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S4096x2048 : Shape := ⟨2, ![4096, 2048]⟩
abbrev S512x1024 : Shape := ⟨2, ![512, 1024]⟩
abbrev S1x1024x512 : Shape := ⟨3, ![1, 1024, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S1x1024, .f32⟩
  | .hbm, ⟨7, _⟩ => ⟨S4096x1024, .bf16⟩
  | .hbm, ⟨8, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .f32⟩
  | .local _ .vmem, ⟨10, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel20.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x1024, .bf16⟩
  | .hbm, ⟨4, _⟩ => ⟨S256x1024, .bf16⟩
  | .hbm, ⟨5, _⟩ => ⟨S256x1024, .bf16⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x4x256, .f32⟩
  | .hbm, ⟨4, _⟩ => ⟨S256x4x256, .f32⟩
  | .hbm, ⟨5, _⟩ => ⟨S256x4x256, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x256x4096, .f32⟩
  | .hbm, ⟨25, _⟩ => ⟨S4096x4x256, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel21.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x704x1024 : Shape := ⟨3, ![1, 704, 1024]⟩
abbrev S1x512x704 : Shape := ⟨3, ![1, 512, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4x704x1024, .f32⟩
  | .hbm, ⟨6, _⟩ => ⟨S4x704x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S1x1024, .f32⟩
  | .hbm, ⟨11, _⟩ => ⟨S4096x1024, .f32⟩
  | .hbm, ⟨12, _⟩ => ⟨S1x1024, .f32⟩
  | .hbm, ⟨13, _⟩ => ⟨S1x128, .f32⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference21Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel22.lean ====
abbrev S4096x512 : Shape := ⟨2, ![4096, 512]⟩
abbrev S4096x1024 : Shape := ⟨2, ![4096, 1024]⟩
abbrev S512x2048 : Shape := ⟨2, ![512, 2048]⟩
abbrev S1024x512 : Shape := ⟨2, ![1024, 512]⟩
abbrev S512x4x512 : Shape := ⟨3, ![512, 4, 512]⟩
abbrev S4x512x512 : Shape := ⟨3, ![4, 512, 512]⟩
abbrev S4x256x512 : Shape := ⟨3, ![4, 256, 512]⟩
abbrev S4x768x512 : Shape := ⟨3, ![4, 768, 512]⟩
abbrev S4096x2048 : Shape := ⟨2, ![4096, 2048]⟩
abbrev S512x512 : Shape := ⟨2, ![512, 512]⟩
abbrev S512x1024 : Shape := ⟨2, ![512, 1024]⟩
abbrev S1x512x512 : Shape := ⟨3, ![1, 512, 512]⟩

abbrev nBuf : Space → Nat
  | .hbm => 12
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x2048, .f32⟩
  | .hbm, ⟨3, _⟩ => ⟨S1024x512, .f32⟩
  | .hbm, ⟨4, _⟩ => ⟨S4096x512, .bf16⟩
  | .hbm, ⟨5, _⟩ => ⟨S512x4x512, .f32⟩
  | .hbm, ⟨6, _⟩ => ⟨S4x512x512, .f32⟩
  | .hbm, ⟨7, _⟩ => ⟨S4x256x512, .f32⟩
  | .hbm, ⟨8, _⟩ => ⟨S4x768x512, .f32⟩
  | .hbm, ⟨9, _⟩ => ⟨S4x768x512, .bf16⟩
  | .hbm, ⟨10, _⟩ => ⟨S4096x2048, .bf16⟩
  | .hbm, ⟨11, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4096x512 : Shape := ⟨2, ![4096, 512]⟩
abbrev S4096x1024 : Shape := ⟨2, ![4096, 1024]⟩
abbrev S512x2048 : Shape := ⟨2, ![512, 2048]⟩
abbrev S1024x512 : Shape := ⟨2, ![1024, 512]⟩
abbrev S4096x2048 : Shape := ⟨2, ![4096, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x2048, .f32⟩
  | .hbm, ⟨3, _⟩ => ⟨S1024x512, .f32⟩
  | .hbm, ⟨4, _⟩ => ⟨S4096x2048, .f32⟩
  | .hbm, ⟨5, _⟩ => ⟨S4096x2048, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel23.lean ====
abbrev S4096x1024 : Shape := ⟨2, ![4096, 1024]⟩
abbrev S4096x512 : Shape := ⟨2, ![4096, 512]⟩
abbrev S4x768x512 : Shape := ⟨3, ![4, 768, 512]⟩
abbrev S2048x1024 : Shape := ⟨2, ![2048, 1024]⟩
abbrev S2048x512 : Shape := ⟨2, ![2048, 512]⟩
abbrev S4x256x512 : Shape := ⟨3, ![4, 256, 512]⟩
abbrev S1x256x512 : Shape := ⟨3, ![1, 256, 512]⟩
abbrev S256x512 : Shape := ⟨2, ![256, 512]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4x768x512, .f32⟩
  | .hbm, ⟨3, _⟩ => ⟨S4096x1024, .bf16⟩
  | .hbm, ⟨4, _⟩ => ⟨S4096x512, .bf16⟩
  | .hbm, ⟨5, _⟩ => ⟨S4x768x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S4x256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference23Ideal.lean ====
abbrev S4096x1024 : Shape := ⟨2, ![4096, 1024]⟩
abbrev S4096x512 : Shape := ⟨2, ![4096, 512]⟩
abbrev S4x768x512 : Shape := ⟨3, ![4, 768, 512]⟩
abbrev S_ : Shape := ⟨0, ![]⟩
abbrev S1024x512 : Shape := ⟨2, ![1024, 512]⟩
abbrev S512x1024 : Shape := ⟨2, ![512, 1024]⟩
abbrev S4x512x512 : Shape := ⟨3, ![4, 512, 512]⟩
abbrev S4x256x512 : Shape := ⟨3, ![4, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4x768x512, .f32⟩
  | .hbm, ⟨3, _⟩ => ⟨S_, .f32⟩
  | .hbm, ⟨4, _⟩ => ⟨S1024x512, .f32⟩
  | .hbm, ⟨5, _⟩ => ⟨S4096x512, .f32⟩
  | .hbm, ⟨6, _⟩ => ⟨S512x1024, .f32⟩
  | .hbm, ⟨7, _⟩ => ⟨S1024x512, .f32⟩
  | .hbm, ⟨8, _⟩ => ⟨S4x512x512, .f32⟩
  | .hbm, ⟨9, _⟩ => ⟨S4x256x512, .f32⟩
  | .hbm, ⟨10, _⟩ => ⟨S4x768x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel24.lean ====
abbrev S4096x1024 : Shape := ⟨2, ![4096, 1024]⟩
abbrev S1024x1024 : Shape := ⟨2, ![1024, 1024]⟩
abbrev S4x256x1024 : Shape := ⟨3, ![4, 256, 1024]⟩
abbrev S512x1024 : Shape := ⟨2, ![512, 1024]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4x256x1024, .f32⟩
  | .hbm, ⟨5, _⟩ => ⟨S4x256x1024, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel25.lean ====
abbrev S4096x1024 : Shape := ⟨2, ![4096, 1024]⟩
abbrev S1024 : Shape := ⟨1, ![1024]⟩
abbrev S512x2048 : Shape := ⟨2, ![512, 2048]⟩
abbrev S1024x512 : Shape := ⟨2, ![1024, 512]⟩
abbrev S512x4x512 : Shape := ⟨3, ![512, 4, 512]⟩
abbrev S4x512x512 : Shape := ⟨3, ![4, 512, 512]⟩
abbrev S4x256x512 : Shape := ⟨3, ![4, 256, 512]⟩
abbrev S4x768x512 : Shape := ⟨3, ![4, 768, 512]⟩
abbrev S1x1024 : Shape := ⟨2, ![1, 1024]⟩
abbrev S4096x512 : Shape := ⟨2, ![4096, 512]⟩
abbrev S512x1024 : Shape := ⟨2, ![512, 1024]⟩
abbrev S1x256x512 : Shape := ⟨3, ![1, 256, 512]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S256x512 : Shape := ⟨2, ![256, 512]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S512x2048, .f32⟩
  | .hbm, ⟨3, _⟩ => ⟨S1024x512, .f32⟩
  | .hbm, ⟨4, _⟩ => ⟨S512x4x512, .f32⟩
  | .hbm, ⟨5, _⟩ => ⟨S4x512x512, .f32⟩
  | .hbm, ⟨6, _⟩ => ⟨S4x256x512, .f32⟩
  | .hbm, ⟨7, _⟩ => ⟨S4x768x512, .f32⟩
  | .hbm, ⟨8, _⟩ => ⟨S4x768x512, .bf16⟩
  | .hbm, ⟨9, _⟩ => ⟨S1x1024, .f32⟩
  | .hbm, ⟨10, _⟩ => ⟨S4096x1024, .bf16⟩
  | .hbm, ⟨11, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_3 (i : grid0.Coords) : Fin 3 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat]

def cc0_transform_4 (i : grid0.Coords) : Fin 3 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  ![c2_i32.toNat, c2_i32_0.toNat, c0_i32.toNat]

def cc0_transform_5 (i : grid0.Coords) : Fin 3 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  ![c3_i32.toNat, c2_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S4096x1024 : Shape := ⟨2, ![4096, 1024]⟩
abbrev S1024 : Shape := ⟨1, ![1024]⟩
abbrev S512x2048 : Shape := ⟨2, ![512, 2048]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S512x2048, .f32⟩
  | .hbm, ⟨3, _⟩ => ⟨S1024x512, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel26.lean ====
abbrev S256x1024 : Shape := ⟨2, ![256, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S1x256x1024 : Shape := ⟨3, ![1, 256, 1024]⟩
abbrev S256x256 : Shape := ⟨2, ![256, 256]⟩

abbrev nBuf : Space → Nat
  | .hbm => 16
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .hbm, ⟨7, _⟩ => ⟨S4x256x1024, .bf16⟩
  | .hbm, ⟨8, _⟩ => ⟨S4x256x1024, .f32⟩
  | .hbm, ⟨9, _⟩ => ⟨S4x256x1024, .bf16⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x1024x1024, .bf16⟩
  | .hbm, ⟨15, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_5 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_7 (i : grid0.Coords) : Fin 3 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat]

def cc0_transform_8 (i : grid0.Coords) : Fin 3 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  ![c2_i32.toNat, c2_i32_0.toNat, c0_i32.toNat]

def cc0_transform_9 (i : grid0.Coords) : Fin 3 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  ![c3_i32.toNat, c2_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference26Ideal.lean ====
abbrev S256x1024 : Shape := ⟨2, ![256, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel27.lean ====
abbrev S256x1024 : Shape := ⟨2, ![256, 1024]⟩
abbrev S4x1024x1024 : Shape := ⟨3, ![4, 1024, 1024]⟩
abbrev S4x256x1024 : Shape := ⟨3, ![4, 256, 1024]⟩
abbrev S1x256x1024 : Shape := ⟨3, ![1, 256, 1024]⟩
abbrev S256x256 : Shape := ⟨2, ![256, 256]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x1024x1024, .f32⟩
  | .hbm, ⟨3, _⟩ => ⟨S256x1024, .bf16⟩
  | .hbm, ⟨4, _⟩ => ⟨S4x1024x1024, .f32⟩
  | .local _ .vmem, ⟨0, _⟩ => ⟨S256x1024, .bf16⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference27Ideal.lean ====
abbrev S256x1024 : Shape := ⟨2, ![256, 1024]⟩
abbrev S4x1024x1024 : Shape := ⟨3, ![4, 1024, 1024]⟩
abbrev S_ : Shape := ⟨0, ![]⟩
abbrev S1024x1024 : Shape := ⟨2, ![1024, 1024]⟩
abbrev S4x256x1024 : Shape := ⟨3, ![4, 256, 1024]⟩
abbrev S4x512x1024 : Shape := ⟨3, ![4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x256x1024, .f32⟩
  | .hbm, ⟨10, _⟩ => ⟨S4x512x1024, .f32⟩
  | .hbm, ⟨11, _⟩ => ⟨S4x1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel28.lean ====
abbrev S256x1024 : Shape := ⟨2, ![256, 1024]⟩
abbrev S4x1024x1024 : Shape := ⟨3, ![4, 1024, 1024]⟩
abbrev S4x256x1024 : Shape := ⟨3, ![4, 256, 1024]⟩
abbrev S1x256x1024 : Shape := ⟨3, ![1, 256, 1024]⟩
abbrev S256x256 : Shape := ⟨2, ![256, 256]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x1024x1024, .f32⟩
  | .hbm, ⟨3, _⟩ => ⟨S256x1024, .bf16⟩
  | .hbm, ⟨4, _⟩ => ⟨S4x1024x1024, .f32⟩
  | .local _ .vmem, ⟨0, _⟩ => ⟨S256x1024, .bf16⟩
  | .local _ .vmem, ⟨1, _⟩ => ⟨S256x1024, .f32⟩
  | .local _ .vmem, ⟨2, _⟩ => ⟨S4x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference28Ideal.lean ====
abbrev S256x1024 : Shape := ⟨2, ![256, 1024]⟩
abbrev S4x1024x1024 : Shape := ⟨3, ![4, 1024, 1024]⟩
abbrev S_ : Shape := ⟨0, ![]⟩
abbrev S1024x1024 : Shape := ⟨2, ![1024, 1024]⟩
abbrev S4x512x1024 : Shape := ⟨3, ![4, 512, 1024]⟩
abbrev S4x256x1024 : Shape := ⟨3, ![4, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S4x512x1024, .f32⟩
  | .hbm, ⟨9, _⟩ => ⟨S4x256x1024, .f32⟩
  | .hbm, ⟨10, _⟩ => ⟨S4x256x1024, .f32⟩
  | .hbm, ⟨11, _⟩ => ⟨S4x1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel29.lean ====
abbrev S256x1024 : Shape := ⟨2, ![256, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S1x256x1024 : Shape := ⟨3, ![1, 256, 1024]⟩
abbrev S256x256 : Shape := ⟨2, ![256, 256]⟩

abbrev nBuf : Space → Nat
  | .hbm => 16
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x256x1024, .f32⟩
  | .hbm, ⟨6, _⟩ => ⟨S4x256x1024, .bf16⟩
  | .hbm, ⟨7, _⟩ => ⟨S4x256x1024, .f32⟩
  | .hbm, ⟨8, _⟩ => ⟨S4x256x1024, .bf16⟩
  | .hbm, ⟨9, _⟩ => ⟨S4x256x1024, .f32⟩
  | .hbm, ⟨10, _⟩ => ⟨S4x256x1024, .bf16⟩
  | .hbm, ⟨11, _⟩ => ⟨S4x256x1024, .f32⟩
  | .hbm, ⟨12, _⟩ => ⟨S4x256x1024, .bf16⟩
  | .hbm, ⟨13, _⟩ => ⟨S4x1024x1024, .bf16⟩
  | .hbm, ⟨14, _⟩ => ⟨S256x1024, .bf16⟩
  | .hbm, ⟨15, _⟩ => ⟨S256x1024, .bf16⟩
  | .local _ .vmem, ⟨0, _⟩ => ⟨S256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_3 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_4 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference29Ideal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S256x1024, .f32⟩
  | .hbm, ⟨6, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Kernel30.lean ====
abbrev S256x1024 : Shape := ⟨2, ![256, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S1x256x1024 : Shape := ⟨3, ![1, 256, 1024]⟩
abbrev S256x256 : Shape := ⟨2, ![256, 256]⟩

abbrev nBuf : Space → Nat
  | .hbm => 16
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x256x1024, .f32⟩
  | .hbm, ⟨6, _⟩ => ⟨S4x256x1024, .bf16⟩
  | .hbm, ⟨7, _⟩ => ⟨S4x256x1024, .f32⟩
  | .hbm, ⟨8, _⟩ => ⟨S4x256x1024, .bf16⟩
  | .hbm, ⟨9, _⟩ => ⟨S4x256x1024, .f32⟩
  | .hbm, ⟨10, _⟩ => ⟨S4x256x1024, .bf16⟩
  | .hbm, ⟨11, _⟩ => ⟨S4x256x1024, .f32⟩
  | .hbm, ⟨12, _⟩ => ⟨S4x256x1024, .bf16⟩
  | .hbm, ⟨13, _⟩ => ⟨S4x1024x1024, .bf16⟩
  | .hbm, ⟨14, _⟩ => ⟨S256x1024, .bf16⟩
  | .hbm, ⟨15, _⟩ => ⟨S256x1024, .bf16⟩
  | .local _ .vmem, ⟨0, _⟩ => ⟨S256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_2 (i : grid0.Coords) : Fin 3 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat]

def cc0_transform_3 (i : grid0.Coords) : Fin 3 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  ![c2_i32.toNat, c2_i32_0.toNat, c0_i32.toNat]

def cc0_transform_4 (i : grid0.Coords) : Fin 3 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  ![c3_i32.toNat, c2_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference30Ideal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S256x1024, .f32⟩
  | .hbm, ⟨6, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Kernel31.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference32Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel33.lean ====
abbrev S4096x2048 : Shape := ⟨2, ![4096, 2048]⟩
abbrev S4096x1024 : Shape := ⟨2, ![4096, 1024]⟩
abbrev S512x2048 : Shape := ⟨2, ![512, 2048]⟩
abbrev S1024x512 : Shape := ⟨2, ![1024, 512]⟩
abbrev S4096x512 : Shape := ⟨2, ![4096, 512]⟩
abbrev S1x512 : Shape := ⟨2, ![1, 512]⟩
abbrev S512x4x512 : Shape := ⟨3, ![512, 4, 512]⟩
abbrev S4x512x512 : Shape := ⟨3, ![4, 512, 512]⟩
abbrev S4x256x512 : Shape := ⟨3, ![4, 256, 512]⟩
abbrev S4x768x512 : Shape := ⟨3, ![4, 768, 512]⟩
abbrev S512x1024 : Shape := ⟨2, ![512, 1024]⟩
abbrev S512x512 : Shape := ⟨2, ![512, 512]⟩
abbrev S1x512x512 : Shape := ⟨3, ![1, 512, 512]⟩
abbrev S512 : Shape := ⟨1, ![512]⟩

abbrev nBuf : Space → Nat
  | .hbm => 17
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S512x2048, .f32⟩
  | .hbm, ⟨3, _⟩ => ⟨S1024x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x2048, .bf16⟩
  | .hbm, ⟨8, _⟩ => ⟨S512x4x512, .f32⟩
  | .hbm, ⟨9, _⟩ => ⟨S4x512x512, .f32⟩
  | .hbm, ⟨10, _⟩ => ⟨S4x256x512, .f32⟩
  | .hbm, ⟨11, _⟩ => ⟨S4x768x512, .f32⟩
  | .hbm, ⟨12, _⟩ => ⟨S4x768x512, .bf16⟩
  | .hbm, ⟨13, _⟩ => ⟨S4096x2048, .bf16⟩
  | .hbm, ⟨14, _⟩ => ⟨S4096x512, .bf16⟩
  | .hbm, ⟨15, _⟩ => ⟨S4096x512, .f32⟩
  | .hbm, ⟨16, _⟩ => ⟨S1x512, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S512x2048, .bf16⟩
  | .local _ .vmem, ⟨14, _⟩ => ⟨S512x2048, .bf16⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel33Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference33Ideal.lean ====
abbrev S4096x2048 : Shape := ⟨2, ![4096, 2048]⟩
abbrev S4096x1024 : Shape := ⟨2, ![4096, 1024]⟩
abbrev S512x2048 : Shape := ⟨2, ![512, 2048]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S512x2048, .f32⟩
  | .hbm, ⟨3, _⟩ => ⟨S1024x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x2048, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S_, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S_, .f32⟩
  | .hbm, ⟨87, _⟩ => ⟨S512, .f32⟩
  | .hbm, ⟨88, _⟩ => ⟨S1x512, .f32⟩
  | .hbm, ⟨89, _⟩ => ⟨S4096x2048, .bf16⟩
  | .hbm, ⟨90, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Proof.SoftmaxRow.lean ====
/- One row of a softmax and of its derivative, over the extended reals.

   A row has `n` scores. Where they are real numbers, their exponentials (less the greatest) are positive reals and so is
   the sum of these, whatever the incoming derivative holds: infinities in it pass through sums and products with
   positive reals alike on both sides. That is all that the two forms of the score's derivative need to be equal. -/
module

public import Idealize.ShloMosaic.PureOps
public import Idealize.ShloMosaic.Lib.Pointwise

@[expose] public section

noncomputable section

namespace Cert.SoftmaxRow

open Idealize.ShloMosaic

/-- A product with a nonnegative real distributes over a sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The scaled score of a query row against key `j`. -/
def score {n d : ℕ} (c : EReal) (q : Fin d → EReal) (K : Fin n → Fin d → EReal) (j : Fin n) : EReal :=
  (∑ a : Fin d, q a * K j a) * c

/-- The exponential of a score, less the row's greatest. -/
def ex {n : ℕ} (x : Fin n → EReal) (j : Fin n) : EReal := Ideal.exp (x j - Finset.univ.fold max ⊥ x)

/-- The row's softmax. -/
def prob {n : ℕ} (x : Fin n → EReal) (j : Fin n) : EReal := Ideal.div (ex x j) (∑ i, ex x i)

/-- The derivative by score `j`, from the softmax itself: `p_j (g_j − Σ g p)`, with `g` the derivative by the softmax. -/
def dscore {n : ℕ} (x g : Fin n → EReal) (j : Fin n) : EReal := prob x j * (g j - ∑ i, g i * prob x i)

/-- The same by the rule of the quotient `e_j / s`: `(g_j / s − Σ g (1 / s²) e) e_j`. -/
def dscoreQuot {n : ℕ} (x g : Fin n → EReal) (j : Fin n) : EReal :=
  (Ideal.div (g j) (∑ i, ex x i) + -(∑ i, g i * Ideal.div 1 ((∑ i, ex x i) * ∑ i, ex x i) * ex x i)) * ex x j

/-- The greatest of finitely many reals, taken from `⊥`, is real when there is one at all. -/
theorem fold_max_real {n : ℕ} (f : Fin n → ℝ) (hn : 0 < n) :
    ∃ r : ℝ, Finset.univ.fold max (⊥ : EReal) (fun i => (f i : EReal)) = r := by
  have key : ∀ s : Finset (Fin n), (∃ r : ℝ, s.fold max (⊥ : EReal) (fun i => (f i : EReal)) = r) ∨ s = ∅ := by
    intro s
    induction s using Finset.induction_on with
    | empty => exact .inr rfl
    | insert a s ha ih =>
      left
      rw [Finset.fold_insert ha]
      rcases ih with ⟨r, hr⟩ | rfl
      · exact ⟨max (f a) r, by rw [hr]; exact ((EReal.coe_strictMono.monotone.map_max).symm)⟩
      · exact ⟨f a, by rw [Finset.fold_empty]; exact max_eq_left bot_le⟩
  rcases key Finset.univ with h | h
  · exact h
  · exact absurd (Finset.mem_univ (⟨0, hn⟩ : Fin n)) (by rw [h]; exact Finset.notMem_empty _)

/-- The exponentials of a row of reals are positive reals. -/
theorem ex_real {n : ℕ} (f : Fin n → ℝ) (hn : 0 < n) :
    ∃ e : Fin n → ℝ, (∀ j, 0 < e j) ∧ ∀ j, ex (fun i => (f i : EReal)) j = (e j : EReal) := by
  obtain ⟨r, hr⟩ := fold_max_real f hn
  refine ⟨fun j => Real.exp (f j - r), fun j => Real.exp_pos _, fun j => ?_⟩
  unfold ex
  rw [hr, ← EReal.coe_sub, Ideal.exp_coe]

theorem sum_coe {n : ℕ} (e : Fin n → ℝ) : (∑ i, (e i : EReal)) = ((∑ i, e i : ℝ) : EReal) := by
  have : ∀ s : Finset (Fin n), (∑ i ∈ s, (e i : EReal)) = ((∑ i ∈ s, e i : ℝ) : EReal) := by
    intro s
    induction s using Finset.induction_on with
    | empty => simp
    | insert a s ha ih => rw [Finset.sum_insert ha, Finset.sum_insert ha, ih, EReal.coe_add]
  exact this _

/-- On a row of reals the two forms of the derivative are one, whatever the incoming derivative holds. -/
theorem dscore_eq {n : ℕ} (f : Fin n → ℝ) (g : Fin n → EReal) (j : Fin n) :
    dscore (fun i => (f i : EReal)) g j = dscoreQuot (fun i => (f i : EReal)) g j := by
  have hn : 0 < n := Nat.lt_of_le_of_lt (Nat.zero_le _) j.isLt
  obtain ⟨e, he, hex⟩ := ex_real f hn
  have hs : 0 < ∑ i, e i := Finset.sum_pos (fun i _ => he i) ⟨j, Finset.mem_univ _⟩
  unfold dscore dscoreQuot prob
  simp only [hex, sum_coe]
  generalize (∑ i, e i) = s at hs
  have h1 : ∀ y : EReal, Ideal.div y (s : EReal) = y * ((1 / s : ℝ) : EReal) := Ideal.div_coe hs.ne'
  have h2 : Ideal.div 1 ((s : EReal) * (s : EReal)) = ((1 / s : ℝ) : EReal) * ((1 / s : ℝ) : EReal) := by
    rw [← EReal.coe_mul, Ideal.div_coe (by positivity), one_mul, ← EReal.coe_mul]
    congr 1
    field_simp
  simp only [h1, h2]
  have hr : 0 ≤ 1 / s := by positivity
  generalize (1 / s : ℝ) = r at hr
  have h3 : (∑ i, g i * ((r : EReal) * (r : EReal)) * (e i : EReal)) = (r : EReal) * ∑ i, g i * ((e i : EReal) * (r : EReal)) := by
    rw [coe_mul_sum _ _ hr]
    refine Finset.sum_congr rfl fun i _ => ?_
    ac_rfl
  rw [h3, ← mul_neg, mul_comm (g j) (r : EReal), sub_eq_add_neg,
    ← EReal.left_distrib_of_nonneg_of_ne_top (by exact_mod_cast hr) (EReal.coe_ne_top r)]
  ac_rfl

end Cert.SoftmaxRow

end
-- ==== Proof.FfnLayout.lean ====
/- The feed-forward's hidden units in four blocks of 704, and what the three weights' gradients are in that arrangement. -/
module

public import Idealize.ShloMosaic.Lib.Tactic
public import Idealize.ShloMosaic.Lib.Pointwise
public import Idealize.ShloMosaic.Lib.Pipeline.ValueKit

@[expose] public section

set_option maxRecDepth 16384

noncomputable section

namespace Cert.Ffn

open Idealize.ShloMosaic

/-- Unit `r` of block `p` of the hidden units. -/
def unit (p : Fin 4) (r : Fin 704) : Fin 2816 := ⟨p.val * 704 + r.val, by omega⟩

/-- The product `aᵀ b` summed over the tokens, at unit `r` of block `p` and column `d`. -/
def grad (a : FVec Ideal ⟨2, ![4096, 2816]⟩ .f32) (b : FVec Ideal ⟨2, ![4096, 1024]⟩ .f32) (p : Fin 4) (r : Fin 704) (d : Fin 1024) : EReal :=
  ∑ s : Fin 4096, (a (ix2 s (unit p r)) : EReal) * b (ix2 s d)

/-- A statement about a matrix's entries, from its coordinates. -/
theorem by_ix2 {a b : ℕ} {P : (⟨2, ![a, b]⟩ : Shape).Idx → Prop} (h : ∀ i j, P (ix2 i j)) (x : (⟨2, ![a, b]⟩ : Shape).Idx) : P x := by
  have e : x = ix2 (x 0) (x 1) := funext fun i => match i with
    | 0 => rfl
    | 1 => rfl
  exact e ▸ h (x 0) (x 1)

/-- The same for three axes. -/
theorem by_ix3 {a b d : ℕ} {P : (⟨3, ![a, b, d]⟩ : Shape).Idx → Prop} (h : ∀ i j k, P (ix3 i j k)) (x : (⟨3, ![a, b, d]⟩ : Shape).Idx) : P x := by
  have e : x = ix3 (x 0) (x 1) (x 2) := funext fun i => match i with
    | 0 => rfl
    | 1 => rfl
    | 2 => rfl
  exact e ▸ h (x 0) (x 1) (x 2)

/-- Where layer `p` of an array of four lies. -/
theorem layer_idx {b d : ℕ} (p : Fin 4) (o : ℕ) (ho : o = p.val)
    (inb : ∀ a, (![o, 0, 0] : Fin 3 → ℕ) a + (![1, b, d] : Fin 3 → ℕ) a ≤ (⟨3, ![4, b, d]⟩ : Shape).size a)
    (i : Fin 1) (j : Fin b) (k : Fin d) :
    (Rect.unit (s := ⟨3, ![4, b, d]⟩) ![o, 0, 0] ![1, b, d] inb).idx (ix3 i j k) = ix3 p j k := by
  funext a
  refine Fin.ext ((Rect.idx_unit_val _ _ _ _ _).trans ?_)
  subst ho
  match a with
  | 0 => show p.val + i.val = p.val; omega
  | 1 => exact Nat.zero_add _
  | 2 => exact Nat.zero_add _

/-- The part of `aᵀ b` that a block of 1024 tokens contributes. -/
def part (B : (⟨3, ![4, 1024, 704]⟩ : Shape).Idx → EReal) (X : (⟨2, ![1024, 1024]⟩ : Shape).Idx → EReal)
    (y : (⟨3, ![4, 704, 1024]⟩ : Shape).Idx) : EReal := ∑ k : Fin 1024, B (ix3 (y 0) k (y 1)) * X (ix2 k (y 2))

/-- Which of the 704 rows of its half a row is. -/
def half (x : Fin 1408) : Fin 704 := ⟨x.val % 704, by omega⟩

theorem half_low (r : Fin 704) (h : r.val < 1408) : half ⟨r.val, h⟩ = r := Fin.ext (Nat.mod_eq_of_lt r.isLt)
theorem half_high (r : Fin 704) (h : 704 + r.val < 1408) : half ⟨704 + r.val, h⟩ = r :=
  Fin.ext ((Nat.add_mod_left 704 r.val).trans (Nat.mod_eq_of_lt r.isLt))

/-- The logistic function. -/
def lg (g : EReal) : EReal := Ideal.div 1 (1 + Ideal.exp (0 - g))

/-- The derivative by the gate's half: `t` is the derivative by the gated unit times the upper half. -/
def byGate (t g : EReal) : EReal := t * (lg g * (1 + g * (1 - lg g)))

/-- The derivative by the upper half: `t` is the derivative by the gated unit. -/
def byUp (t g : EReal) : EReal := t * g * lg g

/-- The derivative by unit `x` of block `p` of token `s`. -/
def dh (dy : (⟨2, ![4096, 1024]⟩ : Shape).Idx → EReal) (wd : (⟨2, ![2816, 1024]⟩ : Shape).Idx → EReal) (s : Fin 4096) (j : Fin 2816) : EReal :=
  ∑ x : Fin 1024, dy (ix2 s x) * wd (ix2 j x)

end Cert.Ffn

end
-- ==== Proof.NormRow.lean ====
/- The derivative of a row's normalisation by its root mean square, in the two forms the proof needs, and that they agree. -/
module

public import proofs.«01_k».proof.Proof.SoftmaxRow
public import proofs.«01_k».proof.Proof.FfnLayout

@[expose] public section

noncomputable section

namespace Cert.NormRow

open Idealize.ShloMosaic Cert.Ffn

/-- The row's length and the added constant, as the programs write them. -/
abbrev len : EReal := Ideal.ofBits .f32 0x44800000#32
abbrev eps : EReal := Ideal.ofBits .f32 0x358637BD#32

theorem len_real : len = ((1024 : ℝ) : EReal) := by
  simp [len, Ideal.ofBits, Ideal.ieee]
  rw [← EReal.coe_mul]
  norm_num

theorem eps_real : ∃ e : ℝ, 0 < e ∧ eps = (e : EReal) := by
  refine ⟨_, ?_, by simp only [eps, Ideal.ofBits, Ideal.ieee]; simp; rw [← EReal.coe_mul]⟩
  norm_num

theorem half_real : Ideal.ofBits .f32 0xBF000000#32 = ((-(1/2) : ℝ) : EReal) := by
  simp [Ideal.ofBits, Ideal.ieee]
  try (rw [← EReal.coe_mul]; norm_num)

variable (v y : Fin 1024 → EReal) (d : Fin 1024) (old : EReal)

/-- The mean square with the constant. -/
def ms : EReal := Ideal.div (∑ j, v j * v j) len + eps

/-- Its inverse square root. -/
def rs : EReal := Ideal.rsqrt (ms v)

/-- The derivative as the call computes it. -/
def dx : EReal := rs v * (y d - v d * rs v * Ideal.div (∑ j, y j * (v j * rs v)) len) + old

/-- Half of the derivative through the mean square, per unit of the row. -/
def slope : EReal := Ideal.div ((∑ j, v j * y j) * (Ideal.ofBits .f32 0xBF000000#32 * Ideal.div (rs v) (ms v))) len

/-- The derivative as the chain rule gives it. -/
def dxChain : EReal := old + y d * rs v + v d * slope v y + slope v y * v d

theorem sq_nonneg (x : EReal) : 0 ≤ x * x := by
  induction x using EReal.rec with
  | bot => simp
  | top => simp
  | coe x => rw [← EReal.coe_mul]; exact_mod_cast mul_self_nonneg x

theorem ms_cases : ms v = ⊤ ∨ ∃ s : ℝ, 0 < s ∧ ms v = (s : EReal) := by
  obtain ⟨e, he, hE⟩ := eps_real
  have h0 : 0 ≤ ∑ j, v j * v j := Finset.sum_nonneg fun j _ => sq_nonneg (v j)
  unfold ms
  rw [hE, len_real, Ideal.div_coe (by norm_num)]
  generalize ∑ j, v j * v j = q at h0
  induction q using EReal.rec with
  | bot => simp at h0
  | top =>
    left
    rw [EReal.top_mul_coe_of_pos (by norm_num), EReal.top_add_coe]
  | coe q =>
    right
    have hq : 0 ≤ q := by exact_mod_cast h0
    exact ⟨q * (1 / 1024) + e, by positivity, by rw [← EReal.coe_mul, ← EReal.coe_add]⟩

/-- Twice half of a product with a negative real. -/
theorem twice (w : EReal) (h : ℝ) (hh : 0 ≤ h) : w * ((-h : ℝ) : EReal) + w * ((-h : ℝ) : EReal) = -(w * ((h + h : ℝ) : EReal)) := by
  have hh' : (0 : EReal) ≤ h := by exact_mod_cast hh
  rw [EReal.coe_neg, EReal.coe_add, mul_neg, ← neg_mul, ← EReal.left_distrib_of_nonneg hh' hh', neg_mul]

/-- The two forms agree for every row. -/
theorem dx_eq : dxChain v y d old = dx v y d old := by
  unfold dxChain dx slope
  rcases ms_cases v with h | ⟨s, hs, h⟩
  · have hr : rs v = 0 := by unfold rs; rw [h]; simp
    rw [hr, h]
    simp [len_real, Ideal.div]
  · have hr : rs v = (((√s)⁻¹ : ℝ) : EReal) := by
      unfold rs
      rw [h, Ideal.rsqrt_coe, if_neg (not_lt.mpr hs.le), if_neg hs.ne']
    have hp : 0 < (√s)⁻¹ := inv_pos.mpr (Real.sqrt_pos.mpr hs)
    have h2 : (√s)⁻¹ * (√s)⁻¹ * s = 1 := by
      rw [← mul_inv, Real.mul_self_sqrt hs.le, inv_mul_cancel₀ hs.ne']
    rw [hr, h, len_real, half_real, Ideal.div_coe hs.ne', Ideal.div_coe (by norm_num), Ideal.div_coe (by norm_num)]
    generalize (√s)⁻¹ = r at hp h2
    have hS : ∑ j, y j * (v j * (r : EReal)) = (r : EReal) * ∑ j, v j * y j := by
      rw [Cert.SoftmaxRow.coe_mul_sum _ r hp.le]
      exact Finset.sum_congr rfl fun j _ => by rw [mul_comm (y j), mul_comm (v j) (r : EReal), mul_assoc]
    rw [hS, sub_eq_add_neg, EReal.left_distrib_of_nonneg_of_ne_top (by exact_mod_cast hp.le) (EReal.coe_ne_top r)]
    generalize ∑ j, v j * y j = S
    have hk : (((-(1/2) : ℝ) : EReal) * ((r : EReal) * ((1 / s : ℝ) : EReal))) * ((1 / 1024 : ℝ) : EReal)
        = ((-(r * r * r / 2048) : ℝ) : EReal) := by
      rw [← EReal.coe_mul, ← EReal.coe_mul, ← EReal.coe_mul]
      congr 1
      have : 1 / s = r * r := by field_simp; linarith
      rw [this]; ring
    have hA : v d * (S * (((-(1/2) : ℝ) : EReal) * ((r : EReal) * ((1 / s : ℝ) : EReal))) * ((1 / 1024 : ℝ) : EReal))
        = v d * S * ((-(r * r * r / 2048) : ℝ) : EReal) := by
      rw [mul_assoc S, hk]
      exact (mul_assoc _ _ _).symm
    have hB : (r : EReal) * (v d * (r : EReal) * ((r : EReal) * S * ((1 / 1024 : ℝ) : EReal)))
        = v d * S * ((r * r * r / 2048 + r * r * r / 2048 : ℝ) : EReal) := by
      have e : ((r * r * r / 2048 + r * r * r / 2048 : ℝ) : EReal) = (r : EReal) * r * r * ((1 / 1024 : ℝ) : EReal) := by
        rw [← EReal.coe_mul, ← EReal.coe_mul, ← EReal.coe_mul]; congr 1; ring
      rw [e]
      ac_rfl
    rw [mul_comm (S * _ * _) (v d), hA, add_assoc (old + _), twice _ _ (by positivity), mul_neg, hB, mul_comm (y d),
      add_comm old, add_assoc, add_comm old, ← add_assoc]

/-- The gradient that reaches a column of the normalised input: the two halves' products with their weights, summed over the hidden units. -/
def tot (dg du : (⟨2, ![4096, 2816]⟩ : Shape).Idx → EReal) (wg wu : (⟨2, ![1024, 2816]⟩ : Shape).Idx → EReal) (s : Fin 4096) (x : Fin 1024) : EReal :=
  ∑ j : Fin 2816, du (ix2 s j) * wu (ix2 x j) + ∑ j : Fin 2816, dg (ix2 s j) * wg (ix2 x j)

/-- A sum over the hidden units is the four blocks' sums. -/
theorem sum_units (f : Fin 2816 → EReal) :
    ∑ j, f j = ∑ x, f (unit 0 x) + ∑ x, f (unit 1 x) + ∑ x, f (unit 2 x) + ∑ x, f (unit 3 x) := by
  rw [← Fin.sum_univ_four (fun p => ∑ x, f (unit p x))]
  exact (Fin.sum_mul_add_congr (L := 2816) (S := 4) (n := 704) (f := f) (fun _ _ _ => rfl) rfl).symm

/-- The same gradient with the blocks' products added one after another. -/
theorem tot_blocks (dg du : (⟨2, ![4096, 2816]⟩ : Shape).Idx → EReal) (wg wu : (⟨2, ![1024, 2816]⟩ : Shape).Idx → EReal) (s : Fin 4096) (x : Fin 1024)
    (f g : Fin 4 → EReal) (hf : ∀ p, f p = ∑ k, dg (ix2 s (unit p k)) * wg (ix2 x (unit p k)))
    (hg : ∀ p, g p = ∑ k, du (ix2 s (unit p k)) * wu (ix2 x (unit p k))) :
    f 0 + g 0 + (f 1 + g 1) + (f 2 + g 2) + (f 3 + g 3) = tot dg du wg wu s x := by
  unfold tot
  rw [sum_units, sum_units]
  simp only [hf, hg]
  ac_rfl

end Cert.NormRow

end
-- ==== Proof.InBwd.lean ====
/- The feed-forward's gradient by its input and by its norm's gain: what the call leaves in its two results. -/
module

public import proofs.«01_k».proof.Proof.NormRow
public import proofs.«01_k».proof.Proof.Gen.Kernel3Ideal.Value
public import Idealize.ShloMosaic.Lib.Pipeline.ReadBack

@[expose] public section

set_option maxRecDepth 16384

noncomputable section

namespace Cert.Kernel3Ideal.InBwd

open Cert.Kernel3Ideal Cert.Kernel3Ideal.Gen Idealize.ShloMosaic Idealize.ShloMosaic.TcCoe Idealize.SL.Sem
open Cert.Ffn Cert.NormRow

/-- A block's product with its layer of a weight. -/
def prod (a : Vec Ideal S1x512x704 .bf16) (w : Vec Ideal S1x704x1024 .bf16) (r : Fin 512) (d : Fin 1024) : EReal :=
  ∑ x : Fin 704, (a (ix3 0 r x) : EReal) * w (ix3 0 x d)

section
variable (a0 b0 a1 b1 a2 b2 a3 b3 : Vec Ideal S1x512x704 .bf16) (w0 v0 w1 v1 w2 v2 w3 v3 : Vec Ideal S1x704x1024 .bf16)

/-- The eight products' sum. -/
theorem prods_at (r : Fin 512) (d : Fin 1024) :
    k0_pay7 (F := Ideal) (k0_pay6 a0 w0 b0 v0 a1 w1 b1 v1) a2 w2 b2 v2 a3 w3 b3 v3 (ix2 r d)
      = (prod a0 w0 r d + prod b0 v0 r d + (prod a1 w1 r d + prod b1 v1 r d) + (prod a2 w2 r d + prod b2 v2 r d)
        + (prod a3 w3 r d + prod b3 v3 r d) : EReal) := by
  pointwise [k0_pay7, k0_pay6]
  rfl
end

section
variable (T X D : FVec Ideal S512x1024 .f32) (G acc : FVec Ideal S1x1024 .f32)

theorem dx_at (r : Fin 512) (d : Fin 1024) :
    k0_pay3 (F := Ideal) T X (k0_pay8 G) (k0_pay9 X) D (ix2 r d)
      = dx (fun j => X (ix2 r j)) (fun j => (T (ix2 r j) * G (ix2 0 j) : EReal)) d (D (ix2 r d)) := by
  pointwise [k0_pay3, k0_pay8, k0_pay9, k0_pay2, k0_pay1]
  rfl

/-- What a block adds to the gain's gradient. -/
def gainPart (d : Fin 1024) : EReal := ∑ r : Fin 512, (T (ix2 r d) : EReal) * (X (ix2 r d) * rs (fun j => X (ix2 r j)))

theorem gain_at (d : Fin 1024) : k0_pay4 (F := Ideal) T X (k0_pay9 X) acc (ix2 0 d) = (acc (ix2 0 d) : EReal) + gainPart T X d := by
  pointwise [k0_pay4, k0_pay9, k0_pay2, k0_pay1]
  rfl

theorem fill (j : S1x1024.Idx) : k0_pay5 (F := Ideal) j = 0 := by pointwise [k0_pay5]
end

variable (m : (ℓ : Loc nD τ sig) → Buf (Elt Ideal) ℓ) (c : Dev nD)

/-- The arguments, as arrays of extended reals. -/
abbrev dg : FVec Ideal S4096x2816 .f32 := m ((c : Thread nD τ).loc main_arg0)
abbrev du : FVec Ideal S4096x2816 .f32 := m ((c : Thread nD τ).loc main_arg1)
abbrev wg : FVec Ideal S1024x2816 .f32 := m ((c : Thread nD τ).loc main_arg2)
abbrev wu : FVec Ideal S1024x2816 .f32 := m ((c : Thread nD τ).loc main_arg3)
abbrev xin : FVec Ideal S4096x1024 .f32 := m ((c : Thread nD τ).loc main_arg4)
abbrev gain : FVec Ideal S1024 .f32 := m ((c : Thread nD τ).loc main_arg5)
abbrev dres : FVec Ideal S4096x1024 .f32 := m ((c : Thread nD τ).loc main_arg6)

theorem idx : ∀ t : Fin cfg0.N, win0_0.index t = ![0, t.val, 0] ∧ win0_1.index t = ![0, t.val, 0] ∧ win0_2.index t = ![t.val, 0]
    ∧ win0_3.index t = ![t.val, 0] ∧ win0_4.index t = ![0, 0]
    ∧ win0_5.index t = ![0, 0, 0] ∧ win0_6.index t = ![1, 0, 0] ∧ win0_7.index t = ![2, 0, 0] ∧ win0_8.index t = ![3, 0, 0]
    ∧ win0_9.index t = ![0, 1, 0] ∧ win0_10.index t = ![1, 1, 0] ∧ win0_11.index t = ![2, 1, 0] ∧ win0_12.index t = ![3, 1, 0]
    ∧ win0_13.index t = ![t.val, 0] ∧ win0_14.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (p : Fin 4) (r : Fin 512) (x : Fin 704) :
    (iblk m c 0 t : Vec Ideal S4x512x704 .bf16) (ix3 p r x) = dg m c (ix2 (row t r) (unit p x)) := by
  blk_ext! [iblk, V, idx t, row, unit]

theorem blk1 (t : Fin cfg0.N) (p : Fin 4) (r : Fin 512) (x : Fin 704) :
    (iblk m c 1 t : Vec Ideal S4x512x704 .bf16) (ix3 p r x) = du m c (ix2 (row t r) (unit p x)) := by
  blk_ext! [iblk, V, idx t, row, unit]

theorem blk2 (t : Fin cfg0.N) (r : Fin 512) (x : Fin 1024) :
    (iblk m c 2 t : Vec Ideal S512x1024 .f32) (ix2 r x) = xin m c (ix2 (row t r) x) := by
  blk_ext [iblk, V, idx t, row]

theorem blk3 (t : Fin cfg0.N) (r : Fin 512) (x : Fin 1024) :
    (iblk m c 3 t : Vec Ideal S512x1024 .f32) (ix2 r x) = dres m c (ix2 (row t r) x) := by
  blk_ext [iblk, V, idx t, row]

theorem blk4 (t : Fin cfg0.N) (x : Fin 1024) :
    (iblk m c 4 t : Vec Ideal S1x1024 .f32) (ix2 0 x) = gain m c (ix1 x) := by
  blk_ext! [iblk, V, idx t]

/-- The two weights side by side. -/
def slab : Vec Ideal S4x1408x1024 .bf16 := V m c main_v6

theorem slab_low (p : Fin 4) (r : Fin 704) (x : Fin 1024) (h : r.val < 1408) :
    slab m c (ix3 p ⟨r.val, h⟩ x) = wg m c (ix2 x (unit p r)) := by
  unfold slab
  entry_read
  pointwise
  rfl

theorem slab_high (p : Fin 4) (r : Fin 704) (x : Fin 1024) (h : 704 + r.val < 1408) :
    slab m c (ix3 p ⟨704 + r.val, h⟩ x) = wu m c (ix2 x (unit p r)) := by
  unfold slab
  entry_read
  pointwise
  rfl

theorem blk5 (t : Fin cfg0.N) (r : Fin 704) (x : Fin 1024) :
    (iblk m c 5 t : Vec Ideal S1x704x1024 .bf16) (ix3 0 r x) = wg m c (ix2 x (unit 0 r)) := by
  refine Eq.trans ?_ (slab_low m c 0 r x (by omega))
  unfold slab
  blk_ext [iblk, idx t]

theorem blk9 (t : Fin cfg0.N) (r : Fin 704) (x : Fin 1024) :
    (iblk m c 9 t : Vec Ideal S1x704x1024 .bf16) (ix3 0 r x) = wu m c (ix2 x (unit 0 r)) := by
  refine Eq.trans ?_ (slab_high m c 0 r x (by omega))
  unfold slab
  blk_ext [iblk, idx t]

theorem blk6 (t : Fin cfg0.N) (r : Fin 704) (x : Fin 1024) :
    (iblk m c 6 t : Vec Ideal S1x704x1024 .bf16) (ix3 0 r x) = wg m c (ix2 x (unit 1 r)) := by
  refine Eq.trans ?_ (slab_low m c 1 r x (by omega))
  unfold slab
  blk_ext [iblk, idx t]

theorem blk10 (t : Fin cfg0.N) (r : Fin 704) (x : Fin 1024) :
    (iblk m c 10 t : Vec Ideal S1x704x1024 .bf16) (ix3 0 r x) = wu m c (ix2 x (unit 1 r)) := by
  refine Eq.trans ?_ (slab_high m c 1 r x (by omega))
  unfold slab
  blk_ext [iblk, idx t]

theorem blk7 (t : Fin cfg0.N) (r : Fin 704) (x : Fin 1024) :
    (iblk m c 7 t : Vec Ideal S1x704x1024 .bf16) (ix3 0 r x) = wg m c (ix2 x (unit 2 r)) := by
  refine Eq.trans ?_ (slab_low m c 2 r x (by omega))
  unfold slab
  blk_ext [iblk, idx t]

theorem blk11 (t : Fin cfg0.N) (r : Fin 704) (x : Fin 1024) :
    (iblk m c 11 t : Vec Ideal S1x704x1024 .bf16) (ix3 0 r x) = wu m c (ix2 x (unit 2 r)) := by
  refine Eq.trans ?_ (slab_high m c 2 r x (by omega))
  unfold slab
  blk_ext [iblk, idx t]

theorem blk8 (t : Fin cfg0.N) (r : Fin 704) (x : Fin 1024) :
    (iblk m c 8 t : Vec Ideal S1x704x1024 .bf16) (ix3 0 r x) = wg m c (ix2 x (unit 3 r)) := by
  refine Eq.trans ?_ (slab_low m c 3 r x (by omega))
  unfold slab
  blk_ext [iblk, idx t]

theorem blk12 (t : Fin cfg0.N) (r : Fin 704) (x : Fin 1024) :
    (iblk m c 12 t : Vec Ideal S1x704x1024 .bf16) (ix3 0 r x) = wu m c (ix2 x (unit 3 r)) := by
  refine Eq.trans ?_ (slab_high m c 3 r x (by omega))
  unfold slab
  blk_ext [iblk, idx t]

/-- The gradient by the normalised input, at a token and a column. -/
def dn (s : Fin 4096) (x : Fin 1024) : EReal := tot (dg m c) (du m c) (wg m c) (wu m c) s x

/-- A layer's products, in the arrays' terms. -/
theorem prodG (t : Fin cfg0.N) (p : Fin 4) (o : ℕ) (ho : o = p.val)
    (inb : ∀ a, (![o, 0, 0] : Fin 3 → ℕ) a + (![1, 512, 704] : Fin 3 → ℕ) a ≤ S4x512x704.size a)
    (W : Vec Ideal S1x704x1024 .bf16) (hW : ∀ r x, W (ix3 0 r x) = wg m c (ix2 x (unit p r))) (r : Fin 512) (d : Fin 1024) :
    prod (View.ld (iblk m c 0 t : Vec Ideal S4x512x704 .bf16) (Rect.unit ![o, 0, 0] ![1, 512, 704] inb)) W r d
      = ∑ k, (dg m c (ix2 (row t r) (unit p k)) : EReal) * wg m c (ix2 d (unit p k)) :=
  Finset.sum_congr rfl fun k _ => congrArg₂ (fun a b : EReal => a * b)
    ((congrArg (iblk m c 0 t : Vec Ideal S4x512x704 .bf16) (layer_idx p o ho inb 0 r k)).trans (blk0 m c t p r k)) (hW k d)

theorem prodU (t : Fin cfg0.N) (p : Fin 4) (o : ℕ) (ho : o = p.val)
    (inb : ∀ a, (![o, 0, 0] : Fin 3 → ℕ) a + (![1, 512, 704] : Fin 3 → ℕ) a ≤ S4x512x704.size a)
    (W : Vec Ideal S1x704x1024 .bf16) (hW : ∀ r x, W (ix3 0 r x) = wu m c (ix2 x (unit p r))) (r : Fin 512) (d : Fin 1024) :
    prod (View.ld (iblk m c 1 t : Vec Ideal S4x512x704 .bf16) (Rect.unit ![o, 0, 0] ![1, 512, 704] inb)) W r d
      = ∑ k, (du m c (ix2 (row t r) (unit p k)) : EReal) * wu m c (ix2 d (unit p k)) :=
  Finset.sum_congr rfl fun k _ => congrArg₂ (fun a b : EReal => a * b)
    ((congrArg (iblk m c 1 t : Vec Ideal S4x512x704 .bf16) (layer_idx p o ho inb 0 r k)).trans (blk1 m c t p r k)) (hW k d)

/-- Point `t`'s sum of products. -/
abbrev prods (t : Fin cfg0.N) : FVec Ideal S512x1024 .f32 :=
  k0_pay7 (F := Ideal) (k0_pay6 (View.ld (iblk m c 0 t : Vec Ideal S4x512x704 .bf16) (Rect.unit ![0, 0, 0] ![1, 512, 704] inb_S4x512x704_S1x512x704_0_0_0))
      (iblk m c 5 t : Vec Ideal S1x704x1024 .bf16)
      (View.ld (iblk m c 1 t : Vec Ideal S4x512x704 .bf16) (Rect.unit ![0, 0, 0] ![1, 512, 704] inb_S4x512x704_S1x512x704_0_0_0))
      (iblk m c 9 t : Vec Ideal S1x704x1024 .bf16)
      (View.ld (iblk m c 0 t : Vec Ideal S4x512x704 .bf16) (Rect.unit ![1, 0, 0] ![1, 512, 704] inb_S4x512x704_S1x512x704_1_0_0))
      (iblk m c 6 t : Vec Ideal S1x704x1024 .bf16)
      (View.ld (iblk m c 1 t : Vec Ideal S4x512x704 .bf16) (Rect.unit ![1, 0, 0] ![1, 512, 704] inb_S4x512x704_S1x512x704_1_0_0))
      (iblk m c 10 t : Vec Ideal S1x704x1024 .bf16))
    (View.ld (iblk m c 0 t : Vec Ideal S4x512x704 .bf16) (Rect.unit ![2, 0, 0] ![1, 512, 704] inb_S4x512x704_S1x512x704_2_0_0))
    (iblk m c 7 t : Vec Ideal S1x704x1024 .bf16)
    (View.ld (iblk m c 1 t : Vec Ideal S4x512x704 .bf16) (Rect.unit ![2, 0, 0] ![1, 512, 704] inb_S4x512x704_S1x512x704_2_0_0))
    (iblk m c 11 t : Vec Ideal S1x704x1024 .bf16)
    (View.ld (iblk m c 0 t : Vec Ideal S4x512x704 .bf16) (Rect.unit ![3, 0, 0] ![1, 512, 704] inb_S4x512x704_S1x512x704_3_0_0))
    (iblk m c 8 t : Vec Ideal S1x704x1024 .bf16)
    (View.ld (iblk m c 1 t : Vec Ideal S4x512x704 .bf16) (Rect.unit ![3, 0, 0] ![1, 512, 704] inb_S4x512x704_S1x512x704_3_0_0))
    (iblk m c 12 t : Vec Ideal S1x704x1024 .bf16)

theorem prods_eq (t : Fin cfg0.N) (r : Fin 512) (d : Fin 1024) : prods m c t (ix2 r d) = dn m c (row t r) d := by
  refine (prods_at _ _ _ _ _ _ _ _ _ _ _ _ _ _ _ _ r d).trans ?_
  rw [prodG m c t 0 0 rfl _ _ (blk5 m c t), prodG m c t 1 1 rfl _ _ (blk6 m c t), prodG m c t 2 2 rfl _ _ (blk7 m c t),
    prodG m c t 3 3 rfl _ _ (blk8 m c t), prodU m c t 0 0 rfl _ _ (blk9 m c t), prodU m c t 1 1 rfl _ _ (blk10 m c t),
    prodU m c t 2 2 rfl _ _ (blk11 m c t), prodU m c t 3 3 rfl _ _ (blk12 m c t)]
  exact tot_blocks (dg m c) (du m c) (wg m c) (wu m c) (row t r) d _ _ (fun _ => rfl) (fun _ => rfl)

/-- The first result: the gradient by the input. -/
def arrX (i : S4096x1024.Idx) : EReal :=
  dx (fun j => xin m c (ix2 (i 0) j)) (fun j => dn m c (i 0) j * gain m c (ix1 j)) (i 1) (dres m c i)

theorem store13 (t : Fin cfg0.N) (r : Fin 512) (d : Fin 1024) :
    k0_pay3 (F := Ideal) (prods m c t) (iblk m c 2 t : Vec Ideal S512x1024 .f32) (k0_pay8 (iblk m c 4 t : Vec Ideal S1x1024 .f32))
      (k0_pay9 (iblk m c 2 t : Vec Ideal S512x1024 .f32)) (iblk m c 3 t : Vec Ideal S512x1024 .f32) (ix2 r d) = arrX m c (ix2 (row t r) d) := by
  refine (dx_at _ _ _ _ r d).trans ?_
  simp only [prods_eq m c t, blk2 m c t, blk3 m c t, blk4 m c t]
  rfl

theorem outs13 (t : Fin cfg0.N) (r : Fin 512) (d : Fin 1024) : (outsAt0 m c t.val t.isLt).1 (ix2 r d) = arrX m c (ix2 (row t r) d) := by
  by_cases h : t.val % 8 = 0
  · rw [outsAt0_A m c t h]
    frame_open
    frame_out
    exact store13 m c t r d
  · rw [outsAt0_B m c t h]
    frame_out
    exact store13 m c t r d

theorem final13 : (dats m 0 c).arrAt 13 cfg0.N = arrX m c :=
  (dats m 0 c).arrAt_eq_of_covers 13 _ (by decide +kernel) fun t hf y => by
    revert y
    refine by_ix2 fun r d => ?_
    blk_simp
    rw [after0_13]
    refine (outs13 m c t r d).trans (congrArg (arrX m c) ?_)
    blk_ext [idx t, row]

/-- A token's part of the gain's gradient. -/
def gainTerm (s : Fin 4096) (d : Fin 1024) : EReal := dn m c s d * (xin m c (ix2 s d) * rs (fun j => xin m c (ix2 s j)))

/-- Point `t`'s part. -/
def partOf (t : Fin cfg0.N) (d : Fin 1024) : EReal := ∑ r : Fin 512, gainTerm m c (row t r) d

theorem part_eq (t : Fin cfg0.N) (d : Fin 1024) : gainPart (prods m c t) (iblk m c 2 t : Vec Ideal S512x1024 .f32) d = partOf m c t d :=
  Finset.sum_congr rfl fun r _ => by
    simp only [prods_eq m c t, blk2 m c t]
    rfl

theorem outs_A (t : Fin cfg0.N) (h : t.val % 8 = 0) (d : Fin 1024) :
    (outsAt0 m c t.val t.isLt).2 (ix2 0 d) = 0 + partOf m c t d := by
  rw [outsAt0_A m c t h]
  frame_open
  simp (disch := decide) only [↓ View.readCov_skip, ↓ View.readCov_cons_toLoadRect, ↓ View.readCov_fill]
  frame_out
  refine (gain_at (prods m c t) (iblk m c 2 t : Vec Ideal S512x1024 .f32) _ d).trans ?_
  rw [part_eq, fill]

theorem outs_B (t : Fin cfg0.N) (h : ¬ t.val % 8 = 0) (d : Fin 1024) :
    (outsAt0 m c t.val t.isLt).2 (ix2 0 d)
      = ((outsAt0 m c (t.val - 1) (Nat.lt_of_le_of_lt (Nat.sub_le _ _) t.isLt)).2 (ix2 0 d) : EReal) + partOf m c t d := by
  rw [outsAt0_B m c t h]
  frame_out
  refine (gain_at (prods m c t) (iblk m c 2 t : Vec Ideal S512x1024 .f32) _ d).trans ?_
  rw [part_eq]

/-- The gain's gradient. -/
def arrN (d : Fin 1024) : EReal := ∑ s : Fin 4096, gainTerm m c s d

theorem outs_last (d : Fin 1024) : (outsAt0 m c t0_7.val t0_7.isLt).2 (ix2 0 d) = arrN m c d := by
  refine (Pipeline.eq_sum_fin_of_reset_step_apply_last (M := EReal) (fun n h d => (outsAt0 m c n h).2 (ix2 0 d)) 8 (fun _ => 0)
    (partOf m c) (fun t h d => outs_A m c t h d) (fun t h d => outs_B m c t h d) (le_of_eq N_0) t0_7 rfl d).trans ?_
  rw [zero_add]
  exact Fin.sum_mul_add_congr (L := 4096) (S := cfg0.N) (n := 512) (f := fun s => gainTerm m c s d) (fun _ _ _ => rfl) (congrArg (· * 512) N_0.symm)

theorem final14 : (dats m 0 c).arrAt 14 cfg0.N = fun i => arrN m c (i 1) :=
  (dats m 0 c).arrAt_eq_of_after_last 14 t0_7 (by decide +kernel) _ fun j => by
    revert j
    refine by_ix2 fun z d => ?_
    obtain rfl : z = 0 := Subsingleton.elim _ _
    blk_simp
    rw [after0_14]
    exact outs_last m c d

end Cert.Kernel3Ideal.InBwd

end
-- ==== Proof.InBwdRef.lean ====
/- The reference's gradient of the feed-forward's input and gain, and that the call's is the same. -/
module

public import proofs.«01_k».proof.Defs
public import proofs.«01_k».proof.Proof.InBwd
public import proofs.«01_k».proof.Proof.Gen.Reference3Ideal.Run
public import Idealize.ShloMosaic.Lib.Claim
public import Idealize.ShloMosaic.Adequacy
public import Idealize.ShloMosaic.Init

@[expose] public section

set_option maxRecDepth 16384

noncomputable section

namespace Cert.InBwdRef

open Idealize.ShloMosaic Idealize.SL.Sem Cert.Ffn Cert.NormRow

section
open Cert.Reference3Ideal Cert.Reference3Ideal.Gen

variable (g u : FVec Ideal S4096x2816 .f32) (wg wu : FVec Ideal S1024x2816 .f32) (x : FVec Ideal S4096x1024 .f32)
  (gain : FVec Ideal S1024 .f32) (old : FVec Ideal S4096x1024 .f32)

/-- The mean squares with the constant, their inverse roots, the gradient by the normalised rows and by the rows times the gain. -/
def meanSq : FVec Ideal S4096x1 .f32 :=
  addf (Host.divf (broadcastInDim S4096x1 ![0] bcast_S4096_S4096x1_0 (Host.reduceAdd (mulf x x) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

def root : FVec Ideal S4096x1 .f32 := Host.rsqrt (meanSq x)

def gradN : FVec Ideal S4096x1024 .f32 :=
  addf (Host.dotGeneral dot_S4096x2816_S1024x2816_S4096x1024_1_1_0_0_n_n none u wu)
    (Host.dotGeneral dot_S4096x2816_S1024x2816_S4096x1024_1_1_0_0_n_n none g wg)

variable (t : FVec Ideal S4096x1024 .f32)

def gained : FVec Ideal S4096x1024 .f32 :=
  mulf t (broadcastInDim S4096x1024 ![0, 1] bcast_S1x1024_S4096x1024_0_1 (broadcastInDim S1x1024 ![1] bcast_S1024_S1x1024_1 gain))

variable (y : FVec Ideal S4096x1024 .f32)

/-- Half of the derivative through the mean square, over the row's entry. -/
def slopes : FVec Ideal S4096 .f32 :=
  Host.reduceAdd (Host.divf (mulf (shapeCast _ (Host.reduceAdd (mulf x y) (constant S_ .f32 0x00000000#32) reducesTo_S4096x1024_S4096_d1 h_S_)
    shapeCasts_S4096_S4096x1) (mulf (broadcastInDim S4096x1 ![] bcast_S_S4096x1 (constant S_ .f32 0xBF000000#32)) (Host.divf (root x) (meanSq x))))
    (broadcastInDim S4096x1 ![] bcast_S_S4096x1 (constant S_ .f32 0x44800000#32))) (constant S_ .f32 0x00000000#32) reducesTo_S4096x1_S4096_d1 h_S_

/-- The gradient by the input. -/
def refX : FVec Ideal S4096x1024 .f32 :=
  addf (addf (addf old (mulf y (broadcastInDim S4096x1024 ![0, 1] bcast_S4096x1_S4096x1024_0_1 (root x))))
    (mulf x (broadcastInDim S4096x1024 ![0] bcast_S4096_S4096x1024_0 (slopes x y))))
    (mulf (broadcastInDim S4096x1024 ![0] bcast_S4096_S4096x1024_0 (slopes x y)) x)

/-- The gradient by the gain. -/
def refN : FVec Ideal S1x1024 .f32 :=
  shapeCast _ (Host.reduceAdd (shapeCast _ (Host.reduceAdd (mulf (mulf x (broadcastInDim S4096x1024 ![0, 1] bcast_S4096x1_S4096x1024_0_1 (root x))) t)
    (constant S_ .f32 0x00000000#32) reducesTo_S4096x1024_S1024_d0 h_S_) shapeCasts_S1024_S1x1024)
    (constant S_ .f32 0x00000000#32) reducesTo_S1x1024_S1024_d0 h_S_) shapeCasts_S1024_S1x1024

theorem meanSq_at (s : Fin 4096) : meanSq x (ix2 s 0) = ms (fun j => x (ix2 s j)) := by
  pointwise [meanSq]
  rfl

theorem root_at (s : Fin 4096) : root x (ix2 s 0) = rs (fun j => x (ix2 s j)) := by
  pointwise [root]
  rw [meanSq_at]
  rfl

theorem gradN_at (s : Fin 4096) (d : Fin 1024) : gradN g u wg wu (ix2 s d) = tot g u wg wu s d := by
  pointwise [gradN]
  rfl

theorem gained_at (s : Fin 4096) (d : Fin 1024) : gained gain t (ix2 s d) = (t (ix2 s d) * gain (ix1 d) : EReal) := by
  pointwise [gained]

theorem slopes_at (s : Fin 4096) : slopes x y (ix1 s) = slope (fun j => x (ix2 s j)) (fun j => y (ix2 s j)) := by
  pointwise [slopes]
  refine (Fin.sum_univ_one _).trans ?_
  show Ideal.div (_ * (_ * Ideal.div (root x (ix2 s 0)) (meanSq x (ix2 s 0)))) _ = _
  rw [meanSq_at, root_at]
  rfl

theorem refX_at (s : Fin 4096) (d : Fin 1024) :
    refX x old y (ix2 s d) = dxChain (fun j => x (ix2 s j)) (fun j => y (ix2 s j)) d (old (ix2 s d)) := by
  pointwise [refX]
  rw [slopes_at, root_at]
  rfl

theorem refN_at (d : Fin 1024) :
    refN x t (ix2 0 d) = ∑ s : Fin 4096, (t (ix2 s d) : EReal) * (x (ix2 s d) * rs (fun j => x (ix2 s j))) := by
  pointwise [refN]
  simp only [root_at]
  refine (Fin.sum_univ_one _).trans ?_
  exact Finset.sum_congr rfl fun s _ => mul_comm (G := EReal) _ _

end

theorem algebraic3 : Cert.algebraic_Kernel3Ideal_Reference3Ideal := by
  intro m g m' g' _ hagree
  refine ⟨fun c => Cert.Kernel3Ideal.InBwd.arrX m c, fun c i => Cert.Kernel3Ideal.InBwd.arrN m c (i 1),
    (θ_run Cert.Kernel3Ideal.defs _ _).mono (fun r h c => ⟨(h c).1.trans (Cert.Kernel3Ideal.InBwd.final13 m c),
      (h c).2.1.trans (Cert.Kernel3Ideal.InBwd.final14 m c), (h c).2.2⟩)
      (Cert.Kernel3Ideal.Value.run_blocks m g),
    (θ_run Cert.Reference3Ideal.defs _ _).mono (fun r h c => ?_) (Cert.Reference3Ideal.Value.run m' g')⟩
  obtain ⟨a0, a1, a2, a3, a4, a5, a6⟩ := hagree c
  obtain ⟨h0, h1, hargs⟩ := h c
  unfold Cert.Reference3Ideal.Value.res_main_v41 at h0
  rw [a0, a1, a2, a3, a4, a5, a6] at h0
  rw [a0, a1, a2, a3, a4] at h1
  refine ⟨h0.trans (funext (by_ix2 fun s d => ?_)), h1.trans (funext (by_ix2 fun z d => ?_)), hargs⟩
  · refine (refX_at (Cert.Kernel3Ideal.InBwd.xin m c) (Cert.Kernel3Ideal.InBwd.dres m c)
      (gained (Cert.Kernel3Ideal.InBwd.gain m c) (gradN (Cert.Kernel3Ideal.InBwd.dg m c) (Cert.Kernel3Ideal.InBwd.du m c)
        (Cert.Kernel3Ideal.InBwd.wg m c) (Cert.Kernel3Ideal.InBwd.wu m c))) s d).trans ?_
    simp only [gained_at, gradN_at]
    exact dx_eq _ _ _ _
  · obtain rfl : z = 0 := Subsingleton.elim _ _
    refine (refN_at (Cert.Kernel3Ideal.InBwd.xin m c) (gradN (Cert.Kernel3Ideal.InBwd.dg m c) (Cert.Kernel3Ideal.InBwd.du m c)
        (Cert.Kernel3Ideal.InBwd.wg m c) (Cert.Kernel3Ideal.InBwd.wu m c)) d).trans ?_
    simp only [gradN_at]
    rfl

theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

end Cert.InBwdRef

end
-- ==== Proof.ProjLayout.lean ====
/- A square weight of 1024 rows in four layers of 256 rows, and what its gradient is in that arrangement. -/
module

public import proofs.«01_k».proof.Proof.FfnLayout

@[expose] public section

set_option maxRecDepth 16384

noncomputable section

namespace Cert.Proj

open Idealize.ShloMosaic

/-- Row `r` of layer `p` of the weight. -/
def unit (p : Fin 4) (r : Fin 256) : Fin 1024 := ⟨p.val * 256 + r.val, by omega⟩

/-- The product `aᵀ b` summed over the tokens, at row `r` of layer `p` and column `d`. -/
def grad (a b : FVec Ideal ⟨2, ![4096, 1024]⟩ .f32) (p : Fin 4) (r : Fin 256) (d : Fin 1024) : EReal :=
  ∑ s : Fin 4096, (a (ix2 s (unit p r)) : EReal) * b (ix2 s d)

/-- Where the columns of layer `p` lie in a block of tokens. -/
theorem cols_idx {n : ℕ} (p : Fin 4) (o : ℕ) (ho : o = p.val * 256)
    (inb : ∀ a, (![0, o] : Fin 2 → ℕ) a + (![n, 256] : Fin 2 → ℕ) a ≤ (⟨2, ![n, 1024]⟩ : Shape).size a) (i : Fin n) (j : Fin 256) :
    (Rect.unit (s := ⟨2, ![n, 1024]⟩) ![0, o] ![n, 256] inb).idx (ix2 i j) = ix2 i (unit p j) := by
  funext a
  refine Fin.ext ((Rect.idx_unit_val _ _ _ _ _).trans ?_)
  subst ho
  match a with
  | 0 => exact Nat.zero_add _
  | 1 => rfl

/-- The part of `aᵀ b` that a block of 2048 tokens contributes. -/
def part (B X : (⟨2, ![2048, 1024]⟩ : Shape).Idx → EReal) (y : (⟨3, ![4, 256, 1024]⟩ : Shape).Idx) : EReal :=
  ∑ k : Fin 2048, B (ix2 k (unit (y 0) (y 1))) * X (ix2 k (y 2))

/-- Which of the 256 rows of its quarter a row is. -/
def quarter (x : Fin 1024) : Fin 256 := ⟨x.val % 256, by omega⟩

theorem quarter_low (r : Fin 256) (h : r.val < 1024) : quarter ⟨r.val, h⟩ = r := Fin.ext (Nat.mod_eq_of_lt r.isLt)
theorem quarter_high (r : Fin 256) (h : 768 + r.val < 1024) : quarter ⟨768 + r.val, h⟩ = r :=
  Fin.ext (by simp only [quarter]; omega)

end Cert.Proj

end
-- ==== Proof.MixLayout.lean ====
/- Arrays of 1024 and of 2048 columns in four blocks, and sums over them block by block. -/
module

public import proofs.«01_k».proof.Proof.ProjLayout

@[expose] public section

noncomputable section

namespace Cert.Mix

open Idealize.ShloMosaic

/-- A sum over 1024 columns is the four blocks' sums. -/
theorem sum_quarters (f : Fin 1024 → EReal) :
    ∑ j, f j = ∑ x, f (Proj.unit 0 x) + ∑ x, f (Proj.unit 1 x) + ∑ x, f (Proj.unit 2 x) + ∑ x, f (Proj.unit 3 x) := by
  rw [← Fin.sum_univ_four (fun p => ∑ x, f (Proj.unit p x))]
  exact (Fin.sum_mul_add_congr (L := 1024) (S := 4) (n := 256) (f := f) (fun _ _ _ => rfl) rfl).symm

/- The columns of the four quarters. -/
theorem col0 (x : Fin 256) (h : x.val < 1024) : (⟨x.val, h⟩ : Fin 1024) = Proj.unit 0 x := Fin.ext (by simp [Proj.unit])
theorem col1 (x : Fin 256) (h : 256 + x.val < 1024) : (⟨256 + x.val, h⟩ : Fin 1024) = Proj.unit 1 x := Fin.ext (by simp [Proj.unit])
theorem col2 (x : Fin 256) (h : 512 + x.val < 1024) : (⟨512 + x.val, h⟩ : Fin 1024) = Proj.unit 2 x := Fin.ext (by simp [Proj.unit])
theorem col3 (x : Fin 256) (h : 768 + x.val < 1024) : (⟨768 + x.val, h⟩ : Fin 1024) = Proj.unit 3 x := Fin.ext (by simp [Proj.unit])

/-- Column `x` of block `p` among 2048. -/
def unit (p : Fin 4) (x : Fin 512) : Fin 2048 := ⟨p.val * 512 + x.val, by omega⟩

/-- A sum over 2048 columns is the four blocks' sums. -/
theorem sum_units (f : Fin 2048 → EReal) :
    ∑ j, f j = ∑ x, f (unit 0 x) + ∑ x, f (unit 1 x) + ∑ x, f (unit 2 x) + ∑ x, f (unit 3 x) := by
  rw [← Fin.sum_univ_four (fun p => ∑ x, f (unit p x))]
  exact (Fin.sum_mul_add_congr (L := 2048) (S := 4) (n := 512) (f := f) (fun _ _ _ => rfl) rfl).symm

/-- Where the columns of block `p` lie in a block of tokens. -/
theorem unit_idx {n : ℕ} (p : Fin 4) (o : ℕ) (ho : o = p.val * 512)
    (inb : ∀ a, (![0, o] : Fin 2 → ℕ) a + (![n, 512] : Fin 2 → ℕ) a ≤ (⟨2, ![n, 2048]⟩ : Shape).size a) (i : Fin n) (j : Fin 512) :
    (Rect.unit (s := ⟨2, ![n, 2048]⟩) ![0, o] ![n, 512] inb).idx (ix2 i j) = ix2 i (unit p j) := by
  funext a
  refine Fin.ext ((Rect.idx_unit_val _ _ _ _ _).trans ?_)
  subst ho
  match a with
  | 0 => exact Nat.zero_add _
  | 1 => rfl

/-- Column `x` of half `p` among 1024. -/
def half (p : Fin 2) (x : Fin 512) : Fin 1024 := ⟨p.val * 512 + x.val, by omega⟩

/-- Where the columns of half `p` lie in a block of tokens. -/
theorem half_idx {n : ℕ} (p : Fin 2) (o : ℕ) (ho : o = p.val * 512)
    (inb : ∀ a, (![0, o] : Fin 2 → ℕ) a + (![n, 512] : Fin 2 → ℕ) a ≤ (⟨2, ![n, 1024]⟩ : Shape).size a) (i : Fin n) (j : Fin 512) :
    (Rect.unit (s := ⟨2, ![n, 1024]⟩) ![0, o] ![n, 512] inb).idx (ix2 i j) = ix2 i (half p j) := by
  funext a
  refine Fin.ext ((Rect.idx_unit_val _ _ _ _ _).trans ?_)
  subst ho
  match a with
  | 0 => exact Nat.zero_add _
  | 1 => rfl

/-- The product `aᵀ b` summed over the tokens, at row `r` and column `d` of block `p` of the columns. -/
def gradIn (a : FVec Ideal ⟨2, ![4096, 1024]⟩ .f32) (b : FVec Ideal ⟨2, ![4096, 2048]⟩ .f32) (p : Fin 4) (r : Fin 1024) (d : Fin 512) : EReal :=
  ∑ s : Fin 4096, (a (ix2 s r) : EReal) * b (ix2 s (unit p d))

/-- The part of it that a block of 2048 tokens contributes, for two blocks of the columns. -/
def partIn (A B : (⟨2, ![2048, 1024]⟩ : Shape).Idx → EReal) (y : (⟨3, ![2, 1024, 512]⟩ : Shape).Idx) : EReal :=
  ∑ k : Fin 2048, A (ix2 k (y 1)) * B (ix2 k (half (y 0) (y 2)))

/-- Where one of two layers lies in their array. -/
theorem layer_idx {b d : ℕ} (p : Fin 2) (o : ℕ) (ho : o = p.val)
    (inb : ∀ a, (![o, 0, 0] : Fin 3 → ℕ) a + (![1, b, d] : Fin 3 → ℕ) a ≤ (⟨3, ![2, b, d]⟩ : Shape).size a)
    (i : Fin 1) (j : Fin b) (k : Fin d) :
    (Rect.unit (s := ⟨3, ![2, b, d]⟩) ![o, 0, 0] ![1, b, d] inb).idx (ix3 i j k) = ix3 p j k := by
  funext a
  refine Fin.ext ((Rect.idx_unit_val _ _ _ _ _).trans ?_)
  subst ho
  match a with
  | 0 => show p.val + i.val = p.val; omega
  | 1 => exact Nat.zero_add _
  | 2 => exact Nat.zero_add _

/-- The product `aᵀ b` for 512 columns of `b`, at row `r` of layer `p`. -/
def gradUp (a : FVec Ideal ⟨2, ![4096, 1024]⟩ .f32) (b : FVec Ideal ⟨2, ![4096, 512]⟩ .f32) (p : Fin 4) (r : Fin 256) (d : Fin 512) : EReal :=
  ∑ s : Fin 4096, (a (ix2 s (Proj.unit p r)) : EReal) * b (ix2 s d)

/-- The part of it that a block of 2048 tokens contributes. -/
def partUp (B : (⟨2, ![2048, 1024]⟩ : Shape).Idx → EReal) (X : (⟨2, ![2048, 512]⟩ : Shape).Idx → EReal) (y : (⟨3, ![4, 256, 512]⟩ : Shape).Idx) : EReal :=
  ∑ k : Fin 2048, B (ix2 k (Proj.unit (y 0) (y 1))) * X (ix2 k (y 2))

/-- Which of the 256 rows of its third a row of a layer is. -/
def third (x : Fin 768) : Fin 256 := ⟨x.val % 256, by omega⟩

theorem third_high (r : Fin 256) (h : 512 + r.val < 768) : third ⟨512 + r.val, h⟩ = r := Fin.ext (by simp only [third]; omega)

end Cert.Mix

end
-- ==== Proof.MixBwd.lean ====
/- The gradient of the even mixer's input product by its input and by its norm's gain: what the call leaves in its two results. -/
module

public import proofs.«01_k».proof.Proof.NormRow
public import proofs.«01_k».proof.Proof.MixLayout
public import proofs.«01_k».proof.Proof.Gen.Kernel12Ideal.Value
public import Idealize.ShloMosaic.Lib.Pipeline.ReadBack

@[expose] public section

set_option maxRecDepth 16384

noncomputable section

namespace Cert.Kernel12Ideal.MixBwd

open Cert.Kernel12Ideal Cert.Kernel12Ideal.Gen Idealize.ShloMosaic Idealize.ShloMosaic.TcCoe Idealize.SL.Sem
open Cert.NormRow
open Cert.Ffn (by_ix2 by_ix3)

section
variable (A B : Vec Ideal S512x1024 .bf16) (w0 w1 w2 w3 : Vec Ideal S1x1024x512 .bf16)

/-- The product of half `p` of a block's columns with a layer of the weight. -/
def prod (A : Vec Ideal S512x1024 .bf16) (p : Fin 2) (w : Vec Ideal S1x1024x512 .bf16) (r : Fin 512) (d : Fin 1024) : EReal :=
  ∑ k : Fin 512, (A (ix2 r (Mix.half p k)) : EReal) * w (ix3 0 d k)

/-- A half of a block's columns. -/
theorem ld_at (A : Vec Ideal S512x1024 .bf16) (p : Fin 2) (o : ℕ) (ho : o = p.val * 512)
    (inb : ∀ a, (![0, o] : Fin 2 → ℕ) a + (![512, 512] : Fin 2 → ℕ) a ≤ S512x1024.size a) (r k : Fin 512) :
    (View.ld A (Rect.unit ![0, o] ![512, 512] inb) : Vec Ideal S512x512 .bf16) (ix2 r k) = A (ix2 r (Mix.half p k)) :=
  congrArg A (Mix.half_idx p o ho inb r k)

/-- Four halves' products. -/
theorem sum_at (a0 a1 a2 a3 : Vec Ideal S512x512 .bf16) (r : Fin 512) (d : Fin 1024) :
    k0_pay6 (F := Ideal) a0 w0 a1 w1 a2 w2 a3 w3 (ix2 r d)
      = (∑ k : Fin 512, (a0 (ix2 r k) : EReal) * w0 (ix3 0 d k)) + (∑ k : Fin 512, (a1 (ix2 r k) : EReal) * w1 (ix3 0 d k))
        + (∑ k : Fin 512, (a2 (ix2 r k) : EReal) * w2 (ix3 0 d k)) + ∑ k : Fin 512, (a3 (ix2 r k) : EReal) * w3 (ix3 0 d k) := by
  pointwise [k0_pay6]

theorem prods_at (r : Fin 512) (d : Fin 1024) :
    k0_pay6 (F := Ideal) (View.ld A (Rect.unit ![0, 0] ![512, 512] inb_S512x1024_S512x512_0_0)) w0
      (View.ld A (Rect.unit ![0, 512] ![512, 512] inb_S512x1024_S512x512_0_512)) w1
      (View.ld B (Rect.unit ![0, 0] ![512, 512] inb_S512x1024_S512x512_0_0)) w2
      (View.ld B (Rect.unit ![0, 512] ![512, 512] inb_S512x1024_S512x512_0_512)) w3 (ix2 r d)
      = prod A 0 w0 r d + prod A 1 w1 r d + prod B 0 w2 r d + prod B 1 w3 r d := by
  refine (sum_at _ _ _ _ _ _ _ _ r d).trans ?_
  unfold prod
  refine congrArg₂ (fun x y : EReal => x + y) (congrArg₂ (fun x y : EReal => x + y) (congrArg₂ (fun x y : EReal => x + y) ?_ ?_) ?_) ?_
  · exact Finset.sum_congr rfl fun k _ => congrArg (fun x : EReal => x * w0 (ix3 0 d k)) (ld_at A 0 0 rfl _ r k)
  · exact Finset.sum_congr rfl fun k _ => congrArg (fun x : EReal => x * w1 (ix3 0 d k)) (ld_at A 1 512 rfl _ r k)
  · exact Finset.sum_congr rfl fun k _ => congrArg (fun x : EReal => x * w2 (ix3 0 d k)) (ld_at B 0 0 rfl _ r k)
  · exact Finset.sum_congr rfl fun k _ => congrArg (fun x : EReal => x * w3 (ix3 0 d k)) (ld_at B 1 512 rfl _ r k)
end

section
variable (T X D : FVec Ideal S512x1024 .f32) (G acc : FVec Ideal S1x1024 .f32)

theorem dx_at (r : Fin 512) (d : Fin 1024) :
    k0_pay3 (F := Ideal) T X G D (ix2 r d)
      = dx (fun j => X (ix2 r j)) (fun j => (T (ix2 r j) * G (ix2 0 j) : EReal)) d (D (ix2 r d)) := by
  pointwise [k0_pay3, k0_pay2, k0_pay1]
  rfl

/-- What a block adds to the gain's gradient. -/
def gainPart (d : Fin 1024) : EReal := ∑ r : Fin 512, (T (ix2 r d) : EReal) * (X (ix2 r d) * rs (fun j => X (ix2 r j)))

theorem gain_at (d : Fin 1024) : k0_pay4 (F := Ideal) T X acc (ix2 0 d) = (acc (ix2 0 d) : EReal) + gainPart T X d := by
  pointwise [k0_pay4, k0_pay2, k0_pay1]
  rfl

theorem fill (j : S1x1024.Idx) : k0_pay5 (F := Ideal) j = 0 := by pointwise [k0_pay5]
end

variable (m : (ℓ : Loc nD τ sig) → Buf (Elt Ideal) ℓ) (c : Dev nD)

/-- The arguments, as arrays of extended reals. -/
abbrev dp : FVec Ideal S4096x2048 .f32 := m ((c : Thread nD τ).loc main_arg0)
abbrev win : FVec Ideal S1024x2048 .f32 := m ((c : Thread nD τ).loc main_arg1)
abbrev xin : FVec Ideal S4096x1024 .f32 := m ((c : Thread nD τ).loc main_arg2)
abbrev gain : FVec Ideal S1024 .f32 := m ((c : Thread nD τ).loc main_arg3)
abbrev dres : FVec Ideal S4096x1024 .f32 := m ((c : Thread nD τ).loc main_arg4)

theorem idx : ∀ t : Fin cfg0.N, win0_0.index t = ![t.val, 0] ∧ win0_1.index t = ![t.val, 0] ∧ win0_2.index t = ![t.val, 0]
    ∧ win0_3.index t = ![t.val, 0] ∧ win0_4.index t = ![0, 0]
    ∧ win0_5.index t = ![0, 0, 0] ∧ win0_6.index t = ![1, 0, 0] ∧ win0_7.index t = ![2, 0, 0] ∧ win0_8.index t = ![3, 0, 0]
    ∧ win0_9.index t = ![t.val, 0] ∧ win0_10.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (p : Fin 2) (q : Fin 4) (h : q.val = p.val) (r x : Fin 512) :
    (iblk m c 0 t : Vec Ideal S512x1024 .bf16) (ix2 r (Mix.half p x)) = dp m c (ix2 (row t r) (Mix.unit q x)) := by
  blk_ext! [iblk, V, idx t, row, Mix.half, Mix.unit, h]

theorem blk1 (t : Fin cfg0.N) (p : Fin 2) (q : Fin 4) (h : q.val = p.val + 2) (r x : Fin 512) :
    (iblk m c 1 t : Vec Ideal S512x1024 .bf16) (ix2 r (Mix.half p x)) = dp m c (ix2 (row t r) (Mix.unit q x)) := by
  blk_ext! [iblk, V, idx t, row, Mix.half, Mix.unit, h]

theorem blk2 (t : Fin cfg0.N) (r : Fin 512) (x : Fin 1024) :
    (iblk m c 2 t : Vec Ideal S512x1024 .f32) (ix2 r x) = xin m c (ix2 (row t r) x) := by
  blk_ext [iblk, V, idx t, row]

theorem blk3 (t : Fin cfg0.N) (r : Fin 512) (x : Fin 1024) :
    (iblk m c 3 t : Vec Ideal S512x1024 .f32) (ix2 r x) = dres m c (ix2 (row t r) x) := by
  blk_ext [iblk, V, idx t, row]

theorem blk4 (t : Fin cfg0.N) (x : Fin 1024) :
    (iblk m c 4 t : Vec Ideal S1x1024 .f32) (ix2 0 x) = gain m c (ix1 x) := by
  blk_ext! [iblk, V, idx t]

theorem blk5 (t : Fin cfg0.N) (r : Fin 1024) (x : Fin 512) :
    (iblk m c 5 t : Vec Ideal S1x1024x512 .bf16) (ix3 0 r x) = win m c (ix2 r (Mix.unit 0 x)) := by
  blk_ext! [iblk, V, idx t, Mix.unit]

theorem blk6 (t : Fin cfg0.N) (r : Fin 1024) (x : Fin 512) :
    (iblk m c 6 t : Vec Ideal S1x1024x512 .bf16) (ix3 0 r x) = win m c (ix2 r (Mix.unit 1 x)) := by
  blk_ext! [iblk, V, idx t, Mix.unit]

theorem blk7 (t : Fin cfg0.N) (r : Fin 1024) (x : Fin 512) :
    (iblk m c 7 t : Vec Ideal S1x1024x512 .bf16) (ix3 0 r x) = win m c (ix2 r (Mix.unit 2 x)) := by
  blk_ext! [iblk, V, idx t, Mix.unit]

theorem blk8 (t : Fin cfg0.N) (r : Fin 1024) (x : Fin 512) :
    (iblk m c 8 t : Vec Ideal S1x1024x512 .bf16) (ix3 0 r x) = win m c (ix2 r (Mix.unit 3 x)) := by
  blk_ext! [iblk, V, idx t, Mix.unit]

/-- The gradient by the normalised input, at a token and a column. -/
def dn (s : Fin 4096) (x : Fin 1024) : EReal := ∑ k : Fin 2048, (dp m c (ix2 s k) : EReal) * win m c (ix2 x k)

/-- A layer's product, in the arrays' terms. -/
theorem prod_eq (t : Fin cfg0.N) (A : Vec Ideal S512x1024 .bf16) (p : Fin 2) (q : Fin 4)
    (hA : ∀ r x, A (ix2 r (Mix.half p x)) = dp m c (ix2 (row t r) (Mix.unit q x)))
    (W : Vec Ideal S1x1024x512 .bf16) (hW : ∀ r x, W (ix3 0 r x) = win m c (ix2 r (Mix.unit q x))) (r : Fin 512) (d : Fin 1024) :
    prod A p W r d = ∑ k : Fin 512, (dp m c (ix2 (row t r) (Mix.unit q k)) : EReal) * win m c (ix2 d (Mix.unit q k)) :=
  Finset.sum_congr rfl fun k _ => congrArg₂ (fun a b : EReal => a * b) (hA r k) (hW d k)

/-- Point `t`'s products. -/
abbrev prods (t : Fin cfg0.N) : FVec Ideal S512x1024 .f32 :=
  k0_pay6 (F := Ideal) (View.ld (iblk m c 0 t : Vec Ideal S512x1024 .bf16) (Rect.unit ![0, 0] ![512, 512] inb_S512x1024_S512x512_0_0))
    (iblk m c 5 t : Vec Ideal S1x1024x512 .bf16)
    (View.ld (iblk m c 0 t : Vec Ideal S512x1024 .bf16) (Rect.unit ![0, 512] ![512, 512] inb_S512x1024_S512x512_0_512))
    (iblk m c 6 t : Vec Ideal S1x1024x512 .bf16)
    (View.ld (iblk m c 1 t : Vec Ideal S512x1024 .bf16) (Rect.unit ![0, 0] ![512, 512] inb_S512x1024_S512x512_0_0))
    (iblk m c 7 t : Vec Ideal S1x1024x512 .bf16)
    (View.ld (iblk m c 1 t : Vec Ideal S512x1024 .bf16) (Rect.unit ![0, 512] ![512, 512] inb_S512x1024_S512x512_0_512))
    (iblk m c 8 t : Vec Ideal S1x1024x512 .bf16)

theorem prods_eq (t : Fin cfg0.N) (r : Fin 512) (d : Fin 1024) : prods m c t (ix2 r d) = dn m c (row t r) d := by
  refine (prods_at _ _ _ _ _ _ r d).trans ?_
  rw [prod_eq m c t _ 0 0 (blk0 m c t 0 0 rfl) _ (blk5 m c t), prod_eq m c t _ 1 1 (blk0 m c t 1 1 rfl) _ (blk6 m c t),
    prod_eq m c t _ 0 2 (blk1 m c t 0 2 rfl) _ (blk7 m c t), prod_eq m c t _ 1 3 (blk1 m c t 1 3 rfl) _ (blk8 m c t)]
  exact (Mix.sum_units fun k => (dp m c (ix2 (row t r) k) : EReal) * win m c (ix2 d k)).symm

/-- The first result: the gradient by the input. -/
def arrX (i : S4096x1024.Idx) : EReal :=
  dx (fun j => xin m c (ix2 (i 0) j)) (fun j => dn m c (i 0) j * gain m c (ix1 j)) (i 1) (dres m c i)

theorem store9 (t : Fin cfg0.N) (r : Fin 512) (d : Fin 1024) :
    k0_pay3 (F := Ideal) (prods m c t) (iblk m c 2 t : Vec Ideal S512x1024 .f32) (iblk m c 4 t : Vec Ideal S1x1024 .f32)
      (iblk m c 3 t : Vec Ideal S512x1024 .f32) (ix2 r d) = arrX m c (ix2 (row t r) d) := by
  refine (dx_at _ _ _ _ r d).trans ?_
  simp only [prods_eq m c t, blk2 m c t, blk3 m c t, blk4 m c t]
  rfl

theorem outs9 (t : Fin cfg0.N) (r : Fin 512) (d : Fin 1024) : (outsAt0 m c t.val t.isLt).1 (ix2 r d) = arrX m c (ix2 (row t r) d) := by
  by_cases h : t.val % 8 = 0
  · rw [outsAt0_A m c t h]
    frame_open
    frame_out
    exact store9 m c t r d
  · rw [outsAt0_B m c t h]
    frame_out
    exact store9 m c t r d

theorem final9 : (dats m 0 c).arrAt 9 cfg0.N = arrX m c :=
  (dats m 0 c).arrAt_eq_of_covers 9 _ (by decide +kernel) fun t hf y => by
    revert y
    refine by_ix2 fun r d => ?_
    blk_simp
    rw [after0_9]
    refine (outs9 m c t r d).trans (congrArg (arrX m c) ?_)
    blk_ext [idx t, row]

/-- A token's part of the gain's gradient. -/
def gainTerm (s : Fin 4096) (d : Fin 1024) : EReal := dn m c s d * (xin m c (ix2 s d) * rs (fun j => xin m c (ix2 s j)))

/-- Point `t`'s part. -/
def partOf (t : Fin cfg0.N) (d : Fin 1024) : EReal := ∑ r : Fin 512, gainTerm m c (row t r) d

theorem part_eq (t : Fin cfg0.N) (d : Fin 1024) : gainPart (prods m c t) (iblk m c 2 t : Vec Ideal S512x1024 .f32) d = partOf m c t d :=
  Finset.sum_congr rfl fun r _ => by
    simp only [prods_eq m c t, blk2 m c t]
    rfl

theorem outs_A (t : Fin cfg0.N) (h : t.val % 8 = 0) (d : Fin 1024) :
    (outsAt0 m c t.val t.isLt).2 (ix2 0 d) = 0 + partOf m c t d := by
  rw [outsAt0_A m c t h]
  frame_open
  simp (disch := decide) only [↓ View.readCov_skip, ↓ View.readCov_cons_toLoadRect, ↓ View.readCov_fill]
  frame_out
  refine (gain_at (prods m c t) (iblk m c 2 t : Vec Ideal S512x1024 .f32) _ d).trans ?_
  rw [part_eq, fill]

theorem outs_B (t : Fin cfg0.N) (h : ¬ t.val % 8 = 0) (d : Fin 1024) :
    (outsAt0 m c t.val t.isLt).2 (ix2 0 d)
      = ((outsAt0 m c (t.val - 1) (Nat.lt_of_le_of_lt (Nat.sub_le _ _) t.isLt)).2 (ix2 0 d) : EReal) + partOf m c t d := by
  rw [outsAt0_B m c t h]
  frame_out
  refine (gain_at (prods m c t) (iblk m c 2 t : Vec Ideal S512x1024 .f32) _ d).trans ?_
  rw [part_eq]

/-- The gain's gradient. -/
def arrN (d : Fin 1024) : EReal := ∑ s : Fin 4096, gainTerm m c s d

theorem outs_last (d : Fin 1024) : (outsAt0 m c t0_7.val t0_7.isLt).2 (ix2 0 d) = arrN m c d := by
  refine (Pipeline.eq_sum_fin_of_reset_step_apply_last (M := EReal) (fun n h d => (outsAt0 m c n h).2 (ix2 0 d)) 8 (fun _ => 0)
    (partOf m c) (fun t h d => outs_A m c t h d) (fun t h d => outs_B m c t h d) (le_of_eq N_0) t0_7 rfl d).trans ?_
  rw [zero_add]
  exact Fin.sum_mul_add_congr (L := 4096) (S := cfg0.N) (n := 512) (f := fun s => gainTerm m c s d) (fun _ _ _ => rfl) (congrArg (· * 512) N_0.symm)

theorem final10 : (dats m 0 c).arrAt 10 cfg0.N = fun i => arrN m c (i 1) :=
  (dats m 0 c).arrAt_eq_of_after_last 10 t0_7 (by decide +kernel) _ fun j => by
    revert j
    refine by_ix2 fun z d => ?_
    obtain rfl : z = 0 := Subsingleton.elim _ _
    blk_simp
    rw [after0_10]
    exact outs_last m c d

end Cert.Kernel12Ideal.MixBwd

end
-- ==== Proof.MixBwdRef.lean ====
/- The reference's gradient of the even mixer's input product by its input and gain, and that the call's is the same. -/
module

public import proofs.«01_k».proof.Proof.InBwdRef
public import proofs.«01_k».proof.Proof.MixBwd
public import proofs.«01_k».proof.Proof.Gen.Reference12Ideal.Run

@[expose] public section

set_option maxRecDepth 16384

noncomputable section

namespace Cert.MixBwdRef

open Idealize.ShloMosaic Idealize.SL.Sem Cert.NormRow
open Cert.Ffn (by_ix2)
open Cert.InBwdRef (refX refX_at refN refN_at gained gained_at)

section
open Cert.Reference12Ideal Cert.Reference12Ideal.Gen

variable (a : FVec Ideal S4096x2048 .f32) (w : FVec Ideal S1024x2048 .f32)

/-- The gradient by the normalised rows. -/
def gradN : FVec Ideal S4096x1024 .f32 := Host.dotGeneral dot_S4096x2048_S1024x2048_S4096x1024_1_1_0_0_n_n none a w

theorem gradN_at (s : Fin 4096) (d : Fin 1024) : gradN a w (ix2 s d) = ∑ k : Fin 2048, (a (ix2 s k) : EReal) * w (ix2 d k) := by
  pointwise [gradN]
end

theorem algebraic12 : Cert.algebraic_Kernel12Ideal_Reference12Ideal := by
  intro m g m' g' _ hagree
  refine ⟨fun c => Cert.Kernel12Ideal.MixBwd.arrX m c, fun c i => Cert.Kernel12Ideal.MixBwd.arrN m c (i 1),
    (θ_run Cert.Kernel12Ideal.defs _ _).mono (fun r h c => ⟨(h c).1.trans (Cert.Kernel12Ideal.MixBwd.final9 m c),
      (h c).2.1.trans (Cert.Kernel12Ideal.MixBwd.final10 m c), (h c).2.2⟩)
      (Cert.Kernel12Ideal.Value.run_blocks m g),
    (θ_run Cert.Reference12Ideal.defs _ _).mono (fun r h c => ?_) (Cert.Reference12Ideal.Value.run m' g')⟩
  obtain ⟨a0, a1, a2, a3, a4⟩ := hagree c
  obtain ⟨h0, h1, hargs⟩ := h c
  unfold Cert.Reference12Ideal.Value.res_main_v38 at h0
  rw [a0, a1, a2, a3, a4] at h0
  rw [a0, a1, a2] at h1
  refine ⟨h0.trans (funext (by_ix2 fun s d => ?_)), h1.trans (funext (by_ix2 fun z d => ?_)), hargs⟩
  · refine (refX_at (Cert.Kernel12Ideal.MixBwd.xin m c) (Cert.Kernel12Ideal.MixBwd.dres m c)
      (gained (Cert.Kernel12Ideal.MixBwd.gain m c) (gradN (Cert.Kernel12Ideal.MixBwd.dp m c) (Cert.Kernel12Ideal.MixBwd.win m c))) s d).trans ?_
    simp only [gained_at, gradN_at]
    exact dx_eq _ _ _ _
  · obtain rfl : z = 0 := Subsingleton.elim _ _
    refine (refN_at (Cert.Kernel12Ideal.MixBwd.xin m c) (gradN (Cert.Kernel12Ideal.MixBwd.dp m c) (Cert.Kernel12Ideal.MixBwd.win m c)) d).trans ?_
    simp only [gradN_at]
    rfl

theorem frame_reference12 : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

end Cert.MixBwdRef

end
-- ==== Proof.MixOutBwd.lean ====
/- The gradient of the even mixer's output product by its input: what the call leaves in its result, and that it is the
   reference's. -/
module

public import proofs.«01_k».proof.Defs
public import proofs.«01_k».proof.Proof.MixLayout
public import proofs.«01_k».proof.Proof.Gen.Kernel16Ideal.Value
public import proofs.«01_k».proof.Proof.Gen.Reference16Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel16Ideal.Out

open Cert.Kernel16Ideal Cert.Kernel16Ideal.Gen Idealize.ShloMosaic Idealize.ShloMosaic.TcCoe Idealize.SL.Sem
open Cert.Ffn (by_ix2 by_ix3)
open Cert.Proj (unit)

section
variable (a : Vec Ideal S512x1024 .f32) (w0 w1 w2 w3 : Vec Ideal S1x256x1024 .bf16)

/-- A block's product with a row of its layer of the weight. -/
def prod (w : Vec Ideal S1x256x1024 .bf16) (r : Fin 512) (x : Fin 256) : EReal :=
  ∑ k : Fin 1024, (a (ix2 r k) : EReal) * w (ix3 0 x k)

/-- The four products side by side. -/
theorem prods_at (f : Fin 1024 → EReal) (r : Fin 512)
    (h0 : ∀ x, prod a w0 r x = f (Proj.unit 0 x)) (h1 : ∀ x, prod a w1 r x = f (Proj.unit 1 x))
    (h2 : ∀ x, prod a w2 r x = f (Proj.unit 2 x)) (h3 : ∀ x, prod a w3 r x = f (Proj.unit 3 x)) (d : Fin 1024) :
    k0_pay1 (F := Ideal) a w0 w1 w2 w3 (ix2 r d) = f d := by
  have e (q : Fin 4) (i : Fin 256) (hq : q.val * 256 + i.val = d.val) : Proj.unit q i = d := Fin.ext (by simp only [Proj.unit]; omega)
  pointwise [k0_pay1]
  by_cases c0 : d.val < 256
  · rw [dif_pos c0]
    exact (h0 ⟨d.val, c0⟩).trans (congrArg f (e 0 _ (by simp)))
  rw [dif_neg c0]
  by_cases c1 : d.val - 256 < 256
  · rw [dif_pos c1]
    exact (h1 ⟨d.val - 256, c1⟩).trans (congrArg f (e 1 _ (by simp; omega)))
  rw [dif_neg c1]
  by_cases c2 : d.val - 256 - 256 < 256
  · rw [dif_pos c2]
    exact (h2 ⟨d.val - 256 - 256, c2⟩).trans (congrArg f (e 2 _ (by simp; omega)))
  rw [dif_neg c2]
  exact (h3 ⟨d.val - 256 - 256 - 256, by omega⟩).trans (congrArg f (e 3 _ (by simp; omega)))
end

variable (m : (ℓ : Loc nD τ sig) → Buf (Elt Ideal) ℓ) (c : Dev nD)

/-- The arguments, as arrays of extended reals. -/
abbrev dy : FVec Ideal S4096x1024 .f32 := m ((c : Thread nD τ).loc main_arg0)
abbrev w : FVec Ideal S1024x1024 .f32 := m ((c : Thread nD τ).loc main_arg1)

theorem idx : ∀ t : Fin cfg0.N, win0_0.index t = ![t.val, 0]
    ∧ win0_1.index t = ![0, 0, 0] ∧ win0_2.index t = ![1, 0, 0] ∧ win0_3.index t = ![2, 0, 0] ∧ win0_4.index t = ![3, 0, 0]
    ∧ win0_5.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = dy m c (ix2 (row t r) x) := by
  blk_ext [iblk, V, idx t, row]

theorem blk1 (t : Fin cfg0.N) (r : Fin 256) (x : Fin 1024) :
    (iblk m c 1 t : Vec Ideal S1x256x1024 .bf16) (ix3 0 r x) = w m c (ix2 (unit 0 r) x) := by
  blk_ext! [iblk, V, idx t, unit]

theorem blk2 (t : Fin cfg0.N) (r : Fin 256) (x : Fin 1024) :
    (iblk m c 2 t : Vec Ideal S1x256x1024 .bf16) (ix3 0 r x) = w m c (ix2 (unit 1 r) x) := by
  blk_ext! [iblk, V, idx t, unit]

theorem blk3 (t : Fin cfg0.N) (r : Fin 256) (x : Fin 1024) :
    (iblk m c 3 t : Vec Ideal S1x256x1024 .bf16) (ix3 0 r x) = w m c (ix2 (unit 2 r) x) := by
  blk_ext! [iblk, V, idx t, unit]

theorem blk4 (t : Fin cfg0.N) (r : Fin 256) (x : Fin 1024) :
    (iblk m c 4 t : Vec Ideal S1x256x1024 .bf16) (ix3 0 r x) = w m c (ix2 (unit 3 r) x) := by
  blk_ext! [iblk, V, idx t, unit]

/-- The result, at a token and a column. -/
def dmix (s : Fin 4096) (x : Fin 1024) : EReal := ∑ k : Fin 1024, (dy m c (ix2 s k) : EReal) * w m c (ix2 x k)

/-- A layer's product, in the arrays' terms. -/
theorem prod_eq (t : Fin cfg0.N) (p : Fin 4)
    (W : Vec Ideal S1x256x1024 .bf16) (hW : ∀ r x, W (ix3 0 r x) = w m c (ix2 (unit p r) x)) (r : Fin 512) (x : Fin 256) :
    prod (iblk m c 0 t : Vec Ideal S512x1024 .f32) W r x = dmix m c (row t r) (unit p x) :=
  Finset.sum_congr rfl fun k _ => congrArg₂ (fun a b : EReal => a * b) (blk0 m c t r k) (hW x k)

/-- The result. -/
def arr (i : S4096x1024.Idx) : EReal := dmix m c (i 0) (i 1)

theorem final : (dats m 0 c).arrAt 5 cfg0.N = arr m c :=
  (dats m 0 c).arrAt_eq_of_covers 5 _ (by decide +kernel) fun t hf y => by
    revert y
    refine by_ix2 fun r d => ?_
    blk_simp
    rw [after0_5]
    frame_out
    refine (prods_at _ _ _ _ _ (dmix m c (row t r)) r (prod_eq m c t 0 _ (blk1 m c t) r) (prod_eq m c t 1 _ (blk2 m c t) r)
      (prod_eq m c t 2 _ (blk3 m c t) r) (prod_eq m c t 3 _ (blk4 m c t) r) d).trans ?_
    show arr m c (ix2 (row t r) d) = _
    refine congrArg (arr m c) ?_
    blk_ext [idx t, row]

end Cert.Kernel16Ideal.Out

namespace Cert.MixOutBwd

open Idealize.ShloMosaic Idealize.SL.Sem
open Cert.Ffn (by_ix2)

section
open Cert.Reference16Ideal Cert.Reference16Ideal.Gen

/-- The gradient as the reference computes it. -/
def refOut (a : FVec Ideal S4096x1024 .f32) (w : FVec Ideal S1024x1024 .f32) : FVec Ideal S4096x1024 .f32 :=
  Host.dotGeneral dot_S4096x1024_S1024x1024_S4096x1024_1_1_0_0_n_n none a w

theorem refOut_at (a : FVec Ideal S4096x1024 .f32) (w : FVec Ideal S1024x1024 .f32) (s : Fin 4096) (d : Fin 1024) :
    refOut a w (ix2 s d) = ∑ k : Fin 1024, (a (ix2 s k) : EReal) * w (ix2 d k) := by
  pointwise [refOut]
end

theorem algebraic16 : Cert.algebraic_Kernel16Ideal_Reference16Ideal := by
  intro m g m' g' _ hagree
  refine ⟨fun c => Cert.Kernel16Ideal.Out.arr m c,
    (θ_run Cert.Kernel16Ideal.defs _ _).mono (fun r h c => ⟨(h c).1.trans (Cert.Kernel16Ideal.Out.final m c), (h c).2⟩)
      (Cert.Kernel16Ideal.Value.run_blocks m g),
    (θ_run Cert.Reference16Ideal.defs _ _).mono (fun r h c => ?_) (Cert.Reference16Ideal.Value.run m' g')⟩
  obtain ⟨a0, a1⟩ := hagree c
  have h0 := (h c).1
  rw [a0, a1] at h0
  exact ⟨h0.trans (funext (by_ix2 fun s d => refOut_at _ _ s d)), (h c).2⟩

theorem frame_reference16 : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

end Cert.MixOutBwd

end
-- ==== Proof.FfnUp.lean ====
/- The feed-forward's first half: what the call leaves in its four results, the normalised rows, the gate's and the upper products
   and the gated units. -/
module

public import proofs.«01_k».proof.Proof.NormRow
public import proofs.«01_k».proof.Proof.Gen.Kernel10Ideal.Value
public import Idealize.ShloMosaic.Lib.Pipeline.ReadBack

@[expose] public section

set_option maxRecDepth 16384

noncomputable section

namespace Cert.Kernel10Ideal.FfnUp

open Cert.Kernel10Ideal Cert.Kernel10Ideal.Gen Idealize.ShloMosaic Idealize.ShloMosaic.TcCoe Idealize.SL.Sem
open Cert.Ffn Cert.NormRow

section
variable (X : Vec Ideal S512x1024 .f32) (G : Vec Ideal S1x1024 .f32) (N : FVec Ideal S512x1024 .bf16) (W V : Vec Ideal S1x704x1024 .bf16)

theorem norm_at (r : Fin 512) (d : Fin 1024) :
    k0_pay6 (F := Ideal) X G (ix2 r d) = (X (ix2 r d) * rs (fun j => X (ix2 r j)) * G (ix2 0 d) : EReal) := by
  pointwise [k0_pay6]
  rfl

/-- The block's product with a layer of a weight. -/
def prod (r : Fin 512) (x : Fin 704) : EReal := ∑ k : Fin 1024, (N (ix2 r k) : EReal) * W (ix3 0 x k)

theorem proj_at (r : Fin 512) (x : Fin 704) : k0_pay3 (F := Ideal) N W (ix3 0 r x) = prod N W r x := by
  pointwise [k0_pay3, k0_pay1]
  rfl

theorem gated_at (r : Fin 512) (x : Fin 704) :
    k0_pay5 (F := Ideal) N W V (ix3 0 r x) = prod N W r x * lg (prod N W r x) * prod N V r x := by
  pointwise [k0_pay5, k0_pay1, k0_pay2]
  rfl

/- The layers' stores are the same function of the normalised block and the layer. -/
theorem gate0 : k0_pay9 (F := Ideal) X G W = k0_pay3 (k0_pay6 X G) W := rfl
theorem gate1 : k0_pay15 (F := Ideal) N W = k0_pay3 N W := rfl
theorem gate2 : k0_pay21 (F := Ideal) N W = k0_pay3 N W := rfl
theorem up0 : k0_pay10 (F := Ideal) X G W = k0_pay3 (k0_pay6 X G) W := rfl
theorem up1 : k0_pay16 (F := Ideal) N W = k0_pay3 N W := rfl
theorem up2 : k0_pay22 (F := Ideal) N W = k0_pay3 N W := rfl
theorem up3 : k0_pay4 (F := Ideal) N W = k0_pay3 N W := rfl
theorem gated0 : k0_pay12 (F := Ideal) (k0_pay7 X G W) (k0_pay8 X G V) k0_pay11 = k0_pay5 (k0_pay6 X G) W V := rfl
theorem gated1 : k0_pay18 (F := Ideal) (k0_pay17 N W V) = k0_pay5 N W V := rfl
theorem gated2 : k0_pay23 (F := Ideal) N W V = k0_pay5 N W V := rfl
end

variable (m : (ℓ : Loc nD τ sig) → Buf (Elt Ideal) ℓ) (c : Dev nD)

/-- The arguments, as arrays of extended reals. -/
abbrev xin : FVec Ideal S4096x1024 .f32 := m ((c : Thread nD τ).loc main_arg0)
abbrev gain : FVec Ideal S1024 .f32 := m ((c : Thread nD τ).loc main_arg1)
abbrev wg : FVec Ideal S1024x2816 .f32 := m ((c : Thread nD τ).loc main_arg2)
abbrev wu : FVec Ideal S1024x2816 .f32 := m ((c : Thread nD τ).loc main_arg3)

theorem idx : ∀ t : Fin cfg0.N, win0_0.index t = ![t.val, 0] ∧ win0_1.index t = ![0, 0]
    ∧ win0_2.index t = ![0, 0, 0] ∧ win0_3.index t = ![1, 0, 0] ∧ win0_4.index t = ![2, 0, 0] ∧ win0_5.index t = ![3, 0, 0]
    ∧ win0_6.index t = ![0, 1, 0] ∧ win0_7.index t = ![1, 1, 0] ∧ win0_8.index t = ![2, 1, 0] ∧ win0_9.index t = ![3, 1, 0]
    ∧ win0_10.index t = ![t.val, 0] ∧ win0_11.index t = ![0, t.val, 0] ∧ win0_12.index t = ![0, t.val, 0] ∧ win0_13.index t = ![0, t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = xin m c (ix2 (row t r) x) := by
  blk_ext [iblk, V, idx t, row]

theorem blk1 (t : Fin cfg0.N) (x : Fin 1024) :
    (iblk m c 1 t : Vec Ideal S1x1024 .f32) (ix2 0 x) = gain m c (ix1 x) := by
  blk_ext! [iblk, V, idx t]

/-- The two weights in layers, the gate's rows first. -/
def slab : Vec Ideal S4x1408x1024 .bf16 := V m c main_v6

theorem slab_low (p : Fin 4) (r : Fin 704) (x : Fin 1024) (h : r.val < 1408) :
    slab m c (ix3 p ⟨r.val, h⟩ x) = wg m c (ix2 x (unit p r)) := by
  unfold slab
  entry_read
  pointwise
  rfl

theorem slab_high (p : Fin 4) (r : Fin 704) (x : Fin 1024) (h : 704 + r.val < 1408) :
    slab m c (ix3 p ⟨704 + r.val, h⟩ x) = wu m c (ix2 x (unit p r)) := by
  unfold slab
  entry_read
  pointwise
  rfl

theorem blk2 (t : Fin cfg0.N) (r : Fin 704) (x : Fin 1024) :
    (iblk m c 2 t : Vec Ideal S1x704x1024 .bf16) (ix3 0 r x) = wg m c (ix2 x (unit 0 r)) := by
  refine Eq.trans ?_ (slab_low m c 0 r x (by omega))
  unfold slab
  blk_ext [iblk, idx t]

theorem blk6 (t : Fin cfg0.N) (r : Fin 704) (x : Fin 1024) :
    (iblk m c 6 t : Vec Ideal S1x704x1024 .bf16) (ix3 0 r x) = wu m c (ix2 x (unit 0 r)) := by
  refine Eq.trans ?_ (slab_high m c 0 r x (by omega))
  unfold slab
  blk_ext [iblk, idx t]

theorem blk3 (t : Fin cfg0.N) (r : Fin 704) (x : Fin 1024) :
    (iblk m c 3 t : Vec Ideal S1x704x1024 .bf16) (ix3 0 r x) = wg m c (ix2 x (unit 1 r)) := by
  refine Eq.trans ?_ (slab_low m c 1 r x (by omega))
  unfold slab
  blk_ext [iblk, idx t]

theorem blk7 (t : Fin cfg0.N) (r : Fin 704) (x : Fin 1024) :
    (iblk m c 7 t : Vec Ideal S1x704x1024 .bf16) (ix3 0 r x) = wu m c (ix2 x (unit 1 r)) := by
  refine Eq.trans ?_ (slab_high m c 1 r x (by omega))
  unfold slab
  blk_ext [iblk, idx t]

theorem blk4 (t : Fin cfg0.N) (r : Fin 704) (x : Fin 1024) :
    (iblk m c 4 t : Vec Ideal S1x704x1024 .bf16) (ix3 0 r x) = wg m c (ix2 x (unit 2 r)) := by
  refine Eq.trans ?_ (slab_low m c 2 r x (by omega))
  unfold slab
  blk_ext [iblk, idx t]

theorem blk8 (t : Fin cfg0.N) (r : Fin 704) (x : Fin 1024) :
    (iblk m c 8 t : Vec Ideal S1x704x1024 .bf16) (ix3 0 r x) = wu m c (ix2 x (unit 2 r)) := by
  refine Eq.trans ?_ (slab_high m c 2 r x (by omega))
  unfold slab
  blk_ext [iblk, idx t]

theorem blk5 (t : Fin cfg0.N) (r : Fin 704) (x : Fin 1024) :
    (iblk m c 5 t : Vec Ideal S1x704x1024 .bf16) (ix3 0 r x) = wg m c (ix2 x (unit 3 r)) := by
  refine Eq.trans ?_ (slab_low m c 3 r x (by omega))
  unfold slab
  blk_ext [iblk, idx t]

theorem blk9 (t : Fin cfg0.N) (r : Fin 704) (x : Fin 1024) :
    (iblk m c 9 t : Vec Ideal S1x704x1024 .bf16) (ix3 0 r x) = wu m c (ix2 x (unit 3 r)) := by
  refine Eq.trans ?_ (slab_high m c 3 r x (by omega))
  unfold slab
  blk_ext [iblk, idx t]

/-- The normalised rows, at a token and a column. -/
def nrm (s : Fin 4096) (k : Fin 1024) : EReal := xin m c (ix2 s k) * rs (fun j => xin m c (ix2 s j)) * gain m c (ix1 k)

/-- A product with the normalised rows, and the gated units. -/
def proj (w : FVec Ideal S1024x2816 .f32) (s : Fin 4096) (j : Fin 2816) : EReal := ∑ k : Fin 1024, nrm m c s k * w (ix2 k j)
def gated (s : Fin 4096) (j : Fin 2816) : EReal := proj m c (wg m c) s j * lg (proj m c (wg m c) s j) * proj m c (wu m c) s j

/-- Point `t`'s normalised block. -/
abbrev nblk (t : Fin cfg0.N) : FVec Ideal S512x1024 .bf16 :=
  k0_pay6 (F := Ideal) (iblk m c 0 t : Vec Ideal S512x1024 .f32) (iblk m c 1 t : Vec Ideal S1x1024 .f32)

theorem nblk_at (t : Fin cfg0.N) (r : Fin 512) (d : Fin 1024) : nblk m c t (ix2 r d) = nrm m c (row t r) d := by
  refine (norm_at _ _ r d).trans ?_
  simp only [blk0 m c t, blk1 m c t]
  rfl

/-- Point `t`'s blocks of the three products. -/
def blkP (w : FVec Ideal S1024x2816 .f32) (t : Fin cfg0.N) (y : S4x512x704.Idx) : EReal := proj m c w (row t (y 1)) (unit (y 0) (y 2))
def blkH (t : Fin cfg0.N) (y : S4x512x704.Idx) : EReal := gated m c (row t (y 1)) (unit (y 0) (y 2))

section
variable (t : Fin cfg0.N) (p : Fin 4) (o : ℕ) (ho : o = p.val)
  (inb : ∀ a, (![o, 0, 0] : Fin 3 → ℕ) a + (![1, 512, 704] : Fin 3 → ℕ) a ≤ S4x512x704.size a)
  (W U : Vec Ideal S1x704x1024 .bf16)

include ho

theorem prod_eq (w : FVec Ideal S1024x2816 .f32) (W : Vec Ideal S1x704x1024 .bf16) (hW : ∀ r x, W (ix3 0 r x) = w (ix2 x (unit p r)))
    (r : Fin 512) (x : Fin 704) : prod (nblk m c t) W r x = proj m c w (row t r) (unit p x) :=
  Finset.sum_congr rfl fun k _ => congrArg₂ (fun a b : EReal => a * b) (nblk_at m c t r k) (hW x k)

/-- Layer `p`'s store of a product. -/
theorem storeP (w : FVec Ideal S1024x2816 .f32) (hW : ∀ r x, W (ix3 0 r x) = w (ix2 x (unit p r))) (x : S1x512x704.Idx) :
    k0_pay3 (F := Ideal) (nblk m c t) W x = blkP m c w t ((Rect.unit (s := S4x512x704) ![o, 0, 0] ![1, 512, 704] inb).emb x) := by
  revert x
  refine by_ix3 fun z r x => ?_
  obtain rfl : z = 0 := Subsingleton.elim _ _
  have e : (Rect.unit (s := S4x512x704) ![o, 0, 0] ![1, 512, 704] inb).emb (ix3 0 r x) = ix3 p r x := layer_idx p o ho inb 0 r x
  rw [e]
  exact (proj_at _ _ r x).trans (prod_eq m c t p o ho w W hW r x)

/-- Layer `p`'s store of the gated units. -/
theorem storeH (hW : ∀ r x, W (ix3 0 r x) = wg m c (ix2 x (unit p r))) (hU : ∀ r x, U (ix3 0 r x) = wu m c (ix2 x (unit p r)))
    (x : S1x512x704.Idx) :
    k0_pay5 (F := Ideal) (nblk m c t) W U x = blkH m c t ((Rect.unit (s := S4x512x704) ![o, 0, 0] ![1, 512, 704] inb).emb x) := by
  revert x
  refine by_ix3 fun z r x => ?_
  obtain rfl : z = 0 := Subsingleton.elim _ _
  have e : (Rect.unit (s := S4x512x704) ![o, 0, 0] ![1, 512, 704] inb).emb (ix3 0 r x) = ix3 p r x := layer_idx p o ho inb 0 r x
  rw [e]
  refine (gated_at _ _ _ r x).trans ?_
  rw [prod_eq m c t p o ho _ W hW r x, prod_eq m c t p o ho _ U hU r x]
  rfl
end

/- The four layers' stores. -/
theorem storeG0 (t : Fin cfg0.N) (x : S1x512x704.Idx) :
    k0_pay9 (F := Ideal) (iblk m c 0 t : Vec Ideal S512x1024 .f32) (iblk m c 1 t : Vec Ideal S1x1024 .f32) (iblk m c 2 t : Vec Ideal S1x704x1024 .bf16) x = blkP m c (wg m c) t (r0_3.emb x) :=
  storeP m c t 0 0 rfl _ _ (wg m c) (blk2 m c t) x
theorem storeG1 (t : Fin cfg0.N) (x : S1x512x704.Idx) :
    k0_pay15 (F := Ideal) (nblk m c t) (iblk m c 3 t : Vec Ideal S1x704x1024 .bf16) x = blkP m c (wg m c) t (r0_4.emb x) :=
  storeP m c t 1 1 rfl _ _ (wg m c) (blk3 m c t) x
theorem storeG2 (t : Fin cfg0.N) (x : S1x512x704.Idx) :
    k0_pay21 (F := Ideal) (nblk m c t) (iblk m c 4 t : Vec Ideal S1x704x1024 .bf16) x = blkP m c (wg m c) t (r0_5.emb x) :=
  storeP m c t 2 2 rfl _ _ (wg m c) (blk4 m c t) x
theorem storeG3 (t : Fin cfg0.N) (x : S1x512x704.Idx) :
    k0_pay3 (F := Ideal) (nblk m c t) (iblk m c 5 t : Vec Ideal S1x704x1024 .bf16) x = blkP m c (wg m c) t (r0_6.emb x) :=
  storeP m c t 3 3 rfl _ _ (wg m c) (blk5 m c t) x
theorem storeU0 (t : Fin cfg0.N) (x : S1x512x704.Idx) :
    k0_pay10 (F := Ideal) (iblk m c 0 t : Vec Ideal S512x1024 .f32) (iblk m c 1 t : Vec Ideal S1x1024 .f32) (iblk m c 6 t : Vec Ideal S1x704x1024 .bf16) x = blkP m c (wu m c) t (r0_3.emb x) :=
  storeP m c t 0 0 rfl _ _ (wu m c) (blk6 m c t) x
theorem storeU1 (t : Fin cfg0.N) (x : S1x512x704.Idx) :
    k0_pay16 (F := Ideal) (nblk m c t) (iblk m c 7 t : Vec Ideal S1x704x1024 .bf16) x = blkP m c (wu m c) t (r0_4.emb x) :=
  storeP m c t 1 1 rfl _ _ (wu m c) (blk7 m c t) x
theorem storeU2 (t : Fin cfg0.N) (x : S1x512x704.Idx) :
    k0_pay22 (F := Ideal) (nblk m c t) (iblk m c 8 t : Vec Ideal S1x704x1024 .bf16) x = blkP m c (wu m c) t (r0_5.emb x) :=
  storeP m c t 2 2 rfl _ _ (wu m c) (blk8 m c t) x
theorem storeU3 (t : Fin cfg0.N) (x : S1x512x704.Idx) :
    k0_pay4 (F := Ideal) (nblk m c t) (iblk m c 9 t : Vec Ideal S1x704x1024 .bf16) x = blkP m c (wu m c) t (r0_6.emb x) :=
  storeP m c t 3 3 rfl _ _ (wu m c) (blk9 m c t) x
theorem storeH0 (t : Fin cfg0.N) (x : S1x512x704.Idx) :
    k0_pay12 (F := Ideal) (k0_pay7 (iblk m c 0 t : Vec Ideal S512x1024 .f32) (iblk m c 1 t : Vec Ideal S1x1024 .f32) (iblk m c 2 t : Vec Ideal S1x704x1024 .bf16)) (k0_pay8 (iblk m c 0 t : Vec Ideal S512x1024 .f32) (iblk m c 1 t : Vec Ideal S1x1024 .f32) (iblk m c 6 t : Vec Ideal S1x704x1024 .bf16)) k0_pay11 x = blkH m c t (r0_3.emb x) :=
  storeH m c t 0 0 rfl _ _ _ (blk2 m c t) (blk6 m c t) x
theorem storeH1 (t : Fin cfg0.N) (x : S1x512x704.Idx) :
    k0_pay18 (F := Ideal) (k0_pay17 (nblk m c t) (iblk m c 3 t : Vec Ideal S1x704x1024 .bf16) (iblk m c 7 t : Vec Ideal S1x704x1024 .bf16)) x = blkH m c t (r0_4.emb x) :=
  storeH m c t 1 1 rfl _ _ _ (blk3 m c t) (blk7 m c t) x
theorem storeH2 (t : Fin cfg0.N) (x : S1x512x704.Idx) :
    k0_pay23 (F := Ideal) (nblk m c t) (iblk m c 4 t : Vec Ideal S1x704x1024 .bf16) (iblk m c 8 t : Vec Ideal S1x704x1024 .bf16) x = blkH m c t (r0_5.emb x) :=
  storeH m c t 2 2 rfl _ _ _ (blk4 m c t) (blk8 m c t) x
theorem storeH3 (t : Fin cfg0.N) (x : S1x512x704.Idx) :
    k0_pay5 (F := Ideal) (nblk m c t) (iblk m c 5 t : Vec Ideal S1x704x1024 .bf16) (iblk m c 9 t : Vec Ideal S1x704x1024 .bf16) x = blkH m c t (r0_6.emb x) :=
  storeH m c t 3 3 rfl _ _ _ (blk5 m c t) (blk9 m c t) x

/-- The results as arrays. -/
def arrN (i : S4096x1024.Idx) : EReal := nrm m c (i 0) (i 1)
def arrP (w : FVec Ideal S1024x2816 .f32) (i : S4x4096x704.Idx) : EReal := proj m c w (i 1) (unit (i 0) (i 2))
def arrH (i : S4x4096x704.Idx) : EReal := gated m c (i 1) (unit (i 0) (i 2))

theorem load0 (t : Fin cfg0.N) : k0_pay24 (iblk m c 0 t) (iblk m c 1 t) (iblk m c 2 t) (iblk m c 3 t) (iblk m c 4 t) (iblk m c 5 t) (iblk m c 6 t)
    (iblk m c 7 t) (iblk m c 8 t) (iblk m c 9 t) = nblk m c t := by
  unfold k0_pay24
  frame_out

theorem final10 : (dats m 0 c).arrAt 10 cfg0.N = arrN m c :=
  (dats m 0 c).arrAt_eq_of_covers 10 _ (by decide +kernel) fun t hf y => by
    revert y
    refine by_ix2 fun r d => ?_
    blk_simp
    rw [after0_10]
    frame_out
    refine (nblk_at m c t r d).trans ?_
    show arrN m c (ix2 (row t r) d) = _
    refine congrArg (arrN m c) ?_
    blk_ext [idx t, row]

theorem final11 : (dats m 0 c).arrAt 11 cfg0.N = arrP m c (wg m c) := by
  refine (dats m 0 c).arrAt_eq_of_covers 11 _ (by decide +kernel) fun t hf y => ?_
  blk_simp
  rw [after0_11]
  frame_out
  rw [load0]
  refine (View.canon_append_of_piecesOf (Val := Elt Ideal) (e := .bf16) (blkP m c (wg m c) t) [] [_, _, _, _]
    ⟨storeG3 m c t, storeG2 m c t, storeG1 m c t, storeG0 m c t, trivial⟩ y (View.cover_of_tiledL _ ![1, 512, 704] (by sl_kernel_rfl) y)).trans ?_
  show arrP m c (wg m c) (ix3 (y 0) (row t (y 1)) (y 2)) = _
  refine congrArg (arrP m c (wg m c)) ?_
  blk_ext [idx t, row]

theorem final12 : (dats m 0 c).arrAt 12 cfg0.N = arrP m c (wu m c) := by
  refine (dats m 0 c).arrAt_eq_of_covers 12 _ (by decide +kernel) fun t hf y => ?_
  blk_simp
  rw [after0_12]
  frame_out
  rw [load0]
  refine (View.canon_append_of_piecesOf (Val := Elt Ideal) (e := .bf16) (blkP m c (wu m c) t) [] [_, _, _, _]
    ⟨storeU3 m c t, storeU2 m c t, storeU1 m c t, storeU0 m c t, trivial⟩ y (View.cover_of_tiledL _ ![1, 512, 704] (by sl_kernel_rfl) y)).trans ?_
  show arrP m c (wu m c) (ix3 (y 0) (row t (y 1)) (y 2)) = _
  refine congrArg (arrP m c (wu m c)) ?_
  blk_ext [idx t, row]

theorem final13 : (dats m 0 c).arrAt 13 cfg0.N = arrH m c := by
  refine (dats m 0 c).arrAt_eq_of_covers 13 _ (by decide +kernel) fun t hf y => ?_
  blk_simp
  rw [after0_13]
  frame_out
  rw [load0]
  refine (View.canon_append_of_piecesOf (Val := Elt Ideal) (e := .bf16) (blkH m c t) [] [_, _, _, _]
    ⟨storeH3 m c t, storeH2 m c t, storeH1 m c t, storeH0 m c t, trivial⟩ y (View.cover_of_tiledL _ ![1, 512, 704] (by sl_kernel_rfl) y)).trans ?_
  show arrH m c (ix3 (y 0) (row t (y 1)) (y 2)) = _
  refine congrArg (arrH m c) ?_
  blk_ext [idx t, row]

end Cert.Kernel10Ideal.FfnUp

end
-- ==== Proof.FfnUpRef.lean ====
/- The reference's normalised rows, products and gated units, and that the call's are the same. -/
module

public import proofs.«01_k».proof.Defs
public import proofs.«01_k».proof.Proof.FfnUp
public import proofs.«01_k».proof.Proof.Gen.Reference10Ideal.Run
public import Idealize.ShloMosaic.Lib.Claim
public import Idealize.ShloMosaic.Adequacy
public import Idealize.ShloMosaic.Init

@[expose] public section

set_option maxRecDepth 16384

noncomputable section

namespace Cert.FfnUpRef

open Idealize.ShloMosaic Idealize.SL.Sem Cert.Ffn Cert.NormRow

section
open Cert.Reference10Ideal Cert.Reference10Ideal.Gen

variable (x : FVec Ideal S4096x1024 .f32) (gain : FVec Ideal S1024 .f32) (n : FVec Ideal S4096x1024 .f32) (w : FVec Ideal S1024x2816 .f32)
  (g u : FVec Ideal S4096x2816 .f32)

/-- The normalised rows times the gain. -/
def normed : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 gain))

/-- A product with them. -/
def product : FVec Ideal S4096x2816 .f32 := Host.dotGeneral dot_S4096x1024_S1024x2816_S4096x2816_1_0_0_1_n_n none n w

/-- The gated units. -/
def gatedUnits : FVec Ideal S4096x2816 .f32 :=
  mulf (mulf g (Host.divf (broadcastInDim S4096x2816 ![] bcast_S_S4096x2816 (constant S_ .f32 0x3F800000#32))
    (addf (broadcastInDim S4096x2816 ![] bcast_S_S4096x2816 (constant S_ .f32 0x3F800000#32)) (Host.exp (Host.negf g))))) u

/-- A matrix of units in four blocks of columns. -/
def blocks : FVec Ideal S4x4096x704 .bf16 :=
  truncf .bf16 (transpose S4x4096x704 [1, 0, 2] (shapeCast _ g shapeCasts_S4096x2816_S4096x4x704) transposes_S4096x4x704_S4x4096x704_1_0_2) bitsLt_bf16_f32

theorem normed_at (s : Fin 4096) (d : Fin 1024) :
    normed x gain (ix2 s d) = (x (ix2 s d) * rs (fun j => x (ix2 s j)) * gain (ix1 d) : EReal) := by
  pointwise [normed]
  rfl

theorem product_at (s : Fin 4096) (j : Fin 2816) : product n w (ix2 s j) = ∑ k : Fin 1024, (n (ix2 s k) : EReal) * w (ix2 k j) := by
  pointwise [product]

theorem gatedUnits_at (s : Fin 4096) (j : Fin 2816) :
    gatedUnits g u (ix2 s j) = (g (ix2 s j) * lg (g (ix2 s j)) * u (ix2 s j) : EReal) := by
  pointwise [gatedUnits]
  simp only [lg, zero_sub]

theorem blocks_at (p : Fin 4) (s : Fin 4096) (y : Fin 704) : blocks g (ix3 p s y) = g (ix2 s (unit p y)) := by
  pointwise [blocks]
  rfl
end

open Cert.Kernel10Ideal.FfnUp in
theorem algebraic10 : Cert.algebraic_Kernel10Ideal_Reference10Ideal := by
  intro m g m' g' _ hagree
  refine ⟨fun c => arrN m c, fun c => arrP m c (wg m c), fun c => arrP m c (wu m c), fun c => arrH m c,
    (θ_run Cert.Kernel10Ideal.defs _ _).mono (fun r h c => ⟨(h c).1.trans (final10 m c),
      (h c).2.1.trans (final11 m c), (h c).2.2.1.trans (final12 m c), (h c).2.2.2.1.trans (final13 m c), (h c).2.2.2.2⟩)
      (Cert.Kernel10Ideal.Value.run_blocks m g),
    (θ_run Cert.Reference10Ideal.defs _ _).mono (fun r h c => ?_) (Cert.Reference10Ideal.Value.run m' g')⟩
  obtain ⟨a0, a1, a2, a3⟩ := hagree c
  obtain ⟨h0, h1, h2, h3, hargs⟩ := h c
  rw [a0, a1] at h0
  rw [a0, a1, a2] at h1
  rw [a0, a1, a3] at h2
  rw [a0, a1, a2, a3] at h3
  have e (w : FVec Ideal Cert.Kernel10Ideal.S1024x2816 .f32) (s : Fin 4096) (j : Fin 2816) :
      product (normed (xin m c) (gain m c)) w (ix2 s j) = proj m c w s j := by
    rw [product_at]
    simp only [normed_at]
    rfl
  refine ⟨h0.trans (funext (by_ix2 fun s d => normed_at _ _ s d)),
    h1.trans (funext (by_ix3 fun p s y => (blocks_at (product (normed (xin m c) (gain m c)) (wg m c)) p s y).trans (e _ _ _))),
    h2.trans (funext (by_ix3 fun p s y => (blocks_at (product (normed (xin m c) (gain m c)) (wu m c)) p s y).trans (e _ _ _))),
    h3.trans (funext (by_ix3 fun p s y => (blocks_at (gatedUnits (product (normed (xin m c) (gain m c)) (wg m c))
      (product (normed (xin m c) (gain m c)) (wu m c))) p s y).trans ?_)), hargs⟩
  rw [gatedUnits_at, e, e]
  rfl

theorem frame_reference10 : Cert.quiescent_Reference10Ideal := fun m g _ =>
  (θ_run Cert.Reference10Ideal.defs _ _).mono (fun r h => ⟨fun c => (h c).2.2.2.2, sem_eq_zero_of_no_sems (by decide) r.2⟩)
    (Cert.Reference10Ideal.Value.run m g)

end Cert.FfnUpRef

end
-- ==== Proof.QBwd.lean ====
/- The gradient of the attention's query product by its input and by its norm's gain: what the call leaves in its two results. -/
module

public import proofs.«01_k».proof.Proof.NormRow
public import proofs.«01_k».proof.Proof.ProjLayout
public import proofs.«01_k».proof.Proof.Gen.Kernel9Ideal.Value
public import Idealize.ShloMosaic.Lib.Pipeline.ReadBack

@[expose] public section

set_option maxRecDepth 16384

noncomputable section

namespace Cert.Kernel9Ideal.QBwd

open Cert.Kernel9Ideal Cert.Kernel9Ideal.Gen Idealize.ShloMosaic Idealize.ShloMosaic.TcCoe Idealize.SL.Sem
open Cert.NormRow
open Cert.Ffn (by_ix2 by_ix3)

section
variable (a : Vec Ideal S512x1024 .bf16) (w0 w1 w2 w3 : Vec Ideal S1x256x1024 .bf16)

/-- A block's product with a row of its layer of the weight. -/
def prod (w : Vec Ideal S1x256x1024 .bf16) (r : Fin 512) (x : Fin 256) : EReal :=
  ∑ k : Fin 1024, (a (ix2 r k) : EReal) * w (ix3 0 x k)

/-- The four products side by side. -/
theorem prods_at (f : Fin 1024 → EReal) (r : Fin 512)
    (h0 : ∀ x, prod a w0 r x = f (Proj.unit 0 x)) (h1 : ∀ x, prod a w1 r x = f (Proj.unit 1 x))
    (h2 : ∀ x, prod a w2 r x = f (Proj.unit 2 x)) (h3 : ∀ x, prod a w3 r x = f (Proj.unit 3 x)) (d : Fin 1024) :
    k0_pay5 (F := Ideal) a w0 w1 w2 w3 (ix2 r d) = f d := by
  have e (q : Fin 4) (i : Fin 256) (hq : q.val * 256 + i.val = d.val) : Proj.unit q i = d := Fin.ext (by simp only [Proj.unit]; omega)
  pointwise [k0_pay5]
  by_cases c0 : d.val < 256
  · rw [dif_pos c0]
    exact (h0 ⟨d.val, c0⟩).trans (congrArg f (e 0 _ (by simp)))
  rw [dif_neg c0]
  by_cases c1 : d.val - 256 < 256
  · rw [dif_pos c1]
    exact (h1 ⟨d.val - 256, c1⟩).trans (congrArg f (e 1 _ (by simp; omega)))
  rw [dif_neg c1]
  by_cases c2 : d.val - 256 - 256 < 256
  · rw [dif_pos c2]
    exact (h2 ⟨d.val - 256 - 256, c2⟩).trans (congrArg f (e 2 _ (by simp; omega)))
  rw [dif_neg c2]
  exact (h3 ⟨d.val - 256 - 256 - 256, by omega⟩).trans (congrArg f (e 3 _ (by simp; omega)))
end

section
variable (T X D : FVec Ideal S512x1024 .f32) (G acc : FVec Ideal S1x1024 .f32)

theorem dx_at (r : Fin 512) (d : Fin 1024) :
    k0_pay1 (F := Ideal) (k0_pay4 G) T (k0_pay6 X) (k0_pay7 X) D (ix2 r d)
      = dx (fun j => X (ix2 r j)) (fun j => (T (ix2 r j) * G (ix2 0 j) : EReal)) d (D (ix2 r d)) := by
  pointwise [k0_pay1, k0_pay4, k0_pay6, k0_pay7]
  rfl

/-- What a block adds to the gain's gradient. -/
def gainPart (d : Fin 1024) : EReal := ∑ r : Fin 512, (T (ix2 r d) : EReal) * (X (ix2 r d) * rs (fun j => X (ix2 r j)))

theorem gain_at (d : Fin 1024) : k0_pay2 (F := Ideal) T (k0_pay7 X) acc (ix2 0 d) = (acc (ix2 0 d) : EReal) + gainPart T X d := by
  pointwise [k0_pay2, k0_pay6, k0_pay7]
  rfl

theorem fill (j : S1x1024.Idx) : k0_pay3 (F := Ideal) j = 0 := by pointwise [k0_pay3]
end

variable (m : (ℓ : Loc nD τ sig) → Buf (Elt Ideal) ℓ) (c : Dev nD)

/-- The arguments, as arrays of extended reals. -/
abbrev dq : FVec Ideal S4096x1024 .f32 := m ((c : Thread nD τ).loc main_arg0)
abbrev wq : FVec Ideal S1024x1024 .f32 := m ((c : Thread nD τ).loc main_arg1)
abbrev xin : FVec Ideal S4096x1024 .f32 := m ((c : Thread nD τ).loc main_arg5)
abbrev gain : FVec Ideal S1024 .f32 := m ((c : Thread nD τ).loc main_arg6)
abbrev dres : FVec Ideal S4096x1024 .f32 := m ((c : Thread nD τ).loc main_arg7)

theorem idx : ∀ t : Fin cfg0.N, win0_0.index t = ![t.val, 0] ∧ win0_1.index t = ![t.val, 0] ∧ win0_2.index t = ![t.val, 0]
    ∧ win0_3.index t = ![0, 0]
    ∧ win0_4.index t = ![0, 0, 0] ∧ win0_5.index t = ![1, 0, 0] ∧ win0_6.index t = ![2, 0, 0] ∧ win0_7.index t = ![3, 0, 0]
    ∧ win0_8.index t = ![t.val, 0] ∧ win0_9.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .bf16) (ix2 r x) = dq m c (ix2 (row t r) x) := by
  blk_ext! [iblk, V, idx t, row]

theorem blk1 (t : Fin cfg0.N) (r : Fin 512) (x : Fin 1024) :
    (iblk m c 1 t : Vec Ideal S512x1024 .f32) (ix2 r x) = xin m c (ix2 (row t r) x) := by
  blk_ext [iblk, V, idx t, row]

theorem blk2 (t : Fin cfg0.N) (r : Fin 512) (x : Fin 1024) :
    (iblk m c 2 t : Vec Ideal S512x1024 .f32) (ix2 r x) = dres m c (ix2 (row t r) x) := by
  blk_ext [iblk, V, idx t, row]

theorem blk3 (t : Fin cfg0.N) (x : Fin 1024) :
    (iblk m c 3 t : Vec Ideal S1x1024 .f32) (ix2 0 x) = gain m c (ix1 x) := by
  blk_ext! [iblk, V, idx t]

/-- The first of four arrays laid side by side along the rows. -/
theorem first_at (w0 w1 w2 w3 : Vec Ideal S4x256x1024 .bf16) (p : Fin 4) (r : Fin 256) (x : Fin 1024) (h : r.val < 1024) :
    (concatenate S4x1024x1024 1 [⟨S4x256x1024, w0⟩, ⟨S4x256x1024, w1⟩, ⟨S4x256x1024, w2⟩, ⟨S4x256x1024, w3⟩]
      concatenates_S4x256x1024_S4x256x1024_S4x256x1024_S4x256x1024_S4x1024x1024_d1 : Vec Ideal S4x1024x1024 .bf16) (ix3 p ⟨r.val, h⟩ x)
      = w0 (ix3 p r x) := by
  refine concatenate_apply_piece (t := S4x1024x1024) 1 [⟨S4x256x1024, w0⟩, ⟨S4x256x1024, w1⟩, ⟨S4x256x1024, w2⟩, ⟨S4x256x1024, w3⟩] _ (ix3 p ⟨r.val, h⟩ x) 0 (by simp) S4x256x1024 w0 rfl rfl 0 rfl (ix3 p r x) ?_ ?_
  · intro b hb
    match b with
    | 0 => rfl
    | 1 => exact absurd rfl hb
    | 2 => rfl
  · exact Nat.zero_add _

/-- The four weights in layers. -/
def slab : Vec Ideal S4x1024x1024 .bf16 := V m c main_v8

theorem slab_eq : slab m c = (concatenate S4x1024x1024 1
      [⟨S4x256x1024, truncf .bf16 (shapeCast _ (wq m c) shapeCasts_S1024x1024_S4x256x1024) bitsLt_bf16_f32⟩,
        ⟨S4x256x1024, V m c main_v3⟩, ⟨S4x256x1024, V m c main_v5⟩, ⟨S4x256x1024, V m c main_v7⟩]
      concatenates_S4x256x1024_S4x256x1024_S4x256x1024_S4x256x1024_S4x1024x1024_d1 : Vec Ideal S4x1024x1024 .bf16) := by
  unfold slab V
  after_results
  rfl

theorem slab_low (p : Fin 4) (r : Fin 256) (x : Fin 1024) (h : r.val < 1024) :
    slab m c (ix3 p ⟨r.val, h⟩ x) = wq m c (ix2 (Proj.unit p r) x) := by
  rw [slab_eq]
  refine (first_at _ _ _ _ p r x h).trans ?_
  pointwise
  rfl

theorem blk4 (t : Fin cfg0.N) (r : Fin 256) (x : Fin 1024) :
    (iblk m c 4 t : Vec Ideal S1x256x1024 .bf16) (ix3 0 r x) = wq m c (ix2 (Proj.unit 0 r) x) := by
  refine Eq.trans ?_ (slab_low m c 0 r x (by omega))
  unfold slab
  blk_ext [iblk, idx t]

theorem blk5 (t : Fin cfg0.N) (r : Fin 256) (x : Fin 1024) :
    (iblk m c 5 t : Vec Ideal S1x256x1024 .bf16) (ix3 0 r x) = wq m c (ix2 (Proj.unit 1 r) x) := by
  refine Eq.trans ?_ (slab_low m c 1 r x (by omega))
  unfold slab
  blk_ext [iblk, idx t]

theorem blk6 (t : Fin cfg0.N) (r : Fin 256) (x : Fin 1024) :
    (iblk m c 6 t : Vec Ideal S1x256x1024 .bf16) (ix3 0 r x) = wq m c (ix2 (Proj.unit 2 r) x) := by
  refine Eq.trans ?_ (slab_low m c 2 r x (by omega))
  unfold slab
  blk_ext [iblk, idx t]

theorem blk7 (t : Fin cfg0.N) (r : Fin 256) (x : Fin 1024) :
    (iblk m c 7 t : Vec Ideal S1x256x1024 .bf16) (ix3 0 r x) = wq m c (ix2 (Proj.unit 3 r) x) := by
  refine Eq.trans ?_ (slab_low m c 3 r x (by omega))
  unfold slab
  blk_ext [iblk, idx t]

/-- The gradient by the normalised input, at a token and a column. -/
def dn (s : Fin 4096) (x : Fin 1024) : EReal := ∑ k : Fin 1024, (dq m c (ix2 s k) : EReal) * wq m c (ix2 x k)

/-- A layer's product, in the arrays' terms. -/
theorem prod_eq (t : Fin cfg0.N) (p : Fin 4)
    (W : Vec Ideal S1x256x1024 .bf16) (hW : ∀ r x, W (ix3 0 r x) = wq m c (ix2 (Proj.unit p r) x)) (r : Fin 512) (x : Fin 256) :
    prod (iblk m c 0 t : Vec Ideal S512x1024 .bf16) W r x = dn m c (row t r) (Proj.unit p x) :=
  Finset.sum_congr rfl fun k _ => congrArg₂ (fun a b : EReal => a * b) (blk0 m c t r k) (hW x k)

/-- Point `t`'s products. -/
abbrev prods (t : Fin cfg0.N) : FVec Ideal S512x1024 .f32 :=
  k0_pay5 (F := Ideal) (iblk m c 0 t : Vec Ideal S512x1024 .bf16) (iblk m c 4 t : Vec Ideal S1x256x1024 .bf16)
    (iblk m c 5 t : Vec Ideal S1x256x1024 .bf16) (iblk m c 6 t : Vec Ideal S1x256x1024 .bf16) (iblk m c 7 t : Vec Ideal S1x256x1024 .bf16)

theorem prods_eq (t : Fin cfg0.N) (r : Fin 512) (d : Fin 1024) : prods m c t (ix2 r d) = dn m c (row t r) d :=
  prods_at _ _ _ _ _ (dn m c (row t r)) r (prod_eq m c t 0 _ (blk4 m c t) r) (prod_eq m c t 1 _ (blk5 m c t) r)
    (prod_eq m c t 2 _ (blk6 m c t) r) (prod_eq m c t 3 _ (blk7 m c t) r) d

/-- The first result: the gradient by the input. -/
def arrX (i : S4096x1024.Idx) : EReal :=
  dx (fun j => xin m c (ix2 (i 0) j)) (fun j => dn m c (i 0) j * gain m c (ix1 j)) (i 1) (dres m c i)

theorem store8 (t : Fin cfg0.N) (r : Fin 512) (d : Fin 1024) :
    k0_pay1 (F := Ideal) (k0_pay4 (iblk m c 3 t : Vec Ideal S1x1024 .f32)) (prods m c t) (k0_pay6 (iblk m c 1 t : Vec Ideal S512x1024 .f32))
      (k0_pay7 (iblk m c 1 t : Vec Ideal S512x1024 .f32)) (iblk m c 2 t : Vec Ideal S512x1024 .f32) (ix2 r d) = arrX m c (ix2 (row t r) d) := by
  refine (dx_at _ _ _ _ r d).trans ?_
  simp only [prods_eq m c t, blk1 m c t, blk2 m c t, blk3 m c t]
  rfl

theorem outs8 (t : Fin cfg0.N) (r : Fin 512) (d : Fin 1024) : (outsAt0 m c t.val t.isLt).1 (ix2 r d) = arrX m c (ix2 (row t r) d) := by
  by_cases h : t.val % 8 = 0
  · rw [outsAt0_A m c t h]
    frame_open
    frame_out
    exact store8 m c t r d
  · rw [outsAt0_B m c t h]
    frame_out
    exact store8 m c t r d

theorem final8 : (dats m 0 c).arrAt 8 cfg0.N = arrX m c :=
  (dats m 0 c).arrAt_eq_of_covers 8 _ (by decide +kernel) fun t hf y => by
    revert y
    refine by_ix2 fun r d => ?_
    blk_simp
    rw [after0_8]
    refine (outs8 m c t r d).trans (congrArg (arrX m c) ?_)
    blk_ext [idx t, row]

/-- A token's part of the gain's gradient. -/
def gainTerm (s : Fin 4096) (d : Fin 1024) : EReal := dn m c s d * (xin m c (ix2 s d) * rs (fun j => xin m c (ix2 s j)))

/-- Point `t`'s part. -/
def partOf (t : Fin cfg0.N) (d : Fin 1024) : EReal := ∑ r : Fin 512, gainTerm m c (row t r) d

theorem part_eq (t : Fin cfg0.N) (d : Fin 1024) : gainPart (prods m c t) (iblk m c 1 t : Vec Ideal S512x1024 .f32) d = partOf m c t d :=
  Finset.sum_congr rfl fun r _ => by
    simp only [prods_eq m c t, blk1 m c t]
    rfl

theorem outs_A (t : Fin cfg0.N) (h : t.val % 8 = 0) (d : Fin 1024) :
    (outsAt0 m c t.val t.isLt).2 (ix2 0 d) = 0 + partOf m c t d := by
  rw [outsAt0_A m c t h]
  frame_open
  simp (disch := decide) only [↓ View.readCov_skip, ↓ View.readCov_cons_toLoadRect, ↓ View.readCov_fill]
  frame_out
  refine (gain_at (prods m c t) (iblk m c 1 t : Vec Ideal S512x1024 .f32) _ d).trans ?_
  rw [part_eq, fill]

theorem outs_B (t : Fin cfg0.N) (h : ¬ t.val % 8 = 0) (d : Fin 1024) :
    (outsAt0 m c t.val t.isLt).2 (ix2 0 d)
      = ((outsAt0 m c (t.val - 1) (Nat.lt_of_le_of_lt (Nat.sub_le _ _) t.isLt)).2 (ix2 0 d) : EReal) + partOf m c t d := by
  rw [outsAt0_B m c t h]
  frame_out
  refine (gain_at (prods m c t) (iblk m c 1 t : Vec Ideal S512x1024 .f32) _ d).trans ?_
  rw [part_eq]

/-- The gain's gradient. -/
def arrN (d : Fin 1024) : EReal := ∑ s : Fin 4096, gainTerm m c s d

theorem outs_last (d : Fin 1024) : (outsAt0 m c t0_7.val t0_7.isLt).2 (ix2 0 d) = arrN m c d := by
  refine (Pipeline.eq_sum_fin_of_reset_step_apply_last (M := EReal) (fun n h d => (outsAt0 m c n h).2 (ix2 0 d)) 8 (fun _ => 0)
    (partOf m c) (fun t h d => outs_A m c t h d) (fun t h d => outs_B m c t h d) (le_of_eq N_0) t0_7 rfl d).trans ?_
  rw [zero_add]
  exact Fin.sum_mul_add_congr (L := 4096) (S := cfg0.N) (n := 512) (f := fun s => gainTerm m c s d) (fun _ _ _ => rfl) (congrArg (· * 512) N_0.symm)

theorem final9 : (dats m 0 c).arrAt 9 cfg0.N = fun i => arrN m c (i 1) :=
  (dats m 0 c).arrAt_eq_of_after_last 9 t0_7 (by decide +kernel) _ fun j => by
    revert j
    refine by_ix2 fun z d => ?_
    obtain rfl : z = 0 := Subsingleton.elim _ _
    blk_simp
    rw [after0_9]
    exact outs_last m c d

end Cert.Kernel9Ideal.QBwd

end
-- ==== Proof.QFwd.lean ====
/- The attention's normalised rows and query product: what the call leaves in its two results, and that they are the
   reference's. -/
module

public import proofs.«01_k».proof.Proof.FfnUpRef
public import proofs.«01_k».proof.Proof.MixLayout
public import proofs.«01_k».proof.Proof.QBwd
public import proofs.«01_k».proof.Proof.Gen.Kernel17Ideal.Value
public import proofs.«01_k».proof.Proof.Gen.Reference17Ideal.Run

@[expose] public section

set_option maxRecDepth 16384

noncomputable section

namespace Cert.Kernel17Ideal.QFwd

open Cert.Kernel17Ideal Cert.Kernel17Ideal.Gen Idealize.ShloMosaic Idealize.ShloMosaic.TcCoe Idealize.SL.Sem
open Cert.NormRow
open Cert.Ffn (by_ix2 by_ix3)
open Cert.Proj (unit)

section
variable (X : Vec Ideal S512x1024 .f32) (G : Vec Ideal S1x1024 .f32)

theorem norm_at (r : Fin 512) (d : Fin 1024) :
    k0_pay2 (F := Ideal) X G (ix2 r d) = (X (ix2 r d) * rs (fun j => X (ix2 r j)) * G (ix2 0 d) : EReal) := by
  pointwise [k0_pay2]
  rfl

/-- The product of a block's columns of quarter `p` with a layer of the weight. -/
def prod (N : FVec Ideal S512x1024 .bf16) (p : Fin 4) (w : Vec Ideal S1x256x1024 .bf16) (r : Fin 512) (d : Fin 1024) : EReal :=
  ∑ x : Fin 256, (N (ix2 r (unit p x)) : EReal) * w (ix3 0 x d)

/-- The first three products. -/
theorem three_at (w0 w1 w2 : Vec Ideal S1x256x1024 .bf16) (r : Fin 512) (d : Fin 1024) :
    k0_pay3 (F := Ideal) X G w0 w1 w2 (ix2 r d)
      = (prod (k0_pay2 X G) 0 w0 r d + prod (k0_pay2 X G) 1 w1 r d + prod (k0_pay2 X G) 2 w2 r d : EReal) := by
  pointwise [k0_pay3]
  simp only [Mix.col0, Mix.col1, Mix.col2]
  rfl

/-- The last product added to the others. -/
theorem last_at (T : FVec Ideal S512x1024 .f32) (w3 : Vec Ideal S1x256x1024 .bf16) (r : Fin 512) (d : Fin 1024) :
    k0_pay1 (F := Ideal) T (k0_pay4 X G) (k0_pay5 w3) (ix2 r d) = (T (ix2 r d) + prod (k0_pay2 X G) 3 w3 r d : EReal) := by
  pointwise [k0_pay1, k0_pay4, k0_pay5]
  simp only [Mix.col3]
  rfl
end

variable (m : (ℓ : Loc nD τ sig) → Buf (Elt Ideal) ℓ) (c : Dev nD)

/-- The arguments, as arrays of extended reals. -/
abbrev xin : FVec Ideal S4096x1024 .f32 := m ((c : Thread nD τ).loc main_arg0)
abbrev gain : FVec Ideal S1024 .f32 := m ((c : Thread nD τ).loc main_arg1)
abbrev wq : FVec Ideal S1024x1024 .f32 := m ((c : Thread nD τ).loc main_arg2)

theorem idx : ∀ t : Fin cfg0.N, win0_0.index t = ![t.val, 0] ∧ win0_1.index t = ![0, 0]
    ∧ win0_2.index t = ![0, 0, 0] ∧ win0_3.index t = ![1, 0, 0] ∧ win0_4.index t = ![2, 0, 0] ∧ win0_5.index t = ![3, 0, 0]
    ∧ win0_6.index t = ![t.val, 0] ∧ win0_7.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = xin m c (ix2 (row t r) x) := by
  blk_ext [iblk, V, idx t, row]

theorem blk1 (t : Fin cfg0.N) (x : Fin 1024) :
    (iblk m c 1 t : Vec Ideal S1x1024 .f32) (ix2 0 x) = gain m c (ix1 x) := by
  blk_ext! [iblk, V, idx t]

/-- The four weights in layers. -/
def slab : Vec Ideal S4x1024x1024 .bf16 := V m c main_v8

theorem slab_eq : slab m c = (concatenate S4x1024x1024 1
      [⟨S4x256x1024, truncf .bf16 (shapeCast _ (wq m c) shapeCasts_S1024x1024_S4x256x1024) bitsLt_bf16_f32⟩,
        ⟨S4x256x1024, V m c main_v3⟩, ⟨S4x256x1024, V m c main_v5⟩, ⟨S4x256x1024, V m c main_v7⟩]
      concatenates_S4x256x1024_S4x256x1024_S4x256x1024_S4x256x1024_S4x1024x1024_d1 : Vec Ideal S4x1024x1024 .bf16) := by
  unfold slab V
  after_results
  rfl

theorem slab_low (p : Fin 4) (r : Fin 256) (x : Fin 1024) (h : r.val < 1024) :
    slab m c (ix3 p ⟨r.val, h⟩ x) = wq m c (ix2 (Proj.unit p r) x) := by
  rw [slab_eq]
  refine (Cert.Kernel9Ideal.QBwd.first_at _ _ _ _ p r x h).trans ?_
  pointwise
  rfl

theorem blk2 (t : Fin cfg0.N) (r : Fin 256) (x : Fin 1024) :
    (iblk m c 2 t : Vec Ideal S1x256x1024 .bf16) (ix3 0 r x) = wq m c (ix2 (Proj.unit 0 r) x) := by
  refine Eq.trans ?_ (slab_low m c 0 r x (by omega))
  unfold slab
  blk_ext [iblk, idx t]

theorem blk3 (t : Fin cfg0.N) (r : Fin 256) (x : Fin 1024) :
    (iblk m c 3 t : Vec Ideal S1x256x1024 .bf16) (ix3 0 r x) = wq m c (ix2 (Proj.unit 1 r) x) := by
  refine Eq.trans ?_ (slab_low m c 1 r x (by omega))
  unfold slab
  blk_ext [iblk, idx t]

theorem blk4 (t : Fin cfg0.N) (r : Fin 256) (x : Fin 1024) :
    (iblk m c 4 t : Vec Ideal S1x256x1024 .bf16) (ix3 0 r x) = wq m c (ix2 (Proj.unit 2 r) x) := by
  refine Eq.trans ?_ (slab_low m c 2 r x (by omega))
  unfold slab
  blk_ext [iblk, idx t]

theorem blk5 (t : Fin cfg0.N) (r : Fin 256) (x : Fin 1024) :
    (iblk m c 5 t : Vec Ideal S1x256x1024 .bf16) (ix3 0 r x) = wq m c (ix2 (Proj.unit 3 r) x) := by
  refine Eq.trans ?_ (slab_low m c 3 r x (by omega))
  unfold slab
  blk_ext [iblk, idx t]

/-- The normalised rows, at a token and a column. -/
def nrm (s : Fin 4096) (k : Fin 1024) : EReal := xin m c (ix2 s k) * rs (fun j => xin m c (ix2 s j)) * gain m c (ix1 k)

/-- Point `t`'s normalised block. -/
abbrev nblk (t : Fin cfg0.N) : FVec Ideal S512x1024 .bf16 :=
  k0_pay2 (F := Ideal) (iblk m c 0 t : Vec Ideal S512x1024 .f32) (iblk m c 1 t : Vec Ideal S1x1024 .f32)

theorem nblk_at (t : Fin cfg0.N) (r : Fin 512) (d : Fin 1024) : nblk m c t (ix2 r d) = nrm m c (row t r) d := by
  refine (norm_at _ _ r d).trans ?_
  simp only [blk0 m c t, blk1 m c t]
  rfl

/-- The query product, at a token and a column. -/
def proj (s : Fin 4096) (j : Fin 1024) : EReal := ∑ k : Fin 1024, nrm m c s k * wq m c (ix2 k j)

/-- A layer's product, in the arrays' terms. -/
theorem prod_eq (t : Fin cfg0.N) (p : Fin 4)
    (W : Vec Ideal S1x256x1024 .bf16) (hW : ∀ r x, W (ix3 0 r x) = wq m c (ix2 (unit p r) x)) (r : Fin 512) (d : Fin 1024) :
    prod (nblk m c t) p W r d = ∑ k, nrm m c (row t r) (unit p k) * wq m c (ix2 (unit p k) d) :=
  Finset.sum_congr rfl fun k _ => congrArg₂ (fun a b : EReal => a * b) (nblk_at m c t r (unit p k)) (hW k d)

/-- The first result: the normalised rows. -/
def arrN (i : S4096x1024.Idx) : EReal := nrm m c (i 0) (i 1)

theorem final6 : (dats m 0 c).arrAt 6 cfg0.N = arrN m c :=
  (dats m 0 c).arrAt_eq_of_covers 6 _ (by decide +kernel) fun t hf y => by
    revert y
    refine by_ix2 fun r d => ?_
    blk_simp
    rw [after0_6]
    frame_out
    refine (nblk_at m c t r d).trans ?_
    show arrN m c (ix2 (row t r) d) = _
    refine congrArg (arrN m c) ?_
    blk_ext [idx t, row]

/-- The second result: the query product. -/
def arrP (i : S4096x1024.Idx) : EReal := proj m c (i 0) (i 1)

theorem final7 : (dats m 0 c).arrAt 7 cfg0.N = arrP m c :=
  (dats m 0 c).arrAt_eq_of_covers 7 _ (by decide +kernel) fun t hf y => by
    revert y
    refine by_ix2 fun r d => ?_
    blk_simp
    rw [after0_7]
    frame_out
    refine (last_at _ _ _ _ r d).trans ?_
    rw [three_at]
    refine (congrArg₂ (fun x y : EReal => x + y) (congrArg₂ (fun x y : EReal => x + y) (congrArg₂ (fun x y : EReal => x + y)
      (prod_eq m c t 0 _ (blk2 m c t) r d) (prod_eq m c t 1 _ (blk3 m c t) r d)) (prod_eq m c t 2 _ (blk4 m c t) r d))
      (prod_eq m c t 3 _ (blk5 m c t) r d)).trans ?_
    refine (Mix.sum_quarters fun j => nrm m c (row t r) j * wq m c (ix2 j d)).symm.trans ?_
    show arrP m c (ix2 (row t r) d) = _
    refine congrArg (arrP m c) ?_
    blk_ext [idx t, row]

end Cert.Kernel17Ideal.QFwd

namespace Cert.QFwd

open Idealize.ShloMosaic Idealize.SL.Sem Cert.NormRow
open Cert.Ffn (by_ix2)
open Cert.FfnUpRef (normed normed_at)

section
open Cert.Reference17Ideal Cert.Reference17Ideal.Gen

/-- The product with the normalised rows as the reference computes it. -/
def product (n : FVec Ideal S4096x1024 .f32) (w : FVec Ideal S1024x1024 .f32) : FVec Ideal S4096x1024 .f32 :=
  Host.dotGeneral dot_S4096x1024_S1024x1024_S4096x1024_1_0_0_1_n_n none n w

theorem product_at (n : FVec Ideal S4096x1024 .f32) (w : FVec Ideal S1024x1024 .f32) (s : Fin 4096) (j : Fin 1024) :
    product n w (ix2 s j) = ∑ k : Fin 1024, (n (ix2 s k) : EReal) * w (ix2 k j) := by
  pointwise [product]
end

open Cert.Kernel17Ideal.QFwd in
theorem algebraic17 : Cert.algebraic_Kernel17Ideal_Reference17Ideal := by
  intro m g m' g' _ hagree
  refine ⟨fun c => arrN m c, fun c => arrP m c,
    (θ_run Cert.Kernel17Ideal.defs _ _).mono (fun r h c => ⟨(h c).1.trans (final6 m c), (h c).2.1.trans (final7 m c), (h c).2.2⟩)
      (Cert.Kernel17Ideal.Value.run_blocks m g),
    (θ_run Cert.Reference17Ideal.defs _ _).mono (fun r h c => ?_) (Cert.Reference17Ideal.Value.run m' g')⟩
  obtain ⟨a0, a1, a2, a3, a4, a5⟩ := hagree c
  obtain ⟨h0, h1, hargs⟩ := h c
  rw [a0, a1] at h0
  rw [a0, a1, a2] at h1
  refine ⟨h0.trans (funext (by_ix2 fun s d => normed_at _ _ s d)), h1.trans (funext (by_ix2 fun s j => ?_)), hargs⟩
  refine (product_at (normed (xin m c) (gain m c)) (wq m c) s j).trans ?_
  simp only [normed_at]
  rfl

theorem frame_reference17 : Cert.quiescent_Reference17Ideal := fun m g _ =>
  (θ_run Cert.Reference17Ideal.defs _ _).mono (fun r h => ⟨fun c => (h c).2.2, sem_eq_zero_of_no_sems (by decide) r.2⟩)
    (Cert.Reference17Ideal.Value.run m g)

end Cert.QFwd

end
-- ==== Proof.AttnOut.lean ====
/- The attention's output product with the residual added: what the call leaves in its result, and that it is the
   reference's. -/
module

public import proofs.«01_k».proof.Defs
public import proofs.«01_k».proof.Proof.MixLayout
public import proofs.«01_k».proof.Proof.Gen.Kernel18Ideal.Value
public import proofs.«01_k».proof.Proof.Gen.Reference18Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel18Ideal.Out

open Cert.Kernel18Ideal Cert.Kernel18Ideal.Gen Idealize.ShloMosaic Idealize.ShloMosaic.TcCoe Idealize.SL.Sem
open Cert.Ffn (by_ix2 by_ix3)
open Cert.Proj (unit)

/-- The product of a block's columns of quarter `p` with a layer of the weight. -/
def prod (a : Vec Ideal S512x1024 .bf16) (p : Fin 4) (w : Vec Ideal S1x256x1024 .bf16) (r : Fin 512) (d : Fin 1024) : EReal :=
  ∑ x : Fin 256, (a (ix2 r (unit p x)) : EReal) * w (ix3 0 x d)

/-- The four products and the residual. -/
theorem sum_at (a : Vec Ideal S512x1024 .bf16) (w0 w1 w2 w3 : Vec Ideal S1x256x1024 .bf16) (X : Vec Ideal S512x1024 .f32)
    (r : Fin 512) (d : Fin 1024) :
    k0_pay1 (F := Ideal) a w0 w1 w2 w3 X (ix2 r d)
      = (prod a 0 w0 r d + prod a 1 w1 r d + prod a 2 w2 r d + prod a 3 w3 r d + X (ix2 r d) : EReal) := by
  pointwise [k0_pay1]
  simp only [Mix.col0, Mix.col1, Mix.col2, Mix.col3]
  rfl

variable (m : (ℓ : Loc nD τ sig) → Buf (Elt Ideal) ℓ) (c : Dev nD)

/-- The arguments, as arrays of extended reals. -/
abbrev o : FVec Ideal S4096x1024 .f32 := m ((c : Thread nD τ).loc main_arg0)
abbrev xin : FVec Ideal S4096x1024 .f32 := m ((c : Thread nD τ).loc main_arg1)
abbrev wo : FVec Ideal S1024x1024 .f32 := m ((c : Thread nD τ).loc main_arg5)

theorem idx : ∀ t : Fin cfg0.N, win0_0.index t = ![t.val, 0] ∧ win0_1.index t = ![t.val, 0]
    ∧ win0_2.index t = ![0, 3, 0] ∧ win0_3.index t = ![1, 3, 0] ∧ win0_4.index t = ![2, 3, 0] ∧ win0_5.index t = ![3, 3, 0]
    ∧ win0_6.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .bf16) (ix2 r x) = o m c (ix2 (row t r) x) := by
  blk_ext! [iblk, V, idx t, row]

theorem blk1 (t : Fin cfg0.N) (r : Fin 512) (x : Fin 1024) :
    (iblk m c 1 t : Vec Ideal S512x1024 .f32) (ix2 r x) = xin m c (ix2 (row t r) x) := by
  blk_ext [iblk, V, idx t, row]

/-- The last of four arrays laid one after the other along the rows. -/
theorem last_at (w0 w1 w2 w3 : Vec Ideal S4x256x1024 .bf16) (p : Fin 4) (r : Fin 256) (x : Fin 1024) (h : 768 + r.val < 1024) :
    (concatenate S4x1024x1024 1 [⟨S4x256x1024, w0⟩, ⟨S4x256x1024, w1⟩, ⟨S4x256x1024, w2⟩, ⟨S4x256x1024, w3⟩]
      concatenates_S4x256x1024_S4x256x1024_S4x256x1024_S4x256x1024_S4x1024x1024_d1 : Vec Ideal S4x1024x1024 .bf16) (ix3 p ⟨768 + r.val, h⟩ x)
      = w3 (ix3 p r x) := by
  refine concatenate_apply_piece (t := S4x1024x1024) 1 [⟨S4x256x1024, w0⟩, ⟨S4x256x1024, w1⟩, ⟨S4x256x1024, w2⟩, ⟨S4x256x1024, w3⟩] _ (ix3 p ⟨768 + r.val, h⟩ x) 3 (by simp) S4x256x1024 w3 rfl rfl 768 rfl (ix3 p r x) ?_ ?_
  · intro b hb
    match b with
    | 0 => rfl
    | 1 => exact absurd rfl hb
    | 2 => rfl
  · rfl

/-- The four weights in layers. -/
def slab : Vec Ideal S4x1024x1024 .bf16 := V m c main_v8

theorem slab_eq : slab m c = (concatenate S4x1024x1024 1
      [⟨S4x256x1024, V m c main_v1⟩, ⟨S4x256x1024, V m c main_v3⟩, ⟨S4x256x1024, V m c main_v5⟩,
        ⟨S4x256x1024, truncf .bf16 (shapeCast _ (wo m c) shapeCasts_S1024x1024_S4x256x1024) bitsLt_bf16_f32⟩]
      concatenates_S4x256x1024_S4x256x1024_S4x256x1024_S4x256x1024_S4x1024x1024_d1 : Vec Ideal S4x1024x1024 .bf16) := by
  unfold slab V
  after_results
  rfl

theorem slab_last (p : Fin 4) (r : Fin 256) (x : Fin 1024) (h : 768 + r.val < 1024) :
    slab m c (ix3 p ⟨768 + r.val, h⟩ x) = wo m c (ix2 (unit p r) x) := by
  rw [slab_eq]
  refine (last_at _ _ _ _ p r x h).trans ?_
  pointwise
  rfl

theorem blk2 (t : Fin cfg0.N) (r : Fin 256) (x : Fin 1024) :
    (iblk m c 2 t : Vec Ideal S1x256x1024 .bf16) (ix3 0 r x) = wo m c (ix2 (unit 0 r) x) := by
  refine Eq.trans ?_ (slab_last m c 0 r x (by omega))
  unfold slab
  blk_ext [iblk, idx t]

theorem blk3 (t : Fin cfg0.N) (r : Fin 256) (x : Fin 1024) :
    (iblk m c 3 t : Vec Ideal S1x256x1024 .bf16) (ix3 0 r x) = wo m c (ix2 (unit 1 r) x) := by
  refine Eq.trans ?_ (slab_last m c 1 r x (by omega))
  unfold slab
  blk_ext [iblk, idx t]

theorem blk4 (t : Fin cfg0.N) (r : Fin 256) (x : Fin 1024) :
    (iblk m c 4 t : Vec Ideal S1x256x1024 .bf16) (ix3 0 r x) = wo m c (ix2 (unit 2 r) x) := by
  refine Eq.trans ?_ (slab_last m c 2 r x (by omega))
  unfold slab
  blk_ext [iblk, idx t]

theorem blk5 (t : Fin cfg0.N) (r : Fin 256) (x : Fin 1024) :
    (iblk m c 5 t : Vec Ideal S1x256x1024 .bf16) (ix3 0 r x) = wo m c (ix2 (unit 3 r) x) := by
  refine Eq.trans ?_ (slab_last m c 3 r x (by omega))
  unfold slab
  blk_ext [iblk, idx t]

/-- A layer's product, in the arrays' terms. -/
theorem prod_eq (t : Fin cfg0.N) (p : Fin 4)
    (W : Vec Ideal S1x256x1024 .bf16) (hW : ∀ r x, W (ix3 0 r x) = wo m c (ix2 (unit p r) x)) (r : Fin 512) (d : Fin 1024) :
    prod (iblk m c 0 t : Vec Ideal S512x1024 .bf16) p W r d
      = ∑ k, (o m c (ix2 (row t r) (unit p k)) : EReal) * wo m c (ix2 (unit p k) d) :=
  Finset.sum_congr rfl fun k _ => congrArg₂ (fun a b : EReal => a * b) (blk0 m c t r (unit p k)) (hW k d)

/-- The result. -/
def arr (i : S4096x1024.Idx) : EReal :=
  xin m c i + ∑ j : Fin 1024, (o m c (ix2 (i 0) j) : EReal) * wo m c (ix2 j (i 1))

theorem final : (dats m 0 c).arrAt 6 cfg0.N = arr m c :=
  (dats m 0 c).arrAt_eq_of_covers 6 _ (by decide +kernel) fun t hf y => by
    revert y
    refine by_ix2 fun r d => ?_
    blk_simp
    rw [after0_6]
    frame_out
    refine (sum_at _ _ _ _ _ _ r d).trans ?_
    rw [prod_eq m c t 0 _ (blk2 m c t), prod_eq m c t 1 _ (blk3 m c t), prod_eq m c t 2 _ (blk4 m c t),
      prod_eq m c t 3 _ (blk5 m c t), blk1]
    have e : (arr m c (ix2 (row t r) d) : EReal) = _ :=
      (congrArg (fun s : EReal => xin m c (ix2 (row t r) d) + s)
        (Mix.sum_quarters fun j => (o m c (ix2 (row t r) j) : EReal) * wo m c (ix2 j d))).trans (add_comm (G := EReal) _ _)
    refine e.symm.trans (congrArg (arr m c) ?_)
    blk_ext [idx t, row]

end Cert.Kernel18Ideal.Out

namespace Cert.AttnOut

open Idealize.ShloMosaic Idealize.SL.Sem
open Cert.Ffn (by_ix2)

section
open Cert.Reference18Ideal Cert.Reference18Ideal.Gen

/-- The product and the residual as the reference computes them. -/
def refOut (a : FVec Ideal S4096x1024 .f32) (w : FVec Ideal S1024x1024 .f32) (x : FVec Ideal S4096x1024 .f32) : FVec Ideal S4096x1024 .f32 :=
  addf x (Host.dotGeneral dot_S4096x1024_S1024x1024_S4096x1024_1_0_0_1_n_n none a w)

theorem refOut_at (a : FVec Ideal S4096x1024 .f32) (w : FVec Ideal S1024x1024 .f32) (x : FVec Ideal S4096x1024 .f32)
    (s : Fin 4096) (d : Fin 1024) :
    refOut a w x (ix2 s d) = (x (ix2 s d) + ∑ j : Fin 1024, (a (ix2 s j) : EReal) * w (ix2 j d) : EReal) := by
  pointwise [refOut]
end

theorem algebraic18 : Cert.algebraic_Kernel18Ideal_Reference18Ideal := by
  intro m g m' g' _ hagree
  refine ⟨fun c => Cert.Kernel18Ideal.Out.arr m c,
    (θ_run Cert.Kernel18Ideal.defs _ _).mono (fun r h c => ⟨(h c).1.trans (Cert.Kernel18Ideal.Out.final m c), (h c).2⟩)
      (Cert.Kernel18Ideal.Value.run_blocks m g),
    (θ_run Cert.Reference18Ideal.defs _ _).mono (fun r h c => ?_) (Cert.Reference18Ideal.Value.run m' g')⟩
  obtain ⟨a0, a1, a2, a3, a4, a5⟩ := hagree c
  have h0 := (h c).1
  rw [a0, a1, a5] at h0
  exact ⟨h0.trans (funext (by_ix2 fun s d => refOut_at _ _ _ s d)), (h c).2⟩

theorem frame_reference18 : Cert.quiescent_Reference18Ideal := fun m g _ =>
  (θ_run Cert.Reference18Ideal.defs _ _).mono (fun r h => ⟨fun c => (h c).2, sem_eq_zero_of_no_sems (by decide) r.2⟩)
    (Cert.Reference18Ideal.Value.run m g)

end Cert.AttnOut

end
-- ==== Proof.AttnSpec.lean ====
/- The gradients of the cross attention's queries, keys and values, as functions of the arrays.

   `dy` is the derivative by the attention's output rows (one row a token), `q` the tokens' queries, `k` and `v` the memory's
   keys and values, `wo` the output projection. Four heads of 256 columns each: column `256 h + d` is head `h`'s lane `d`. -/
module

public import proofs.«01_k».proof.Proof.SoftmaxRow

@[expose] public section

noncomputable section

namespace Cert.Attn

open Idealize.ShloMosaic Cert.SoftmaxRow

/-- An array of extended reals with `a` rows of `b`. -/
abbrev Mat (a b : ℕ) : Type := (⟨2, ![a, b]⟩ : Shape).Idx → EReal

/-- The scores' scale, 1/16, as its word reads. -/
def scale : EReal := Ideal.ofBits .f32 0x3D800000#32

/-- Head `h`'s lane `d` among the 1024 columns. -/
def col (h : Fin 4) (d : Fin 256) : Fin 1024 := ⟨h.val * 256 + d.val, by omega⟩

/-- The head of a column. -/
def hd (x : Fin 1024) : Fin 4 := ⟨x.val / 256, by omega⟩

/-- The lane of a column in its head. -/
def ln (x : Fin 1024) : Fin 256 := ⟨x.val % 256, by omega⟩

theorem col_hd_ln (x : Fin 1024) : col (hd x) (ln x) = x := Fin.ext (by simp only [col, hd, ln]; omega)
theorem hd_col (h : Fin 4) (d : Fin 256) : hd (col h d) = h := Fin.ext (by simp only [col, hd]; omega)
theorem ln_col (h : Fin 4) (d : Fin 256) : ln (col h d) = d := Fin.ext (by simp only [col, ln]; omega)

section
variable {n : ℕ} (dy q : Mat n 1024) (k v : Mat 256 1024) (wo : Mat 1024 1024)

/-- Token `r`'s scores under head `h`. -/
def sc (h : Fin 4) (r : Fin n) : Fin 256 → EReal :=
  score scale (fun d => q (ix2 r (col h d))) (fun j d => k (ix2 j (col h d)))

/-- The derivative by the head's output, lane `d`. -/
def dOut (h : Fin 4) (r : Fin n) (d : Fin 256) : EReal := ∑ x : Fin 1024, dy (ix2 r x) * wo (ix2 (col h d) x)

/-- The derivative by the head's weights. -/
def dProb (h : Fin 4) (r : Fin n) (j : Fin 256) : EReal := ∑ d : Fin 256, dOut dy wo h r d * v (ix2 j (col h d))

/-- The derivative by the head's products of queries and keys. -/
def dSc (h : Fin 4) (r : Fin n) (j : Fin 256) : EReal := dscore (sc q k h r) (dProb dy v wo h r) j * scale

/-- The queries' gradient. -/
def dQ (r : Fin n) (x : Fin 1024) : EReal := ∑ j : Fin 256, dSc dy q k v wo (hd x) r j * k (ix2 j x)

/-- Token `r`'s part of the keys' gradient. -/
def dKrow (r : Fin n) (j : Fin 256) (x : Fin 1024) : EReal := dSc dy q k v wo (hd x) r j * q (ix2 r x)

/-- Token `r`'s part of the values' gradient. -/
def dVrow (r : Fin n) (j : Fin 256) (x : Fin 1024) : EReal := prob (sc q k (hd x) r) j * dOut dy wo (hd x) r (ln x)
end

end Cert.Attn

end
-- ==== Proof.RefSteps.lean ====
/- The reference's gradient, one operation after another, each read at an index. -/
module

public import proofs.«01_k».proof.Proof.Gen.ReferenceIdeal.Run
public import proofs.«01_k».proof.Proof.AttnSpec
public import Idealize.ShloMosaic.Lib.Tactic
public import Idealize.ShloMosaic.Lib.Pointwise

@[expose] public section

set_option maxRecDepth 16384

noncomputable section

namespace Cert.ReferenceIdeal.Steps

open Cert.ReferenceIdeal Cert.ReferenceIdeal.Gen Idealize.ShloMosaic Idealize.ShloMosaic.TcCoe Idealize.SL.Sem
open Cert.Attn Cert.SoftmaxRow

abbrev A3 : Type := FVec Ideal S4x4096x256 .f32
abbrev A2 : Type := FVec Ideal S4x4096 .f32

/-- The scaled scores, a block a head. -/
def scores (q : FVec Ideal S4096x1024 .f32) (k : FVec Ideal S256x1024 .f32) : A3 :=
  mulf (Host.dotGeneral dot_S4096x4x256_S256x4x256_S4x4096x256_2_2_0_0_1_1 none
    (shapeCast S4096x4x256 q shapeCasts_S4096x1024_S4096x4x256) (shapeCast S256x4x256 k shapeCasts_S256x1024_S256x4x256))
    (broadcastInDim S4x4096x256 ![] bcast_S_S4x4096x256 (constant S_ .f32 0x3D800000#32))

/-- The rows' greatest scores. -/
def rowMax (s : A3) : A2 :=
  Host.reduce FloatOps.maximumf s (constant S_ .f32 0xFF800000#32) reducesTo_S4x4096x256_S4x4096_d2 h_S_

/-- The exponentials of the scores less `m`, row by row. -/
def expsOf (s : A3) (m : A2) : A3 :=
  Host.exp (subf s (broadcastInDim S4x4096x256 ![0, 1, 2] bcast_S4x4096x1_S4x4096x256_0_1_2
    (broadcastInDim S4x4096x1 ![0, 1] bcast_S4x4096_S4x4096x1_0_1
      (maximumf (broadcastInDim S4x4096 ![] bcast_S_S4x4096 (constant S_ .f32 0xFF800000#32)) m))))

/-- The exponentials of the scores less their rows' greatest. -/
def exps (s : A3) : A3 := expsOf s (rowMax s)

/-- Their sums. -/
def sums (e : A3) : FVec Ideal S4x4096x1 .f32 :=
  broadcastInDim S4x4096x1 ![0, 1] bcast_S4x4096_S4x4096x1_0_1
    (Host.reduceAdd e (constant S_ .f32 0x00000000#32) reducesTo_S4x4096x256_S4x4096_d2 h_S_)

/-- The weights. -/
def probs (e : A3) : A3 :=
  Host.divf e (broadcastInDim S4x4096x256 ![0, 1, 2] bcast_S4x4096x1_S4x4096x256_0_1_2 (sums e))

/-- The derivative by the heads' outputs, `[head, lane, token]`. -/
def dOuts (dy : FVec Ideal S4096x1024 .f32) (wo : FVec Ideal S1024x1024 .f32) : FVec Ideal S4x256x4096 .f32 :=
  transpose S4x256x4096 [1, 2, 0] (shapeCast S4096x4x256
    (Host.dotGeneral dot_S4096x1024_S1024x1024_S4096x1024_1_1_0_0_n_n none dy wo) shapeCasts_S4096x1024_S4096x4x256)
    transposes_S4096x4x256_S4x256x4096_1_2_0

/-- The derivative by the weights. -/
def dProbs (o : FVec Ideal S4x256x4096 .f32) (v : FVec Ideal S256x1024 .f32) : A3 :=
  Host.dotGeneral dot_S4x256x4096_S256x4x256_S4x4096x256_1_2_2_0_0_1 none o (shapeCast S256x4x256 v shapeCasts_S256x1024_S256x4x256)

/-- The derivative by the scores' products. -/
def dScores (g e : A3) : A3 :=
  mulf (mulf (addf
    (Host.divf g (broadcastInDim S4x4096x256 ![0, 1, 2] bcast_S4x4096x1_S4x4096x256_0_1_2 (sums e)))
    (broadcastInDim S4x4096x256 ![0, 1] bcast_S4x4096_S4x4096x256_0_1
      (Host.reduceAdd (Host.negf (shapeCast S4x4096x1
        (Host.reduceAdd (mulf (mulf g (broadcastInDim S4x4096x256 ![0, 1, 2] bcast_S4x4096x1_S4x4096x256_0_1_2
          (Host.divf (broadcastInDim S4x4096x1 ![] bcast_S_S4x4096x1 (constant S_ .f32 0x3F800000#32)) (mulf (sums e) (sums e))))) e)
          (constant S_ .f32 0x00000000#32) reducesTo_S4x4096x256_S4x4096_d2 h_S_) shapeCasts_S4x4096_S4x4096x1))
        (constant S_ .f32 0x00000000#32) reducesTo_S4x4096x1_S4x4096_d2 h_S_))) e)
    (broadcastInDim S4x4096x256 ![] bcast_S_S4x4096x256 (constant S_ .f32 0x3D800000#32))

theorem ofBits_ninf : Ideal.ofBits .f32 0xFF800000#32 = ⊥ := by simp [Ideal.ofBits, Ideal.ieee]

theorem scores_apply (q : FVec Ideal S4096x1024 .f32) (k : FVec Ideal S256x1024 .f32) (h : Fin 4) (r : Fin 4096) (j : Fin 256) :
    scores q k (ix3 h r j) = sc q k h r j := by
  pointwise [scores]
  rfl

/-- The greatest along the last axis, whatever the sizes. -/
theorem hostMax_apply {a b n : ℕ} (s : FVec Ideal ⟨3, ![a, b, n]⟩ .f32) (w : BitVec 32)
    (h : (⟨3, ![a, b, n]⟩ : Shape).ReducesTo [2] ⟨2, ![a, b]⟩) (hu : 0 < (⟨0, ![]⟩ : Shape).numel) (i : Fin a) (j : Fin b) :
    Host.reduce FloatOps.maximumf s (constant ⟨0, ![]⟩ .f32 w) h hu (ix2 i j)
      = Finset.univ.fold max (Ideal.ofBits .f32 w) (fun x => s (ix3 i j x)) := by
  pointwise

theorem rowMax_apply' (s : A3) (h : Fin 4) (r : Fin 4096) :
    rowMax s (ix2 h r) = Finset.univ.fold max (Ideal.ofBits .f32 0xFF800000#32) (fun i => s (ix3 h r i)) := by
  unfold rowMax
  exact hostMax_apply s 0xFF800000#32 reducesTo_S4x4096x256_S4x4096_d2 h_S_ h r

theorem rowMax_apply (s : A3) (h : Fin 4) (r : Fin 4096) :
    rowMax s (ix2 h r) = Finset.univ.fold max ⊥ (fun i => s (ix3 h r i)) :=
  Eq.trans (rowMax_apply' s h r) (congrArg (fun b : EReal => Finset.univ.fold max b (fun i => s (ix3 h r i))) ofBits_ninf)

theorem expsOf_apply (s : A3) (m : A2) (h : Fin 4) (r : Fin 4096) (j : Fin 256) :
    expsOf s m (ix3 h r j) = Ideal.exp (s (ix3 h r j) - m (ix2 h r)) := by
  pointwise [expsOf]
  rw [ofBits_ninf, max_eq_right bot_le]

theorem exps_apply (s : A3) (h : Fin 4) (r : Fin 4096) (j : Fin 256) :
    exps s (ix3 h r j) = ex (fun i => s (ix3 h r i)) j :=
  Eq.trans (expsOf_apply s (rowMax s) h r j)
    (congrArg (fun b : EReal => Ideal.exp (s (ix3 h r j) - b)) (rowMax_apply s h r))

theorem sums_apply (s : A3) (h : Fin 4) (r : Fin 4096) (j : Fin 1) :
    sums s (ix3 h r j) = ∑ i : Fin 256, s (ix3 h r i) := by
  pointwise [sums]

theorem probs_apply (s : A3) (h : Fin 4) (r : Fin 4096) (j : Fin 256) :
    probs s (ix3 h r j) = Ideal.div (s (ix3 h r j)) (∑ i : Fin 256, s (ix3 h r i)) := by
  pointwise [probs]
  rw [sums_apply]

theorem dOuts_apply (dy : FVec Ideal S4096x1024 .f32) (wo : FVec Ideal S1024x1024 .f32) (h : Fin 4) (d : Fin 256) (r : Fin 4096) :
    dOuts dy wo (ix3 h d r) = dOut dy wo h r d := by
  pointwise [dOuts]
  rfl

theorem dProbs_apply (o : FVec Ideal S4x256x4096 .f32) (v : FVec Ideal S256x1024 .f32) (h : Fin 4) (r : Fin 4096) (j : Fin 256) :
    dProbs o v (ix3 h r j) = ∑ d : Fin 256, o (ix3 h d r) * v (ix2 j (col h d)) := by
  pointwise [dProbs]
  rfl

theorem dScores_apply (g e : A3) (h : Fin 4) (r : Fin 4096) (j : Fin 256) :
    dScores g e (ix3 h r j) = (Ideal.div (g (ix3 h r j)) (∑ i : Fin 256, e (ix3 h r i))
      + -(∑ i : Fin 256, g (ix3 h r i) * Ideal.div 1 ((∑ i : Fin 256, e (ix3 h r i)) * ∑ i : Fin 256, e (ix3 h r i)) * e (ix3 h r i)))
        * e (ix3 h r j) * scale := by
  pointwise [dScores]
  simp only [sums_apply, Finset.univ_unique, Finset.sum_singleton]
  rfl

/-- The queries' gradient of the scores' derivative `s`. -/
def outQ (s : A3) (k : FVec Ideal S256x1024 .f32) : FVec Ideal S4096x1024 .bf16 :=
  truncf .bf16 (shapeCast S4096x1024 (transpose S4096x4x256 [1, 0, 2]
    (Host.dotGeneral dot_S4x4096x256_S256x4x256_S4x4096x256_2_0_1_2_0_1 none s
      (shapeCast S256x4x256 k shapeCasts_S256x1024_S256x4x256) : FVec Ideal S4x4096x256 .f32) transposes_S4x4096x256_S4096x4x256_1_0_2)
    shapeCasts_S4096x4x256_S4096x1024 : FVec Ideal S4096x1024 .f32) bitsLt_bf16_f32

/-- The keys' gradient. -/
def outK (s : A3) (q : FVec Ideal S4096x1024 .f32) : FVec Ideal S256x1024 .f32 :=
  shapeCast S256x1024 (transpose S256x4x256 [1, 0, 2]
    (Host.dotGeneral dot_S4x4096x256_S4096x4x256_S4x256x256_1_0_2_2_0_1 none s
      (shapeCast S4096x4x256 q shapeCasts_S4096x1024_S4096x4x256) : FVec Ideal S4x256x256 .f32) transposes_S4x256x256_S256x4x256_1_0_2)
    shapeCasts_S256x4x256_S256x1024

/-- The values' gradient. -/
def outV (o : FVec Ideal S4x256x4096 .f32) (p : A3) : FVec Ideal S256x1024 .f32 :=
  shapeCast S256x1024 (transpose S256x4x256 [2, 0, 1]
    (Host.dotGeneral dot_S4x256x4096_S4x4096x256_S4x256x256_2_1_1_2_0_0 none o p : FVec Ideal S4x256x256 .f32)
    transposes_S4x256x256_S256x4x256_2_0_1) shapeCasts_S256x4x256_S256x1024

theorem outQ_apply (s : A3) (k : FVec Ideal S256x1024 .f32) (r : Fin 4096) (x : Fin 1024) :
    outQ s k (ix2 r x) = ∑ j : Fin 256, s (ix3 (hd x) r j) * k (ix2 j x) := by
  pointwise [outQ]
  rfl

theorem outK_apply (s : A3) (q : FVec Ideal S4096x1024 .f32) (j : Fin 256) (x : Fin 1024) :
    outK s q (ix2 j x) = ∑ r : Fin 4096, s (ix3 (hd x) r j) * q (ix2 r x) := by
  pointwise [outK]
  rfl

theorem outV_apply (o : FVec Ideal S4x256x4096 .f32) (p : A3) (j : Fin 256) (x : Fin 1024) :
    outV o p (ix2 j x) = ∑ r : Fin 4096, o (ix3 (hd x) (ln x) r) * p (ix3 (hd x) r j) := by
  pointwise [outV]
  rfl

section
variable (m : (ℓ : Loc nD τ sig) → Buf (Elt Ideal) ℓ) (c : Dev nD)

/-- The arguments, as arrays of extended reals. -/
abbrev dy : FVec Ideal S4096x1024 .f32 := m ((c.tc : Thread nD τ).loc main_arg0)
abbrev q : FVec Ideal S4096x1024 .f32 := m ((c.tc : Thread nD τ).loc main_arg1)
abbrev k : FVec Ideal S256x1024 .f32 := m ((c.tc : Thread nD τ).loc main_arg2)
abbrev v : FVec Ideal S256x1024 .f32 := m ((c.tc : Thread nD τ).loc main_arg3)
abbrev wo : FVec Ideal S1024x1024 .f32 := m ((c.tc : Thread nD τ).loc main_arg7)

theorem res0_eq : Value.res_out0 m c =
    outQ (dScores (dProbs (dOuts (dy m c) (wo m c)) (v m c)) (exps (scores (q m c) (k m c)))) (k m c) := by
  unfold Value.res_out0 Value.res_main_v65
  rfl

theorem res1_eq : Value.res_out1 m c =
    outK (dScores (dProbs (dOuts (dy m c) (wo m c)) (v m c)) (exps (scores (q m c) (k m c)))) (q m c) := by
  unfold Value.res_out1 Value.res_main_v63
  rfl
end

end Cert.ReferenceIdeal.Steps

end
-- ==== Proof.AttnHead.lean ====
/- What the kernel's body computes for one head and one block of 512 tokens, in the arrays' terms.

   The four heads' bodies are spelt by different names and are one and the same computation; the names of head 0 are read here. -/
module

public import proofs.«01_k».proof.Proof.Gen.KernelIdeal.Value
public import proofs.«01_k».proof.Proof.AttnSpec
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.SoftmaxRow

theorem ofBits_ninf : Ideal.ofBits .f32 0xFF800000#32 = ⊥ := by simp [Ideal.ofBits, Ideal.ieee]

/-- Head `h`'s lane `d` of a block's row, as the block of columns at `256 h` places it. -/
theorem idx_col {n : ℕ} (h : Fin 4) (o : ℕ) (ho : o = h.val * 256)
    (inb : ∀ a, (![0, o] : Fin 2 → ℕ) a + (![n, 256] : Fin 2 → ℕ) a ≤ (⟨2, ![n, 1024]⟩ : Shape).size a) (r : Fin n) (d : Fin 256) :
    (Rect.unit (s := ⟨2, ![n, 1024]⟩) ![0, o] ![n, 256] inb).idx (ix2 r d) = ix2 r (col h d) := by
  funext a
  refine Fin.ext ((Rect.idx_unit_val _ _ _ _ _).trans ?_)
  subst ho
  match a with
  | 0 => exact Nat.zero_add _
  | 1 => rfl

/-- The loads of one head are those parts of the arrays that belong to head `h` and to the tokens `R`. -/
structure Loads (dy q : Mat 4096 1024) (k v : Mat 256 1024) (wo : Mat 1024 1024) (h : Fin 4) (R : Fin 512 → Fin 4096)
    (X : Vec Ideal S512x1024 .f32) (Q : Vec Ideal S512x256 .bf16) (K V : Vec Ideal S256x256 .bf16)
    (W : Vec Ideal S1x256x1024 .bf16) : Prop where
  hX : ∀ r x, X (ix2 r x) = dy (ix2 (R r) x)
  hQ : ∀ r d, Q (ix2 r d) = q (ix2 (R r) (col h d))
  hK : ∀ j d, K (ix2 j d) = k (ix2 j (col h d))
  hV : ∀ j d, V (ix2 j d) = v (ix2 j (col h d))
  hW : ∀ d x, W (ix3 0 d x) = wo (ix2 (col h d) x)

section
variable {dy q : Mat 4096 1024} {k v : Mat 256 1024} {wo : Mat 1024 1024} {h : Fin 4} {R : Fin 512 → Fin 4096}
  {X : Vec Ideal S512x1024 .f32} {Q : Vec Ideal S512x256 .bf16} {K V : Vec Ideal S256x256 .bf16} {W : Vec Ideal S1x256x1024 .bf16}

theorem prob_at (H : Loads dy q k v wo h R X Q K V W) (r : Fin 512) (j : Fin 256) :
    k0_pay11 (F := Ideal) Q K (ix2 r j) = prob (sc q k h (R r)) j := by
  pointwise [k0_pay11, k0_pay7, k0_pay8]
  simp only [H.hQ, H.hK, ofBits_ninf]
  rfl

theorem dOut_at (H : Loads dy q k v wo h R X Q K V W) (r : Fin 512) (d : Fin 256) :
    k0_pay10 (F := Ideal) X W (ix2 r d) = dOut dy wo h (R r) d := by
  pointwise [k0_pay10, k0_pay6]
  simp only [H.hX, H.hW]
  rfl

theorem dSc_at (H : Loads dy q k v wo h R X Q K V W) (r : Fin 512) (j : Fin 256) :
    k0_pay13 (F := Ideal) (k0_pay9 V) (k0_pay10 X W) (k0_pay11 Q K) (constant S512x256 .f32 0#32) (ix2 r j)
      = dSc dy q k v wo h (R r) j := by
  pointwise [k0_pay13, k0_pay9]
  simp only [dOut_at H, prob_at H, H.hV]
  rfl

theorem dQ_at (H : Loads dy q k v wo h R X Q K V W) (r : Fin 512) (d : Fin 256) :
    k0_pay14 (F := Ideal) (k0_pay8 K) (k0_pay9 V) (k0_pay10 X W) (k0_pay11 Q K) (constant S512x256 .f32 0#32) (ix2 r d)
      = dQ dy q k v wo (R r) (col h d) := by
  unfold dQ
  rw [hd_col]
  simp only [← dSc_at H, ← H.hK]
  pointwise [k0_pay14, k0_pay8]

theorem dK_at (H : Loads dy q k v wo h R X Q K V W) (acc : FVec Ideal S256x256 .f32) (j d : Fin 256) :
    k0_pay15 (F := Ideal) (k0_pay7 Q) (k0_pay9 V) (k0_pay10 X W) (k0_pay11 Q K) (constant S512x256 .f32 0#32) acc (ix2 j d)
      = acc (ix2 j d) + ∑ r : Fin 512, dKrow dy q k v wo (R r) j (col h d) := by
  unfold dKrow
  rw [hd_col]
  simp only [← dSc_at H, ← H.hQ]
  pointwise [k0_pay15, k0_pay7]

theorem dV_at (H : Loads dy q k v wo h R X Q K V W) (acc : FVec Ideal S256x256 .f32) (j d : Fin 256) :
    k0_pay12 (F := Ideal) X Q K W acc (ix2 j d)
      = acc (ix2 j d) + ∑ r : Fin 512, dVrow dy q k wo (R r) j (col h d) := by
  unfold dVrow
  rw [hd_col, ln_col]
  simp only [← prob_at H, ← dOut_at H]
  pointwise [k0_pay12]
end

end Cert.KernelIdeal.Attn

end
-- ==== Proof.AttnFwd.lean ====
/- The memory attention of the forward pass: what the call leaves, and that it is the reference's.

   A block of 512 tokens is worked on one head at a time, each head's 256 columns stored on their own. The four heads' bodies
   are one and the same computation; it is read here by the names of head 0. -/
module

public import proofs.«01_k».proof.Defs
public import proofs.«01_k».proof.Proof.RefSteps
public import proofs.«01_k».proof.Proof.AttnHead
public import proofs.«01_k».proof.Proof.FfnLayout
public import proofs.«01_k».proof.Proof.Gen.Kernel20Ideal.Value
public import proofs.«01_k».proof.Proof.Gen.Reference20Ideal.Run
public import Idealize.ShloMosaic.Lib.Claim
public import Idealize.ShloMosaic.Adequacy
public import Idealize.ShloMosaic.Init

@[expose] public section

set_option maxRecDepth 16384

noncomputable section

namespace Cert.Kernel20Ideal.Heads

open Cert.Kernel20Ideal Cert.Kernel20Ideal.Gen Idealize.ShloMosaic Idealize.ShloMosaic.TcCoe Idealize.SL.Sem
open Cert.Attn Cert.SoftmaxRow
open Cert.KernelIdeal.Attn (idx_col ofBits_ninf)
open Cert.Ffn (by_ix2)

variable (m : (ℓ : Loc nD τ sig) → Buf (Elt Ideal) ℓ) (c : Dev nD)

/-- The arguments, as arrays of extended reals. -/
abbrev q : FVec Ideal S4096x1024 .f32 := m ((c : Thread nD τ).loc main_arg0)
abbrev k : FVec Ideal S256x1024 .f32 := m ((c : Thread nD τ).loc main_arg1)
abbrev v : FVec Ideal S256x1024 .f32 := m ((c : Thread nD τ).loc main_arg2)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .bf16) (ix2 r x) = q m c (ix2 (row t r) x) := by
  blk_ext! [iblk, V, idx t, row]

theorem blk1 (t : Fin cfg0.N) (r : Fin 256) (x : Fin 1024) :
    (iblk m c 1 t : Vec Ideal S256x1024 .bf16) (ix2 r x) = k m c (ix2 r x) := by
  blk_ext! [iblk, V, idx t]

theorem blk2 (t : Fin cfg0.N) (r : Fin 256) (x : Fin 1024) :
    (iblk m c 2 t : Vec Ideal S256x1024 .bf16) (ix2 r x) = v m c (ix2 r x) := by
  blk_ext! [iblk, V, idx t]

/-- Head `h`'s output at a token and a lane: its weights' sum of the values. -/
def out (s : Fin 4096) (h : Fin 4) (d : Fin 256) : EReal :=
  ∑ j : Fin 256, prob (sc (q m c) (k m c) h s) j * v m c (ix2 j (col h d))

/-- One head's body, on its columns of the blocks. -/
theorem head_at (t : Fin cfg0.N) (h : Fin 4) (Q : Vec Ideal S512x256 .bf16) (K V : Vec Ideal S256x256 .bf16)
    (hQ : ∀ r d, Q (ix2 r d) = q m c (ix2 (row t r) (col h d))) (hK : ∀ j d, K (ix2 j d) = k m c (ix2 j (col h d)))
    (hV : ∀ j d, V (ix2 j d) = v m c (ix2 j (col h d))) (r : Fin 512) (d : Fin 256) :
    k0_pay2 (F := Ideal) Q K V (ix2 r d) = out m c (row t r) h d := by
  pointwise [k0_pay2]
  simp only [hQ, hK, hV, ofBits_ninf]
  rfl

/-- The result: every column is the output of the head it belongs to. -/
def arr (i : S4096x1024.Idx) : EReal := out m c (i 0) (hd (i 1)) (ln (i 1))

/-- Point `t`'s block of it. -/
def blk (t : Fin cfg0.N) (y : S512x1024.Idx) : EReal := out m c (row t (y 0)) (hd (y 1)) (ln (y 1))

/-- A store that is head `h`'s body leaves the head's part of the block. -/
theorem store_eq (t : Fin cfg0.N) (h : Fin 4) (o : ℕ) (ho : o = h.val * 256)
    (inb : ∀ a, (![0, o] : Fin 2 → ℕ) a + (![512, 256] : Fin 2 → ℕ) a ≤ S512x1024.size a)
    {Q : Vec Ideal S512x256 .bf16} {K V : Vec Ideal S256x256 .bf16}
    (hQ : ∀ r d, Q (ix2 r d) = q m c (ix2 (row t r) (col h d))) (hK : ∀ j d, K (ix2 j d) = k m c (ix2 j (col h d)))
    (hV : ∀ j d, V (ix2 j d) = v m c (ix2 j (col h d))) (x : S512x256.Idx) :
    k0_pay2 (F := Ideal) Q K V x = blk m c t ((Rect.unit (s := S512x1024) ![0, o] ![512, 256] inb).emb x) := by
  revert x
  refine by_ix2 fun r d => (head_at m c t h Q K V hQ hK hV r d).trans ?_
  refine Eq.trans ?_ (congrArg (blk m c t) (idx_col h o ho inb r d)).symm
  show _ = out m c (row t r) (hd (col h d)) (ln (col h d))
  rw [hd_col, ln_col]

theorem store0 (t : Fin cfg0.N) (x : S512x256.Idx) :
    k0_pay2 (F := Ideal) (View.ld (iblk m c 0 t : Vec Ideal S512x1024 .bf16) (Rect.unit ![0, 0] ![512, 256] inb_S512x1024_S512x256_0_0)) (View.ld (iblk m c 1 t : Vec Ideal S256x1024 .bf16) (Rect.unit ![0, 0] ![256, 256] inb_S256x1024_S256x256_0_0)) (View.ld (iblk m c 2 t : Vec Ideal S256x1024 .bf16) (Rect.unit ![0, 0] ![256, 256] inb_S256x1024_S256x256_0_0)) x
      = blk m c t ((Rect.unit (s := S512x1024) ![0, 0] ![512, 256] inb_S512x1024_S512x256_0_0).emb x) := by
  refine store_eq m c t 0 _ rfl _ ?_ ?_ ?_ x
  · exact fun r d => (congrArg (iblk m c 0 t : Vec Ideal S512x1024 .bf16) (idx_col 0 _ rfl _ r d)).trans (blk0 m c t r (col 0 d))
  · exact fun j d => (congrArg (iblk m c 1 t : Vec Ideal S256x1024 .bf16) (idx_col 0 _ rfl _ j d)).trans (blk1 m c t j (col 0 d))
  · exact fun j d => (congrArg (iblk m c 2 t : Vec Ideal S256x1024 .bf16) (idx_col 0 _ rfl _ j d)).trans (blk2 m c t j (col 0 d))

theorem store1 (t : Fin cfg0.N) (x : S512x256.Idx) :
    k0_pay5 (F := Ideal) (k0_pay3 (View.ld (iblk m c 0 t : Vec Ideal S512x1024 .bf16) (Rect.unit ![0, 256] ![512, 256] inb_S512x1024_S512x256_0_256)) (View.ld (iblk m c 1 t : Vec Ideal S256x1024 .bf16) (Rect.unit ![0, 256] ![256, 256] inb_S256x1024_S256x256_0_256))) (k0_pay4 (View.ld (iblk m c 0 t : Vec Ideal S512x1024 .bf16) (Rect.unit ![0, 256] ![512, 256] inb_S512x1024_S512x256_0_256)) (View.ld (iblk m c 1 t : Vec Ideal S256x1024 .bf16) (Rect.unit ![0, 256] ![256, 256] inb_S256x1024_S256x256_0_256))) (View.ld (iblk m c 2 t : Vec Ideal S256x1024 .bf16) (Rect.unit ![0, 256] ![256, 256] inb_S256x1024_S256x256_0_256)) x
      = blk m c t ((Rect.unit (s := S512x1024) ![0, 256] ![512, 256] inb_S512x1024_S512x256_0_256).emb x) := by
  refine store_eq m c t 1 _ rfl _ ?_ ?_ ?_ x
  · exact fun r d => (congrArg (iblk m c 0 t : Vec Ideal S512x1024 .bf16) (idx_col 1 _ rfl _ r d)).trans (blk0 m c t r (col 1 d))
  · exact fun j d => (congrArg (iblk m c 1 t : Vec Ideal S256x1024 .bf16) (idx_col 1 _ rfl _ j d)).trans (blk1 m c t j (col 1 d))
  · exact fun j d => (congrArg (iblk m c 2 t : Vec Ideal S256x1024 .bf16) (idx_col 1 _ rfl _ j d)).trans (blk2 m c t j (col 1 d))

theorem store2 (t : Fin cfg0.N) (x : S512x256.Idx) :
    k0_pay6 (F := Ideal) (View.ld (iblk m c 0 t : Vec Ideal S512x1024 .bf16) (Rect.unit ![0, 512] ![512, 256] inb_S512x1024_S512x256_0_512)) (View.ld (iblk m c 1 t : Vec Ideal S256x1024 .bf16) (Rect.unit ![0, 512] ![256, 256] inb_S256x1024_S256x256_0_512)) (View.ld (iblk m c 2 t : Vec Ideal S256x1024 .bf16) (Rect.unit ![0, 512] ![256, 256] inb_S256x1024_S256x256_0_512)) x
      = blk m c t ((Rect.unit (s := S512x1024) ![0, 512] ![512, 256] inb_S512x1024_S512x256_0_512).emb x) := by
  refine store_eq m c t 2 _ rfl _ ?_ ?_ ?_ x
  · exact fun r d => (congrArg (iblk m c 0 t : Vec Ideal S512x1024 .bf16) (idx_col 2 _ rfl _ r d)).trans (blk0 m c t r (col 2 d))
  · exact fun j d => (congrArg (iblk m c 1 t : Vec Ideal S256x1024 .bf16) (idx_col 2 _ rfl _ j d)).trans (blk1 m c t j (col 2 d))
  · exact fun j d => (congrArg (iblk m c 2 t : Vec Ideal S256x1024 .bf16) (idx_col 2 _ rfl _ j d)).trans (blk2 m c t j (col 2 d))

theorem store3 (t : Fin cfg0.N) (x : S512x256.Idx) :
    k0_pay1 (F := Ideal) (k0_pay7 (View.ld (iblk m c 0 t : Vec Ideal S512x1024 .bf16) (Rect.unit ![0, 768] ![512, 256] inb_S512x1024_S512x256_0_768)) (View.ld (iblk m c 1 t : Vec Ideal S256x1024 .bf16) (Rect.unit ![0, 768] ![256, 256] inb_S256x1024_S256x256_0_768))) (Scalar.ofBits .f32 0x3D800000#32) (View.ld (iblk m c 2 t : Vec Ideal S256x1024 .bf16) (Rect.unit ![0, 768] ![256, 256] inb_S256x1024_S256x256_0_768)) x
      = blk m c t ((Rect.unit (s := S512x1024) ![0, 768] ![512, 256] inb_S512x1024_S512x256_0_768).emb x) := by
  refine store_eq m c t 3 _ rfl _ ?_ ?_ ?_ x
  · exact fun r d => (congrArg (iblk m c 0 t : Vec Ideal S512x1024 .bf16) (idx_col 3 _ rfl _ r d)).trans (blk0 m c t r (col 3 d))
  · exact fun j d => (congrArg (iblk m c 1 t : Vec Ideal S256x1024 .bf16) (idx_col 3 _ rfl _ j d)).trans (blk1 m c t j (col 3 d))
  · exact fun j d => (congrArg (iblk m c 2 t : Vec Ideal S256x1024 .bf16) (idx_col 3 _ rfl _ j d)).trans (blk2 m c t j (col 3 d))

theorem final : (dats m 0 c).arrAt 3 cfg0.N = arr m c :=
  (dats m 0 c).arrAt_eq_of_covers 3 _ (by decide +kernel) fun t hf y => by
    revert y
    refine by_ix2 fun r d => ?_
    blk_simp
    rw [after0_3]
    frame_out
    refine (View.canon_append_of_piecesOf (Val := Elt Ideal) (e := .bf16) (blk m c t) [] [_, _, _, _]
      ⟨store3 m c t, store2 m c t, store1 m c t, store0 m c t, trivial⟩ (ix2 r d)
      (View.cover_of_tiledL _ ![512, 256] (by sl_kernel_rfl) (ix2 r d))).trans ?_
    show arr m c (ix2 (row t r) d) = _
    refine congrArg (arr m c) ?_
    blk_ext [idx t, row]

end Cert.Kernel20Ideal.Heads

namespace Cert.AttnFwd

open Idealize.ShloMosaic Idealize.SL.Sem Cert.Attn Cert.SoftmaxRow
open Cert.ReferenceIdeal.Steps (scores exps probs scores_apply exps_apply probs_apply)
open Cert.Ffn (by_ix2)

section
open Cert.Reference20Ideal Cert.Reference20Ideal.Gen

/-- The heads' outputs as the reference computes them, from the values and the weights. -/
def heads (v : FVec Ideal S256x1024 .f32) (p : FVec Ideal S4x4096x256 .f32) : FVec Ideal S4096x1024 .bf16 :=
  truncf .bf16 (shapeCast S4096x1024 (transpose S4096x4x256 [2, 0, 1] (Host.dotGeneral dot_S256x4x256_S4x4096x256_S4x256x4096_0_2_2_1_1_0 none (shapeCast S256x4x256 v shapeCasts_S256x1024_S256x4x256) p : FVec Ideal S4x256x4096 .f32) transposes_S4x256x4096_S4096x4x256_2_0_1) shapeCasts_S4096x4x256_S4096x1024 : FVec Ideal S4096x1024 .f32) bitsLt_bf16_f32

theorem heads_at (v : FVec Ideal S256x1024 .f32) (p : FVec Ideal S4x4096x256 .f32) (s : Fin 4096) (x : Fin 1024) :
    heads v p (ix2 s x) = ∑ j : Fin 256, (p (ix3 (hd x) s j) : EReal) * v (ix2 j x) := by
  pointwise [heads]
  exact Finset.sum_congr rfl fun j _ => mul_comm (G := EReal) _ _
end

open Cert.Kernel20Ideal.Heads in
theorem algebraic20 : Cert.algebraic_Kernel20Ideal_Reference20Ideal := by
  intro m g m' g' _ hagree
  refine ⟨fun c => arr m c,
    (θ_run Cert.Kernel20Ideal.defs _ _).mono (fun r h c => ⟨(h c).1.trans (final m c), (h c).2⟩)
      (Cert.Kernel20Ideal.Value.run_blocks m g),
    (θ_run Cert.Reference20Ideal.defs _ _).mono (fun r h c => ?_) (Cert.Reference20Ideal.Value.run m' g')⟩
  obtain ⟨a0, a1, a2⟩ := hagree c
  have h0 := (h c).1
  rw [a0, a1, a2] at h0
  refine ⟨Eq.trans (b := heads (v m c) (probs (exps (scores (q m c) (k m c))))) h0 (funext (by_ix2 fun s x => ?_)), (h c).2⟩
  refine (heads_at (v m c) _ s x).trans ?_
  simp only [probs_apply, exps_apply, scores_apply]
  show _ = out m c s (hd x) (ln x)
  unfold out
  rw [col_hd_ln]
  rfl

theorem frame_reference20 : Cert.quiescent_Reference20Ideal := fun m g _ =>
  (θ_run Cert.Reference20Ideal.defs _ _).mono (fun r h => ⟨fun c => (h c).2, sem_eq_zero_of_no_sems (by decide) r.2⟩)
    (Cert.Reference20Ideal.Value.run m g)

end Cert.AttnFwd

end
-- ==== Proof.MixIn.lean ====
/- The even mixer's normalised rows and input product: what the call leaves in its two results, and that they are the
   reference's. -/
module

public import proofs.«01_k».proof.Proof.FfnUpRef
public import proofs.«01_k».proof.Proof.MixLayout
public import proofs.«01_k».proof.Proof.Gen.Kernel19Ideal.Value
public import proofs.«01_k».proof.Proof.Gen.Reference19Ideal.Run

@[expose] public section

set_option maxRecDepth 16384

noncomputable section

namespace Cert.Kernel19Ideal.MixIn

open Cert.Kernel19Ideal Cert.Kernel19Ideal.Gen Idealize.ShloMosaic Idealize.ShloMosaic.TcCoe Idealize.SL.Sem
open Cert.NormRow
open Cert.Ffn (by_ix2 by_ix3)
open Cert.Mix (unit)

section
variable (X : Vec Ideal S512x1024 .f32) (G : Vec Ideal S1x1024 .f32)

theorem norm_at (r : Fin 512) (d : Fin 1024) :
    k0_pay2 (F := Ideal) X G (ix2 r d) = (X (ix2 r d) * rs (fun j => X (ix2 r j)) * G (ix2 0 d) : EReal) := by
  pointwise [k0_pay2]
  rfl

/-- The block's product with a layer of the weight. -/
def prod (N : FVec Ideal S512x1024 .bf16) (w : Vec Ideal S1x1024x512 .bf16) (r x : Fin 512) : EReal :=
  ∑ k : Fin 1024, (N (ix2 r k) : EReal) * w (ix3 0 k x)

theorem proj_at (N : FVec Ideal S512x1024 .bf16) (w : Vec Ideal S1x1024x512 .bf16) (r x : Fin 512) :
    k0_pay1 (F := Ideal) N w (ix2 r x) = prod N w r x := by
  pointwise [k0_pay1]
  rfl
end

variable (m : (ℓ : Loc nD τ sig) → Buf (Elt Ideal) ℓ) (c : Dev nD)

/-- The arguments, as arrays of extended reals. -/
abbrev xin : FVec Ideal S4096x1024 .f32 := m ((c : Thread nD τ).loc main_arg0)
abbrev gain : FVec Ideal S1024 .f32 := m ((c : Thread nD τ).loc main_arg1)
abbrev win : FVec Ideal S1024x2048 .f32 := m ((c : Thread nD τ).loc main_arg2)

theorem idx : ∀ t : Fin cfg0.N, win0_0.index t = ![t.val, 0] ∧ win0_1.index t = ![0, 0]
    ∧ win0_2.index t = ![0, 0, 0] ∧ win0_3.index t = ![1, 0, 0] ∧ win0_4.index t = ![2, 0, 0] ∧ win0_5.index t = ![3, 0, 0]
    ∧ win0_6.index t = ![t.val, 0] ∧ win0_7.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = xin m c (ix2 (row t r) x) := by
  blk_ext [iblk, V, idx t, row]

theorem blk1 (t : Fin cfg0.N) (x : Fin 1024) :
    (iblk m c 1 t : Vec Ideal S1x1024 .f32) (ix2 0 x) = gain m c (ix1 x) := by
  blk_ext! [iblk, V, idx t]

theorem blk2 (t : Fin cfg0.N) (r : Fin 1024) (x : Fin 512) :
    (iblk m c 2 t : Vec Ideal S1x1024x512 .bf16) (ix3 0 r x) = win m c (ix2 r (unit 0 x)) := by
  blk_ext! [iblk, V, idx t, unit]

theorem blk3 (t : Fin cfg0.N) (r : Fin 1024) (x : Fin 512) :
    (iblk m c 3 t : Vec Ideal S1x1024x512 .bf16) (ix3 0 r x) = win m c (ix2 r (unit 1 x)) := by
  blk_ext! [iblk, V, idx t, unit]

theorem blk4 (t : Fin cfg0.N) (r : Fin 1024) (x : Fin 512) :
    (iblk m c 4 t : Vec Ideal S1x1024x512 .bf16) (ix3 0 r x) = win m c (ix2 r (unit 2 x)) := by
  blk_ext! [iblk, V, idx t, unit]

theorem blk5 (t : Fin cfg0.N) (r : Fin 1024) (x : Fin 512) :
    (iblk m c 5 t : Vec Ideal S1x1024x512 .bf16) (ix3 0 r x) = win m c (ix2 r (unit 3 x)) := by
  blk_ext! [iblk, V, idx t, unit]

/-- The normalised rows, at a token and a column. -/
def nrm (s : Fin 4096) (k : Fin 1024) : EReal := xin m c (ix2 s k) * rs (fun j => xin m c (ix2 s j)) * gain m c (ix1 k)

/-- Point `t`'s normalised block. -/
abbrev nblk (t : Fin cfg0.N) : FVec Ideal S512x1024 .bf16 :=
  k0_pay2 (F := Ideal) (iblk m c 0 t : Vec Ideal S512x1024 .f32) (iblk m c 1 t : Vec Ideal S1x1024 .f32)

theorem nblk_at (t : Fin cfg0.N) (r : Fin 512) (d : Fin 1024) : nblk m c t (ix2 r d) = nrm m c (row t r) d := by
  refine (norm_at _ _ r d).trans ?_
  simp only [blk0 m c t, blk1 m c t]
  rfl

/-- The product, at a token and a column. -/
def proj (s : Fin 4096) (j : Fin 2048) : EReal := ∑ k : Fin 1024, nrm m c s k * win m c (ix2 k j)

/-- Point `t`'s block of the product. -/
def blkP (t : Fin cfg0.N) (y : S512x2048.Idx) : EReal := proj m c (row t (y 0)) (y 1)

/-- The store of columns `p`. -/
theorem store_at (t : Fin cfg0.N) (p : Fin 4) (o : ℕ) (ho : o = p.val * 512)
    (inb : ∀ a, (![0, o] : Fin 2 → ℕ) a + (![512, 512] : Fin 2 → ℕ) a ≤ S512x2048.size a)
    (W : Vec Ideal S1x1024x512 .bf16) (hW : ∀ r x, W (ix3 0 r x) = win m c (ix2 r (unit p x))) (x : S512x512.Idx) :
    k0_pay1 (F := Ideal) (nblk m c t) W x = blkP m c t ((Rect.unit (s := S512x2048) ![0, o] ![512, 512] inb).emb x) := by
  revert x
  refine by_ix2 fun r x => ?_
  have e : (Rect.unit (s := S512x2048) ![0, o] ![512, 512] inb).emb (ix2 r x) = ix2 r (unit p x) := Mix.unit_idx p o ho inb r x
  rw [e]
  exact (proj_at _ _ r x).trans (Finset.sum_congr rfl fun k _ => congrArg₂ (fun a b : EReal => a * b) (nblk_at m c t r k) (hW k x))

/- The four stores. -/
theorem store0 (t : Fin cfg0.N) (x : S512x512.Idx) :
    k0_pay3 (F := Ideal) (iblk m c 0 t : Vec Ideal S512x1024 .f32) (iblk m c 1 t : Vec Ideal S1x1024 .f32) (iblk m c 2 t : Vec Ideal S1x1024x512 .bf16) x = blkP m c t ((Rect.unit (s := S512x2048) ![0, 0] ![512, 512] inb_S512x2048_S512x512_0_0).emb x) :=
  store_at m c t 0 0 rfl _ _ (blk2 m c t) x
theorem store1 (t : Fin cfg0.N) (x : S512x512.Idx) :
    k0_pay4 (F := Ideal) (iblk m c 0 t : Vec Ideal S512x1024 .f32) (iblk m c 1 t : Vec Ideal S1x1024 .f32) (iblk m c 3 t : Vec Ideal S1x1024x512 .bf16) x = blkP m c t ((Rect.unit (s := S512x2048) ![0, 512] ![512, 512] inb_S512x2048_S512x512_0_512).emb x) :=
  store_at m c t 1 512 rfl _ _ (blk3 m c t) x
theorem store2 (t : Fin cfg0.N) (x : S512x512.Idx) :
    k0_pay5 (F := Ideal) (iblk m c 0 t : Vec Ideal S512x1024 .f32) (iblk m c 1 t : Vec Ideal S1x1024 .f32) (iblk m c 4 t : Vec Ideal S1x1024x512 .bf16) x = blkP m c t ((Rect.unit (s := S512x2048) ![0, 1024] ![512, 512] inb_S512x2048_S512x512_0_1024).emb x) :=
  store_at m c t 2 1024 rfl _ _ (blk4 m c t) x
theorem store3 (t : Fin cfg0.N) (x : S512x512.Idx) :
    k0_pay1 (F := Ideal) (nblk m c t) (iblk m c 5 t : Vec Ideal S1x1024x512 .bf16) x = blkP m c t ((Rect.unit (s := S512x2048) ![0, 1536] ![512, 512] inb_S512x2048_S512x512_0_1536).emb x) :=
  store_at m c t 3 1536 rfl _ _ (blk5 m c t) x

/-- The first result: the normalised rows. -/
def arrN (i : S4096x1024.Idx) : EReal := nrm m c (i 0) (i 1)

theorem final6 : (dats m 0 c).arrAt 6 cfg0.N = arrN m c :=
  (dats m 0 c).arrAt_eq_of_covers 6 _ (by decide +kernel) fun t hf y => by
    revert y
    refine by_ix2 fun r d => ?_
    blk_simp
    rw [after0_6]
    frame_out
    refine (nblk_at m c t r d).trans ?_
    show arrN m c (ix2 (row t r) d) = _
    refine congrArg (arrN m c) ?_
    blk_ext [idx t, row]

/-- The second result: the product. -/
def arrP (i : S4096x2048.Idx) : EReal := proj m c (i 0) (i 1)

theorem final7 : (dats m 0 c).arrAt 7 cfg0.N = arrP m c := by
  refine (dats m 0 c).arrAt_eq_of_covers 7 _ (by decide +kernel) fun t hf y => ?_
  blk_simp
  rw [after0_7]
  frame_out
  refine (View.canon_append_of_piecesOf (Val := Elt Ideal) (e := .f32) (blkP m c t) [] [_, _, _, _]
    ⟨store3 m c t, store2 m c t, store1 m c t, store0 m c t, trivial⟩ y (View.cover_of_tiledL _ ![512, 512] (by sl_kernel_rfl) y)).trans ?_
  show arrP m c (ix2 (row t (y 0)) (y 1)) = _
  refine congrArg (arrP m c) ?_
  blk_ext [idx t, row]

end Cert.Kernel19Ideal.MixIn

namespace Cert.MixIn

open Idealize.ShloMosaic Idealize.SL.Sem Cert.NormRow
open Cert.Ffn (by_ix2)
open Cert.FfnUpRef (normed normed_at)

section
open Cert.Reference19Ideal Cert.Reference19Ideal.Gen

/-- The product with the normalised rows as the reference computes it. -/
def product (n : FVec Ideal S4096x1024 .f32) (w : FVec Ideal S1024x2048 .f32) : FVec Ideal S4096x2048 .f32 :=
  Host.dotGeneral dot_S4096x1024_S1024x2048_S4096x2048_1_0_0_1_n_n none n w

theorem product_at (n : FVec Ideal S4096x1024 .f32) (w : FVec Ideal S1024x2048 .f32) (s : Fin 4096) (j : Fin 2048) :
    product n w (ix2 s j) = ∑ k : Fin 1024, (n (ix2 s k) : EReal) * w (ix2 k j) := by
  pointwise [product]
end

open Cert.Kernel19Ideal.MixIn in
theorem algebraic19 : Cert.algebraic_Kernel19Ideal_Reference19Ideal := by
  intro m g m' g' _ hagree
  refine ⟨fun c => arrN m c, fun c => arrP m c,
    (θ_run Cert.Kernel19Ideal.defs _ _).mono (fun r h c => ⟨(h c).1.trans (final6 m c), (h c).2.1.trans (final7 m c), (h c).2.2⟩)
      (Cert.Kernel19Ideal.Value.run_blocks m g),
    (θ_run Cert.Reference19Ideal.defs _ _).mono (fun r h c => ?_) (Cert.Reference19Ideal.Value.run m' g')⟩
  obtain ⟨a0, a1, a2⟩ := hagree c
  obtain ⟨h0, h1, hargs⟩ := h c
  rw [a0, a1] at h0
  rw [a0, a1, a2] at h1
  refine ⟨h0.trans (funext (by_ix2 fun s d => normed_at _ _ s d)), h1.trans (funext (by_ix2 fun s j => ?_)), hargs⟩
  refine (product_at (normed (xin m c) (gain m c)) (win m c) s j).trans ?_
  simp only [normed_at]
  rfl

theorem frame_reference19 : Cert.quiescent_Reference19Ideal := fun m g _ =>
  (θ_run Cert.Reference19Ideal.defs _ _).mono (fun r h => ⟨fun c => (h c).2.2, sem_eq_zero_of_no_sems (by decide) r.2⟩)
    (Cert.Reference19Ideal.Value.run m g)

end Cert.MixIn

end
-- ==== Proof.MixOut.lean ====
/- The even mixer's output product with the residual added: what the call leaves in its result, and that it is the
   reference's. -/
module

public import proofs.«01_k».proof.Defs
public import proofs.«01_k».proof.Proof.MixLayout
public import proofs.«01_k».proof.Proof.Gen.Kernel24Ideal.Value
public import proofs.«01_k».proof.Proof.Gen.Reference24Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel24Ideal.Out

open Cert.Kernel24Ideal Cert.Kernel24Ideal.Gen Idealize.ShloMosaic Idealize.ShloMosaic.TcCoe Idealize.SL.Sem
open Cert.Ffn (by_ix2 by_ix3)
open Cert.Proj (unit)

/-- The product of a block's columns of quarter `p` with a layer of the weight. -/
def prod (a : Vec Ideal S512x1024 .bf16) (p : Fin 4) (w : Vec Ideal S1x256x1024 .bf16) (r : Fin 512) (d : Fin 1024) : EReal :=
  ∑ x : Fin 256, (a (ix2 r (unit p x)) : EReal) * w (ix3 0 x d)

/-- The four products and the residual. -/
theorem sum_at (a : Vec Ideal S512x1024 .bf16) (w0 w1 w2 w3 : Vec Ideal S1x256x1024 .bf16) (X : Vec Ideal S512x1024 .f32)
    (r : Fin 512) (d : Fin 1024) :
    k0_pay1 (F := Ideal) a w0 w1 w2 w3 X (ix2 r d)
      = (prod a 0 w0 r d + prod a 1 w1 r d + prod a 2 w2 r d + prod a 3 w3 r d + X (ix2 r d) : EReal) := by
  pointwise [k0_pay1]
  simp only [Mix.col0, Mix.col1, Mix.col2, Mix.col3]
  rfl

variable (m : (ℓ : Loc nD τ sig) → Buf (Elt Ideal) ℓ) (c : Dev nD)

/-- The arguments, as arrays of extended reals. -/
abbrev mix : FVec Ideal S4096x1024 .f32 := m ((c : Thread nD τ).loc main_arg0)
abbrev w : FVec Ideal S1024x1024 .f32 := m ((c : Thread nD τ).loc main_arg1)
abbrev xin : FVec Ideal S4096x1024 .f32 := m ((c : Thread nD τ).loc main_arg2)

theorem idx : ∀ t : Fin cfg0.N, win0_0.index t = ![t.val, 0] ∧ win0_1.index t = ![t.val, 0]
    ∧ win0_2.index t = ![0, 0, 0] ∧ win0_3.index t = ![1, 0, 0] ∧ win0_4.index t = ![2, 0, 0] ∧ win0_5.index t = ![3, 0, 0]
    ∧ win0_6.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .bf16) (ix2 r x) = mix m c (ix2 (row t r) x) := by
  blk_ext! [iblk, V, idx t, row]

theorem blk1 (t : Fin cfg0.N) (r : Fin 512) (x : Fin 1024) :
    (iblk m c 1 t : Vec Ideal S512x1024 .f32) (ix2 r x) = xin m c (ix2 (row t r) x) := by
  blk_ext [iblk, V, idx t, row]

theorem blk2 (t : Fin cfg0.N) (r : Fin 256) (x : Fin 1024) :
    (iblk m c 2 t : Vec Ideal S1x256x1024 .bf16) (ix3 0 r x) = w m c (ix2 (unit 0 r) x) := by
  blk_ext! [iblk, V, idx t, unit]

theorem blk3 (t : Fin cfg0.N) (r : Fin 256) (x : Fin 1024) :
    (iblk m c 3 t : Vec Ideal S1x256x1024 .bf16) (ix3 0 r x) = w m c (ix2 (unit 1 r) x) := by
  blk_ext! [iblk, V, idx t, unit]

theorem blk4 (t : Fin cfg0.N) (r : Fin 256) (x : Fin 1024) :
    (iblk m c 4 t : Vec Ideal S1x256x1024 .bf16) (ix3 0 r x) = w m c (ix2 (unit 2 r) x) := by
  blk_ext! [iblk, V, idx t, unit]

theorem blk5 (t : Fin cfg0.N) (r : Fin 256) (x : Fin 1024) :
    (iblk m c 5 t : Vec Ideal S1x256x1024 .bf16) (ix3 0 r x) = w m c (ix2 (unit 3 r) x) := by
  blk_ext! [iblk, V, idx t, unit]

/-- A layer's product, in the arrays' terms. -/
theorem prod_eq (t : Fin cfg0.N) (p : Fin 4)
    (W : Vec Ideal S1x256x1024 .bf16) (hW : ∀ r x, W (ix3 0 r x) = w m c (ix2 (unit p r) x)) (r : Fin 512) (d : Fin 1024) :
    prod (iblk m c 0 t : Vec Ideal S512x1024 .bf16) p W r d
      = ∑ k, (mix m c (ix2 (row t r) (unit p k)) : EReal) * w m c (ix2 (unit p k) d) :=
  Finset.sum_congr rfl fun k _ => congrArg₂ (fun a b : EReal => a * b) (blk0 m c t r (unit p k)) (hW k d)

/-- The result. -/
def arr (i : S4096x1024.Idx) : EReal :=
  xin m c i + ∑ j : Fin 1024, (mix m c (ix2 (i 0) j) : EReal) * w m c (ix2 j (i 1))

theorem final : (dats m 0 c).arrAt 6 cfg0.N = arr m c :=
  (dats m 0 c).arrAt_eq_of_covers 6 _ (by decide +kernel) fun t hf y => by
    revert y
    refine by_ix2 fun r d => ?_
    blk_simp
    rw [after0_6]
    frame_out
    refine (sum_at _ _ _ _ _ _ r d).trans ?_
    rw [prod_eq m c t 0 _ (blk2 m c t), prod_eq m c t 1 _ (blk3 m c t), prod_eq m c t 2 _ (blk4 m c t),
      prod_eq m c t 3 _ (blk5 m c t), blk1]
    have e : (arr m c (ix2 (row t r) d) : EReal) = _ :=
      (congrArg (fun s : EReal => xin m c (ix2 (row t r) d) + s)
        (Mix.sum_quarters fun j => (mix m c (ix2 (row t r) j) : EReal) * w m c (ix2 j d))).trans (add_comm (G := EReal) _ _)
    refine e.symm.trans (congrArg (arr m c) ?_)
    blk_ext [idx t, row]

end Cert.Kernel24Ideal.Out

namespace Cert.MixOut

open Idealize.ShloMosaic Idealize.SL.Sem
open Cert.Ffn (by_ix2)

section
open Cert.Reference24Ideal Cert.Reference24Ideal.Gen

/-- The product and the residual as the reference computes them. -/
def refOut (a : FVec Ideal S4096x1024 .f32) (w : FVec Ideal S1024x1024 .f32) (x : FVec Ideal S4096x1024 .f32) : FVec Ideal S4096x1024 .f32 :=
  addf x (Host.dotGeneral dot_S4096x1024_S1024x1024_S4096x1024_1_0_0_1_n_n none a w)

theorem refOut_at (a : FVec Ideal S4096x1024 .f32) (w : FVec Ideal S1024x1024 .f32) (x : FVec Ideal S4096x1024 .f32)
    (s : Fin 4096) (d : Fin 1024) :
    refOut a w x (ix2 s d) = (x (ix2 s d) + ∑ j : Fin 1024, (a (ix2 s j) : EReal) * w (ix2 j d) : EReal) := by
  pointwise [refOut]
end

theorem algebraic24 : Cert.algebraic_Kernel24Ideal_Reference24Ideal := by
  intro m g m' g' _ hagree
  refine ⟨fun c => Cert.Kernel24Ideal.Out.arr m c,
    (θ_run Cert.Kernel24Ideal.defs _ _).mono (fun r h c => ⟨(h c).1.trans (Cert.Kernel24Ideal.Out.final m c), (h c).2⟩)
      (Cert.Kernel24Ideal.Value.run_blocks m g),
    (θ_run Cert.Reference24Ideal.defs _ _).mono (fun r h c => ?_) (Cert.Reference24Ideal.Value.run m' g')⟩
  obtain ⟨a0, a1, a2⟩ := hagree c
  have h0 := (h c).1
  rw [a0, a1, a2] at h0
  exact ⟨h0.trans (funext (by_ix2 fun s d => refOut_at _ _ _ s d)), (h c).2⟩

theorem frame_reference24 : Cert.quiescent_Reference24Ideal := fun m g _ =>
  (θ_run Cert.Reference24Ideal.defs _ _).mono (fun r h => ⟨fun c => (h c).2, sem_eq_zero_of_no_sems (by decide) r.2⟩)
    (Cert.Reference24Ideal.Value.run m g)

end Cert.MixOut

end
-- ==== Proof.GradMixOut.lean ====
/- The even mixer's output weight's gradient: what the call leaves in the gradients' array. -/
module

public import proofs.«01_k».proof.Proof.ProjLayout
public import proofs.«01_k».proof.Proof.Gen.Kernel15Ideal.Value
public import Idealize.ShloMosaic.Lib.Pipeline.ReadBack

@[expose] public section

set_option maxRecDepth 16384

noncomputable section

namespace Cert.Kernel15Ideal.Grad

open Cert.Kernel15Ideal Cert.Kernel15Ideal.Gen Idealize.ShloMosaic Idealize.ShloMosaic.TcCoe Idealize.SL.Sem
open Cert.Proj
open Cert.Ffn (by_ix2 by_ix3 layer_idx)

section
variable (A : Vec Ideal S4x256x1024 .f32) (B : Vec Ideal S2048x1024 .bf16) (X : Vec Ideal S2048x1024 .f32)

/-- A layer's store: the old layer and its part. -/
theorem pay_at (a : Vec Ideal S1x256x1024 .f32) (b : Vec Ideal S2048x256 .bf16) (r : Fin 256) (d : Fin 1024) :
    k0_pay4 (F := Ideal) a b X (ix3 0 r d) = (a (ix3 0 r d) : EReal) + ∑ k : Fin 2048, (b (ix2 k r) : EReal) * X (ix2 k d) := by
  pointwise [k0_pay4]

/-- The store of layer `p` is that layer of the old block with the tokens' part added. -/
theorem store_at (p : Fin 4) (o o' : ℕ) (ho : o = p.val) (ho' : o' = p.val * 256)
    (inb : ∀ a, (![o, 0, 0] : Fin 3 → ℕ) a + (![1, 256, 1024] : Fin 3 → ℕ) a ≤ S4x256x1024.size a)
    (inb' : ∀ a, (![0, o'] : Fin 2 → ℕ) a + (![2048, 256] : Fin 2 → ℕ) a ≤ S2048x1024.size a) (x : S1x256x1024.Idx) :
    k0_pay4 (F := Ideal) (View.ld A (Rect.unit ![o, 0, 0] ![1, 256, 1024] inb)) (View.ld B (Rect.unit ![0, o'] ![2048, 256] inb')) X x
      = (A ((Rect.unit (s := S4x256x1024) ![o, 0, 0] ![1, 256, 1024] inb).emb x) : EReal)
        + part B X ((Rect.unit (s := S4x256x1024) ![o, 0, 0] ![1, 256, 1024] inb).emb x) := by
  revert x
  refine by_ix3 fun z r d => ?_
  obtain rfl : z = 0 := Subsingleton.elim _ _
  have e : (Rect.unit (s := S4x256x1024) ![o, 0, 0] ![1, 256, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (cols_idx p o' ho' inb' k r))

/- The four layers' stores. -/
theorem store0 (x : S1x256x1024.Idx) :
    k0_pay4 (F := Ideal) (View.ld A (Rect.unit ![0, 0, 0] ![1, 256, 1024] inb_S4x256x1024_S1x256x1024_0_0_0))
      (View.ld B (Rect.unit ![0, 0] ![2048, 256] inb_S2048x1024_S2048x256_0_0)) X x
      = (A ((Rect.unit (s := S4x256x1024) ![0, 0, 0] ![1, 256, 1024] inb_S4x256x1024_S1x256x1024_0_0_0).emb x) : EReal)
        + part B X ((Rect.unit (s := S4x256x1024) ![0, 0, 0] ![1, 256, 1024] inb_S4x256x1024_S1x256x1024_0_0_0).emb x) :=
  store_at A B X 0 0 0 rfl rfl _ _ x
theorem store1 (x : S1x256x1024.Idx) :
    k0_pay5 (F := Ideal) (View.ld A (Rect.unit ![1, 0, 0] ![1, 256, 1024] inb_S4x256x1024_S1x256x1024_1_0_0))
      (View.ld B (Rect.unit ![0, 256] ![2048, 256] inb_S2048x1024_S2048x256_0_256)) X x
      = (A ((Rect.unit (s := S4x256x1024) ![1, 0, 0] ![1, 256, 1024] inb_S4x256x1024_S1x256x1024_1_0_0).emb x) : EReal)
        + part B X ((Rect.unit (s := S4x256x1024) ![1, 0, 0] ![1, 256, 1024] inb_S4x256x1024_S1x256x1024_1_0_0).emb x) :=
  store_at A B X 1 1 256 rfl rfl _ _ x
theorem store2 (x : S1x256x1024.Idx) :
    k0_pay1 (F := Ideal) (k0_pay6 (View.ld A (Rect.unit ![2, 0, 0] ![1, 256, 1024] inb_S4x256x1024_S1x256x1024_2_0_0)))
      (View.ld B (Rect.unit ![0, 512] ![2048, 256] inb_S2048x1024_S2048x256_0_512)) X x
      = (A ((Rect.unit (s := S4x256x1024) ![2, 0, 0] ![1, 256, 1024] inb_S4x256x1024_S1x256x1024_2_0_0).emb x) : EReal)
        + part B X ((Rect.unit (s := S4x256x1024) ![2, 0, 0] ![1, 256, 1024] inb_S4x256x1024_S1x256x1024_2_0_0).emb x) :=
  store_at A B X 2 2 512 rfl rfl _ _ x
theorem store3 (x : S1x256x1024.Idx) :
    k0_pay2 (F := Ideal) (View.ld A (Rect.unit ![3, 0, 0] ![1, 256, 1024] inb_S4x256x1024_S1x256x1024_3_0_0))
      (View.ld B (Rect.unit ![0, 768] ![2048, 256] inb_S2048x1024_S2048x256_0_768)) X x
      = (A ((Rect.unit (s := S4x256x1024) ![3, 0, 0] ![1, 256, 1024] inb_S4x256x1024_S1x256x1024_3_0_0).emb x) : EReal)
        + part B X ((Rect.unit (s := S4x256x1024) ![3, 0, 0] ![1, 256, 1024] inb_S4x256x1024_S1x256x1024_3_0_0).emb x) :=
  store_at A B X 3 3 768 rfl rfl _ _ x

theorem fill (j : S4x256x1024.Idx) : k0_pay3 (F := Ideal) j = 0 := by pointwise [k0_pay3]

end

variable (m : (ℓ : Loc nD τ sig) → Buf (Elt Ideal) ℓ) (c : Dev nD)

/-- The arguments, as arrays of extended reals. -/
abbrev mix : FVec Ideal S4096x1024 .f32 := m ((c : Thread nD τ).loc main_arg0)
abbrev dy : FVec Ideal S4096x1024 .f32 := m ((c : Thread nD τ).loc main_arg1)

theorem idx : ∀ t : Fin cfg0.N, win0_0.index t = ![t.val, 0] ∧ win0_1.index t = ![t.val, 0] ∧ win0_2.index t = ![0, 0, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = mix m c (ix2 (row t r) x) := by
  blk_ext! [iblk, V, idx t, row]

theorem blk1 (t : Fin cfg0.N) (r : Fin 2048) (x : Fin 1024) :
    (iblk m c 1 t : Vec Ideal S2048x1024 .f32) (ix2 r x) = dy m c (ix2 (row t r) x) := by
  blk_ext [iblk, V, idx t, row]

/-- Point `t`'s part. -/
def partOf (t : Fin cfg0.N) (y : S4x256x1024.Idx) : EReal :=
  ∑ k : Fin 2048, (mix m c (ix2 (row t k) (unit (y 0) (y 1))) : EReal) * dy m c (ix2 (row t k) (y 2))

theorem part_eq (t : Fin cfg0.N) : part (iblk m c 0 t : Vec Ideal S2048x1024 .bf16) (iblk m c 1 t : Vec Ideal S2048x1024 .f32) = partOf m c t :=
  funext fun y => Finset.sum_congr rfl fun k _ =>
    congrArg₂ (fun x y : EReal => x * y) (blk0 m c t k (unit (y 0) (y 1))) (blk1 m c t k (y 2))

theorem outs_A (t : Fin cfg0.N) (h : t.val % 2 = 0) (y : S4x256x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S2048x1024 .bf16) (iblk m c 1 t : Vec Ideal S2048x1024 .f32) y) [_] [_, _, _, _]
      ⟨store3 _ _ _, store2 _ _ _, store1 _ _ _, store0 _ _ _, trivial⟩ y
      (View.cover_of_tiledL _ ![1, 256, 1024] (by sl_kernel_rfl) y)).trans ?_
  exact congrArg (· + part (iblk m c 0 t : Vec Ideal S2048x1024 .bf16) (iblk m c 1 t : Vec Ideal S2048x1024 .f32) y) (fill y)

theorem outs_B (t : Fin cfg0.N) (h : ¬ t.val % 2 = 0) (y : S4x256x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S2048x1024 .bf16) (iblk m c 1 t : Vec Ideal S2048x1024 .f32) y) [] [_, _, _, _]
      ⟨store3 _ _ _, store2 _ _ _, store1 _ _ _, store0 _ _ _, trivial⟩ y
      (View.cover_of_tiledL _ ![1, 256, 1024] (by sl_kernel_rfl) y)

/-- The points' parts are all the tokens'. -/
theorem sum_parts (y : S4x256x1024.Idx) : ∑ t : Fin cfg0.N, partOf m c t y = grad (mix m c) (dy m c) (y 0) (y 1) (y 2) :=
  Fin.sum_mul_add_congr (L := 4096) (S := cfg0.N) (n := 2048)
    (f := fun s => (mix m c (ix2 s (unit (y 0) (y 1))) : EReal) * dy m c (ix2 s (y 2))) (fun _ _ _ => rfl) (congrArg (· * 2048) N_0.symm)

theorem outs_last (y : S4x256x1024.Idx) :
    outsAt0 m c t0_1.val t0_1.isLt y = grad (mix m c) (dy m c) (y 0) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards. -/
def arr (i : S4x256x1024.Idx) : EReal := grad (mix m c) (dy m c) (i 0) (i 1) (i 2)

theorem final : (dats m 0 c).arrAt 2 cfg0.N = arr m c :=
  (dats m 0 c).arrAt_eq_of_after_last 2 t0_1 (by decide +kernel) _ fun j => by
    blk_simp
    rw [after0_2]
    exact outs_last m c j

end Cert.Kernel15Ideal.Grad

end
-- ==== Proof.GradMixInA.lean ====
/- The even mixer's input weight's gradient on a pair of chips: what the call leaves in its two layers of the gradients' array, and that
   the other two keep what they held. -/
module

public import proofs.«01_k».proof.Proof.MixLayout
public import proofs.«01_k».proof.Proof.Gen.Kernel13Ideal.Value
public import Idealize.ShloMosaic.Lib.Pipeline.ReadBack

@[expose] public section

set_option maxRecDepth 16384

noncomputable section

namespace Cert.Kernel13Ideal.Grad

open Cert.Kernel13Ideal Cert.Kernel13Ideal.Gen Idealize.ShloMosaic Idealize.ShloMosaic.TcCoe Idealize.SL.Sem
open Cert.Ffn (by_ix2 by_ix3)

section
variable (A : Vec Ideal S2x1024x512 .f32) (B X : Vec Ideal S2048x1024 .bf16)

/-- A layer's store: the old layer and its part. -/
theorem pay_at (a : Vec Ideal S1x1024x512 .f32) (b : Vec Ideal S2048x512 .bf16) (r : Fin 1024) (d : Fin 512) :
    k0_pay2 (F := Ideal) a B b (ix3 0 r d) = (a (ix3 0 r d) : EReal) + ∑ k : Fin 2048, (B (ix2 k r) : EReal) * b (ix2 k d) := by
  pointwise [k0_pay2]

/-- The store of layer `p` is that layer of the old block with the tokens' part added. -/
theorem store_at (p : Fin 2) (o o' : ℕ) (ho : o = p.val) (ho' : o' = p.val * 512)
    (inb : ∀ a, (![o, 0, 0] : Fin 3 → ℕ) a + (![1, 1024, 512] : Fin 3 → ℕ) a ≤ S2x1024x512.size a)
    (inb' : ∀ a, (![0, o'] : Fin 2 → ℕ) a + (![2048, 512] : Fin 2 → ℕ) a ≤ S2048x1024.size a) (x : S1x1024x512.Idx) :
    k0_pay2 (F := Ideal) (View.ld A (Rect.unit ![o, 0, 0] ![1, 1024, 512] inb)) B (View.ld X (Rect.unit ![0, o'] ![2048, 512] inb')) x
      = (A ((Rect.unit (s := S2x1024x512) ![o, 0, 0] ![1, 1024, 512] inb).emb x) : EReal)
        + Mix.partIn B X ((Rect.unit (s := S2x1024x512) ![o, 0, 0] ![1, 1024, 512] inb).emb x) := by
  revert x
  refine by_ix3 fun z r d => ?_
  obtain rfl : z = 0 := Subsingleton.elim _ _
  have e : (Rect.unit (s := S2x1024x512) ![o, 0, 0] ![1, 1024, 512] inb).emb (ix3 0 r d) = ix3 p r d := Mix.layer_idx p o ho inb 0 r d
  rw [e]
  refine (pay_at B _ _ r d).trans (congrArg₂ (fun x y : EReal => x + y) (congrArg A e) (Finset.sum_congr rfl fun k _ => ?_))
  exact congrArg (fun x : EReal => B (ix2 k r) * x) (congrArg X (Mix.half_idx p o' ho' inb' k d))

/- The two layers' stores. -/
theorem store0 (x : S1x1024x512.Idx) :
    k0_pay2 (F := Ideal) (View.ld A (Rect.unit ![0, 0, 0] ![1, 1024, 512] inb_S2x1024x512_S1x1024x512_0_0_0)) B
      (View.ld X (Rect.unit ![0, 0] ![2048, 512] inb_S2048x1024_S2048x512_0_0)) x
      = (A ((Rect.unit (s := S2x1024x512) ![0, 0, 0] ![1, 1024, 512] inb_S2x1024x512_S1x1024x512_0_0_0).emb x) : EReal)
        + Mix.partIn B X ((Rect.unit (s := S2x1024x512) ![0, 0, 0] ![1, 1024, 512] inb_S2x1024x512_S1x1024x512_0_0_0).emb x) :=
  store_at A B X 0 0 0 rfl rfl _ _ x
theorem store1 (x : S1x1024x512.Idx) :
    k0_pay3 (F := Ideal) (View.ld A (Rect.unit ![1, 0, 0] ![1, 1024, 512] inb_S2x1024x512_S1x1024x512_1_0_0)) B
      (View.ld X (Rect.unit ![0, 512] ![2048, 512] inb_S2048x1024_S2048x512_0_512)) x
      = (A ((Rect.unit (s := S2x1024x512) ![1, 0, 0] ![1, 1024, 512] inb_S2x1024x512_S1x1024x512_1_0_0).emb x) : EReal)
        + Mix.partIn B X ((Rect.unit (s := S2x1024x512) ![1, 0, 0] ![1, 1024, 512] inb_S2x1024x512_S1x1024x512_1_0_0).emb x) :=
  store_at A B X 1 1 512 rfl rfl _ _ x

theorem fill (j : S2x1024x512.Idx) : k0_pay1 (F := Ideal) j = 0 := by pointwise [k0_pay1]

end

variable (m : (ℓ : Loc nD τ sig) → Buf (Elt Ideal) ℓ) (c : Dev nD)

/-- The arguments, as arrays of extended reals. -/
abbrev hn : FVec Ideal S4096x1024 .f32 := m ((c : Thread nD τ).loc main_arg0)
abbrev dp : FVec Ideal S4096x2048 .f32 := m ((c : Thread nD τ).loc main_arg1)
abbrev old : FVec Ideal S4x1024x512 .f32 := m ((c : Thread nD τ).loc main_arg2)

theorem idx : ∀ t : Fin cfg0.N, win0_0.index t = ![t.val, 0] ∧ win0_1.index t = ![t.val, 0] ∧ win0_2.index t = ![0, 0, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = hn m c (ix2 (row t r) x) := by
  blk_ext! [iblk, V, idx t, row]

/-- The layer of the array that layer `p` of the block is. -/
def layer (p : Fin 2) : Fin 4 := ⟨p.val + 0, by omega⟩

theorem blk1 (t : Fin cfg0.N) (r : Fin 2048) (p : Fin 2) (x : Fin 512) :
    (iblk m c 1 t : Vec Ideal S2048x1024 .bf16) (ix2 r (Mix.half p x)) = dp m c (ix2 (row t r) (Mix.unit (layer p) x)) := by
  blk_ext! [iblk, V, idx t, row, Mix.half, Mix.unit, layer]

theorem old_eq : V m c main_v3 = old m c := by rfl

/-- Point `t`'s part. -/
def partOf (t : Fin cfg0.N) (y : S2x1024x512.Idx) : EReal :=
  ∑ k : Fin 2048, (hn m c (ix2 (row t k) (y 1)) : EReal) * dp m c (ix2 (row t k) (Mix.unit (layer (y 0)) (y 2)))

theorem part_eq (t : Fin cfg0.N) : Mix.partIn (iblk m c 0 t : Vec Ideal S2048x1024 .bf16) (iblk m c 1 t : Vec Ideal S2048x1024 .bf16) = partOf m c t :=
  funext fun y => Finset.sum_congr rfl fun k _ =>
    congrArg₂ (fun x y : EReal => x * y) (blk0 m c t k (y 1)) (blk1 m c t k (y 0) (y 2))

theorem outs_A (t : Fin cfg0.N) (h : t.val % 2 = 0) (y : S2x1024x512.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay1 (F := Ideal) y : EReal) + Mix.partIn (iblk m c 0 t : Vec Ideal S2048x1024 .bf16) (iblk m c 1 t : Vec Ideal S2048x1024 .bf16) y) [_] [_, _]
      ⟨store1 _ _ _, store0 _ _ _, trivial⟩ y
      (View.cover_of_tiledL _ ![1, 1024, 512] (by sl_kernel_rfl) y)).trans ?_
  exact congrArg (· + Mix.partIn (iblk m c 0 t : Vec Ideal S2048x1024 .bf16) (iblk m c 1 t : Vec Ideal S2048x1024 .bf16) y) (fill y)

theorem outs_B (t : Fin cfg0.N) (h : ¬ t.val % 2 = 0) (y : S2x1024x512.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + Mix.partIn (iblk m c 0 t : Vec Ideal S2048x1024 .bf16) (iblk m c 1 t : Vec Ideal S2048x1024 .bf16) y) [] [_, _]
      ⟨store1 _ _ _, store0 _ _ _, trivial⟩ y
      (View.cover_of_tiledL _ ![1, 1024, 512] (by sl_kernel_rfl) y)

/-- The points' parts are all the tokens'. -/
theorem sum_parts (y : S2x1024x512.Idx) : ∑ t : Fin cfg0.N, partOf m c t y = Mix.gradIn (hn m c) (dp m c) (layer (y 0)) (y 1) (y 2) :=
  Fin.sum_mul_add_congr (L := 4096) (S := cfg0.N) (n := 2048)
    (f := fun s => (hn m c (ix2 s (y 1)) : EReal) * dp m c (ix2 s (Mix.unit (layer (y 0)) (y 2)))) (fun _ _ _ => rfl) (congrArg (· * 2048) N_0.symm)

theorem outs_last (y : S2x1024x512.Idx) :
    outsAt0 m c t0_1.val t0_1.isLt y = Mix.gradIn (hn m c) (dp m c) (layer (y 0)) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards: layers 0 and 1 are the gradient, the others as before. -/
def arr (i : S4x1024x512.Idx) : EReal :=
  if (i 0).val < 2 then Mix.gradIn (hn m c) (dp m c) (i 0) (i 1) (i 2) else old m c i

theorem final : (dats m 0 c).arrAt 2 cfg0.N = arr m c := by
  refine (dats m 0 c).arrAt_eq_of_coversWhere_of_agree 2 _ (fun β => β (0 : Fin 3) = 0) (by decide +kernel) (fun t hf y => ?_) (fun j hj => ?_)
  · obtain rfl : t = t0_1 := Fin.ext (by have := (flush0_2 t).mp hf; have := lt_of_lt_of_eq t.isLt N_0; show t.val = 1; omega)
    blk_simp
    rw [after0_2, outs_last]
    have hy : ∀ y : S2x1024x512.Idx, Mix.gradIn (hn m c) (dp m c) (layer (y 0)) (y 1) (y 2)
        = arr m c (ix3 (layer (y 0)) (y 1) (y 2)) := fun y =>
      (if_pos (c := (y 0).val + 0 < 2) (by have h : (y 0).val < 2 := (y 0).isLt; omega)).symm
    refine (hy y).trans (congrArg (arr m c) ?_)
    blk_ext [idx t0_1, layer]
  · blk_simp [Pipeline.Window.cell_apply] at hj
    rw [A_eq]
    exact (congrFun (old_eq m c) _).trans (if_neg (c := (j 0).val < 2) (by omega)).symm

end Cert.Kernel13Ideal.Grad

end
-- ==== Proof.GradMixInB.lean ====
/- The even mixer's input weight's gradient on a pair of chips: what the call leaves in its two layers of the gradients' array, and that
   the other two keep what they held. -/
module

public import proofs.«01_k».proof.Proof.MixLayout
public import proofs.«01_k».proof.Proof.Gen.Kernel14Ideal.Value
public import Idealize.ShloMosaic.Lib.Pipeline.ReadBack

@[expose] public section

set_option maxRecDepth 16384

noncomputable section

namespace Cert.Kernel14Ideal.Grad

open Cert.Kernel14Ideal Cert.Kernel14Ideal.Gen Idealize.ShloMosaic Idealize.ShloMosaic.TcCoe Idealize.SL.Sem
open Cert.Ffn (by_ix2 by_ix3)

section
variable (A : Vec Ideal S2x1024x512 .f32) (B X : Vec Ideal S2048x1024 .bf16)

/-- A layer's store: the old layer and its part. -/
theorem pay_at (a : Vec Ideal S1x1024x512 .f32) (b : Vec Ideal S2048x512 .bf16) (r : Fin 1024) (d : Fin 512) :
    k0_pay2 (F := Ideal) a B b (ix3 0 r d) = (a (ix3 0 r d) : EReal) + ∑ k : Fin 2048, (B (ix2 k r) : EReal) * b (ix2 k d) := by
  pointwise [k0_pay2]

/-- The store of layer `p` is that layer of the old block with the tokens' part added. -/
theorem store_at (p : Fin 2) (o o' : ℕ) (ho : o = p.val) (ho' : o' = p.val * 512)
    (inb : ∀ a, (![o, 0, 0] : Fin 3 → ℕ) a + (![1, 1024, 512] : Fin 3 → ℕ) a ≤ S2x1024x512.size a)
    (inb' : ∀ a, (![0, o'] : Fin 2 → ℕ) a + (![2048, 512] : Fin 2 → ℕ) a ≤ S2048x1024.size a) (x : S1x1024x512.Idx) :
    k0_pay2 (F := Ideal) (View.ld A (Rect.unit ![o, 0, 0] ![1, 1024, 512] inb)) B (View.ld X (Rect.unit ![0, o'] ![2048, 512] inb')) x
      = (A ((Rect.unit (s := S2x1024x512) ![o, 0, 0] ![1, 1024, 512] inb).emb x) : EReal)
        + Mix.partIn B X ((Rect.unit (s := S2x1024x512) ![o, 0, 0] ![1, 1024, 512] inb).emb x) := by
  revert x
  refine by_ix3 fun z r d => ?_
  obtain rfl : z = 0 := Subsingleton.elim _ _
  have e : (Rect.unit (s := S2x1024x512) ![o, 0, 0] ![1, 1024, 512] inb).emb (ix3 0 r d) = ix3 p r d := Mix.layer_idx p o ho inb 0 r d
  rw [e]
  refine (pay_at B _ _ r d).trans (congrArg₂ (fun x y : EReal => x + y) (congrArg A e) (Finset.sum_congr rfl fun k _ => ?_))
  exact congrArg (fun x : EReal => B (ix2 k r) * x) (congrArg X (Mix.half_idx p o' ho' inb' k d))

/- The two layers' stores. -/
theorem store0 (x : S1x1024x512.Idx) :
    k0_pay2 (F := Ideal) (View.ld A (Rect.unit ![0, 0, 0] ![1, 1024, 512] inb_S2x1024x512_S1x1024x512_0_0_0)) B
      (View.ld X (Rect.unit ![0, 0] ![2048, 512] inb_S2048x1024_S2048x512_0_0)) x
      = (A ((Rect.unit (s := S2x1024x512) ![0, 0, 0] ![1, 1024, 512] inb_S2x1024x512_S1x1024x512_0_0_0).emb x) : EReal)
        + Mix.partIn B X ((Rect.unit (s := S2x1024x512) ![0, 0, 0] ![1, 1024, 512] inb_S2x1024x512_S1x1024x512_0_0_0).emb x) :=
  store_at A B X 0 0 0 rfl rfl _ _ x
theorem store1 (x : S1x1024x512.Idx) :
    k0_pay3 (F := Ideal) (View.ld A (Rect.unit ![1, 0, 0] ![1, 1024, 512] inb_S2x1024x512_S1x1024x512_1_0_0)) B
      (View.ld X (Rect.unit ![0, 512] ![2048, 512] inb_S2048x1024_S2048x512_0_512)) x
      = (A ((Rect.unit (s := S2x1024x512) ![1, 0, 0] ![1, 1024, 512] inb_S2x1024x512_S1x1024x512_1_0_0).emb x) : EReal)
        + Mix.partIn B X ((Rect.unit (s := S2x1024x512) ![1, 0, 0] ![1, 1024, 512] inb_S2x1024x512_S1x1024x512_1_0_0).emb x) :=
  store_at A B X 1 1 512 rfl rfl _ _ x

theorem fill (j : S2x1024x512.Idx) : k0_pay1 (F := Ideal) j = 0 := by pointwise [k0_pay1]

end

variable (m : (ℓ : Loc nD τ sig) → Buf (Elt Ideal) ℓ) (c : Dev nD)

/-- The arguments, as arrays of extended reals. -/
abbrev hn : FVec Ideal S4096x1024 .f32 := m ((c : Thread nD τ).loc main_arg0)
abbrev dp : FVec Ideal S4096x2048 .f32 := m ((c : Thread nD τ).loc main_arg1)
abbrev old : FVec Ideal S4x1024x512 .f32 := m ((c : Thread nD τ).loc main_arg2)

theorem idx : ∀ t : Fin cfg0.N, win0_0.index t = ![t.val, 0] ∧ win0_1.index t = ![t.val, 0] ∧ win0_2.index t = ![1, 0, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = hn m c (ix2 (row t r) x) := by
  blk_ext! [iblk, V, idx t, row]

/-- The layer of the array that layer `p` of the block is. -/
def layer (p : Fin 2) : Fin 4 := ⟨p.val + 2, by omega⟩

theorem blk1 (t : Fin cfg0.N) (r : Fin 2048) (p : Fin 2) (x : Fin 512) :
    (iblk m c 1 t : Vec Ideal S2048x1024 .bf16) (ix2 r (Mix.half p x)) = dp m c (ix2 (row t r) (Mix.unit (layer p) x)) := by
  blk_ext! [iblk, V, idx t, row, Mix.half, Mix.unit, layer]

theorem old_eq : V m c main_v3 = old m c := by rfl

/-- Point `t`'s part. -/
def partOf (t : Fin cfg0.N) (y : S2x1024x512.Idx) : EReal :=
  ∑ k : Fin 2048, (hn m c (ix2 (row t k) (y 1)) : EReal) * dp m c (ix2 (row t k) (Mix.unit (layer (y 0)) (y 2)))

theorem part_eq (t : Fin cfg0.N) : Mix.partIn (iblk m c 0 t : Vec Ideal S2048x1024 .bf16) (iblk m c 1 t : Vec Ideal S2048x1024 .bf16) = partOf m c t :=
  funext fun y => Finset.sum_congr rfl fun k _ =>
    congrArg₂ (fun x y : EReal => x * y) (blk0 m c t k (y 1)) (blk1 m c t k (y 0) (y 2))

theorem outs_A (t : Fin cfg0.N) (h : t.val % 2 = 0) (y : S2x1024x512.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay1 (F := Ideal) y : EReal) + Mix.partIn (iblk m c 0 t : Vec Ideal S2048x1024 .bf16) (iblk m c 1 t : Vec Ideal S2048x1024 .bf16) y) [_] [_, _]
      ⟨store1 _ _ _, store0 _ _ _, trivial⟩ y
      (View.cover_of_tiledL _ ![1, 1024, 512] (by sl_kernel_rfl) y)).trans ?_
  exact congrArg (· + Mix.partIn (iblk m c 0 t : Vec Ideal S2048x1024 .bf16) (iblk m c 1 t : Vec Ideal S2048x1024 .bf16) y) (fill y)

theorem outs_B (t : Fin cfg0.N) (h : ¬ t.val % 2 = 0) (y : S2x1024x512.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + Mix.partIn (iblk m c 0 t : Vec Ideal S2048x1024 .bf16) (iblk m c 1 t : Vec Ideal S2048x1024 .bf16) y) [] [_, _]
      ⟨store1 _ _ _, store0 _ _ _, trivial⟩ y
      (View.cover_of_tiledL _ ![1, 1024, 512] (by sl_kernel_rfl) y)

/-- The points' parts are all the tokens'. -/
theorem sum_parts (y : S2x1024x512.Idx) : ∑ t : Fin cfg0.N, partOf m c t y = Mix.gradIn (hn m c) (dp m c) (layer (y 0)) (y 1) (y 2) :=
  Fin.sum_mul_add_congr (L := 4096) (S := cfg0.N) (n := 2048)
    (f := fun s => (hn m c (ix2 s (y 1)) : EReal) * dp m c (ix2 s (Mix.unit (layer (y 0)) (y 2)))) (fun _ _ _ => rfl) (congrArg (· * 2048) N_0.symm)

theorem outs_last (y : S2x1024x512.Idx) :
    outsAt0 m c t0_1.val t0_1.isLt y = Mix.gradIn (hn m c) (dp m c) (layer (y 0)) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards: layers 2 and 3 are the gradient, the others as before. -/
def arr (i : S4x1024x512.Idx) : EReal :=
  if (i 0).val < 2 then old m c i else Mix.gradIn (hn m c) (dp m c) (i 0) (i 1) (i 2)

theorem final : (dats m 0 c).arrAt 2 cfg0.N = arr m c := by
  refine (dats m 0 c).arrAt_eq_of_coversWhere_of_agree 2 _ (fun β => β (0 : Fin 3) = 1) (by decide +kernel) (fun t hf y => ?_) (fun j hj => ?_)
  · obtain rfl : t = t0_1 := Fin.ext (by have := (flush0_2 t).mp hf; have := lt_of_lt_of_eq t.isLt N_0; show t.val = 1; omega)
    blk_simp
    rw [after0_2, outs_last]
    have hy : ∀ y : S2x1024x512.Idx, Mix.gradIn (hn m c) (dp m c) (layer (y 0)) (y 1) (y 2)
        = arr m c (ix3 (layer (y 0)) (y 1) (y 2)) := fun y =>
      (if_neg (c := (y 0).val + 2 < 2) (by omega)).symm
    refine (hy y).trans (congrArg (arr m c) ?_)
    blk_ext [idx t0_1, layer]
  · blk_simp [Pipeline.Window.cell_apply] at hj
    rw [A_eq]
    exact (congrFun (old_eq m c) _).trans (if_pos (c := (j 0).val < 2) (by have h : (j 0).val < 4 := (j 0).isLt; omega)).symm

end Cert.Kernel14Ideal.Grad

end
-- ==== Proof.GradUpper.lean ====
/- The odd mixer's input weight's gradient: what the call leaves in its rows of the gradients' array, and that the other rows
   keep what they held. -/
module

public import proofs.«01_k».proof.Proof.MixLayout
public import proofs.«01_k».proof.Proof.Gen.Kernel23Ideal.Value
public import Idealize.ShloMosaic.Lib.Pipeline.ReadBack

@[expose] public section

set_option maxRecDepth 16384

noncomputable section

namespace Cert.Kernel23Ideal.Grad

open Cert.Kernel23Ideal Cert.Kernel23Ideal.Gen Idealize.ShloMosaic Idealize.ShloMosaic.TcCoe Idealize.SL.Sem
open Cert.Proj
open Cert.Ffn (by_ix2 by_ix3 layer_idx)

section
variable (A : Vec Ideal S4x256x512 .f32) (B : Vec Ideal S2048x1024 .bf16) (X : Vec Ideal S2048x512 .bf16)

/-- A layer's store: the old layer and its part. -/
theorem pay_at (a : Vec Ideal S1x256x512 .f32) (b : Vec Ideal S2048x256 .bf16) (r : Fin 256) (d : Fin 512) :
    k0_pay4 (F := Ideal) a b X (ix3 0 r d) = (a (ix3 0 r d) : EReal) + ∑ k : Fin 2048, (b (ix2 k r) : EReal) * X (ix2 k d) := by
  pointwise [k0_pay4]

/-- The store of layer `p` is that layer of the old block with the tokens' part added. -/
theorem store_at (p : Fin 4) (o o' : ℕ) (ho : o = p.val) (ho' : o' = p.val * 256)
    (inb : ∀ a, (![o, 0, 0] : Fin 3 → ℕ) a + (![1, 256, 512] : Fin 3 → ℕ) a ≤ S4x256x512.size a)
    (inb' : ∀ a, (![0, o'] : Fin 2 → ℕ) a + (![2048, 256] : Fin 2 → ℕ) a ≤ S2048x1024.size a) (x : S1x256x512.Idx) :
    k0_pay4 (F := Ideal) (View.ld A (Rect.unit ![o, 0, 0] ![1, 256, 512] inb)) (View.ld B (Rect.unit ![0, o'] ![2048, 256] inb')) X x
      = (A ((Rect.unit (s := S4x256x512) ![o, 0, 0] ![1, 256, 512] inb).emb x) : EReal)
        + Mix.partUp B X ((Rect.unit (s := S4x256x512) ![o, 0, 0] ![1, 256, 512] inb).emb x) := by
  revert x
  refine by_ix3 fun z r d => ?_
  obtain rfl : z = 0 := Subsingleton.elim _ _
  have e : (Rect.unit (s := S4x256x512) ![o, 0, 0] ![1, 256, 512] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (cols_idx p o' ho' inb' k r))

/- The four layers' stores. -/
theorem store0 (x : S1x256x512.Idx) :
    k0_pay4 (F := Ideal) (View.ld A (Rect.unit ![0, 0, 0] ![1, 256, 512] inb_S4x256x512_S1x256x512_0_0_0))
      (View.ld B (Rect.unit ![0, 0] ![2048, 256] inb_S2048x1024_S2048x256_0_0)) X x
      = (A ((Rect.unit (s := S4x256x512) ![0, 0, 0] ![1, 256, 512] inb_S4x256x512_S1x256x512_0_0_0).emb x) : EReal)
        + Mix.partUp B X ((Rect.unit (s := S4x256x512) ![0, 0, 0] ![1, 256, 512] inb_S4x256x512_S1x256x512_0_0_0).emb x) :=
  store_at A B X 0 0 0 rfl rfl _ _ x
theorem store1 (x : S1x256x512.Idx) :
    k0_pay5 (F := Ideal) (View.ld A (Rect.unit ![1, 0, 0] ![1, 256, 512] inb_S4x256x512_S1x256x512_1_0_0))
      (View.ld B (Rect.unit ![0, 256] ![2048, 256] inb_S2048x1024_S2048x256_0_256)) X x
      = (A ((Rect.unit (s := S4x256x512) ![1, 0, 0] ![1, 256, 512] inb_S4x256x512_S1x256x512_1_0_0).emb x) : EReal)
        + Mix.partUp B X ((Rect.unit (s := S4x256x512) ![1, 0, 0] ![1, 256, 512] inb_S4x256x512_S1x256x512_1_0_0).emb x) :=
  store_at A B X 1 1 256 rfl rfl _ _ x
theorem store2 (x : S1x256x512.Idx) :
    k0_pay1 (F := Ideal) (k0_pay6 (View.ld A (Rect.unit ![2, 0, 0] ![1, 256, 512] inb_S4x256x512_S1x256x512_2_0_0)))
      (View.ld B (Rect.unit ![0, 512] ![2048, 256] inb_S2048x1024_S2048x256_0_512)) X x
      = (A ((Rect.unit (s := S4x256x512) ![2, 0, 0] ![1, 256, 512] inb_S4x256x512_S1x256x512_2_0_0).emb x) : EReal)
        + Mix.partUp B X ((Rect.unit (s := S4x256x512) ![2, 0, 0] ![1, 256, 512] inb_S4x256x512_S1x256x512_2_0_0).emb x) :=
  store_at A B X 2 2 512 rfl rfl _ _ x
theorem store3 (x : S1x256x512.Idx) :
    k0_pay2 (F := Ideal) (View.ld A (Rect.unit ![3, 0, 0] ![1, 256, 512] inb_S4x256x512_S1x256x512_3_0_0))
      (View.ld B (Rect.unit ![0, 768] ![2048, 256] inb_S2048x1024_S2048x256_0_768)) X x
      = (A ((Rect.unit (s := S4x256x512) ![3, 0, 0] ![1, 256, 512] inb_S4x256x512_S1x256x512_3_0_0).emb x) : EReal)
        + Mix.partUp B X ((Rect.unit (s := S4x256x512) ![3, 0, 0] ![1, 256, 512] inb_S4x256x512_S1x256x512_3_0_0).emb x) :=
  store_at A B X 3 3 768 rfl rfl _ _ x

theorem fill (j : S4x256x512.Idx) : k0_pay3 (F := Ideal) j = 0 := by pointwise [k0_pay3]

end

variable (m : (ℓ : Loc nD τ sig) → Buf (Elt Ideal) ℓ) (c : Dev nD)

/-- The arguments, as arrays of extended reals. -/
abbrev hn : FVec Ideal S4096x1024 .f32 := m ((c : Thread nD τ).loc main_arg0)
abbrev du : FVec Ideal S4096x512 .f32 := m ((c : Thread nD τ).loc main_arg1)
abbrev old : FVec Ideal S4x768x512 .f32 := m ((c : Thread nD τ).loc main_arg2)

theorem idx : ∀ t : Fin cfg0.N, win0_0.index t = ![t.val, 0] ∧ win0_1.index t = ![t.val, 0] ∧ win0_2.index t = ![0, 2, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = hn m c (ix2 (row t r) x) := by
  blk_ext! [iblk, V, idx t, row]

theorem blk1 (t : Fin cfg0.N) (r : Fin 2048) (x : Fin 512) :
    (iblk m c 1 t : Vec Ideal S2048x512 .bf16) (ix2 r x) = du m c (ix2 (row t r) x) := by
  blk_ext! [iblk, V, idx t, row]

theorem old_eq : V m c main_v2 = old m c := by rfl

/-- Point `t`'s part. -/
def partOf (t : Fin cfg0.N) (y : S4x256x512.Idx) : EReal :=
  ∑ k : Fin 2048, (hn m c (ix2 (row t k) (unit (y 0) (y 1))) : EReal) * du m c (ix2 (row t k) (y 2))

theorem part_eq (t : Fin cfg0.N) : Mix.partUp (iblk m c 0 t : Vec Ideal S2048x1024 .bf16) (iblk m c 1 t : Vec Ideal S2048x512 .bf16) = partOf m c t :=
  funext fun y => Finset.sum_congr rfl fun k _ =>
    congrArg₂ (fun x y : EReal => x * y) (blk0 m c t k (unit (y 0) (y 1))) (blk1 m c t k (y 2))

theorem outs_A (t : Fin cfg0.N) (h : t.val % 2 = 0) (y : S4x256x512.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + Mix.partUp (iblk m c 0 t : Vec Ideal S2048x1024 .bf16) (iblk m c 1 t : Vec Ideal S2048x512 .bf16) y) [_] [_, _, _, _]
      ⟨store3 _ _ _, store2 _ _ _, store1 _ _ _, store0 _ _ _, trivial⟩ y
      (View.cover_of_tiledL _ ![1, 256, 512] (by sl_kernel_rfl) y)).trans ?_
  exact congrArg (· + Mix.partUp (iblk m c 0 t : Vec Ideal S2048x1024 .bf16) (iblk m c 1 t : Vec Ideal S2048x512 .bf16) y) (fill y)

theorem outs_B (t : Fin cfg0.N) (h : ¬ t.val % 2 = 0) (y : S4x256x512.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + Mix.partUp (iblk m c 0 t : Vec Ideal S2048x1024 .bf16) (iblk m c 1 t : Vec Ideal S2048x512 .bf16) y) [] [_, _, _, _]
      ⟨store3 _ _ _, store2 _ _ _, store1 _ _ _, store0 _ _ _, trivial⟩ y
      (View.cover_of_tiledL _ ![1, 256, 512] (by sl_kernel_rfl) y)

/-- The points' parts are all the tokens'. -/
theorem sum_parts (y : S4x256x512.Idx) : ∑ t : Fin cfg0.N, partOf m c t y = Mix.gradUp (hn m c) (du m c) (y 0) (y 1) (y 2) :=
  Fin.sum_mul_add_congr (L := 4096) (S := cfg0.N) (n := 2048)
    (f := fun s => (hn m c (ix2 s (unit (y 0) (y 1))) : EReal) * du m c (ix2 s (y 2))) (fun _ _ _ => rfl) (congrArg (· * 2048) N_0.symm)

theorem outs_last (y : S4x256x512.Idx) :
    outsAt0 m c t0_1.val t0_1.isLt y = Mix.gradUp (hn m c) (du m c) (y 0) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards: the last 256 rows of each layer are the gradient, the others as before. -/
def arr (i : S4x768x512.Idx) : EReal :=
  if (i 1).val < 512 then old m c i else Mix.gradUp (hn m c) (du m c) (i 0) (Mix.third (i 1)) (i 2)

theorem final : (dats m 0 c).arrAt 2 cfg0.N = arr m c := by
  refine (dats m 0 c).arrAt_eq_of_coversWhere_of_agree 2 _ (fun β => β (1 : Fin 3) = 2) (by decide +kernel) (fun t hf y => ?_) (fun j hj => ?_)
  · obtain rfl : t = t0_1 := Fin.ext (by have := (flush0_2 t).mp hf; have := lt_of_lt_of_eq t.isLt N_0; show t.val = 1; omega)
    blk_simp
    rw [after0_2, outs_last]
    have hy : ∀ y : S4x256x512.Idx, Mix.gradUp (hn m c) (du m c) (y 0) (y 1) (y 2)
        = arr m c (ix3 (y 0) (⟨512 + (y 1).val, by have h : (y 1).val < 256 := (y 1).isLt; omega⟩ : Fin 768) (y 2)) := fun y => by
      refine Eq.symm ((if_neg (c := 512 + (y 1).val < 512) (by omega)).trans ?_)
      exact congrArg (fun r => Mix.gradUp (hn m c) (du m c) (y 0) r (y 2)) (Mix.third_high (y 1) _)
    refine (hy y).trans (congrArg (arr m c) ?_)
    blk_ext [idx t0_1]
  · blk_simp [Pipeline.Window.cell_apply] at hj
    rw [A_eq]
    exact (congrFun (old_eq m c) _).trans (if_pos (c := (j 1).val < 512) (by have h : (j 1).val < 768 := (j 1).isLt; omega)).symm

end Cert.Kernel23Ideal.Grad

end
-- ==== Proof.GradMixClaims.lean ====
/- The mixers' weights' gradients of the reference, and that they are the arrays the calls leave. -/
module

public import proofs.«01_k».proof.Defs
public import proofs.«01_k».proof.Proof.GradMixOut
public import proofs.«01_k».proof.Proof.GradMixInA
public import proofs.«01_k».proof.Proof.GradMixInB
public import proofs.«01_k».proof.Proof.GradUpper
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference23Ideal.Run
public import Idealize.ShloMosaic.Lib.Claim
public import Idealize.ShloMosaic.Adequacy
public import Idealize.ShloMosaic.Init

@[expose] public section

set_option maxRecDepth 16384

noncomputable section

namespace Cert.GradMix

open Idealize.ShloMosaic Idealize.SL.Sem Cert.Mix
open Cert.Ffn (by_ix3)

section
open Cert.Reference13Ideal Cert.Reference13Ideal.Gen

/-- The even mixer's input weight's gradient as the reference computes it, in four blocks of columns. -/
def refIn (hn : FVec Ideal S4096x1024 .f32) (dp : FVec Ideal S4096x2048 .f32) : FVec Ideal S4x1024x512 .f32 :=
  transpose S4x1024x512 [1, 0, 2] (shapeCast _ (transpose S1024x2048 [1, 0] (Host.dotGeneral dot_S4096x2048_S4096x1024_S2048x1024_0_0_1_1_n_n none dp hn) transposes_S2048x1024_S1024x2048_1_0) shapeCasts_S1024x2048_S1024x4x512) transposes_S1024x4x512_S4x1024x512_1_0_2

theorem refIn_at (hn : FVec Ideal S4096x1024 .f32) (dp : FVec Ideal S4096x2048 .f32) (p : Fin 4) (r : Fin 1024) (d : Fin 512) :
    refIn hn dp (ix3 p r d) = gradIn hn dp p r d := by
  pointwise [refIn]
  exact Finset.sum_congr rfl fun s _ => mul_comm (G := EReal) _ _

/-- The array with its first two blocks. -/
def refA (hn : FVec Ideal S4096x1024 .f32) (dp : FVec Ideal S4096x2048 .f32) (old : FVec Ideal S4x1024x512 .f32) : FVec Ideal S4x1024x512 .f32 :=
  concatenate S4x1024x512 0 [⟨S2x1024x512, (extractStridedSlice S2x1024x512 ![0, 0, 0] (refIn hn dp) slices_S4x1024x512_S2x1024x512_0_0_0)⟩, ⟨S2x1024x512, (extractStridedSlice S2x1024x512 ![2, 0, 0] old slices_S4x1024x512_S2x1024x512_2_0_0)⟩] concatenates_S2x1024x512_S2x1024x512_S4x1024x512_d0

theorem refA_at (hn : FVec Ideal S4096x1024 .f32) (dp : FVec Ideal S4096x2048 .f32) (old : FVec Ideal S4x1024x512 .f32)
    (p : Fin 4) (r : Fin 1024) (d : Fin 512) :
    refA hn dp old (ix3 p r d) = (if p.val < 2 then gradIn hn dp p r d else old (ix3 p r d) : EReal) := by
  rw [← refIn_at]
  pointwise [refA]
  by_cases h : p.val < 2
  · rw [dif_pos h, if_pos h]
  · rw [dif_neg h, if_neg h]
    exact congrArg (fun i => old (ix3 i r d)) (Fin.ext (by dsimp only; omega))

/-- The array with its last two blocks. -/
def refB (hn : FVec Ideal S4096x1024 .f32) (dp : FVec Ideal S4096x2048 .f32) (old : FVec Ideal S4x1024x512 .f32) : FVec Ideal S4x1024x512 .f32 :=
  concatenate S4x1024x512 0 [⟨S2x1024x512, (extractStridedSlice S2x1024x512 ![0, 0, 0] old slices_S4x1024x512_S2x1024x512_0_0_0)⟩, ⟨S2x1024x512, (extractStridedSlice S2x1024x512 ![2, 0, 0] (refIn hn dp) slices_S4x1024x512_S2x1024x512_2_0_0)⟩] concatenates_S2x1024x512_S2x1024x512_S4x1024x512_d0

theorem refB_at (hn : FVec Ideal S4096x1024 .f32) (dp : FVec Ideal S4096x2048 .f32) (old : FVec Ideal S4x1024x512 .f32)
    (p : Fin 4) (r : Fin 1024) (d : Fin 512) :
    refB hn dp old (ix3 p r d) = (if p.val < 2 then old (ix3 p r d) else gradIn hn dp p r d : EReal) := by
  rw [← refIn_at]
  pointwise [refB]
  by_cases h : p.val < 2
  · rw [dif_pos h, if_pos h]
  · rw [dif_neg h, if_neg h]
    exact congrArg (fun i => refIn hn dp (ix3 i r d)) (Fin.ext (by dsimp only; omega))
end

section
open Cert.Reference15Ideal Cert.Reference15Ideal.Gen

/-- The even mixer's output weight's gradient as the reference computes it. -/
def refOut (mix dy : FVec Ideal S4096x1024 .f32) : FVec Ideal S4x256x1024 .f32 :=
  shapeCast _ (transpose S1024x1024 [1, 0] (Host.dotGeneral dot_S4096x1024_S4096x1024_S1024x1024_0_0_1_1_n_n none dy mix) transposes_S1024x1024_S1024x1024_1_0) shapeCasts_S1024x1024_S4x256x1024

theorem refOut_at (mix dy : FVec Ideal S4096x1024 .f32) (p : Fin 4) (r : Fin 256) (d : Fin 1024) :
    refOut mix dy (ix3 p r d) = Proj.grad mix dy p r d := by
  pointwise [refOut]
  exact Finset.sum_congr rfl fun s _ => mul_comm (G := EReal) _ _
end

section
open Cert.Reference23Ideal Cert.Reference23Ideal.Gen

/-- The array with the odd mixer's input weight's gradient as the reference computes it. -/
def refUp (hn : FVec Ideal S4096x1024 .f32) (du : FVec Ideal S4096x512 .f32) (old : FVec Ideal S4x768x512 .f32) : FVec Ideal S4x768x512 .f32 :=
  concatenate S4x768x512 1 [⟨S4x512x512, (extractStridedSlice S4x512x512 ![0, 0, 0] old slices_S4x768x512_S4x512x512_0_0_0)⟩, ⟨S4x256x512, (shapeCast _ (transpose S1024x512 [1, 0] (Host.dotGeneral dot_S4096x512_S4096x1024_S512x1024_0_0_1_1_n_n none du hn) transposes_S512x1024_S1024x512_1_0) shapeCasts_S1024x512_S4x256x512)⟩] concatenates_S4x512x512_S4x256x512_S4x768x512_d1

theorem refUp_at (hn : FVec Ideal S4096x1024 .f32) (du : FVec Ideal S4096x512 .f32) (old : FVec Ideal S4x768x512 .f32)
    (p : Fin 4) (x : Fin 768) (d : Fin 512) :
    refUp hn du old (ix3 p x d) = (if x.val < 512 then old (ix3 p x d) else gradUp hn du p (third x) d : EReal) := by
  pointwise [refUp]
  by_cases h : x.val < 512
  · rw [dif_pos h, if_pos h]
  · rw [dif_neg h, if_neg h]
    have e : third x = ⟨x.val - 512, by omega⟩ := Fin.ext (by simp only [third]; omega)
    rw [e]
    exact Finset.sum_congr rfl fun s _ => mul_comm (G := EReal) _ _
end

theorem algebraic13 : Cert.algebraic_Kernel13Ideal_Reference13Ideal := by
  intro m g m' g' _ hagree
  refine ⟨fun c => Cert.Kernel13Ideal.Grad.arr m c,
    (θ_run Cert.Kernel13Ideal.defs _ _).mono (fun r h c => ⟨(h c).1.trans (Cert.Kernel13Ideal.Grad.final m c), (h c).2⟩)
      (Cert.Kernel13Ideal.Value.run_blocks m g),
    (θ_run Cert.Reference13Ideal.defs _ _).mono (fun r h c => ?_) (Cert.Reference13Ideal.Value.run m' g')⟩
  obtain ⟨a0, a1, a2⟩ := hagree c
  have h0 := (h c).1
  rw [a0, a1, a2] at h0
  exact ⟨h0.trans (funext (by_ix3 fun p x d => refA_at _ _ _ p x d)), (h c).2⟩

theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

theorem algebraic14 : Cert.algebraic_Kernel14Ideal_Reference14Ideal := by
  intro m g m' g' _ hagree
  refine ⟨fun c => Cert.Kernel14Ideal.Grad.arr m c,
    (θ_run Cert.Kernel14Ideal.defs _ _).mono (fun r h c => ⟨(h c).1.trans (Cert.Kernel14Ideal.Grad.final m c), (h c).2⟩)
      (Cert.Kernel14Ideal.Value.run_blocks m g),
    (θ_run Cert.Reference14Ideal.defs _ _).mono (fun r h c => ?_) (Cert.Reference14Ideal.Value.run m' g')⟩
  obtain ⟨a0, a1, a2⟩ := hagree c
  have h0 := (h c).1
  rw [a0, a1, a2] at h0
  exact ⟨h0.trans (funext (by_ix3 fun p x d => refB_at _ _ _ p x d)), (h c).2⟩

theorem frame_reference14 : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

theorem algebraic15 : Cert.algebraic_Kernel15Ideal_Reference15Ideal := by
  intro m g m' g' _ hagree
  refine ⟨fun c => Cert.Kernel15Ideal.Grad.arr m c,
    (θ_run Cert.Kernel15Ideal.defs _ _).mono (fun r h c => ⟨(h c).1.trans (Cert.Kernel15Ideal.Grad.final m c), (h c).2⟩)
      (Cert.Kernel15Ideal.Value.run_blocks m g),
    (θ_run Cert.Reference15Ideal.defs _ _).mono (fun r h c => ?_) (Cert.Reference15Ideal.Value.run m' g')⟩
  obtain ⟨a0, a1, a2⟩ := hagree c
  have h0 := (h c).1
  rw [a0, a1] at h0
  exact ⟨h0.trans (funext (by_ix3 fun p x d => refOut_at _ _ p x d)), (h c).2⟩

theorem frame_reference15 : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

theorem algebraic23 : Cert.algebraic_Kernel23Ideal_Reference23Ideal := by
  intro m g m' g' _ hagree
  refine ⟨fun c => Cert.Kernel23Ideal.Grad.arr m c,
    (θ_run Cert.Kernel23Ideal.defs _ _).mono (fun r h c => ⟨(h c).1.trans (Cert.Kernel23Ideal.Grad.final m c), (h c).2⟩)
      (Cert.Kernel23Ideal.Value.run_blocks m g),
    (θ_run Cert.Reference23Ideal.defs _ _).mono (fun r h c => ?_) (Cert.Reference23Ideal.Value.run m' g')⟩
  obtain ⟨a0, a1, a2⟩ := hagree c
  have h0 := (h c).1
  rw [a0, a1, a2] at h0
  exact ⟨h0.trans (funext (by_ix3 fun p x d => refUp_at _ _ _ p x d)), (h c).2⟩

theorem frame_reference23 : Cert.quiescent_Reference23Ideal := fun m g _ =>
  (θ_run Cert.Reference23Ideal.defs _ _).mono (fun r h => ⟨fun c => (h c).2, sem_eq_zero_of_no_sems (by decide) r.2⟩)
    (Cert.Reference23Ideal.Value.run m g)

end Cert.GradMix

end
-- ==== Proof.Down.lean ====
/- The feed-forward's output product with the residual added: what the call leaves in its result, and that it is the
   reference's. -/
module

public import proofs.«01_k».proof.Defs
public import proofs.«01_k».proof.Proof.NormRow
public import proofs.«01_k».proof.Proof.Gen.Kernel11Ideal.Value
public import proofs.«01_k».proof.Proof.Gen.Reference11Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel11Ideal.Down

open Cert.Kernel11Ideal Cert.Kernel11Ideal.Gen Idealize.ShloMosaic Idealize.ShloMosaic.TcCoe Idealize.SL.Sem
open Cert.Ffn Cert.NormRow

/-- A block's product with its layer of the weight. -/
def prod (a : Vec Ideal S1x512x704 .bf16) (w : Vec Ideal S1x704x1024 .bf16) (r : Fin 512) (d : Fin 1024) : EReal :=
  ∑ x : Fin 704, (a (ix3 0 r x) : EReal) * w (ix3 0 x d)

/-- The four products and the residual. -/
theorem sum_at (a0 a1 a2 a3 : Vec Ideal S1x512x704 .bf16) (w0 w1 w2 w3 : Vec Ideal S1x704x1024 .bf16) (X : Vec Ideal S512x1024 .f32)
    (r : Fin 512) (d : Fin 1024) :
    k0_pay1 (F := Ideal) a0 w0 a1 w1 a2 w2 a3 w3 X (ix2 r d)
      = (prod a0 w0 r d + prod a1 w1 r d + prod a2 w2 r d + prod a3 w3 r d + X (ix2 r d) : EReal) := by
  pointwise [k0_pay1]
  rfl

variable (m : (ℓ : Loc nD τ sig) → Buf (Elt Ideal) ℓ) (c : Dev nD)

/-- The arguments, as arrays of extended reals. -/
abbrev h : FVec Ideal S4096x2816 .f32 := m ((c : Thread nD τ).loc main_arg0)
abbrev wd : FVec Ideal S2816x1024 .f32 := m ((c : Thread nD τ).loc main_arg1)
abbrev xin : FVec Ideal S4096x1024 .f32 := m ((c : Thread nD τ).loc main_arg2)

theorem idx : ∀ t : Fin cfg0.N, win0_0.index t = ![0, t.val, 0] ∧ win0_1.index t = ![t.val, 0]
    ∧ win0_2.index t = ![0, 0, 0] ∧ win0_3.index t = ![1, 0, 0] ∧ win0_4.index t = ![2, 0, 0] ∧ win0_5.index t = ![3, 0, 0]
    ∧ win0_6.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (p : Fin 4) (r : Fin 512) (x : Fin 704) :
    (iblk m c 0 t : Vec Ideal S4x512x704 .bf16) (ix3 p r x) = h m c (ix2 (row t r) (unit p x)) := by
  blk_ext! [iblk, V, idx t, row, unit]

theorem blk1 (t : Fin cfg0.N) (r : Fin 512) (x : Fin 1024) :
    (iblk m c 1 t : Vec Ideal S512x1024 .f32) (ix2 r x) = xin m c (ix2 (row t r) x) := by
  blk_ext [iblk, V, idx t, row]

theorem blk2 (t : Fin cfg0.N) (r : Fin 704) (x : Fin 1024) :
    (iblk m c 2 t : Vec Ideal S1x704x1024 .bf16) (ix3 0 r x) = wd m c (ix2 (unit 0 r) x) := by
  blk_ext! [iblk, V, idx t, unit]

theorem blk3 (t : Fin cfg0.N) (r : Fin 704) (x : Fin 1024) :
    (iblk m c 3 t : Vec Ideal S1x704x1024 .bf16) (ix3 0 r x) = wd m c (ix2 (unit 1 r) x) := by
  blk_ext! [iblk, V, idx t, unit]

theorem blk4 (t : Fin cfg0.N) (r : Fin 704) (x : Fin 1024) :
    (iblk m c 4 t : Vec Ideal S1x704x1024 .bf16) (ix3 0 r x) = wd m c (ix2 (unit 2 r) x) := by
  blk_ext! [iblk, V, idx t, unit]

theorem blk5 (t : Fin cfg0.N) (r : Fin 704) (x : Fin 1024) :
    (iblk m c 5 t : Vec Ideal S1x704x1024 .bf16) (ix3 0 r x) = wd m c (ix2 (unit 3 r) x) := by
  blk_ext! [iblk, V, idx t, unit]

/-- A layer's product, in the arrays' terms. -/
theorem prod_eq (t : Fin cfg0.N) (p : Fin 4) (o : ℕ) (ho : o = p.val)
    (inb : ∀ a, (![o, 0, 0] : Fin 3 → ℕ) a + (![1, 512, 704] : Fin 3 → ℕ) a ≤ S4x512x704.size a)
    (W : Vec Ideal S1x704x1024 .bf16) (hW : ∀ r x, W (ix3 0 r x) = wd m c (ix2 (unit p r) x)) (r : Fin 512) (d : Fin 1024) :
    prod (View.ld (iblk m c 0 t : Vec Ideal S4x512x704 .bf16) (Rect.unit ![o, 0, 0] ![1, 512, 704] inb)) W r d
      = ∑ k, (h m c (ix2 (row t r) (unit p k)) : EReal) * wd m c (ix2 (unit p k) d) :=
  Finset.sum_congr rfl fun k _ => congrArg₂ (fun a b : EReal => a * b)
    ((congrArg (iblk m c 0 t : Vec Ideal S4x512x704 .bf16) (layer_idx p o ho inb 0 r k)).trans (blk0 m c t p r k)) (hW k d)

/-- The result. -/
def arr (i : S4096x1024.Idx) : EReal :=
  xin m c i + ∑ j : Fin 2816, (h m c (ix2 (i 0) j) : EReal) * wd m c (ix2 j (i 1))

theorem final : (dats m 0 c).arrAt 6 cfg0.N = arr m c :=
  (dats m 0 c).arrAt_eq_of_covers 6 _ (by decide +kernel) fun t hf y => by
    revert y
    refine by_ix2 fun r d => ?_
    blk_simp
    rw [after0_6]
    frame_out
    refine (sum_at _ _ _ _ _ _ _ _ _ r d).trans ?_
    rw [prod_eq m c t 0 0 rfl _ _ (blk2 m c t), prod_eq m c t 1 1 rfl _ _ (blk3 m c t), prod_eq m c t 2 2 rfl _ _ (blk4 m c t),
      prod_eq m c t 3 3 rfl _ _ (blk5 m c t), blk1]
    have e : (arr m c (ix2 (row t r) d) : EReal) = _ :=
      (congrArg (fun s : EReal => xin m c (ix2 (row t r) d) + s)
        (sum_units fun j => (h m c (ix2 (row t r) j) : EReal) * wd m c (ix2 j d))).trans (add_comm (G := EReal) _ _)
    refine e.symm.trans (congrArg (arr m c) ?_)
    blk_ext [idx t, row]

end Cert.Kernel11Ideal.Down

namespace Cert.Proof

open Idealize.ShloMosaic Idealize.SL.Sem Cert.Ffn

section
open Cert.Reference11Ideal Cert.Reference11Ideal.Gen

/-- The product and the residual as the reference computes them. -/
def refOut (h : FVec Ideal S4096x2816 .f32) (w : FVec Ideal S2816x1024 .f32) (x : FVec Ideal S4096x1024 .f32) : FVec Ideal S4096x1024 .f32 :=
  addf x (Host.dotGeneral dot_S4096x2816_S2816x1024_S4096x1024_1_0_0_1_n_n none h w)

theorem refOut_at (h : FVec Ideal S4096x2816 .f32) (w : FVec Ideal S2816x1024 .f32) (x : FVec Ideal S4096x1024 .f32)
    (s : Fin 4096) (d : Fin 1024) :
    refOut h w x (ix2 s d) = (x (ix2 s d) + ∑ j : Fin 2816, (h (ix2 s j) : EReal) * w (ix2 j d) : EReal) := by
  pointwise [refOut]
end

theorem algebraic11 : Cert.algebraic_Kernel11Ideal_Reference11Ideal := by
  intro m g m' g' _ hagree
  refine ⟨fun c => Cert.Kernel11Ideal.Down.arr m c,
    (θ_run Cert.Kernel11Ideal.defs _ _).mono (fun r h c => ⟨(h c).1.trans (Cert.Kernel11Ideal.Down.final m c), (h c).2⟩)
      (Cert.Kernel11Ideal.Value.run_blocks m g),
    (θ_run Cert.Reference11Ideal.defs _ _).mono (fun r h c => ?_) (Cert.Reference11Ideal.Value.run m' g')⟩
  obtain ⟨a0, a1, a2⟩ := hagree c
  have h0 := (h c).1
  rw [a0, a1, a2] at h0
  exact ⟨h0.trans (funext (by_ix2 fun s d => refOut_at _ _ _ s d)), (h c).2⟩

theorem frame_reference11 : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

end Cert.Proof

end
-- ==== Proof.LossHead.lean ====
/- The last feed-forward's output product, the final norm, the loss and its gradients: what the call leaves in its three
   results.

   The call adds the loss and the gain's gradient up block by block. The loss's factor one half it applies to every block,
   and the factor of the residual's derivative, two halves of 1/1024, it applies as one number. -/
module

public import proofs.«01_k».proof.Proof.NormRow
public import proofs.«01_k».proof.Proof.Gen.Kernel21Ideal.Value
public import Idealize.ShloMosaic.Lib.Pipeline.ReadBack

@[expose] public section

set_option maxRecDepth 16384

noncomputable section

namespace Cert.Kernel21Ideal.LossHead

open Cert.Kernel21Ideal Cert.Kernel21Ideal.Gen Idealize.ShloMosaic Idealize.ShloMosaic.TcCoe Idealize.SL.Sem
open Cert.Ffn Cert.NormRow

/-- One half, and 1/1024, as their words read. -/
def half : EReal := Ideal.ofBits .f32 0x3F000000#32
def unitLen : EReal := Ideal.ofBits .f32 0x3A800000#32

/-- A block's product with its layer of the weight. -/
def prod (a : Vec Ideal S1x512x704 .bf16) (w : Vec Ideal S1x704x1024 .bf16) (r : Fin 512) (d : Fin 1024) : EReal :=
  ∑ x : Fin 704, (a (ix3 0 r x) : EReal) * w (ix3 0 x d)

/-- The residual and the four products, as the call adds them. -/
theorem sum_at (X : Vec Ideal S512x1024 .f32) (a0 a1 a2 a3 : Vec Ideal S1x512x704 .bf16) (w0 w1 w2 w3 : Vec Ideal S1x704x1024 .bf16)
    (r : Fin 512) (d : Fin 1024) :
    k0_pay8 (F := Ideal) (k0_pay5 X a0 w0 a1 w1 a2 w2) (k0_pay6 a3) (k0_pay7 w3) (constant S512x1024 .f32 0#32) (ix2 r d)
      = (X (ix2 r d) + prod a0 w0 r d + prod a1 w1 r d + prod a2 w2 r d + prod a3 w3 r d : EReal) := by
  pointwise [k0_pay8, k0_pay5, k0_pay6, k0_pay7]
  rfl

section
variable (A : FVec Ideal S512x1024 .f32) (B : FVec Ideal S512x704 .bf16) (C : FVec Ideal S704x1024 .bf16) (K : FVec Ideal S512x1024 .f32)
  (G : Vec Ideal S1x1024 .f32) (Y : Vec Ideal S512x1024 .f32)

/-- A row of the sum. -/
abbrev srow (r : Fin 512) (j : Fin 1024) : EReal := k0_pay8 (F := Ideal) A B C K (ix2 r j)

/-- The residual of the normalised rows from the target. -/
def dif (r : Fin 512) (d : Fin 1024) : EReal := srow A B C K r d * rs (srow A B C K r) * G (ix2 0 d) - Y (ix2 r d)

theorem rs_at (r : Fin 512) : k0_pay10 (F := Ideal) A B C K (ix2 r 0) = rs (srow A B C K r) := by
  pointwise [k0_pay10]
  rfl

theorem xh_at (r : Fin 512) (d : Fin 1024) : k0_pay11 (F := Ideal) A B C K (ix2 r d) = (srow A B C K r d * rs (srow A B C K r) : EReal) := by
  pointwise [k0_pay11]
  rw [rs_at]

theorem dif_at (r : Fin 512) (d : Fin 1024) : k0_pay12 (F := Ideal) A B C K G Y (ix2 r d) = dif A B C K G Y r d := by
  pointwise [k0_pay12, k0_pay9]
  rw [xh_at]
  rfl

theorem ct_at (r : Fin 512) (d : Fin 1024) : k0_pay14 (F := Ideal) A B C K G Y (ix2 r d) = (dif A B C K G Y r d * unitLen : EReal) := by
  pointwise [k0_pay14]
  rw [dif_at]
  rfl

theorem u_at (r : Fin 512) (d : Fin 1024) :
    k0_pay15 (F := Ideal) A B C K G Y (ix2 r d) = (dif A B C K G Y r d * unitLen * G (ix2 0 d) : EReal) := by
  pointwise [k0_pay15, k0_pay9]
  rw [ct_at]

theorem mean_at (r : Fin 512) :
    k0_pay16 (F := Ideal) A B C K G Y (ix2 r 0)
      = Ideal.div (∑ j : Fin 1024, dif A B C K G Y r j * unitLen * G (ix2 0 j) * (srow A B C K r j * rs (srow A B C K r))) len := by
  pointwise [k0_pay16]
  simp only [u_at, xh_at]

theorem dx_at (r : Fin 512) (d : Fin 1024) :
    k0_pay1 (F := Ideal) (k0_pay10 A B C K) (k0_pay11 A B C K) (k0_pay15 A B C K G Y) (k0_pay16 A B C K G Y) (ix2 r d)
      = dx (srow A B C K r) (fun j => dif A B C K G Y r j * unitLen * G (ix2 0 j)) d 0 := by
  pointwise [k0_pay1]
  rw [rs_at, xh_at, u_at, mean_at]
  exact (add_zero _).symm

theorem gain_at (acc : Vec Ideal S1x1024 .f32) (d : Fin 1024) :
    k0_pay2 (F := Ideal) (k0_pay11 A B C K) (k0_pay14 A B C K G Y) acc (ix2 0 d)
      = (acc (ix2 0 d) + ∑ r : Fin 512, dif A B C K G Y r d * unitLen * (srow A B C K r d * rs (srow A B C K r)) : EReal) := by
  pointwise [k0_pay2]
  simp only [ct_at, xh_at]

theorem loss_at (acc : Vec Ideal S1x128 .f32) (l : Fin 128) :
    k0_pay13 (F := Ideal) A B C K G Y acc (ix2 0 l)
      = (acc (ix2 0 l) + half * ∑ r : Fin 512, Ideal.div (∑ j : Fin 1024, dif A B C K G Y r j * dif A B C K G Y r j) len : EReal) := by
  pointwise [k0_pay13]
  simp only [dif_at]
  rfl
end

theorem fill9 (j : S1x1024.Idx) : k0_pay3 (F := Ideal) j = 0 := by pointwise [k0_pay3]
theorem fill10 (j : S1x128.Idx) : k0_pay4 (F := Ideal) j = 0 := by pointwise [k0_pay4]

variable (m : (ℓ : Loc nD τ sig) → Buf (Elt Ideal) ℓ) (c : Dev nD)

/-- The arguments, as arrays of extended reals. -/
abbrev h : FVec Ideal S4096x2816 .f32 := m ((c : Thread nD τ).loc main_arg0)
abbrev wd : FVec Ideal S2816x1024 .f32 := m ((c : Thread nD τ).loc main_arg1)
abbrev xin : FVec Ideal S4096x1024 .f32 := m ((c : Thread nD τ).loc main_arg2)
abbrev gain : FVec Ideal S1024 .f32 := m ((c : Thread nD τ).loc main_arg3)
abbrev target : FVec Ideal S4096x1024 .f32 := m ((c : Thread nD τ).loc main_arg4)

theorem idx : ∀ t : Fin cfg0.N, win0_0.index t = ![0, t.val, 0] ∧ win0_1.index t = ![t.val, 0] ∧ win0_2.index t = ![t.val, 0]
    ∧ win0_3.index t = ![0, 0]
    ∧ win0_4.index t = ![0, 0, 0] ∧ win0_5.index t = ![1, 0, 0] ∧ win0_6.index t = ![2, 0, 0] ∧ win0_7.index t = ![3, 0, 0]
    ∧ win0_8.index t = ![t.val, 0] ∧ win0_9.index t = ![0, 0] ∧ win0_10.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (p : Fin 4) (r : Fin 512) (x : Fin 704) :
    (iblk m c 0 t : Vec Ideal S4x512x704 .bf16) (ix3 p r x) = h m c (ix2 (row t r) (unit p x)) := by
  blk_ext! [iblk, V, idx t, row, unit]

theorem blk1 (t : Fin cfg0.N) (r : Fin 512) (x : Fin 1024) :
    (iblk m c 1 t : Vec Ideal S512x1024 .f32) (ix2 r x) = xin m c (ix2 (row t r) x) := by
  blk_ext [iblk, V, idx t, row]

theorem blk2 (t : Fin cfg0.N) (r : Fin 512) (x : Fin 1024) :
    (iblk m c 2 t : Vec Ideal S512x1024 .f32) (ix2 r x) = target m c (ix2 (row t r) x) := by
  blk_ext [iblk, V, idx t, row]

theorem blk3 (t : Fin cfg0.N) (x : Fin 1024) :
    (iblk m c 3 t : Vec Ideal S1x1024 .f32) (ix2 0 x) = gain m c (ix1 x) := by
  blk_ext! [iblk, V, idx t]

theorem blk4 (t : Fin cfg0.N) (r : Fin 704) (x : Fin 1024) :
    (iblk m c 4 t : Vec Ideal S1x704x1024 .bf16) (ix3 0 r x) = wd m c (ix2 (unit 0 r) x) := by
  blk_ext! [iblk, V, idx t, unit]

theorem blk5 (t : Fin cfg0.N) (r : Fin 704) (x : Fin 1024) :
    (iblk m c 5 t : Vec Ideal S1x704x1024 .bf16) (ix3 0 r x) = wd m c (ix2 (unit 1 r) x) := by
  blk_ext! [iblk, V, idx t, unit]

theorem blk6 (t : Fin cfg0.N) (r : Fin 704) (x : Fin 1024) :
    (iblk m c 6 t : Vec Ideal S1x704x1024 .bf16) (ix3 0 r x) = wd m c (ix2 (unit 2 r) x) := by
  blk_ext! [iblk, V, idx t, unit]

theorem blk7 (t : Fin cfg0.N) (r : Fin 704) (x : Fin 1024) :
    (iblk m c 7 t : Vec Ideal S1x704x1024 .bf16) (ix3 0 r x) = wd m c (ix2 (unit 3 r) x) := by
  blk_ext! [iblk, V, idx t, unit]

/-- A layer's product, in the arrays' terms. -/
theorem prod_eq (t : Fin cfg0.N) (p : Fin 4) (o : ℕ) (ho : o = p.val)
    (inb : ∀ a, (![o, 0, 0] : Fin 3 → ℕ) a + (![1, 512, 704] : Fin 3 → ℕ) a ≤ S4x512x704.size a)
    (W : Vec Ideal S1x704x1024 .bf16) (hW : ∀ r x, W (ix3 0 r x) = wd m c (ix2 (unit p r) x)) (r : Fin 512) (d : Fin 1024) :
    prod (View.ld (iblk m c 0 t : Vec Ideal S4x512x704 .bf16) (Rect.unit ![o, 0, 0] ![1, 512, 704] inb)) W r d
      = ∑ k, (h m c (ix2 (row t r) (unit p k)) : EReal) * wd m c (ix2 (unit p k) d) :=
  Finset.sum_congr rfl fun k _ => congrArg₂ (fun a b : EReal => a * b)
    ((congrArg (iblk m c 0 t : Vec Ideal S4x512x704 .bf16) (layer_idx p o ho inb 0 r k)).trans (blk0 m c t p r k)) (hW k d)

/-- The layer's output, at a token and a column. -/
def out (s : Fin 4096) (d : Fin 1024) : EReal := xin m c (ix2 s d) + ∑ j : Fin 2816, (h m c (ix2 s j) : EReal) * wd m c (ix2 j d)

/-- The four operands of point `t`'s sum. -/
abbrev opA (t : Fin cfg0.N) : FVec Ideal S512x1024 .f32 :=
  k0_pay5 (F := Ideal) (iblk m c 1 t : Vec Ideal S512x1024 .f32)
    (View.ld (iblk m c 0 t : Vec Ideal S4x512x704 .bf16) (Rect.unit ![0, 0, 0] ![1, 512, 704] inb_S4x512x704_S1x512x704_0_0_0))
    (iblk m c 4 t : Vec Ideal S1x704x1024 .bf16)
    (View.ld (iblk m c 0 t : Vec Ideal S4x512x704 .bf16) (Rect.unit ![1, 0, 0] ![1, 512, 704] inb_S4x512x704_S1x512x704_1_0_0))
    (iblk m c 5 t : Vec Ideal S1x704x1024 .bf16)
    (View.ld (iblk m c 0 t : Vec Ideal S4x512x704 .bf16) (Rect.unit ![2, 0, 0] ![1, 512, 704] inb_S4x512x704_S1x512x704_2_0_0))
    (iblk m c 6 t : Vec Ideal S1x704x1024 .bf16)
abbrev opB (t : Fin cfg0.N) : FVec Ideal S512x704 .bf16 :=
  k0_pay6 (F := Ideal) (View.ld (iblk m c 0 t : Vec Ideal S4x512x704 .bf16) (Rect.unit ![3, 0, 0] ![1, 512, 704] inb_S4x512x704_S1x512x704_3_0_0))
abbrev opC (t : Fin cfg0.N) : FVec Ideal S704x1024 .bf16 := k0_pay7 (F := Ideal) (iblk m c 7 t : Vec Ideal S1x704x1024 .bf16)
abbrev opK : FVec Ideal S512x1024 .f32 := constant S512x1024 .f32 0#32

theorem srow_eq (t : Fin cfg0.N) (r : Fin 512) (d : Fin 1024) : srow (opA m c t) (opB m c t) (opC m c t) opK r d = out m c (row t r) d := by
  refine (sum_at _ _ _ _ _ _ _ _ _ r d).trans ?_
  rw [prod_eq m c t 0 0 rfl _ _ (blk4 m c t), prod_eq m c t 1 1 rfl _ _ (blk5 m c t), prod_eq m c t 2 2 rfl _ _ (blk6 m c t),
    prod_eq m c t 3 3 rfl _ _ (blk7 m c t), blk1]
  unfold out
  rw [sum_units]
  simp only [add_assoc]

/-- The normalised output's residual from the target. -/
def diff (s : Fin 4096) (d : Fin 1024) : EReal := out m c s d * rs (out m c s) * gain m c (ix1 d) - target m c (ix2 s d)

theorem dif_eq (t : Fin cfg0.N) (r : Fin 512) (d : Fin 1024) :
    dif (opA m c t) (opB m c t) (opC m c t) opK (iblk m c 3 t : Vec Ideal S1x1024 .f32) (iblk m c 2 t : Vec Ideal S512x1024 .f32) r d
      = diff m c (row t r) d := by
  have e : srow (opA m c t) (opB m c t) (opC m c t) opK r = out m c (row t r) := funext fun j => srow_eq m c t r j
  unfold dif
  rw [e, blk3, blk2]
  rfl

/-- The first result: the gradient by the layer's output. -/
def arrX (i : S4096x1024.Idx) : EReal := dx (out m c (i 0)) (fun j => diff m c (i 0) j * unitLen * gain m c (ix1 j)) (i 1) 0

theorem store8 (t : Fin cfg0.N) (r : Fin 512) (d : Fin 1024) :
    k0_pay1 (F := Ideal) (k0_pay10 (opA m c t) (opB m c t) (opC m c t) opK) (k0_pay11 (opA m c t) (opB m c t) (opC m c t) opK)
      (k0_pay15 (opA m c t) (opB m c t) (opC m c t) opK (iblk m c 3 t : Vec Ideal S1x1024 .f32) (iblk m c 2 t : Vec Ideal S512x1024 .f32))
      (k0_pay16 (opA m c t) (opB m c t) (opC m c t) opK (iblk m c 3 t : Vec Ideal S1x1024 .f32) (iblk m c 2 t : Vec Ideal S512x1024 .f32))
      (ix2 r d) = arrX m c (ix2 (row t r) d) := by
  have e : srow (opA m c t) (opB m c t) (opC m c t) opK r = out m c (row t r) := funext fun j => srow_eq m c t r j
  refine (dx_at _ _ _ _ _ _ r d).trans ?_
  rw [e]
  simp only [dif_eq m c t, blk3 m c t]
  rfl

theorem outs8 (t : Fin cfg0.N) (r : Fin 512) (d : Fin 1024) : (outsAt0 m c t.val t.isLt).1 (ix2 r d) = arrX m c (ix2 (row t r) d) := by
  by_cases h : t.val % 8 = 0
  · rw [outsAt0_A m c t h]
    frame_open
    frame_out
    exact store8 m c t r d
  · rw [outsAt0_B m c t h]
    frame_out
    exact store8 m c t r d

theorem final8 : (dats m 0 c).arrAt 8 cfg0.N = arrX m c :=
  (dats m 0 c).arrAt_eq_of_covers 8 _ (by decide +kernel) fun t hf y => by
    revert y
    refine by_ix2 fun r d => ?_
    blk_simp
    rw [after0_8]
    refine (outs8 m c t r d).trans (congrArg (arrX m c) ?_)
    blk_ext [idx t, row]

/-- A token's part of the gain's gradient, and of the loss. -/
def gainTerm (s : Fin 4096) (d : Fin 1024) : EReal := diff m c s d * unitLen * (out m c s d * rs (out m c s))
def lossTerm (s : Fin 4096) : EReal := Ideal.div (∑ j : Fin 1024, diff m c s j * diff m c s j) len

/-- Point `t`'s parts. -/
def gainPart (t : Fin cfg0.N) (d : Fin 1024) : EReal := ∑ r : Fin 512, gainTerm m c (row t r) d
def lossPart (t : Fin cfg0.N) (_ : Fin 128) : EReal := ∑ r : Fin 512, half * lossTerm m c (row t r)

theorem one_half : half = ((1 / 2 : ℝ) : EReal) := by
  simp [half, Ideal.ofBits, Ideal.ieee]
  rw [← EReal.coe_mul]
  norm_num

theorem gain_step (t : Fin cfg0.N) (acc : Vec Ideal S1x1024 .f32) (d : Fin 1024) :
    k0_pay2 (F := Ideal) (k0_pay11 (opA m c t) (opB m c t) (opC m c t) opK)
      (k0_pay14 (opA m c t) (opB m c t) (opC m c t) opK (iblk m c 3 t : Vec Ideal S1x1024 .f32) (iblk m c 2 t : Vec Ideal S512x1024 .f32)) acc (ix2 0 d)
      = (acc (ix2 0 d) + gainPart m c t d : EReal) := by
  have e (r : Fin 512) : srow (opA m c t) (opB m c t) (opC m c t) opK r = out m c (row t r) := funext fun j => srow_eq m c t r j
  refine (gain_at _ _ _ _ _ _ acc d).trans ?_
  simp only [dif_eq m c t, e, srow_eq m c t]
  rfl

theorem loss_step (t : Fin cfg0.N) (acc : Vec Ideal S1x128 .f32) (l : Fin 128) :
    k0_pay13 (F := Ideal) (opA m c t) (opB m c t) (opC m c t) opK (iblk m c 3 t : Vec Ideal S1x1024 .f32)
      (iblk m c 2 t : Vec Ideal S512x1024 .f32) acc (ix2 0 l)
      = (acc (ix2 0 l) + lossPart m c t l : EReal) := by
  refine (loss_at _ _ _ _ _ _ acc l).trans ?_
  simp only [dif_eq m c t]
  unfold lossPart
  rw [one_half, ← Cert.SoftmaxRow.coe_mul_sum _ _ (by norm_num)]
  rfl

theorem outs9_A (t : Fin cfg0.N) (h : t.val % 8 = 0) (d : Fin 1024) :
    (outsAt0 m c t.val t.isLt).2.1 (ix2 0 d) = 0 + gainPart m c t d := by
  rw [outsAt0_A m c t h]
  frame_open
  simp (disch := decide) only [↓ View.readCov_skip, ↓ View.readCov_cons_toLoadRect, ↓ View.readCov_fill]
  frame_out
  refine (gain_step m c t _ d).trans ?_
  rw [fill9]

theorem outs9_B (t : Fin cfg0.N) (h : ¬ t.val % 8 = 0) (d : Fin 1024) :
    (outsAt0 m c t.val t.isLt).2.1 (ix2 0 d)
      = ((outsAt0 m c (t.val - 1) (Nat.lt_of_le_of_lt (Nat.sub_le _ _) t.isLt)).2.1 (ix2 0 d) : EReal) + gainPart m c t d := by
  rw [outsAt0_B m c t h]
  frame_out
  exact gain_step m c t _ d

theorem outs10_A (t : Fin cfg0.N) (h : t.val % 8 = 0) (l : Fin 128) :
    (outsAt0 m c t.val t.isLt).2.2 (ix2 0 l) = 0 + lossPart m c t l := by
  rw [outsAt0_A m c t h]
  frame_open
  simp (disch := decide) only [↓ View.readCov_skip, ↓ View.readCov_cons_toLoadRect, ↓ View.readCov_fill]
  frame_out
  refine (loss_step m c t _ l).trans ?_
  rw [fill10]

theorem outs10_B (t : Fin cfg0.N) (h : ¬ t.val % 8 = 0) (l : Fin 128) :
    (outsAt0 m c t.val t.isLt).2.2 (ix2 0 l)
      = ((outsAt0 m c (t.val - 1) (Nat.lt_of_le_of_lt (Nat.sub_le _ _) t.isLt)).2.2 (ix2 0 l) : EReal) + lossPart m c t l := by
  rw [outsAt0_B m c t h]
  frame_out
  exact loss_step m c t _ l

/-- The gain's gradient, and the loss. -/
def arrN (d : Fin 1024) : EReal := ∑ s : Fin 4096, gainTerm m c s d
def loss : EReal := ∑ s : Fin 4096, half * lossTerm m c s

theorem outs9_last (d : Fin 1024) : (outsAt0 m c t0_7.val t0_7.isLt).2.1 (ix2 0 d) = arrN m c d := by
  refine (Pipeline.eq_sum_fin_of_reset_step_apply_last (M := EReal) (fun n h d => (outsAt0 m c n h).2.1 (ix2 0 d)) 8 (fun _ => 0)
    (gainPart m c) (fun t h d => outs9_A m c t h d) (fun t h d => outs9_B m c t h d) (le_of_eq N_0) t0_7 rfl d).trans ?_
  rw [zero_add]
  exact Fin.sum_mul_add_congr (L := 4096) (S := cfg0.N) (n := 512) (f := fun s => gainTerm m c s d) (fun _ _ _ => rfl) (congrArg (· * 512) N_0.symm)

theorem outs10_last (l : Fin 128) : (outsAt0 m c t0_7.val t0_7.isLt).2.2 (ix2 0 l) = loss m c := by
  refine (Pipeline.eq_sum_fin_of_reset_step_apply_last (M := EReal) (fun n h l => (outsAt0 m c n h).2.2 (ix2 0 l)) 8 (fun _ => 0)
    (lossPart m c) (fun t h l => outs10_A m c t h l) (fun t h l => outs10_B m c t h l) (le_of_eq N_0) t0_7 rfl l).trans ?_
  rw [zero_add]
  exact Fin.sum_mul_add_congr (L := 4096) (S := cfg0.N) (n := 512) (f := fun s => half * lossTerm m c s) (fun _ _ _ => rfl) (congrArg (· * 512) N_0.symm)

theorem final9 : (dats m 0 c).arrAt 9 cfg0.N = fun i => arrN m c (i 1) :=
  (dats m 0 c).arrAt_eq_of_after_last 9 t0_7 (by decide +kernel) _ fun j => by
    revert j
    refine by_ix2 fun z d => ?_
    obtain rfl : z = 0 := Subsingleton.elim _ _
    blk_simp
    rw [after0_9]
    exact outs9_last m c d

theorem final10 : (dats m 0 c).arrAt 10 cfg0.N = fun _ => loss m c :=
  (dats m 0 c).arrAt_eq_of_after_last 10 t0_7 (by decide +kernel) _ fun j => by
    revert j
    refine by_ix2 fun z l => ?_
    obtain rfl : z = 0 := Subsingleton.elim _ _
    blk_simp
    rw [after0_10]
    exact outs10_last m c l

end Cert.Kernel21Ideal.LossHead

end
-- ==== Proof.LossHeadRef.lean ====
/- The reference's loss and its gradients by the final norm's input and gain, and that the call's are the same. -/
module

public import proofs.«01_k».proof.Proof.Down
public import proofs.«01_k».proof.Proof.InBwdRef
public import proofs.«01_k».proof.Proof.FfnUpRef
public import proofs.«01_k».proof.Proof.LossHead
public import proofs.«01_k».proof.Proof.Gen.Reference21Ideal.Run

@[expose] public section

set_option maxRecDepth 16384

noncomputable section

namespace Cert.LossHeadRef

open Idealize.ShloMosaic Idealize.SL.Sem Cert.NormRow
open Cert.Ffn (by_ix2)
open Cert.InBwdRef (root root_at slopes slopes_at refN refN_at gained gained_at)
open Cert.FfnUpRef (normed normed_at)
open Cert.Proof (refOut refOut_at)
open Cert.Kernel21Ideal.LossHead (half one_half unitLen)

/-- The two factors of the residual's derivative are one number. -/
theorem factors (y : EReal) : Ideal.div half len * (Ideal.ofBits .f32 0x40000000#32 * y) = y * unitLen := by
  have h2 : Ideal.ofBits .f32 0x40000000#32 = ((2 : ℝ) : EReal) := by
    simp [Ideal.ofBits, Ideal.ieee]
    try (rw [← EReal.coe_mul]; norm_num)
  have hu : unitLen = ((1 / 1024 : ℝ) : EReal) := by
    simp [unitLen, Ideal.ofBits, Ideal.ieee]
    try (rw [← EReal.coe_mul]; norm_num)
  rw [h2, hu, one_half, len_real, Ideal.div_coe (by norm_num), ← mul_assoc, ← EReal.coe_mul, ← EReal.coe_mul, mul_comm]
  congr 2
  norm_num

section
open Cert.Reference21Ideal Cert.Reference21Ideal.Gen

variable (n t x y : FVec Ideal S4096x1024 .f32)

/-- The residual's derivative. -/
def cts : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf n t))

/-- The gradient by the norm's input. -/
def gradX : FVec Ideal S4096x1024 .f32 :=
  addf (addf (mulf y (broadcastInDim S4096x1024 ![0, 1] bcast_S4096x1_S4096x1024_0_1 (root x)))
    (mulf x (broadcastInDim S4096x1024 ![0] bcast_S4096_S4096x1024_0 (slopes x y))))
    (mulf (broadcastInDim S4096x1024 ![0] bcast_S4096_S4096x1024_0 (slopes x y)) x)

/-- The loss, in a row of its own. -/
def lossRow : FVec Ideal S1x128 .f32 :=
  broadcastInDim S1x128 ![] bcast_S_S1x128 (mulf (constant S_ .f32 0x3F000000#32) (Host.reduceAdd (Host.divf (Host.reduceAdd (mulf (subf n t) (subf n t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem cts_at (s : Fin 4096) (d : Fin 1024) : cts n t (ix2 s d) = ((n (ix2 s d) - t (ix2 s d)) * unitLen : EReal) := by
  pointwise [cts]
  exact factors _

theorem gradX_at (s : Fin 4096) (d : Fin 1024) : gradX x y (ix2 s d) = dxChain (fun j => x (ix2 s j)) (fun j => y (ix2 s j)) d 0 := by
  pointwise [gradX]
  rw [slopes_at, root_at]
  unfold dxChain
  rw [zero_add]

theorem lossRow_at (l : Fin 128) :
    lossRow n t (ix2 0 l) = (∑ s : Fin 4096, half * Ideal.div (∑ j : Fin 1024, (n (ix2 s j) - t (ix2 s j)) * (n (ix2 s j) - t (ix2 s j))) len : EReal) := by
  rw [one_half, ← Cert.SoftmaxRow.coe_mul_sum _ _ (by norm_num), ← one_half]
  pointwise [lossRow]
  rfl
end

open Cert.Kernel21Ideal.LossHead in
theorem algebraic21 : Cert.algebraic_Kernel21Ideal_Reference21Ideal := by
  intro m g m' g' _ hagree
  refine ⟨fun c => arrX m c, fun c i => arrN m c (i 1), fun c _ => loss m c,
    (θ_run Cert.Kernel21Ideal.defs _ _).mono (fun r h c => ⟨(h c).1.trans (final8 m c), (h c).2.1.trans (final9 m c),
      (h c).2.2.1.trans (final10 m c), (h c).2.2.2⟩)
      (Cert.Kernel21Ideal.Value.run_blocks m g),
    (θ_run Cert.Reference21Ideal.defs _ _).mono (fun r h c => ?_) (Cert.Reference21Ideal.Value.run m' g')⟩
  obtain ⟨a0, a1, a2, a3, a4⟩ := hagree c
  obtain ⟨h0, h1, h2, hargs⟩ := h c
  unfold Cert.Reference21Ideal.Value.res_main_v52 at h0
  rw [a0, a1, a2, a3, a4] at h0 h1 h2
  have e (s : Fin 4096) (d : Fin 1024) : refOut (Cert.Kernel21Ideal.LossHead.h m c) (wd m c) (xin m c) (ix2 s d) = out m c s d :=
    refOut_at _ _ _ s d
  refine ⟨Eq.trans (b := gradX (refOut (Cert.Kernel21Ideal.LossHead.h m c) (wd m c) (xin m c)) (gained (gain m c)
      (cts (normed (refOut (Cert.Kernel21Ideal.LossHead.h m c) (wd m c) (xin m c)) (gain m c)) (target m c)))) h0 ?_,
    Eq.trans (b := refN (refOut (Cert.Kernel21Ideal.LossHead.h m c) (wd m c) (xin m c))
      (cts (normed (refOut (Cert.Kernel21Ideal.LossHead.h m c) (wd m c) (xin m c)) (gain m c)) (target m c))) h1 ?_,
    Eq.trans (b := lossRow (normed (refOut (Cert.Kernel21Ideal.LossHead.h m c) (wd m c) (xin m c)) (gain m c)) (target m c)) h2 ?_, hargs⟩
  · refine funext (by_ix2 fun s d => (gradX_at _ _ s d).trans ?_)
    simp only [gained_at, cts_at, normed_at, e]
    exact dx_eq _ _ _ _
  · refine funext (by_ix2 fun z d => ?_)
    obtain rfl : z = 0 := Subsingleton.elim _ _
    refine (refN_at _ _ d).trans ?_
    simp only [cts_at, normed_at, e]
    rfl
  · refine funext (by_ix2 fun z l => ?_)
    obtain rfl : z = 0 := Subsingleton.elim _ _
    refine (lossRow_at _ _ l).trans ?_
    simp only [normed_at, e]
    rfl

theorem frame_reference21 : Cert.quiescent_Reference21Ideal := fun m g _ =>
  (θ_run Cert.Reference21Ideal.defs _ _).mono (fun r h => ⟨fun c => (h c).2.2.2, sem_eq_zero_of_no_sems (by decide) r.2⟩)
    (Cert.Reference21Ideal.Value.run m g)

end Cert.LossHeadRef

end
-- ==== Proof.OddIn.lean ====
/- The odd mixer's normalised rows and input product: what the call leaves in its two results, and that they are the
   reference's. -/
module

public import proofs.«01_k».proof.Proof.FfnUpRef
public import proofs.«01_k».proof.Proof.MixLayout
public import proofs.«01_k».proof.Proof.Gen.Kernel25Ideal.Value
public import proofs.«01_k».proof.Proof.Gen.Reference25Ideal.Run

@[expose] public section

set_option maxRecDepth 16384

noncomputable section

namespace Cert.Kernel25Ideal.OddIn

open Cert.Kernel25Ideal Cert.Kernel25Ideal.Gen Idealize.ShloMosaic Idealize.ShloMosaic.TcCoe Idealize.SL.Sem
open Cert.NormRow
open Cert.Ffn (by_ix2 by_ix3)
open Cert.Proj (unit)

section
variable (X : Vec Ideal S512x1024 .f32) (G : Vec Ideal S1x1024 .f32)

theorem norm_at (r : Fin 512) (d : Fin 1024) :
    k0_pay2 (F := Ideal) X G (ix2 r d) = (X (ix2 r d) * rs (fun j => X (ix2 r j)) * G (ix2 0 d) : EReal) := by
  pointwise [k0_pay2]
  rfl

/-- The product of a block's columns of quarter `p` with a layer of the weight. -/
def prod (N : FVec Ideal S512x1024 .bf16) (p : Fin 4) (w : Vec Ideal S1x256x512 .bf16) (r : Fin 512) (d : Fin 512) : EReal :=
  ∑ x : Fin 256, (N (ix2 r (unit p x)) : EReal) * w (ix3 0 x d)

/-- The first three products. -/
theorem three_at (w0 w1 w2 : Vec Ideal S1x256x512 .bf16) (r : Fin 512) (d : Fin 512) :
    k0_pay3 (F := Ideal) X G w0 w1 w2 (ix2 r d)
      = (prod (k0_pay2 X G) 0 w0 r d + prod (k0_pay2 X G) 1 w1 r d + prod (k0_pay2 X G) 2 w2 r d : EReal) := by
  pointwise [k0_pay3]
  simp only [Mix.col0, Mix.col1, Mix.col2]
  rfl

/-- The last product added to the others. -/
theorem last_at (T : FVec Ideal S512x512 .f32) (w3 : Vec Ideal S1x256x512 .bf16) (r : Fin 512) (d : Fin 512) :
    k0_pay1 (F := Ideal) T (k0_pay4 X G) (k0_pay5 w3) (ix2 r d) = (T (ix2 r d) + prod (k0_pay2 X G) 3 w3 r d : EReal) := by
  pointwise [k0_pay1, k0_pay4, k0_pay5]
  simp only [Mix.col3]
  rfl
end

variable (m : (ℓ : Loc nD τ sig) → Buf (Elt Ideal) ℓ) (c : Dev nD)

/-- The arguments, as arrays of extended reals. -/
abbrev xin : FVec Ideal S4096x1024 .f32 := m ((c : Thread nD τ).loc main_arg0)
abbrev gain : FVec Ideal S1024 .f32 := m ((c : Thread nD τ).loc main_arg1)
abbrev wi : FVec Ideal S1024x512 .f32 := m ((c : Thread nD τ).loc main_arg3)

theorem idx : ∀ t : Fin cfg0.N, win0_0.index t = ![t.val, 0] ∧ win0_1.index t = ![0, 0]
    ∧ win0_2.index t = ![0, 2, 0] ∧ win0_3.index t = ![1, 2, 0] ∧ win0_4.index t = ![2, 2, 0] ∧ win0_5.index t = ![3, 2, 0]
    ∧ win0_6.index t = ![t.val, 0] ∧ win0_7.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = xin m c (ix2 (row t r) x) := by
  blk_ext [iblk, V, idx t, row]

theorem blk1 (t : Fin cfg0.N) (x : Fin 1024) :
    (iblk m c 1 t : Vec Ideal S1x1024 .f32) (ix2 0 x) = gain m c (ix1 x) := by
  blk_ext! [iblk, V, idx t]

/-- The odd mixer's two weights in layers, the output weight's rows first. -/
def slab : Vec Ideal S4x768x512 .bf16 := V m c main_v4

theorem slab_high (p : Fin 4) (r : Fin 256) (x : Fin 512) (h : 512 + r.val < 768) :
    slab m c (ix3 p ⟨512 + r.val, h⟩ x) = wi m c (ix2 (Proj.unit p r) x) := by
  unfold slab
  entry_read
  pointwise
  rfl

theorem blk2 (t : Fin cfg0.N) (r : Fin 256) (x : Fin 512) :
    (iblk m c 2 t : Vec Ideal S1x256x512 .bf16) (ix3 0 r x) = wi m c (ix2 (Proj.unit 0 r) x) := by
  refine Eq.trans ?_ (slab_high m c 0 r x (by omega))
  unfold slab
  blk_ext [iblk, idx t]

theorem blk3 (t : Fin cfg0.N) (r : Fin 256) (x : Fin 512) :
    (iblk m c 3 t : Vec Ideal S1x256x512 .bf16) (ix3 0 r x) = wi m c (ix2 (Proj.unit 1 r) x) := by
  refine Eq.trans ?_ (slab_high m c 1 r x (by omega))
  unfold slab
  blk_ext [iblk, idx t]

theorem blk4 (t : Fin cfg0.N) (r : Fin 256) (x : Fin 512) :
    (iblk m c 4 t : Vec Ideal S1x256x512 .bf16) (ix3 0 r x) = wi m c (ix2 (Proj.unit 2 r) x) := by
  refine Eq.trans ?_ (slab_high m c 2 r x (by omega))
  unfold slab
  blk_ext [iblk, idx t]

theorem blk5 (t : Fin cfg0.N) (r : Fin 256) (x : Fin 512) :
    (iblk m c 5 t : Vec Ideal S1x256x512 .bf16) (ix3 0 r x) = wi m c (ix2 (Proj.unit 3 r) x) := by
  refine Eq.trans ?_ (slab_high m c 3 r x (by omega))
  unfold slab
  blk_ext [iblk, idx t]

/-- The normalised rows, at a token and a column. -/
def nrm (s : Fin 4096) (k : Fin 1024) : EReal := xin m c (ix2 s k) * rs (fun j => xin m c (ix2 s j)) * gain m c (ix1 k)

/-- Point `t`'s normalised block. -/
abbrev nblk (t : Fin cfg0.N) : FVec Ideal S512x1024 .bf16 :=
  k0_pay2 (F := Ideal) (iblk m c 0 t : Vec Ideal S512x1024 .f32) (iblk m c 1 t : Vec Ideal S1x1024 .f32)

theorem nblk_at (t : Fin cfg0.N) (r : Fin 512) (d : Fin 1024) : nblk m c t (ix2 r d) = nrm m c (row t r) d := by
  refine (norm_at _ _ r d).trans ?_
  simp only [blk0 m c t, blk1 m c t]
  rfl

/-- The product, at a token and a column. -/
def proj (s : Fin 4096) (j : Fin 512) : EReal := ∑ k : Fin 1024, nrm m c s k * wi m c (ix2 k j)

/-- A layer's product, in the arrays' terms. -/
theorem prod_eq (t : Fin cfg0.N) (p : Fin 4)
    (W : Vec Ideal S1x256x512 .bf16) (hW : ∀ r x, W (ix3 0 r x) = wi m c (ix2 (unit p r) x)) (r : Fin 512) (d : Fin 512) :
    prod (nblk m c t) p W r d = ∑ k, nrm m c (row t r) (unit p k) * wi m c (ix2 (unit p k) d) :=
  Finset.sum_congr rfl fun k _ => congrArg₂ (fun a b : EReal => a * b) (nblk_at m c t r (unit p k)) (hW k d)

/-- The first result: the normalised rows. -/
def arrN (i : S4096x1024.Idx) : EReal := nrm m c (i 0) (i 1)

theorem final6 : (dats m 0 c).arrAt 6 cfg0.N = arrN m c :=
  (dats m 0 c).arrAt_eq_of_covers 6 _ (by decide +kernel) fun t hf y => by
    revert y
    refine by_ix2 fun r d => ?_
    blk_simp
    rw [after0_6]
    frame_out
    refine (nblk_at m c t r d).trans ?_
    show arrN m c (ix2 (row t r) d) = _
    refine congrArg (arrN m c) ?_
    blk_ext [idx t, row]

/-- The second result: the product. -/
def arrP (i : S4096x512.Idx) : EReal := proj m c (i 0) (i 1)

theorem final7 : (dats m 0 c).arrAt 7 cfg0.N = arrP m c :=
  (dats m 0 c).arrAt_eq_of_covers 7 _ (by decide +kernel) fun t hf y => by
    revert y
    refine by_ix2 fun r d => ?_
    blk_simp
    rw [after0_7]
    frame_out
    refine (last_at _ _ _ _ r d).trans ?_
    rw [three_at]
    refine (congrArg₂ (fun x y : EReal => x + y) (congrArg₂ (fun x y : EReal => x + y) (congrArg₂ (fun x y : EReal => x + y)
      (prod_eq m c t 0 _ (blk2 m c t) r d) (prod_eq m c t 1 _ (blk3 m c t) r d)) (prod_eq m c t 2 _ (blk4 m c t) r d))
      (prod_eq m c t 3 _ (blk5 m c t) r d)).trans ?_
    refine (Mix.sum_quarters fun j => nrm m c (row t r) j * wi m c (ix2 j d)).symm.trans ?_
    show arrP m c (ix2 (row t r) d) = _
    refine congrArg (arrP m c) ?_
    blk_ext [idx t, row]

end Cert.Kernel25Ideal.OddIn

namespace Cert.OddIn

open Idealize.ShloMosaic Idealize.SL.Sem Cert.NormRow
open Cert.Ffn (by_ix2)
open Cert.FfnUpRef (normed normed_at)

section
open Cert.Reference25Ideal Cert.Reference25Ideal.Gen

/-- The product with the normalised rows as the reference computes it. -/
def product (n : FVec Ideal S4096x1024 .f32) (w : FVec Ideal S1024x512 .f32) : FVec Ideal S4096x512 .f32 :=
  Host.dotGeneral dot_S4096x1024_S1024x512_S4096x512_1_0_0_1_n_n none n w

theorem product_at (n : FVec Ideal S4096x1024 .f32) (w : FVec Ideal S1024x512 .f32) (s : Fin 4096) (j : Fin 512) :
    product n w (ix2 s j) = ∑ k : Fin 1024, (n (ix2 s k) : EReal) * w (ix2 k j) := by
  pointwise [product]
end

open Cert.Kernel25Ideal.OddIn in
theorem algebraic25 : Cert.algebraic_Kernel25Ideal_Reference25Ideal := by
  intro m g m' g' _ hagree
  refine ⟨fun c => arrN m c, fun c => arrP m c,
    (θ_run Cert.Kernel25Ideal.defs _ _).mono (fun r h c => ⟨(h c).1.trans (final6 m c), (h c).2.1.trans (final7 m c), (h c).2.2⟩)
      (Cert.Kernel25Ideal.Value.run_blocks m g),
    (θ_run Cert.Reference25Ideal.defs _ _).mono (fun r h c => ?_) (Cert.Reference25Ideal.Value.run m' g')⟩
  obtain ⟨a0, a1, a2, a3⟩ := hagree c
  obtain ⟨h0, h1, hargs⟩ := h c
  rw [a0, a1] at h0
  rw [a0, a1, a3] at h1
  refine ⟨h0.trans (funext (by_ix2 fun s d => normed_at _ _ s d)), h1.trans (funext (by_ix2 fun s j => ?_)), hargs⟩
  refine (product_at (normed (xin m c) (gain m c)) (wi m c) s j).trans ?_
  simp only [normed_at]
  rfl

theorem frame_reference25 : Cert.quiescent_Reference25Ideal := fun m g _ =>
  (θ_run Cert.Reference25Ideal.defs _ _).mono (fun r h => ⟨fun c => (h c).2.2, sem_eq_zero_of_no_sems (by decide) r.2⟩)
    (Cert.Reference25Ideal.Value.run m g)

end Cert.OddIn

end
-- ==== Proof.GluOut.lean ====
/- The odd mixer's gated output product with the residual: what the call leaves in its two results, and that they are the
   reference's. -/
module

public import proofs.«01_k».proof.Proof.FfnUpRef
public import proofs.«01_k».proof.Proof.MixLayout
public import proofs.«01_k».proof.Proof.Gen.Kernel22Ideal.Value
public import proofs.«01_k».proof.Proof.Gen.Reference22Ideal.Run

@[expose] public section

set_option maxRecDepth 16384

noncomputable section

namespace Cert.Kernel22Ideal.Glu

open Cert.Kernel22Ideal Cert.Kernel22Ideal.Gen Idealize.ShloMosaic Idealize.ShloMosaic.TcCoe Idealize.SL.Sem
open Cert.Ffn (by_ix2 by_ix3 lg)
open Cert.Mix (unit half)

section
variable (A : Vec Ideal S512x512 .bf16) (W : Vec Ideal S1x512x512 .bf16)

/-- The block's product with a layer of the weight. -/
def prod (r x : Fin 512) : EReal := ∑ k : Fin 512, (A (ix2 r k) : EReal) * W (ix3 0 k x)

theorem prod_at (r x : Fin 512) : k0_pay4 (F := Ideal) A W (ix2 r x) = prod A W r x := by
  pointwise [k0_pay4, k0_pay3]
  rfl

/- The other layers' products are the same function of the block and the layer. -/
theorem prod1 : k0_pay5 (F := Ideal) A W = k0_pay4 A W := rfl
theorem prod3 : k0_pay7 (F := Ideal) A W = k0_pay4 A W := rfl

/- A gated product added to the residual. -/
theorem gated1_at (O G X : FVec Ideal S512x512 .f32) (r x : Fin 512) :
    k0_pay2 (F := Ideal) O G X (ix2 r x) = (X (ix2 r x) + O (ix2 r x) * lg (G (ix2 r x)) : EReal) := by
  pointwise [k0_pay2]
  rfl

end

variable (m : (ℓ : Loc nD τ sig) → Buf (Elt Ideal) ℓ) (c : Dev nD)

/-- The arguments, as arrays of extended reals. -/
abbrev yin : FVec Ideal S4096x512 .f32 := m ((c : Thread nD τ).loc main_arg0)
abbrev xin : FVec Ideal S4096x1024 .f32 := m ((c : Thread nD τ).loc main_arg1)
abbrev wo : FVec Ideal S512x2048 .f32 := m ((c : Thread nD τ).loc main_arg2)

theorem idx : ∀ t : Fin cfg0.N, win0_0.index t = ![t.val, 0] ∧ win0_1.index t = ![t.val, 0]
    ∧ win0_2.index t = ![0, 0, 0] ∧ win0_3.index t = ![1, 0, 0] ∧ win0_4.index t = ![2, 0, 0] ∧ win0_5.index t = ![3, 0, 0]
    ∧ win0_6.index t = ![t.val, 0] ∧ win0_7.index t = ![t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r x : Fin 512) :
    (iblk m c 0 t : Vec Ideal S512x512 .bf16) (ix2 r x) = yin m c (ix2 (row t r) x) := by
  blk_ext! [iblk, V, idx t, row]

theorem blk1 (t : Fin cfg0.N) (r : Fin 512) (x : Fin 1024) :
    (iblk m c 1 t : Vec Ideal S512x1024 .f32) (ix2 r x) = xin m c (ix2 (row t r) x) := by
  blk_ext [iblk, V, idx t, row]

/-- The odd mixer's two weights in layers, the output weight's rows first. -/
def slab : Vec Ideal S4x768x512 .bf16 := V m c main_v5

theorem slab_low (p : Fin 4) (r x : Fin 512) (h : r.val < 768) :
    slab m c (ix3 p ⟨r.val, h⟩ x) = wo m c (ix2 r (unit p x)) := by
  unfold slab
  entry_read
  pointwise
  rfl

theorem blk2 (t : Fin cfg0.N) (r x : Fin 512) :
    (X0_2 m c t : Vec Ideal S1x512x512 .bf16) (ix3 0 r x) = wo m c (ix2 r (unit 0 x)) := by
  refine Eq.trans ?_ (slab_low m c 0 r x (by omega))
  unfold slab X0_2 Pipeline.Window.fill
  rw [dif_pos (moved0_2 t _)]
  blk_ext [iblk, idx t]

theorem blk3 (t : Fin cfg0.N) (r x : Fin 512) :
    (X0_3 m c t : Vec Ideal S1x512x512 .bf16) (ix3 0 r x) = wo m c (ix2 r (unit 1 x)) := by
  refine Eq.trans ?_ (slab_low m c 1 r x (by omega))
  unfold slab X0_3 Pipeline.Window.fill
  rw [dif_pos (moved0_3 t _)]
  blk_ext [iblk, idx t]

theorem blk4 (t : Fin cfg0.N) (r x : Fin 512) :
    (X0_4 m c t : Vec Ideal S1x512x512 .bf16) (ix3 0 r x) = wo m c (ix2 r (unit 2 x)) := by
  refine Eq.trans ?_ (slab_low m c 2 r x (by omega))
  unfold slab X0_4 Pipeline.Window.fill
  rw [dif_pos (moved0_4 t _)]
  blk_ext [iblk, idx t]

theorem blk5 (t : Fin cfg0.N) (r x : Fin 512) :
    (X0_5 m c t : Vec Ideal S1x512x512 .bf16) (ix3 0 r x) = wo m c (ix2 r (unit 3 x)) := by
  refine Eq.trans ?_ (slab_low m c 3 r x (by omega))
  unfold slab X0_5 Pipeline.Window.fill
  rw [dif_pos (moved0_5 t _)]
  blk_ext [iblk, idx t]

/-- The product, and its first half gated by its second with the residual added, at a token and a column. -/
def proj (s : Fin 4096) (j : Fin 2048) : EReal := ∑ k : Fin 512, (yin m c (ix2 s k) : EReal) * wo m c (ix2 k j)
def low (j : Fin 1024) : Fin 2048 := ⟨j.val, by omega⟩
def high (j : Fin 1024) : Fin 2048 := ⟨1024 + j.val, by omega⟩
def gated (s : Fin 4096) (j : Fin 1024) : EReal := xin m c (ix2 s j) + proj m c s (low j) * lg (proj m c s (high j))

/- The halves of the product's columns in blocks. -/
theorem low0 (x : Fin 512) : low (half 0 x) = unit 0 x := Fin.ext (by simp [low, half, unit])
theorem low1 (x : Fin 512) : low (half 1 x) = unit 1 x := Fin.ext (by simp [low, half, unit])
theorem high0 (x : Fin 512) : high (half 0 x) = unit 2 x := Fin.ext (by simp [high, half, unit])
theorem high1 (x : Fin 512) : high (half 1 x) = unit 3 x := Fin.ext (by simp [high, half, unit]; omega)

/-- Point `t`'s blocks of the results. -/
def blkP (t : Fin cfg0.N) (y : S512x2048.Idx) : EReal := proj m c (row t (y 0)) (y 1)
def blkG (t : Fin cfg0.N) (y : S512x1024.Idx) : EReal := gated m c (row t (y 0)) (y 1)

/-- A layer's product, in the arrays' terms. -/
theorem prod_eq (t : Fin cfg0.N) (p : Fin 4)
    (W : Vec Ideal S1x512x512 .bf16) (hW : ∀ r x, W (ix3 0 r x) = wo m c (ix2 r (unit p x))) (r x : Fin 512) :
    k0_pay4 (F := Ideal) (iblk m c 0 t : Vec Ideal S512x512 .bf16) W (ix2 r x) = proj m c (row t r) (unit p x) :=
  (prod_at _ _ r x).trans (Finset.sum_congr rfl fun k _ => congrArg₂ (fun a b : EReal => a * b) (blk0 m c t r k) (hW k x))

/-- The store of block `p` of the product. -/
theorem storeP (t : Fin cfg0.N) (p : Fin 4) (o : ℕ) (ho : o = p.val * 512)
    (inb : ∀ a, (![0, o] : Fin 2 → ℕ) a + (![512, 512] : Fin 2 → ℕ) a ≤ S512x2048.size a)
    (W : Vec Ideal S1x512x512 .bf16) (hW : ∀ r x, W (ix3 0 r x) = wo m c (ix2 r (unit p x))) (x : S512x512.Idx) :
    k0_pay4 (F := Ideal) (iblk m c 0 t : Vec Ideal S512x512 .bf16) W x = blkP m c t ((Rect.unit (s := S512x2048) ![0, o] ![512, 512] inb).emb x) := by
  revert x
  refine by_ix2 fun r x => ?_
  have e : (Rect.unit (s := S512x2048) ![0, o] ![512, 512] inb).emb (ix2 r x) = ix2 r (unit p x) := Mix.unit_idx p o ho inb r x
  rw [e]
  exact prod_eq m c t p W hW r x

/- The four stores of the product. -/
theorem storeP0 (t : Fin cfg0.N) (x : S512x512.Idx) :
    k0_pay8 (F := Ideal) (iblk m c 0 t : Vec Ideal S512x512 .bf16) (X0_2 m c t : Vec Ideal S1x512x512 .bf16) x = blkP m c t ((Rect.unit (s := S512x2048) ![0, 0] ![512, 512] inb_S512x2048_S512x512_0_0).emb x) :=
  storeP m c t 0 0 rfl _ _ (blk2 m c t) x
theorem storeP1 (t : Fin cfg0.N) (x : S512x512.Idx) :
    k0_pay9 (F := Ideal) (iblk m c 0 t : Vec Ideal S512x512 .bf16) (X0_3 m c t : Vec Ideal S1x512x512 .bf16) x = blkP m c t ((Rect.unit (s := S512x2048) ![0, 512] ![512, 512] inb_S512x2048_S512x512_0_512).emb x) :=
  storeP m c t 1 512 rfl _ _ (blk3 m c t) x
theorem storeP2 (t : Fin cfg0.N) (x : S512x512.Idx) :
    k0_pay10 (F := Ideal) (iblk m c 0 t : Vec Ideal S512x512 .bf16) (X0_4 m c t : Vec Ideal S1x512x512 .bf16) x = blkP m c t ((Rect.unit (s := S512x2048) ![0, 1024] ![512, 512] inb_S512x2048_S512x512_0_1024).emb x) :=
  storeP m c t 2 1024 rfl _ _ (blk4 m c t) x
theorem storeP3 (t : Fin cfg0.N) (x : S512x512.Idx) :
    k0_pay11 (F := Ideal) (iblk m c 0 t : Vec Ideal S512x512 .bf16) (X0_5 m c t : Vec Ideal S1x512x512 .bf16) x = blkP m c t ((Rect.unit (s := S512x2048) ![0, 1536] ![512, 512] inb_S512x2048_S512x512_0_1536).emb x) :=
  storeP m c t 3 1536 rfl _ _ (blk5 m c t) x

/-- The store of half `p` of the gated product. -/
theorem storeG (t : Fin cfg0.N) (p : Fin 2) (o : ℕ) (ho : o = p.val * 512)
    (inb : ∀ a, (![0, o] : Fin 2 → ℕ) a + (![512, 512] : Fin 2 → ℕ) a ≤ S512x1024.size a) (O G X : FVec Ideal S512x512 .f32)
    (hO : ∀ r x, O (ix2 r x) = proj m c (row t r) (low (half p x))) (hG : ∀ r x, G (ix2 r x) = proj m c (row t r) (high (half p x)))
    (hX : ∀ r x, X (ix2 r x) = xin m c (ix2 (row t r) (half p x))) (x : S512x512.Idx) :
    k0_pay2 (F := Ideal) O G X x = blkG m c t ((Rect.unit (s := S512x1024) ![0, o] ![512, 512] inb).emb x) := by
  revert x
  refine by_ix2 fun r x => ?_
  have e : (Rect.unit (s := S512x1024) ![0, o] ![512, 512] inb).emb (ix2 r x) = ix2 r (half p x) := Mix.half_idx p o ho inb r x
  rw [e, gated1_at, hO, hG, hX]
  rfl

/- A half of a block of the residual, read as a block of its own. -/
theorem half_at (t : Fin cfg0.N) (p : Fin 2) (o : ℕ) (ho : o = p.val * 512)
    (inb : ∀ a, (![0, o] : Fin 2 → ℕ) a + (![512, 512] : Fin 2 → ℕ) a ≤ S512x1024.size a) (r x : Fin 512) :
    (View.ld (iblk m c 1 t : Vec Ideal S512x1024 .f32) (Rect.unit (s := S512x1024) ![0, o] ![512, 512] inb) : FVec Ideal S512x512 .f32) (ix2 r x)
      = xin m c (ix2 (row t r) (half p x)) :=
  (congrArg (iblk m c 1 t : Vec Ideal S512x1024 .f32) (Mix.half_idx p o ho inb r x)).trans (blk1 m c t r (half p x))

/- The two stores of the gated product. -/
theorem storeG0 (t : Fin cfg0.N) (x : S512x512.Idx) :
    k0_pay1 (F := Ideal) (k0_pay4 (iblk m c 0 t : Vec Ideal S512x512 .bf16) (X0_2 m c t : Vec Ideal S1x512x512 .bf16))
        (View.ld (iblk m c 1 t : Vec Ideal S512x1024 .f32) (Rect.unit (s := S512x1024) ![0, 0] ![512, 512] inb_S512x1024_S512x512_0_0))
        (k0_pay12 (iblk m c 0 t : Vec Ideal S512x512 .bf16) (X0_4 m c t : Vec Ideal S1x512x512 .bf16)) x
      = blkG m c t ((Rect.unit (s := S512x1024) ![0, 0] ![512, 512] inb_S512x1024_S512x512_0_0).emb x) :=
  storeG m c t 0 0 rfl _ (k0_pay4 (F := Ideal) (iblk m c 0 t : Vec Ideal S512x512 .bf16) (X0_2 m c t : Vec Ideal S1x512x512 .bf16))
    (k0_pay4 (F := Ideal) (iblk m c 0 t : Vec Ideal S512x512 .bf16) (X0_4 m c t : Vec Ideal S1x512x512 .bf16)) _
    (fun r y => (prod_eq m c t 0 _ (blk2 m c t) r y).trans (by rw [low0]))
    (fun r y => (prod_eq m c t 2 _ (blk4 m c t) r y).trans (by rw [high0])) (half_at m c t 0 0 rfl _) x

theorem storeG1 (t : Fin cfg0.N) (x : S512x512.Idx) :
    k0_pay2 (F := Ideal) (k0_pay5 (iblk m c 0 t : Vec Ideal S512x512 .bf16) (X0_3 m c t : Vec Ideal S1x512x512 .bf16))
        (k0_pay7 (iblk m c 0 t : Vec Ideal S512x512 .bf16) (X0_5 m c t : Vec Ideal S1x512x512 .bf16))
        (View.ld (iblk m c 1 t : Vec Ideal S512x1024 .f32) (Rect.unit (s := S512x1024) ![0, 512] ![512, 512] inb_S512x1024_S512x512_0_512)) x
      = blkG m c t ((Rect.unit (s := S512x1024) ![0, 512] ![512, 512] inb_S512x1024_S512x512_0_512).emb x) :=
  storeG m c t 1 512 rfl _ _ _ _
    (fun r y => (congrFun (prod1 _ _) _).trans ((prod_eq m c t 1 _ (blk3 m c t) r y).trans (by rw [low1])))
    (fun r y => (congrFun (prod3 _ _) _).trans ((prod_eq m c t 3 _ (blk5 m c t) r y).trans (by rw [high1]))) (half_at m c t 1 512 rfl _) x

/-- The first result: the product. -/
def arrP (i : S4096x2048.Idx) : EReal := proj m c (i 0) (i 1)

theorem final6 : (dats m 0 c).arrAt 6 cfg0.N = arrP m c := by
  refine (dats m 0 c).arrAt_eq_of_covers 6 _ (by decide +kernel) fun t hf y => ?_
  blk_simp
  rw [after0_6]
  dsimp only [outsAt0]
  frame_out
  refine (View.canon_append_of_piecesOf (Val := Elt Ideal) (e := .bf16) (blkP m c t) [] [_, _, _, _]
    ⟨storeP3 m c t, storeP2 m c t, storeP1 m c t, storeP0 m c t, trivial⟩ y (View.cover_of_tiledL _ ![512, 512] (by sl_kernel_rfl) y)).trans ?_
  show arrP m c (ix2 (row t (y 0)) (y 1)) = _
  refine congrArg (arrP m c) ?_
  blk_ext [idx t, row]

/-- The second result: the gated product and the residual. -/
def arrG (i : S4096x1024.Idx) : EReal := gated m c (i 0) (i 1)

theorem final7 : (dats m 0 c).arrAt 7 cfg0.N = arrG m c := by
  refine (dats m 0 c).arrAt_eq_of_covers 7 _ (by decide +kernel) fun t hf y => ?_
  blk_simp
  rw [after0_7]
  dsimp only [outsAt0]
  frame_open
  simp (disch := decide) only [↓ View.readCov_skip, ↓ View.readCov_cons_toLoadRect, ↓ View.readCov_fill]
  frame_out
  refine (View.canon_append_of_piecesOf (Val := Elt Ideal) (e := .f32) (blkG m c t) [] [_, _]
    ⟨storeG1 m c t, storeG0 m c t, trivial⟩ y (View.cover_of_tiledL _ ![512, 512] (by sl_kernel_rfl) y)).trans ?_
  show arrG m c (ix2 (row t (y 0)) (y 1)) = _
  refine congrArg (arrG m c) ?_
  blk_ext [idx t, row]

end Cert.Kernel22Ideal.Glu

namespace Cert.GluOut

open Idealize.ShloMosaic Idealize.SL.Sem
open Cert.Ffn (by_ix2 lg)
open Cert.Kernel22Ideal.Glu (low high)

section
open Cert.Reference22Ideal Cert.Reference22Ideal.Gen

/-- The product as the reference computes it. -/
def product (y : FVec Ideal S4096x512 .f32) (w : FVec Ideal S512x2048 .f32) : FVec Ideal S4096x2048 .f32 :=
  Host.dotGeneral dot_S4096x512_S512x2048_S4096x2048_1_0_0_1_n_n none y w

/-- A product's first half gated by its second, with the residual added, as the reference computes it. -/
def gatedSum (x : FVec Ideal S4096x1024 .f32) (o : FVec Ideal S4096x2048 .f32) : FVec Ideal S4096x1024 .f32 :=
  addf x (mulf (extractStridedSlice S4096x1024 ![0, 0] o slices_S4096x2048_S4096x1024_0_0)
    (Host.divf (broadcastInDim S4096x1024 ![] bcast_S_S4096x1024 (constant S_ .f32 0x3F800000#32))
      (addf (broadcastInDim S4096x1024 ![] bcast_S_S4096x1024 (constant S_ .f32 0x3F800000#32))
        (Host.exp (Host.negf (extractStridedSlice S4096x1024 ![0, 1024] o slices_S4096x2048_S4096x1024_0_1024))))))

theorem product_at (y : FVec Ideal S4096x512 .f32) (w : FVec Ideal S512x2048 .f32) (s : Fin 4096) (j : Fin 2048) :
    product y w (ix2 s j) = ∑ k : Fin 512, (y (ix2 s k) : EReal) * w (ix2 k j) := by
  pointwise [product]

theorem gatedSum_at (x : FVec Ideal S4096x1024 .f32) (o : FVec Ideal S4096x2048 .f32) (s : Fin 4096) (j : Fin 1024) :
    gatedSum x o (ix2 s j) = (x (ix2 s j) + o (ix2 s (low j)) * lg (o (ix2 s (high j))) : EReal) := by
  pointwise [gatedSum]
  simp only [lg, zero_sub]
  rfl
end

open Cert.Kernel22Ideal.Glu in
theorem algebraic22 : Cert.algebraic_Kernel22Ideal_Reference22Ideal := by
  intro m g m' g' _ hagree
  refine ⟨fun c => arrP m c, fun c => arrG m c,
    (θ_run Cert.Kernel22Ideal.defs _ _).mono (fun r h c => ⟨(h c).1.trans (final6 m c), (h c).2.1.trans (final7 m c), (h c).2.2⟩)
      (Cert.Kernel22Ideal.Value.run_blocks m g),
    (θ_run Cert.Reference22Ideal.defs _ _).mono (fun r h c => ?_) (Cert.Reference22Ideal.Value.run m' g')⟩
  obtain ⟨a0, a1, a2, _⟩ := hagree c
  obtain ⟨h0, h1, hargs⟩ := h c
  rw [a0, a2] at h0
  rw [a0, a1, a2] at h1
  refine ⟨h0.trans (funext (by_ix2 fun s j => product_at (yin m c) (wo m c) s j)),
    h1.trans (funext (by_ix2 fun s j => (gatedSum_at (xin m c) (product (yin m c) (wo m c)) s j).trans ?_)), hargs⟩
  rw [product_at, product_at]
  rfl

theorem frame_reference22 : Cert.quiescent_Reference22Ideal := fun m g _ =>
  (θ_run Cert.Reference22Ideal.defs _ _).mono (fun r h => ⟨fun c => (h c).2.2, sem_eq_zero_of_no_sems (by decide) r.2⟩)
    (Cert.Reference22Ideal.Value.run m g)

end Cert.GluOut

end
-- ==== Proof.MemLayout.lean ====
/- The memory's 256 rows: the part of a weight's gradient they make up, and four weights laid one after the other along the
   rows of each layer. -/
module

public import proofs.«01_k».proof.Proof.MixLayout

@[expose] public section

set_option maxRecDepth 16384

noncomputable section

namespace Cert.Mem

open Idealize.ShloMosaic
open Cert.Proj (unit quarter)

/-- The product `aᵀ b` summed over the memory's rows, at row `r` of layer `p` and column `d`. -/
def grad (a b : (⟨2, ![256, 1024]⟩ : Shape).Idx → EReal) (p : Fin 4) (r : Fin 256) (d : Fin 1024) : EReal :=
  ∑ s : Fin 256, a (ix2 s (unit p r)) * b (ix2 s d)

/-- The same, at an index of the layers. -/
def grad3 (a b : (⟨2, ![256, 1024]⟩ : Shape).Idx → EReal) (y : (⟨3, ![4, 256, 1024]⟩ : Shape).Idx) : EReal :=
  ∑ s : Fin 256, a (ix2 s (unit (y 0) (y 1))) * b (ix2 s (y 2))

theorem quarter_1 (r : Fin 256) (h : 256 + r.val < 1024) : quarter ⟨256 + r.val, h⟩ = r :=
  Fin.ext (by simp only [quarter]; omega)
theorem quarter_2 (r : Fin 256) (h : 512 + r.val < 1024) : quarter ⟨512 + r.val, h⟩ = r :=
  Fin.ext (by simp only [quarter]; omega)

/-- The second of four arrays laid one after the other along the rows. -/
theorem second_at (w0 w1 w2 w3 : Vec Ideal ⟨3, ![4, 256, 1024]⟩ .bf16) (p : Fin 4) (r : Fin 256) (x : Fin 1024) (h : 256 + r.val < 1024) (hc) :
    (concatenate ⟨3, ![4, 1024, 1024]⟩ 1 [⟨⟨3, ![4, 256, 1024]⟩, w0⟩, ⟨⟨3, ![4, 256, 1024]⟩, w1⟩, ⟨⟨3, ![4, 256, 1024]⟩, w2⟩, ⟨⟨3, ![4, 256, 1024]⟩, w3⟩]
      hc : Vec Ideal ⟨3, ![4, 1024, 1024]⟩ .bf16) (ix3 p ⟨256 + r.val, h⟩ x) = w1 (ix3 p r x) := by
  refine concatenate_apply_piece (t := ⟨3, ![4, 1024, 1024]⟩) 1 [⟨⟨3, ![4, 256, 1024]⟩, w0⟩, ⟨⟨3, ![4, 256, 1024]⟩, w1⟩, ⟨⟨3, ![4, 256, 1024]⟩, w2⟩, ⟨⟨3, ![4, 256, 1024]⟩, w3⟩] _ (ix3 p ⟨256 + r.val, h⟩ x) 1 (by simp) ⟨3, ![4, 256, 1024]⟩ w1 rfl rfl 256 rfl (ix3 p r x) ?_ ?_
  · intro b hb
    match b with
    | 0 => rfl
    | 1 => exact absurd rfl hb
    | 2 => rfl
  · rfl

/-- The third of them. -/
theorem third_at (w0 w1 w2 w3 : Vec Ideal ⟨3, ![4, 256, 1024]⟩ .bf16) (p : Fin 4) (r : Fin 256) (x : Fin 1024) (h : 512 + r.val < 1024) (hc) :
    (concatenate ⟨3, ![4, 1024, 1024]⟩ 1 [⟨⟨3, ![4, 256, 1024]⟩, w0⟩, ⟨⟨3, ![4, 256, 1024]⟩, w1⟩, ⟨⟨3, ![4, 256, 1024]⟩, w2⟩, ⟨⟨3, ![4, 256, 1024]⟩, w3⟩]
      hc : Vec Ideal ⟨3, ![4, 1024, 1024]⟩ .bf16) (ix3 p ⟨512 + r.val, h⟩ x) = w2 (ix3 p r x) := by
  refine concatenate_apply_piece (t := ⟨3, ![4, 1024, 1024]⟩) 1 [⟨⟨3, ![4, 256, 1024]⟩, w0⟩, ⟨⟨3, ![4, 256, 1024]⟩, w1⟩, ⟨⟨3, ![4, 256, 1024]⟩, w2⟩, ⟨⟨3, ![4, 256, 1024]⟩, w3⟩] _ (ix3 p ⟨512 + r.val, h⟩ x) 2 (by simp) ⟨3, ![4, 256, 1024]⟩ w2 rfl rfl 512 rfl (ix3 p r x) ?_ ?_
  · intro b hb
    match b with
    | 0 => rfl
    | 1 => exact absurd rfl hb
    | 2 => rfl
  · rfl

end Cert.Mem

end
-- ==== Proof.MemBwd.lean ====
/- The gradient of the memory's key and value products by their input: what the call leaves in its result, and that it is the
   reference's. -/
module

public import proofs.«01_k».proof.Defs
public import proofs.«01_k».proof.Proof.MemLayout
public import proofs.«01_k».proof.Proof.Gen.Kernel26Ideal.Value
public import proofs.«01_k».proof.Proof.Gen.Reference26Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel26Ideal.Out

open Cert.Kernel26Ideal Cert.Kernel26Ideal.Gen Idealize.ShloMosaic Idealize.ShloMosaic.TcCoe Idealize.SL.Sem
open Cert.Ffn (by_ix2 by_ix3)
open Cert.Proj (unit)

section
variable (v a : Vec Ideal S256x1024 .f32) (w0 w1 w2 w3 : Vec Ideal S1x256x1024 .bf16)

/-- A block's product with a row of its layer of the weight. -/
def prod (w : Vec Ideal S1x256x1024 .bf16) (r : Fin 256) (x : Fin 256) : EReal :=
  ∑ k : Fin 1024, (a (ix2 r k) : EReal) * w (ix3 0 x k)

/-- The first four products side by side. -/
theorem prods_at (f : Fin 1024 → EReal) (r : Fin 256)
    (h0 : ∀ x, prod a w0 r x = f (Proj.unit 0 x)) (h1 : ∀ x, prod a w1 r x = f (Proj.unit 1 x))
    (h2 : ∀ x, prod a w2 r x = f (Proj.unit 2 x)) (h3 : ∀ x, prod a w3 r x = f (Proj.unit 3 x)) (d : Fin 1024) :
    k0_pay2 (F := Ideal) a w0 w1 w2 w3 (ix2 r d) = f d := by
  have e (q : Fin 4) (i : Fin 256) (hq : q.val * 256 + i.val = d.val) : Proj.unit q i = d := Fin.ext (by simp only [Proj.unit]; omega)
  pointwise [k0_pay2]
  by_cases c0 : d.val < 256
  · rw [dif_pos c0]
    exact (h0 ⟨d.val, c0⟩).trans (congrArg f (e 0 _ (by simp)))
  rw [dif_neg c0]
  by_cases c1 : d.val - 256 < 256
  · rw [dif_pos c1]
    exact (h1 ⟨d.val - 256, c1⟩).trans (congrArg f (e 1 _ (by simp; omega)))
  rw [dif_neg c1]
  by_cases c2 : d.val - 256 - 256 < 256
  · rw [dif_pos c2]
    exact (h2 ⟨d.val - 256 - 256, c2⟩).trans (congrArg f (e 2 _ (by simp; omega)))
  rw [dif_neg c2]
  exact (h3 ⟨d.val - 256 - 256 - 256, by omega⟩).trans (congrArg f (e 3 _ (by simp; omega)))

/-- The other four side by side, added to what came before. -/
theorem more_at (f : Fin 1024 → EReal) (r : Fin 256)
    (h0 : ∀ x, prod a w0 r x = f (Proj.unit 0 x)) (h1 : ∀ x, prod a w1 r x = f (Proj.unit 1 x))
    (h2 : ∀ x, prod a w2 r x = f (Proj.unit 2 x)) (h3 : ∀ x, prod a w3 r x = f (Proj.unit 3 x)) (d : Fin 1024) :
    k0_pay1 (F := Ideal) v (k0_pay3 a) (k0_pay4 a w0) (k0_pay5 a w1) (k0_pay6 a w2) w3 (ix2 r d) = (v (ix2 r d) + f d : EReal) := by
  have e (q : Fin 4) (i : Fin 256) (hq : q.val * 256 + i.val = d.val) : Proj.unit q i = d := Fin.ext (by simp only [Proj.unit]; omega)
  pointwise [k0_pay1, k0_pay3, k0_pay4, k0_pay5, k0_pay6]
  by_cases c0 : d.val < 256
  · rw [dif_pos c0]
    exact congrArg (fun x : EReal => v (ix2 r d) + x) ((h0 ⟨d.val, c0⟩).trans (congrArg f (e 0 _ (by simp))))
  rw [dif_neg c0]
  by_cases c1 : d.val - 256 < 256
  · rw [dif_pos c1]
    exact congrArg (fun x : EReal => v (ix2 r d) + x) ((h1 ⟨d.val - 256, c1⟩).trans (congrArg f (e 1 _ (by simp; omega))))
  rw [dif_neg c1]
  by_cases c2 : d.val - 256 - 256 < 256
  · rw [dif_pos c2]
    exact congrArg (fun x : EReal => v (ix2 r d) + x) ((h2 ⟨d.val - 256 - 256, c2⟩).trans (congrArg f (e 2 _ (by simp; omega))))
  rw [dif_neg c2]
  exact congrArg (fun x : EReal => v (ix2 r d) + x) ((h3 ⟨d.val - 256 - 256 - 256, by omega⟩).trans (congrArg f (e 3 _ (by simp; omega))))
end

variable (m : (ℓ : Loc nD τ sig) → Buf (Elt Ideal) ℓ) (c : Dev nD)

/-- The arguments, as arrays of extended reals. -/
abbrev dk : FVec Ideal S256x1024 .f32 := m ((c : Thread nD τ).loc main_arg0)
abbrev dv : FVec Ideal S256x1024 .f32 := m ((c : Thread nD τ).loc main_arg1)
abbrev wk : FVec Ideal S1024x1024 .f32 := m ((c : Thread nD τ).loc main_arg3)
abbrev wv : FVec Ideal S1024x1024 .f32 := m ((c : Thread nD τ).loc main_arg4)

theorem idx : ∀ t : Fin cfg0.N, win0_0.index t = ![0, 0] ∧ win0_1.index t = ![0, 0]
    ∧ win0_2.index t = ![0, 1, 0] ∧ win0_3.index t = ![1, 1, 0] ∧ win0_4.index t = ![2, 1, 0] ∧ win0_5.index t = ![3, 1, 0]
    ∧ win0_6.index t = ![0, 2, 0] ∧ win0_7.index t = ![1, 2, 0] ∧ win0_8.index t = ![2, 2, 0] ∧ win0_9.index t = ![3, 2, 0]
    ∧ win0_10.index t = ![0, 0] :=
  (by decide +kernel : ∀ t : Fin grid0.N, _)

theorem blk0 (t : Fin cfg0.N) (r : Fin 256) (x : Fin 1024) :
    (iblk m c 0 t : Vec Ideal S256x1024 .f32) (ix2 r x) = dk m c (ix2 r x) := by
  blk_ext [iblk, V, idx t]

theorem blk1 (t : Fin cfg0.N) (r : Fin 256) (x : Fin 1024) :
    (iblk m c 1 t : Vec Ideal S256x1024 .f32) (ix2 r x) = dv m c (ix2 r x) := by
  blk_ext [iblk, V, idx t]

/-- The four weights in layers. -/
def slab : Vec Ideal S4x1024x1024 .bf16 := V m c main_v8

theorem slab_eq : slab m c = (concatenate S4x1024x1024 1
      [⟨S4x256x1024, V m c main_v1⟩, ⟨S4x256x1024, truncf .bf16 (shapeCast _ (wk m c) shapeCasts_S1024x1024_S4x256x1024) bitsLt_bf16_f32⟩,
        ⟨S4x256x1024, truncf .bf16 (shapeCast _ (wv m c) shapeCasts_S1024x1024_S4x256x1024) bitsLt_bf16_f32⟩, ⟨S4x256x1024, V m c main_v7⟩]
      concatenates_S4x256x1024_S4x256x1024_S4x256x1024_S4x256x1024_S4x1024x1024_d1 : Vec Ideal S4x1024x1024 .bf16) := by
  unfold slab V
  after_results
  rfl

theorem slab_k (p : Fin 4) (r : Fin 256) (x : Fin 1024) (h : 256 + r.val < 1024) :
    slab m c (ix3 p ⟨256 + r.val, h⟩ x) = wk m c (ix2 (unit p r) x) := by
  rw [slab_eq]
  refine (Mem.second_at _ _ _ _ p r x h _).trans ?_
  pointwise
  rfl

theorem slab_v (p : Fin 4) (r : Fin 256) (x : Fin 1024) (h : 512 + r.val < 1024) :
    slab m c (ix3 p ⟨512 + r.val, h⟩ x) = wv m c (ix2 (unit p r) x) := by
  rw [slab_eq]
  refine (Mem.third_at _ _ _ _ p r x h _).trans ?_
  pointwise
  rfl

theorem blk2 (t : Fin cfg0.N) (r : Fin 256) (x : Fin 1024) :
    (iblk m c 2 t : Vec Ideal S1x256x1024 .bf16) (ix3 0 r x) = wk m c (ix2 (unit 0 r) x) := by
  refine Eq.trans ?_ (slab_k m c 0 r x (by omega))
  unfold slab
  blk_ext [iblk, idx t]

theorem blk3 (t : Fin cfg0.N) (r : Fin 256) (x : Fin 1024) :
    (iblk m c 3 t : Vec Ideal S1x256x1024 .bf16) (ix3 0 r x) = wk m c (ix2 (unit 1 r) x) := by
  refine Eq.trans ?_ (slab_k m c 1 r x (by omega))
  unfold slab
  blk_ext [iblk, idx t]

theorem blk4 (t : Fin cfg0.N) (r : Fin 256) (x : Fin 1024) :
    (iblk m c 4 t : Vec Ideal S1x256x1024 .bf16) (ix3 0 r x) = wk m c (ix2 (unit 2 r) x) := by
  refine Eq.trans ?_ (slab_k m c 2 r x (by omega))
  unfold slab
  blk_ext [iblk, idx t]

theorem blk5 (t : Fin cfg0.N) (r : Fin 256) (x : Fin 1024) :
    (iblk m c 5 t : Vec Ideal S1x256x1024 .bf16) (ix3 0 r x) = wk m c (ix2 (unit 3 r) x) := by
  refine Eq.trans ?_ (slab_k m c 3 r x (by omega))
  unfold slab
  blk_ext [iblk, idx t]

theorem blk6 (t : Fin cfg0.N) (r : Fin 256) (x : Fin 1024) :
    (iblk m c 6 t : Vec Ideal S1x256x1024 .bf16) (ix3 0 r x) = wv m c (ix2 (unit 0 r) x) := by
  refine Eq.trans ?_ (slab_v m c 0 r x (by omega))
  unfold slab
  blk_ext [iblk, idx t]

theorem blk7 (t : Fin cfg0.N) (r : Fin 256) (x : Fin 1024) :
    (iblk m c 7 t : Vec Ideal S1x256x1024 .bf16) (ix3 0 r x) = wv m c (ix2 (unit 1 r) x) := by
  refine Eq.trans ?_ (slab_v m c 1 r x (by omega))
  unfold slab
  blk_ext [iblk, idx t]

theorem blk8 (t : Fin cfg0.N) (r : Fin 256) (x : Fin 1024) :
    (iblk m c 8 t : Vec Ideal S1x256x1024 .bf16) (ix3 0 r x) = wv m c (ix2 (unit 2 r) x) := by
  refine Eq.trans ?_ (slab_v m c 2 r x (by omega))
  unfold slab
  blk_ext [iblk, idx t]

theorem blk9 (t : Fin cfg0.N) (r : Fin 256) (x : Fin 1024) :
    (iblk m c 9 t : Vec Ideal S1x256x1024 .bf16) (ix3 0 r x) = wv m c (ix2 (unit 3 r) x) := by
  refine Eq.trans ?_ (slab_v m c 3 r x (by omega))
  unfold slab
  blk_ext [iblk, idx t]

/-- The key's and the value's part of the result, at a row and a column. -/
def ofK (s : Fin 256) (x : Fin 1024) : EReal := ∑ k : Fin 1024, (dk m c (ix2 s k) : EReal) * wk m c (ix2 x k)
def ofV (s : Fin 256) (x : Fin 1024) : EReal := ∑ k : Fin 1024, (dv m c (ix2 s k) : EReal) * wv m c (ix2 x k)

/- A layer's product, in the arrays' terms. -/
theorem prod_k (t : Fin cfg0.N) (p : Fin 4)
    (W : Vec Ideal S1x256x1024 .bf16) (hW : ∀ r x, W (ix3 0 r x) = wk m c (ix2 (unit p r) x)) (r : Fin 256) (x : Fin 256) :
    prod (iblk m c 0 t : Vec Ideal S256x1024 .f32) W r x = ofK m c r (unit p x) :=
  Finset.sum_congr rfl fun k _ => congrArg₂ (fun a b : EReal => a * b) (blk0 m c t r k) (hW x k)
theorem prod_v (t : Fin cfg0.N) (p : Fin 4)
    (W : Vec Ideal S1x256x1024 .bf16) (hW : ∀ r x, W (ix3 0 r x) = wv m c (ix2 (unit p r) x)) (r : Fin 256) (x : Fin 256) :
    prod (iblk m c 1 t : Vec Ideal S256x1024 .f32) W r x = ofV m c r (unit p x) :=
  Finset.sum_congr rfl fun k _ => congrArg₂ (fun a b : EReal => a * b) (blk1 m c t r k) (hW x k)

/-- The result. -/
def arr (i : S256x1024.Idx) : EReal := ofK m c (i 0) (i 1) + ofV m c (i 0) (i 1)

theorem final : (dats m 0 c).arrAt 10 cfg0.N = arr m c :=
  (dats m 0 c).arrAt_eq_of_covers 10 _ (by decide +kernel) fun t hf y => by
    revert y
    refine by_ix2 fun r d => ?_
    blk_simp
    rw [after0_10]
    frame_out
    refine (more_at _ _ _ _ _ _ (ofV m c r) r (prod_v m c t 0 _ (blk6 m c t) r) (prod_v m c t 1 _ (blk7 m c t) r)
      (prod_v m c t 2 _ (blk8 m c t) r) (prod_v m c t 3 _ (blk9 m c t) r) d).trans ?_
    refine (congrArg (fun x : EReal => x + ofV m c r d) (prods_at _ _ _ _ _ (ofK m c r) r (prod_k m c t 0 _ (blk2 m c t) r)
      (prod_k m c t 1 _ (blk3 m c t) r) (prod_k m c t 2 _ (blk4 m c t) r) (prod_k m c t 3 _ (blk5 m c t) r) d)).trans ?_
    show arr m c (ix2 r d) = _
    refine congrArg (arr m c) ?_
    blk_ext [idx t]

end Cert.Kernel26Ideal.Out

namespace Cert.MemBwd

open Idealize.ShloMosaic Idealize.SL.Sem
open Cert.Ffn (by_ix2)

section
open Cert.Reference26Ideal Cert.Reference26Ideal.Gen

/-- The gradient as the reference computes it. -/
def refOut (a b : FVec Ideal S256x1024 .f32) (v w : FVec Ideal S1024x1024 .f32) : FVec Ideal S256x1024 .f32 :=
  addf (Host.dotGeneral dot_S256x1024_S1024x1024_S256x1024_1_1_0_0_n_n none b w)
    (Host.dotGeneral dot_S256x1024_S1024x1024_S256x1024_1_1_0_0_n_n none a v)

theorem refOut_at (a b : FVec Ideal S256x1024 .f32) (v w : FVec Ideal S1024x1024 .f32) (s : Fin 256) (d : Fin 1024) :
    refOut a b v w (ix2 s d)
      = (∑ k : Fin 1024, (a (ix2 s k) : EReal) * v (ix2 d k)) + ∑ k : Fin 1024, (b (ix2 s k) : EReal) * w (ix2 d k) := by
  pointwise [refOut]
  exact add_comm (G := EReal) _ _
end

theorem algebraic26 : Cert.algebraic_Kernel26Ideal_Reference26Ideal := by
  intro m g m' g' _ hagree
  refine ⟨fun c => Cert.Kernel26Ideal.Out.arr m c,
    (θ_run Cert.Kernel26Ideal.defs _ _).mono (fun r h c => ⟨(h c).1.trans (Cert.Kernel26Ideal.Out.final m c), (h c).2⟩)
      (Cert.Kernel26Ideal.Value.run_blocks m g),
    (θ_run Cert.Reference26Ideal.defs _ _).mono (fun r h c => ?_) (Cert.Reference26Ideal.Value.run m' g')⟩
  obtain ⟨a0, a1, a2, a3, a4, a5⟩ := hagree c
  have h0 := (h c).1
  rw [a0, a1, a3, a4] at h0
  exact ⟨h0.trans (funext (by_ix2 fun s d => refOut_at _ _ _ _ s d)), (h c).2⟩

theorem frame_reference26 : Cert.quiescent_Reference26Ideal := fun m g _ =>
  (θ_run Cert.Reference26Ideal.defs _ _).mono (fun r h => ⟨fun c => (h c).2, sem_eq_zero_of_no_sems (by decide) r.2⟩)
    (Cert.Reference26Ideal.Value.run m g)

end Cert.MemBwd

end
-- ==== Proof.GradWk.lean ====
/- The key weight's gradient of the attention's memory: what the call leaves in its rows of the gradients' array, that the
   other rows keep what they held, and that it is the reference's array. -/
module

public import proofs.«01_k».proof.Defs
public import proofs.«01_k».proof.Proof.MemLayout
public import proofs.«01_k».proof.Proof.Gen.Kernel27Ideal.Value
public import proofs.«01_k».proof.Proof.Gen.Reference27Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel27Ideal.Grad

open Cert.Kernel27Ideal Cert.Kernel27Ideal.Gen Idealize.ShloMosaic Idealize.ShloMosaic.TcCoe Idealize.SL.Sem
open Cert.Proj
open Cert.Mem (grad grad3)
open Cert.Ffn (by_ix2 by_ix3 layer_idx)

section
variable (A : Vec Ideal S4x256x1024 .f32) (B : Vec Ideal S256x1024 .bf16) (X : Vec Ideal S256x1024 .f32)

/-- A layer's store: the old layer and its part. -/
theorem pay_at (a : Vec Ideal S1x256x1024 .f32) (b : Vec Ideal S256x256 .bf16) (r : Fin 256) (d : Fin 1024) :
    k0_pay4 (F := Ideal) a b X (ix3 0 r d) = (a (ix3 0 r d) : EReal) + ∑ k : Fin 256, (b (ix2 k r) : EReal) * X (ix2 k d) := by
  pointwise [k0_pay4]

/-- The store of layer `p` is that layer of the old block with the gradient added. -/
theorem store_at (p : Fin 4) (o o' : ℕ) (ho : o = p.val) (ho' : o' = p.val * 256)
    (inb : ∀ a, (![o, 0, 0] : Fin 3 → ℕ) a + (![1, 256, 1024] : Fin 3 → ℕ) a ≤ S4x256x1024.size a)
    (inb' : ∀ a, (![0, o'] : Fin 2 → ℕ) a + (![256, 256] : Fin 2 → ℕ) a ≤ S256x1024.size a) (x : S1x256x1024.Idx) :
    k0_pay4 (F := Ideal) (View.ld A (Rect.unit ![o, 0, 0] ![1, 256, 1024] inb)) (View.ld B (Rect.unit ![0, o'] ![256, 256] inb')) X x
      = (A ((Rect.unit (s := S4x256x1024) ![o, 0, 0] ![1, 256, 1024] inb).emb x) : EReal)
        + Mem.grad3 B X ((Rect.unit (s := S4x256x1024) ![o, 0, 0] ![1, 256, 1024] inb).emb x) := by
  revert x
  refine by_ix3 fun z r d => ?_
  obtain rfl : z = 0 := Subsingleton.elim _ _
  have e : (Rect.unit (s := S4x256x1024) ![o, 0, 0] ![1, 256, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (cols_idx p o' ho' inb' k r))

/- The four layers' stores. -/
theorem store0 (x : S1x256x1024.Idx) :
    k0_pay4 (F := Ideal) (View.ld A (Rect.unit ![0, 0, 0] ![1, 256, 1024] inb_S4x256x1024_S1x256x1024_0_0_0))
      (View.ld B (Rect.unit ![0, 0] ![256, 256] inb_S256x1024_S256x256_0_0)) X x
      = (A ((Rect.unit (s := S4x256x1024) ![0, 0, 0] ![1, 256, 1024] inb_S4x256x1024_S1x256x1024_0_0_0).emb x) : EReal)
        + Mem.grad3 B X ((Rect.unit (s := S4x256x1024) ![0, 0, 0] ![1, 256, 1024] inb_S4x256x1024_S1x256x1024_0_0_0).emb x) :=
  store_at A B X 0 0 0 rfl rfl _ _ x
theorem store1 (x : S1x256x1024.Idx) :
    k0_pay5 (F := Ideal) (View.ld A (Rect.unit ![1, 0, 0] ![1, 256, 1024] inb_S4x256x1024_S1x256x1024_1_0_0))
      (View.ld B (Rect.unit ![0, 256] ![256, 256] inb_S256x1024_S256x256_0_256)) X x
      = (A ((Rect.unit (s := S4x256x1024) ![1, 0, 0] ![1, 256, 1024] inb_S4x256x1024_S1x256x1024_1_0_0).emb x) : EReal)
        + Mem.grad3 B X ((Rect.unit (s := S4x256x1024) ![1, 0, 0] ![1, 256, 1024] inb_S4x256x1024_S1x256x1024_1_0_0).emb x) :=
  store_at A B X 1 1 256 rfl rfl _ _ x
theorem store2 (x : S1x256x1024.Idx) :
    k0_pay1 (F := Ideal) (k0_pay6 (View.ld A (Rect.unit ![2, 0, 0] ![1, 256, 1024] inb_S4x256x1024_S1x256x1024_2_0_0)))
      (View.ld B (Rect.unit ![0, 512] ![256, 256] inb_S256x1024_S256x256_0_512)) X x
      = (A ((Rect.unit (s := S4x256x1024) ![2, 0, 0] ![1, 256, 1024] inb_S4x256x1024_S1x256x1024_2_0_0).emb x) : EReal)
        + Mem.grad3 B X ((Rect.unit (s := S4x256x1024) ![2, 0, 0] ![1, 256, 1024] inb_S4x256x1024_S1x256x1024_2_0_0).emb x) :=
  store_at A B X 2 2 512 rfl rfl _ _ x
theorem store3 (x : S1x256x1024.Idx) :
    k0_pay2 (F := Ideal) (View.ld A (Rect.unit ![3, 0, 0] ![1, 256, 1024] inb_S4x256x1024_S1x256x1024_3_0_0))
      (View.ld B (Rect.unit ![0, 768] ![256, 256] inb_S256x1024_S256x256_0_768)) X x
      = (A ((Rect.unit (s := S4x256x1024) ![3, 0, 0] ![1, 256, 1024] inb_S4x256x1024_S1x256x1024_3_0_0).emb x) : EReal)
        + Mem.grad3 B X ((Rect.unit (s := S4x256x1024) ![3, 0, 0] ![1, 256, 1024] inb_S4x256x1024_S1x256x1024_3_0_0).emb x) :=
  store_at A B X 3 3 768 rfl rfl _ _ x

theorem fill (j : S4x256x1024.Idx) : k0_pay3 (F := Ideal) j = 0 := by pointwise [k0_pay3]

end

variable (m : (ℓ : Loc nD τ sig) → Buf (Elt Ideal) ℓ) (c : Dev nD)

/-- The arguments, as arrays of extended reals. -/
abbrev memn : FVec Ideal S256x1024 .f32 := m ((c : Thread nD τ).loc main_arg0)
abbrev dout : FVec Ideal S256x1024 .f32 := m ((c : Thread nD τ).loc main_arg1)
abbrev old : FVec Ideal S4x1024x1024 .f32 := m ((c : Thread nD τ).loc main_arg2)

theorem idx : ∀ t : Fin cfg0.N, win0_0.index t = ![0, 0] ∧ win0_1.index t = ![0, 0] ∧ win0_2.index t = ![0, 1, 0] :=
  (by decide +kernel : ∀ t : Fin grid0.N, _)

theorem blk0 (t : Fin cfg0.N) (r : Fin 256) (x : Fin 1024) :
    (iblk m c 0 t : Vec Ideal S256x1024 .bf16) (ix2 r x) = memn m c (ix2 r x) := by
  blk_ext! [iblk, V, idx t]

theorem blk1 (t : Fin cfg0.N) (r : Fin 256) (x : Fin 1024) :
    (iblk m c 1 t : Vec Ideal S256x1024 .f32) (ix2 r x) = dout m c (ix2 r x) := by
  blk_ext [iblk, V, idx t]

theorem old_eq : V m c main_v1 = old m c := by rfl

theorem grad3_eq (t : Fin cfg0.N) (y : S4x256x1024.Idx) :
    grad3 (iblk m c 0 t : Vec Ideal S256x1024 .bf16) (iblk m c 1 t : Vec Ideal S256x1024 .f32) y
      = grad (memn m c) (dout m c) (y 0) (y 1) (y 2) :=
  Finset.sum_congr rfl fun k _ =>
    congrArg₂ (fun x y : EReal => x * y) (blk0 m c t k (unit (y 0) (y 1))) (blk1 m c t k (y 2))

/-- What the point leaves: the gradient. -/
theorem outs (t : Fin cfg0.N) (y : S4x256x1024.Idx) :
    outsAt0 m c t y = grad (memn m c) (dout m c) (y 0) (y 1) (y 2) := by
  dsimp only [outsAt0]
  frame_open
  simp (disch := decide) only [↓ View.readCov_skip, ↓ View.readCov_cons_toLoadRect, ↓ View.readCov_fill]
  frame_out
  refine (View.canon_append_of_piecesOf (Val := Elt Ideal) (e := .f32)
      (fun y => (k0_pay3 (F := Ideal) y : EReal) + grad3 (iblk m c 0 t : Vec Ideal S256x1024 .bf16) (iblk m c 1 t : Vec Ideal S256x1024 .f32) y) [_] [_, _, _, _]
      ⟨store3 _ _ _, store2 _ _ _, store1 _ _ _, store0 _ _ _, trivial⟩ y
      (View.cover_of_tiledL _ ![1, 256, 1024] (by sl_kernel_rfl) y)).trans ?_
  rw [grad3_eq m c t y, fill y, zero_add]

/-- The gradients' array afterwards: rows 256 to 511 of each layer are the gradient, the others as before. -/
def arr (i : S4x1024x1024.Idx) : EReal :=
  if 256 ≤ (i 1).val ∧ (i 1).val < 512 then grad (memn m c) (dout m c) (i 0) (quarter (i 1)) (i 2) else old m c i

theorem final : (dats m 0 c).arrAt 2 cfg0.N = arr m c := by
  refine (dats m 0 c).arrAt_eq_of_coversWhere_of_agree 2 _ (fun β => β (1 : Fin 3) = 1) (by decide +kernel) (fun t hf y => ?_) (fun j hj => ?_)
  · blk_simp
    rw [after0_2, outs]
    have hy : ∀ y : S4x256x1024.Idx, grad (memn m c) (dout m c) (y 0) (y 1) (y 2)
        = arr m c (ix3 (y 0) (⟨256 + (y 1).val, by have h : (y 1).val < 256 := (y 1).isLt; omega⟩ : Fin 1024) (y 2)) := fun y => by
      have h : (y 1).val < 256 := (y 1).isLt
      refine Eq.symm ((if_pos (c := 256 ≤ 256 + (y 1).val ∧ 256 + (y 1).val < 512) ⟨by omega, by omega⟩).trans ?_)
      exact congrArg (fun r => grad (memn m c) (dout m c) (y 0) r (y 2)) (Mem.quarter_1 (y 1) _)
    refine (hy y).trans (congrArg (arr m c) ?_)
    blk_ext [idx t]
  · blk_simp [Pipeline.Window.cell_apply] at hj
    rw [A_eq]
    exact (congrFun (old_eq m c) _).trans (if_neg (c := 256 ≤ (j 1).val ∧ (j 1).val < 512) (by have h : (j 1).val < 1024 := (j 1).isLt; omega)).symm

end Cert.Kernel27Ideal.Grad

namespace Cert.GradWk

open Idealize.ShloMosaic Idealize.SL.Sem Cert.Proj
open Cert.Mem (grad)
open Cert.Ffn (by_ix3)

section
open Cert.Reference27Ideal Cert.Reference27Ideal.Gen

/-- The array with the key weight's gradient as the reference computes it. -/
def refOut (a b : FVec Ideal S256x1024 .f32) (old : FVec Ideal S4x1024x1024 .f32) : FVec Ideal S4x1024x1024 .f32 :=
  concatenate S4x1024x1024 1 [⟨S4x256x1024, (extractStridedSlice S4x256x1024 ![0, 0, 0] old slices_S4x1024x1024_S4x256x1024_0_0_0)⟩, ⟨S4x256x1024, (shapeCast _ (transpose S1024x1024 [1, 0] (Host.dotGeneral dot_S256x1024_S256x1024_S1024x1024_0_0_1_1_n_n none b a) transposes_S1024x1024_S1024x1024_1_0) shapeCasts_S1024x1024_S4x256x1024)⟩, ⟨S4x512x1024, (extractStridedSlice S4x512x1024 ![0, 512, 0] old slices_S4x1024x1024_S4x512x1024_0_512_0)⟩] concatenates_S4x256x1024_S4x256x1024_S4x512x1024_S4x1024x1024_d1

theorem refOut_at (a b : FVec Ideal S256x1024 .f32) (old : FVec Ideal S4x1024x1024 .f32) (p : Fin 4) (x : Fin 1024) (d : Fin 1024) :
    refOut a b old (ix3 p x d) = (if 256 ≤ x.val ∧ x.val < 512 then grad a b p (quarter x) d else old (ix3 p x d) : EReal) := by
  pointwise [refOut]
  by_cases h : x.val < 256
  · rw [dif_pos h]
    exact (if_neg (c := 256 ≤ x.val ∧ x.val < 512) (by omega)).symm
  rw [dif_neg h]
  by_cases h' : x.val - 256 < 256
  · rw [dif_pos h']
    refine Eq.trans ?_ (if_pos (c := 256 ≤ x.val ∧ x.val < 512) ⟨by omega, by omega⟩).symm
    have e : quarter x = ⟨x.val - 256, h'⟩ := Fin.ext (by simp only [quarter]; omega)
    rw [e]
    exact Finset.sum_congr rfl fun s _ => mul_comm (G := EReal) _ _
  · rw [dif_neg h']
    refine Eq.trans ?_ (if_neg (c := 256 ≤ x.val ∧ x.val < 512) (by omega)).symm
    exact congrArg (fun i => old (ix3 p i d)) (Fin.ext (by dsimp only; omega))
end

theorem algebraic27 : Cert.algebraic_Kernel27Ideal_Reference27Ideal := by
  intro m g m' g' _ hagree
  refine ⟨fun c => Cert.Kernel27Ideal.Grad.arr m c,
    (θ_run Cert.Kernel27Ideal.defs _ _).mono (fun r h c => ⟨(h c).1.trans (Cert.Kernel27Ideal.Grad.final m c), (h c).2⟩)
      (Cert.Kernel27Ideal.Value.run_blocks m g),
    (θ_run Cert.Reference27Ideal.defs _ _).mono (fun r h c => ?_) (Cert.Reference27Ideal.Value.run m' g')⟩
  obtain ⟨a0, a1, a2⟩ := hagree c
  have h0 := (h c).1
  rw [a0, a1, a2] at h0
  exact ⟨h0.trans (funext (by_ix3 fun p x d => refOut_at _ _ _ p x d)), (h c).2⟩

theorem frame_reference27 : Cert.quiescent_Reference27Ideal := fun m g _ =>
  (θ_run Cert.Reference27Ideal.defs _ _).mono (fun r h => ⟨fun c => (h c).2, sem_eq_zero_of_no_sems (by decide) r.2⟩)
    (Cert.Reference27Ideal.Value.run m g)

end Cert.GradWk

end
-- ==== Proof.GradWv.lean ====
/- The value weight's gradient of the attention's memory: what the call leaves in its rows of the gradients' array, that the
   other rows keep what they held, and that it is the reference's array. -/
module

public import proofs.«01_k».proof.Defs
public import proofs.«01_k».proof.Proof.MemLayout
public import proofs.«01_k».proof.Proof.GradWk
public import proofs.«01_k».proof.Proof.Gen.Kernel28Ideal.Value
public import proofs.«01_k».proof.Proof.Gen.Reference28Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel28Ideal.Grad

open Cert.Kernel28Ideal Cert.Kernel28Ideal.Gen Idealize.ShloMosaic Idealize.ShloMosaic.TcCoe Idealize.SL.Sem
open Cert.Proj
open Cert.Mem (grad grad3)
open Cert.Ffn (by_ix2 by_ix3 layer_idx)

open Cert.Kernel27Ideal.Grad (store0 store1 store2 store3)

theorem fill (j : S4x256x1024.Idx) : k0_pay3 (F := Ideal) j = 0 := by pointwise [k0_pay3]

variable (m : (ℓ : Loc nD τ sig) → Buf (Elt Ideal) ℓ) (c : Dev nD)

/-- The arguments, as arrays of extended reals. -/
abbrev memn : FVec Ideal S256x1024 .f32 := m ((c : Thread nD τ).loc main_arg0)
abbrev dout : FVec Ideal S256x1024 .f32 := m ((c : Thread nD τ).loc main_arg1)
abbrev old : FVec Ideal S4x1024x1024 .f32 := m ((c : Thread nD τ).loc main_arg2)

theorem idx : ∀ t : Fin cfg0.N, win0_0.index t = ![0, 0] ∧ win0_1.index t = ![0, 0] ∧ win0_2.index t = ![0, 2, 0] :=
  (by decide +kernel : ∀ t : Fin grid0.N, _)

theorem blk0 (t : Fin cfg0.N) (r : Fin 256) (x : Fin 1024) :
    (iblk m c 0 t : Vec Ideal S256x1024 .bf16) (ix2 r x) = memn m c (ix2 r x) := by
  blk_ext! [iblk, V, idx t]

theorem blk1 (t : Fin cfg0.N) (r : Fin 256) (x : Fin 1024) :
    (iblk m c 1 t : Vec Ideal S256x1024 .f32) (ix2 r x) = dout m c (ix2 r x) := by
  blk_ext [iblk, V, idx t]

theorem old_eq : V m c main_v1 = old m c := by rfl

theorem grad3_eq (t : Fin cfg0.N) (y : S4x256x1024.Idx) :
    grad3 (iblk m c 0 t : Vec Ideal S256x1024 .bf16) (iblk m c 1 t : Vec Ideal S256x1024 .f32) y
      = grad (memn m c) (dout m c) (y 0) (y 1) (y 2) :=
  Finset.sum_congr rfl fun k _ =>
    congrArg₂ (fun x y : EReal => x * y) (blk0 m c t k (unit (y 0) (y 1))) (blk1 m c t k (y 2))

/-- What the point leaves: the gradient. -/
theorem outs (t : Fin cfg0.N) (y : S4x256x1024.Idx) :
    outsAt0 m c t y = grad (memn m c) (dout m c) (y 0) (y 1) (y 2) := by
  dsimp only [outsAt0]
  frame_open
  simp (disch := decide) only [↓ View.readCov_skip, ↓ View.readCov_cons_toLoadRect, ↓ View.readCov_fill]
  frame_out
  refine (View.canon_append_of_piecesOf (Val := Elt Ideal) (e := .f32)
      (fun y => (k0_pay3 (F := Ideal) y : EReal) + grad3 (iblk m c 0 t : Vec Ideal S256x1024 .bf16) (iblk m c 1 t : Vec Ideal S256x1024 .f32) y) [_] [_, _, _, _]
      ⟨store3 _ _ _, store2 _ _ _, store1 _ _ _, store0 _ _ _, trivial⟩ y
      (View.cover_of_tiledL _ ![1, 256, 1024] (by sl_kernel_rfl) y)).trans ?_
  rw [grad3_eq m c t y, fill y, zero_add]

/-- The gradients' array afterwards: rows 512 to 767 of each layer are the gradient, the others as before. -/
def arr (i : S4x1024x1024.Idx) : EReal :=
  if 512 ≤ (i 1).val ∧ (i 1).val < 768 then grad (memn m c) (dout m c) (i 0) (quarter (i 1)) (i 2) else old m c i

theorem final : (dats m 0 c).arrAt 2 cfg0.N = arr m c := by
  refine (dats m 0 c).arrAt_eq_of_coversWhere_of_agree 2 _ (fun β => β (1 : Fin 3) = 2) (by decide +kernel) (fun t hf y => ?_) (fun j hj => ?_)
  · blk_simp
    rw [after0_2, outs]
    have hy : ∀ y : S4x256x1024.Idx, grad (memn m c) (dout m c) (y 0) (y 1) (y 2)
        = arr m c (ix3 (y 0) (⟨512 + (y 1).val, by have h : (y 1).val < 256 := (y 1).isLt; omega⟩ : Fin 1024) (y 2)) := fun y => by
      have h : (y 1).val < 256 := (y 1).isLt
      refine Eq.symm ((if_pos (c := 512 ≤ 512 + (y 1).val ∧ 512 + (y 1).val < 768) ⟨by omega, by omega⟩).trans ?_)
      exact congrArg (fun r => grad (memn m c) (dout m c) (y 0) r (y 2)) (Mem.quarter_2 (y 1) _)
    refine (hy y).trans (congrArg (arr m c) ?_)
    blk_ext [idx t]
  · blk_simp [Pipeline.Window.cell_apply] at hj
    rw [A_eq]
    exact (congrFun (old_eq m c) _).trans (if_neg (c := 512 ≤ (j 1).val ∧ (j 1).val < 768) (by have h : (j 1).val < 1024 := (j 1).isLt; omega)).symm

end Cert.Kernel28Ideal.Grad

namespace Cert.GradWv

open Idealize.ShloMosaic Idealize.SL.Sem Cert.Proj
open Cert.Mem (grad)
open Cert.Ffn (by_ix3)

section
open Cert.Reference28Ideal Cert.Reference28Ideal.Gen

/-- The array with the value weight's gradient as the reference computes it. -/
def refOut (a b : FVec Ideal S256x1024 .f32) (old : FVec Ideal S4x1024x1024 .f32) : FVec Ideal S4x1024x1024 .f32 :=
  concatenate S4x1024x1024 1 [⟨S4x512x1024, (extractStridedSlice S4x512x1024 ![0, 0, 0] old slices_S4x1024x1024_S4x512x1024_0_0_0)⟩, ⟨S4x256x1024, (shapeCast _ (transpose S1024x1024 [1, 0] (Host.dotGeneral dot_S256x1024_S256x1024_S1024x1024_0_0_1_1_n_n none b a) transposes_S1024x1024_S1024x1024_1_0) shapeCasts_S1024x1024_S4x256x1024)⟩, ⟨S4x256x1024, (extractStridedSlice S4x256x1024 ![0, 768, 0] old slices_S4x1024x1024_S4x256x1024_0_768_0)⟩] concatenates_S4x512x1024_S4x256x1024_S4x256x1024_S4x1024x1024_d1

theorem refOut_at (a b : FVec Ideal S256x1024 .f32) (old : FVec Ideal S4x1024x1024 .f32) (p : Fin 4) (x : Fin 1024) (d : Fin 1024) :
    refOut a b old (ix3 p x d) = (if 512 ≤ x.val ∧ x.val < 768 then grad a b p (quarter x) d else old (ix3 p x d) : EReal) := by
  pointwise [refOut]
  by_cases h : x.val < 512
  · rw [dif_pos h]
    exact (if_neg (c := 512 ≤ x.val ∧ x.val < 768) (by omega)).symm
  rw [dif_neg h]
  by_cases h' : x.val - 512 < 256
  · rw [dif_pos h']
    refine Eq.trans ?_ (if_pos (c := 512 ≤ x.val ∧ x.val < 768) ⟨by omega, by omega⟩).symm
    have e : quarter x = ⟨x.val - 512, h'⟩ := Fin.ext (by simp only [quarter]; omega)
    rw [e]
    exact Finset.sum_congr rfl fun s _ => mul_comm (G := EReal) _ _
  · rw [dif_neg h']
    refine Eq.trans ?_ (if_neg (c := 512 ≤ x.val ∧ x.val < 768) (by omega)).symm
    exact congrArg (fun i => old (ix3 p i d)) (Fin.ext (by dsimp only; omega))
end

theorem algebraic28 : Cert.algebraic_Kernel28Ideal_Reference28Ideal := by
  intro m g m' g' _ hagree
  refine ⟨fun c => Cert.Kernel28Ideal.Grad.arr m c,
    (θ_run Cert.Kernel28Ideal.defs _ _).mono (fun r h c => ⟨(h c).1.trans (Cert.Kernel28Ideal.Grad.final m c), (h c).2⟩)
      (Cert.Kernel28Ideal.Value.run_blocks m g),
    (θ_run Cert.Reference28Ideal.defs _ _).mono (fun r h c => ?_) (Cert.Reference28Ideal.Value.run m' g')⟩
  obtain ⟨a0, a1, a2⟩ := hagree c
  have h0 := (h c).1
  rw [a0, a1, a2] at h0
  exact ⟨h0.trans (funext (by_ix3 fun p x d => refOut_at _ _ _ p x d)), (h c).2⟩

theorem frame_reference28 : Cert.quiescent_Reference28Ideal := fun m g _ =>
  (θ_run Cert.Reference28Ideal.defs _ _).mono (fun r h => ⟨fun c => (h c).2, sem_eq_zero_of_no_sems (by decide) r.2⟩)
    (Cert.Reference28Ideal.Value.run m g)

end Cert.GradWv

end
-- ==== Proof.MemK.lean ====
/- The memory's key product: what the call leaves in its result, and that it is the reference's. -/
module

public import proofs.«01_k».proof.Defs
public import proofs.«01_k».proof.Proof.MemLayout
public import proofs.«01_k».proof.Proof.Gen.Kernel29Ideal.Value
public import proofs.«01_k».proof.Proof.Gen.Reference29Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel29Ideal.Out

open Cert.Kernel29Ideal Cert.Kernel29Ideal.Gen Idealize.ShloMosaic Idealize.ShloMosaic.TcCoe Idealize.SL.Sem
open Cert.Ffn (by_ix2 by_ix3)
open Cert.Proj (unit)

/-- The product of a block's columns of quarter `p` with a layer of the weight. -/
def prod (a : Vec Ideal S256x1024 .bf16) (p : Fin 4) (w : Vec Ideal S1x256x1024 .bf16) (r : Fin 256) (d : Fin 1024) : EReal :=
  ∑ x : Fin 256, (a (ix2 r (unit p x)) : EReal) * w (ix3 0 x d)

/-- The four products. -/
theorem sum_at (a : Vec Ideal S256x1024 .bf16) (w0 w1 w2 w3 : Vec Ideal S1x256x1024 .bf16) (r : Fin 256) (d : Fin 1024) :
    k0_pay1 (F := Ideal) a w0 w1 w2 w3 (ix2 r d)
      = (prod a 0 w0 r d + prod a 1 w1 r d + prod a 2 w2 r d + prod a 3 w3 r d : EReal) := by
  pointwise [k0_pay1]
  simp only [Mix.col0, Mix.col1, Mix.col2, Mix.col3]
  rfl

variable (m : (ℓ : Loc nD τ sig) → Buf (Elt Ideal) ℓ) (c : Dev nD)

/-- The arguments, as arrays of extended reals. -/
abbrev memn : FVec Ideal S256x1024 .f32 := m ((c : Thread nD τ).loc main_arg0)
abbrev w : FVec Ideal S1024x1024 .f32 := m ((c : Thread nD τ).loc main_arg2)

theorem idx : ∀ t : Fin cfg0.N, win0_0.index t = ![0, 0]
    ∧ win0_1.index t = ![0, 1, 0] ∧ win0_2.index t = ![1, 1, 0] ∧ win0_3.index t = ![2, 1, 0] ∧ win0_4.index t = ![3, 1, 0]
    ∧ win0_5.index t = ![0, 0] :=
  (by decide +kernel : ∀ t : Fin grid0.N, _)

theorem blk0 (t : Fin cfg0.N) (r : Fin 256) (x : Fin 1024) :
    (iblk m c 0 t : Vec Ideal S256x1024 .bf16) (ix2 r x) = memn m c (ix2 r x) := by
  blk_ext! [iblk, V, idx t]

/-- The four weights in layers. -/
def slab : Vec Ideal S4x1024x1024 .bf16 := V m c main_v8

theorem slab_eq : slab m c = (concatenate S4x1024x1024 1
      [⟨S4x256x1024, V m c main_v1⟩, ⟨S4x256x1024, truncf .bf16 (shapeCast _ (w m c) shapeCasts_S1024x1024_S4x256x1024) bitsLt_bf16_f32⟩,
        ⟨S4x256x1024, V m c main_v5⟩, ⟨S4x256x1024, V m c main_v7⟩]
      concatenates_S4x256x1024_S4x256x1024_S4x256x1024_S4x256x1024_S4x1024x1024_d1 : Vec Ideal S4x1024x1024 .bf16) := by
  unfold slab V
  after_results
  rfl

theorem slab_at (p : Fin 4) (r : Fin 256) (x : Fin 1024) (h : 256 + r.val < 1024) :
    slab m c (ix3 p ⟨256 + r.val, h⟩ x) = w m c (ix2 (unit p r) x) := by
  rw [slab_eq]
  refine (Mem.second_at _ _ _ _ p r x h _).trans ?_
  pointwise
  rfl

theorem blk1 (t : Fin cfg0.N) (r : Fin 256) (x : Fin 1024) :
    (iblk m c 1 t : Vec Ideal S1x256x1024 .bf16) (ix3 0 r x) = w m c (ix2 (unit 0 r) x) := by
  refine Eq.trans ?_ (slab_at m c 0 r x (by omega))
  unfold slab
  blk_ext [iblk, idx t]

theorem blk2 (t : Fin cfg0.N) (r : Fin 256) (x : Fin 1024) :
    (iblk m c 2 t : Vec Ideal S1x256x1024 .bf16) (ix3 0 r x) = w m c (ix2 (unit 1 r) x) := by
  refine Eq.trans ?_ (slab_at m c 1 r x (by omega))
  unfold slab
  blk_ext [iblk, idx t]

theorem blk3 (t : Fin cfg0.N) (r : Fin 256) (x : Fin 1024) :
    (iblk m c 3 t : Vec Ideal S1x256x1024 .bf16) (ix3 0 r x) = w m c (ix2 (unit 2 r) x) := by
  refine Eq.trans ?_ (slab_at m c 2 r x (by omega))
  unfold slab
  blk_ext [iblk, idx t]

theorem blk4 (t : Fin cfg0.N) (r : Fin 256) (x : Fin 1024) :
    (iblk m c 4 t : Vec Ideal S1x256x1024 .bf16) (ix3 0 r x) = w m c (ix2 (unit 3 r) x) := by
  refine Eq.trans ?_ (slab_at m c 3 r x (by omega))
  unfold slab
  blk_ext [iblk, idx t]

/-- A layer's product, in the arrays' terms. -/
theorem prod_eq (t : Fin cfg0.N) (p : Fin 4)
    (W : Vec Ideal S1x256x1024 .bf16) (hW : ∀ r x, W (ix3 0 r x) = w m c (ix2 (unit p r) x)) (r : Fin 256) (d : Fin 1024) :
    prod (iblk m c 0 t : Vec Ideal S256x1024 .bf16) p W r d
      = ∑ k, (memn m c (ix2 r (unit p k)) : EReal) * w m c (ix2 (unit p k) d) :=
  Finset.sum_congr rfl fun k _ => congrArg₂ (fun a b : EReal => a * b) (blk0 m c t r (unit p k)) (hW k d)

/-- The result. -/
def arr (i : S256x1024.Idx) : EReal := ∑ j : Fin 1024, (memn m c (ix2 (i 0) j) : EReal) * w m c (ix2 j (i 1))

theorem final : (dats m 0 c).arrAt 5 cfg0.N = arr m c :=
  (dats m 0 c).arrAt_eq_of_covers 5 _ (by decide +kernel) fun t hf y => by
    revert y
    refine by_ix2 fun r d => ?_
    blk_simp
    rw [after0_5]
    frame_out
    refine (sum_at _ _ _ _ _ r d).trans ?_
    rw [prod_eq m c t 0 _ (blk1 m c t), prod_eq m c t 1 _ (blk2 m c t), prod_eq m c t 2 _ (blk3 m c t),
      prod_eq m c t 3 _ (blk4 m c t)]
    have e : (arr m c (ix2 r d) : EReal) = _ := Mix.sum_quarters fun j => (memn m c (ix2 r j) : EReal) * w m c (ix2 j d)
    refine e.symm.trans (congrArg (arr m c) ?_)
    blk_ext [idx t]

end Cert.Kernel29Ideal.Out

namespace Cert.MemK

open Idealize.ShloMosaic Idealize.SL.Sem
open Cert.Ffn (by_ix2)

section
open Cert.Reference29Ideal Cert.Reference29Ideal.Gen

/-- The product as the reference computes it. -/
def refOut (a : FVec Ideal S256x1024 .f32) (w : FVec Ideal S1024x1024 .f32) : FVec Ideal S256x1024 .bf16 :=
  truncf .bf16 (Host.dotGeneral dot_S256x1024_S1024x1024_S256x1024_1_0_0_1_n_n none a w) bitsLt_bf16_f32

theorem refOut_at (a : FVec Ideal S256x1024 .f32) (w : FVec Ideal S1024x1024 .f32) (s : Fin 256) (d : Fin 1024) :
    refOut a w (ix2 s d) = (∑ j : Fin 1024, (a (ix2 s j) : EReal) * w (ix2 j d) : EReal) := by
  pointwise [refOut]
end

theorem algebraic29 : Cert.algebraic_Kernel29Ideal_Reference29Ideal := by
  intro m g m' g' _ hagree
  refine ⟨fun c => Cert.Kernel29Ideal.Out.arr m c,
    (θ_run Cert.Kernel29Ideal.defs _ _).mono (fun r h c => ⟨(h c).1.trans (Cert.Kernel29Ideal.Out.final m c), (h c).2⟩)
      (Cert.Kernel29Ideal.Value.run_blocks m g),
    (θ_run Cert.Reference29Ideal.defs _ _).mono (fun r h c => ?_) (Cert.Reference29Ideal.Value.run m' g')⟩
  obtain ⟨a0, a1, a2, a3, a4⟩ := hagree c
  have h0 := (h c).1
  rw [a0, a2] at h0
  exact ⟨h0.trans (funext (by_ix2 fun s d => refOut_at _ _ s d)), (h c).2⟩

theorem frame_reference29 : Cert.quiescent_Reference29Ideal := fun m g _ =>
  (θ_run Cert.Reference29Ideal.defs _ _).mono (fun r h => ⟨fun c => (h c).2, sem_eq_zero_of_no_sems (by decide) r.2⟩)
    (Cert.Reference29Ideal.Value.run m g)

end Cert.MemK

end
-- ==== Proof.MemV.lean ====
/- The memory's value product: what the call leaves in its result, and that it is the reference's. -/
module

public import proofs.«01_k».proof.Defs
public import proofs.«01_k».proof.Proof.MemLayout
public import proofs.«01_k».proof.Proof.MemK
public import proofs.«01_k».proof.Proof.Gen.Kernel30Ideal.Value
public import proofs.«01_k».proof.Proof.Gen.Reference30Ideal.Run
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel30Ideal.Out

open Cert.Kernel30Ideal Cert.Kernel30Ideal.Gen Idealize.ShloMosaic Idealize.ShloMosaic.TcCoe Idealize.SL.Sem
open Cert.Ffn (by_ix2 by_ix3)
open Cert.Proj (unit)

open Cert.Kernel29Ideal.Out (prod sum_at)

variable (m : (ℓ : Loc nD τ sig) → Buf (Elt Ideal) ℓ) (c : Dev nD)

/-- The arguments, as arrays of extended reals. -/
abbrev memn : FVec Ideal S256x1024 .f32 := m ((c : Thread nD τ).loc main_arg0)
abbrev w : FVec Ideal S1024x1024 .f32 := m ((c : Thread nD τ).loc main_arg3)

theorem idx : ∀ t : Fin cfg0.N, win0_0.index t = ![0, 0]
    ∧ win0_1.index t = ![0, 2, 0] ∧ win0_2.index t = ![1, 2, 0] ∧ win0_3.index t = ![2, 2, 0] ∧ win0_4.index t = ![3, 2, 0]
    ∧ win0_5.index t = ![0, 0] :=
  (by decide +kernel : ∀ t : Fin grid0.N, _)

theorem blk0 (t : Fin cfg0.N) (r : Fin 256) (x : Fin 1024) :
    (iblk m c 0 t : Vec Ideal S256x1024 .bf16) (ix2 r x) = memn m c (ix2 r x) := by
  blk_ext! [iblk, V, idx t]

/-- The four weights in layers. -/
def slab : Vec Ideal S4x1024x1024 .bf16 := V m c main_v8

theorem slab_eq : slab m c = (concatenate S4x1024x1024 1
      [⟨S4x256x1024, V m c main_v1⟩, ⟨S4x256x1024, V m c main_v3⟩,
        ⟨S4x256x1024, truncf .bf16 (shapeCast _ (w m c) shapeCasts_S1024x1024_S4x256x1024) bitsLt_bf16_f32⟩, ⟨S4x256x1024, V m c main_v7⟩]
      concatenates_S4x256x1024_S4x256x1024_S4x256x1024_S4x256x1024_S4x1024x1024_d1 : Vec Ideal S4x1024x1024 .bf16) := by
  unfold slab V
  after_results
  rfl

theorem slab_at (p : Fin 4) (r : Fin 256) (x : Fin 1024) (h : 512 + r.val < 1024) :
    slab m c (ix3 p ⟨512 + r.val, h⟩ x) = w m c (ix2 (unit p r) x) := by
  rw [slab_eq]
  refine (Mem.third_at _ _ _ _ p r x h _).trans ?_
  pointwise
  rfl

theorem blk1 (t : Fin cfg0.N) (r : Fin 256) (x : Fin 1024) :
    (iblk m c 1 t : Vec Ideal S1x256x1024 .bf16) (ix3 0 r x) = w m c (ix2 (unit 0 r) x) := by
  refine Eq.trans ?_ (slab_at m c 0 r x (by omega))
  unfold slab
  blk_ext [iblk, idx t]

theorem blk2 (t : Fin cfg0.N) (r : Fin 256) (x : Fin 1024) :
    (iblk m c 2 t : Vec Ideal S1x256x1024 .bf16) (ix3 0 r x) = w m c (ix2 (unit 1 r) x) := by
  refine Eq.trans ?_ (slab_at m c 1 r x (by omega))
  unfold slab
  blk_ext [iblk, idx t]

theorem blk3 (t : Fin cfg0.N) (r : Fin 256) (x : Fin 1024) :
    (iblk m c 3 t : Vec Ideal S1x256x1024 .bf16) (ix3 0 r x) = w m c (ix2 (unit 2 r) x) := by
  refine Eq.trans ?_ (slab_at m c 2 r x (by omega))
  unfold slab
  blk_ext [iblk, idx t]

theorem blk4 (t : Fin cfg0.N) (r : Fin 256) (x : Fin 1024) :
    (iblk m c 4 t : Vec Ideal S1x256x1024 .bf16) (ix3 0 r x) = w m c (ix2 (unit 3 r) x) := by
  refine Eq.trans ?_ (slab_at m c 3 r x (by omega))
  unfold slab
  blk_ext [iblk, idx t]

/-- A layer's product, in the arrays' terms. -/
theorem prod_eq (t : Fin cfg0.N) (p : Fin 4)
    (W : Vec Ideal S1x256x1024 .bf16) (hW : ∀ r x, W (ix3 0 r x) = w m c (ix2 (unit p r) x)) (r : Fin 256) (d : Fin 1024) :
    prod (iblk m c 0 t : Vec Ideal S256x1024 .bf16) p W r d
      = ∑ k, (memn m c (ix2 r (unit p k)) : EReal) * w m c (ix2 (unit p k) d) :=
  Finset.sum_congr rfl fun k _ => congrArg₂ (fun a b : EReal => a * b) (blk0 m c t r (unit p k)) (hW k d)

/-- The result. -/
def arr (i : S256x1024.Idx) : EReal := ∑ j : Fin 1024, (memn m c (ix2 (i 0) j) : EReal) * w m c (ix2 j (i 1))

theorem final : (dats m 0 c).arrAt 5 cfg0.N = arr m c :=
  (dats m 0 c).arrAt_eq_of_covers 5 _ (by decide +kernel) fun t hf y => by
    revert y
    refine by_ix2 fun r d => ?_
    blk_simp
    rw [after0_5]
    frame_out
    refine (sum_at _ _ _ _ _ r d).trans ?_
    rw [prod_eq m c t 0 _ (blk1 m c t), prod_eq m c t 1 _ (blk2 m c t), prod_eq m c t 2 _ (blk3 m c t),
      prod_eq m c t 3 _ (blk4 m c t)]
    have e : (arr m c (ix2 r d) : EReal) = _ := Mix.sum_quarters fun j => (memn m c (ix2 r j) : EReal) * w m c (ix2 j d)
    refine e.symm.trans (congrArg (arr m c) ?_)
    blk_ext [idx t]

end Cert.Kernel30Ideal.Out

namespace Cert.MemV

open Idealize.ShloMosaic Idealize.SL.Sem
open Cert.Ffn (by_ix2)

section
open Cert.Reference30Ideal Cert.Reference30Ideal.Gen

/-- The product as the reference computes it. -/
def refOut (a : FVec Ideal S256x1024 .f32) (w : FVec Ideal S1024x1024 .f32) : FVec Ideal S256x1024 .bf16 :=
  truncf .bf16 (Host.dotGeneral dot_S256x1024_S1024x1024_S256x1024_1_0_0_1_n_n none a w) bitsLt_bf16_f32

theorem refOut_at (a : FVec Ideal S256x1024 .f32) (w : FVec Ideal S1024x1024 .f32) (s : Fin 256) (d : Fin 1024) :
    refOut a w (ix2 s d) = (∑ j : Fin 1024, (a (ix2 s j) : EReal) * w (ix2 j d) : EReal) := by
  pointwise [refOut]
end

theorem algebraic30 : Cert.algebraic_Kernel30Ideal_Reference30Ideal := by
  intro m g m' g' _ hagree
  refine ⟨fun c => Cert.Kernel30Ideal.Out.arr m c,
    (θ_run Cert.Kernel30Ideal.defs _ _).mono (fun r h c => ⟨(h c).1.trans (Cert.Kernel30Ideal.Out.final m c), (h c).2⟩)
      (Cert.Kernel30Ideal.Value.run_blocks m g),
    (θ_run Cert.Reference30Ideal.defs _ _).mono (fun r h c => ?_) (Cert.Reference30Ideal.Value.run m' g')⟩
  obtain ⟨a0, a1, a2, a3, a4⟩ := hagree c
  have h0 := (h c).1
  rw [a0, a3] at h0
  exact ⟨h0.trans (funext (by_ix2 fun s d => refOut_at _ _ s d)), (h c).2⟩

theorem frame_reference30 : Cert.quiescent_Reference30Ideal := fun m g _ =>
  (θ_run Cert.Reference30Ideal.defs _ _).mono (fun r h => ⟨fun c => (h c).2, sem_eq_zero_of_no_sems (by decide) r.2⟩)
    (Cert.Reference30Ideal.Value.run m g)

end Cert.MemV

end
-- ==== Proof.MemNorm.lean ====
/- The memory's normalised rows, and the gradient of that normalisation by its gain: what the two calls leave in their results, and
   that they are the reference's. -/
module

public import proofs.«01_k».proof.Proof.NormRow
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Defs
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel31Ideal.MemNorm

open Cert.Kernel31Ideal Cert.Kernel31Ideal.Gen Idealize.ShloMosaic Idealize.ShloMosaic.TcCoe Idealize.SL.Sem
open Cert.NormRow
open Cert.Ffn (by_ix2)

theorem norm_at (X : Vec Ideal S256x1024 .f32) (G : Vec Ideal S1x1024 .f32) (r : Fin 256) (d : Fin 1024) :
    k0_pay1 (F := Ideal) X G (ix2 r d) = (X (ix2 r d) * rs (fun j => X (ix2 r j)) * G (ix2 0 d) : EReal) := by
  pointwise [k0_pay1]
  rfl

variable (m : (ℓ : Loc nD τ sig) → Buf (Elt Ideal) ℓ) (c : Dev nD)

/-- The arguments, as arrays of extended reals. -/
abbrev xin : FVec Ideal S256x1024 .f32 := m ((c : Thread nD τ).loc main_arg0)
abbrev gain : FVec Ideal S1024 .f32 := m ((c : Thread nD τ).loc main_arg1)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) (r : Fin 256) (x : Fin 1024) :
    (iblk m c 0 t : Vec Ideal S256x1024 .f32) (ix2 r x) = xin m c (ix2 r x) := by
  blk_ext [iblk, V, idx t]

theorem blk1 (t : Fin cfg0.N) (x : Fin 1024) :
    (iblk m c 1 t : Vec Ideal S1x1024 .f32) (ix2 0 x) = gain m c (ix1 x) := by
  blk_ext! [iblk, V, idx t]

/-- The normalised rows. -/
def arr (i : S256x1024.Idx) : EReal := xin m c i * rs (fun j => xin m c (ix2 (i 0) j)) * gain m c (ix1 (i 1))

theorem final2 : (dats m 0 c).arrAt 2 cfg0.N = arr m c :=
  (dats m 0 c).arrAt_eq_of_covers 2 _ (by decide +kernel) fun t hf y => by
    revert y
    refine by_ix2 fun r d => ?_
    blk_simp
    rw [after0_2]
    frame_out
    refine (norm_at _ _ r d).trans ?_
    simp only [blk0 m c t, blk1 m c t]
    show arr m c (ix2 r d) = _
    refine congrArg (arr m c) ?_
    blk_ext [idx t]

end Cert.Kernel31Ideal.MemNorm

namespace Cert.Kernel32Ideal.MemGain

open Cert.Kernel32Ideal Cert.Kernel32Ideal.Gen Idealize.ShloMosaic Idealize.ShloMosaic.TcCoe Idealize.SL.Sem
open Cert.NormRow
open Cert.Ffn (by_ix2)

theorem gain_at (A : FVec Ideal S1x1024 .f32) (X D : FVec Ideal S256x1024 .f32) (d : Fin 1024) :
    k0_pay2 (F := Ideal) A X D (ix2 0 d)
      = (A (ix2 0 d) + ∑ r : Fin 256, D (ix2 r d) * (X (ix2 r d) * rs (fun j => X (ix2 r j))) : EReal) := by
  pointwise [k0_pay2]
  rfl

theorem fill (j : S1x1024.Idx) : k0_pay1 (F := Ideal) j = 0 := by pointwise [k0_pay1]

variable (m : (ℓ : Loc nD τ sig) → Buf (Elt Ideal) ℓ) (c : Dev nD)

/-- The arguments, as arrays of extended reals. -/
abbrev xin : FVec Ideal S256x1024 .f32 := m ((c : Thread nD τ).loc main_arg0)
abbrev dout : FVec Ideal S256x1024 .f32 := m ((c : Thread nD τ).loc main_arg2)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem blk0 (t : Fin cfg0.N) (r : Fin 256) (x : Fin 1024) :
    (iblk m c 0 t : Vec Ideal S256x1024 .f32) (ix2 r x) = xin m c (ix2 r x) := by
  blk_ext [iblk, V, idx t]

theorem blk1 (t : Fin cfg0.N) (r : Fin 256) (x : Fin 1024) :
    (iblk m c 1 t : Vec Ideal S256x1024 .f32) (ix2 r x) = dout m c (ix2 r x) := by
  blk_ext [iblk, V, idx t]

/-- The gain's gradient. -/
def arr (d : Fin 1024) : EReal := ∑ r : Fin 256, dout m c (ix2 r d) * (xin m c (ix2 r d) * rs (fun j => xin m c (ix2 r j)))

theorem final3 : (dats m 0 c).arrAt 3 cfg0.N = fun i => arr m c (i 1) :=
  (dats m 0 c).arrAt_eq_of_covers 3 _ (by decide +kernel) fun t hf y => by
    revert y
    refine by_ix2 fun z d => ?_
    obtain rfl : z = 0 := Subsingleton.elim _ _
    blk_simp
    rw [after0_3]
    dsimp only [outsAt0]
    frame_open
    simp (disch := decide) only [↓ View.readCov_skip, ↓ View.readCov_cons_toLoadRect, ↓ View.readCov_fill]
    frame_out
    refine (gain_at _ _ _ d).trans ?_
    rw [fill, zero_add]
    simp only [blk0 m c t, blk1 m c t]
    show (fun i : S1x1024.Idx => arr m c (i 1)) (ix2 0 d) = _
    refine congrArg (fun i : S1x1024.Idx => arr m c (i 1)) ?_
    blk_ext [idx t]

end Cert.Kernel32Ideal.MemGain

namespace Cert.MemNorm

open Idealize.ShloMosaic Idealize.SL.Sem Cert.NormRow
open Cert.Ffn (by_ix2)

section
open Cert.Reference31Ideal Cert.Reference31Ideal.Gen

/-- The normalised rows times the gain, as the reference computes them. -/
def normed (x : FVec Ideal S256x1024 .f32) (gain : FVec Ideal S1024 .f32) : FVec Ideal S256x1024 .f32 :=
  mulf (mulf x (broadcastInDim S256x1024 ![0, 1] bcast_S256x1_S256x1024_0_1 (Host.rsqrt (addf (Host.divf (broadcastInDim S256x1 ![0] bcast_S256_S256x1_0
    (Host.reduceAdd (mulf x x) (constant S_ .f32 0x00000000#32) reducesTo_S256x1024_S256_d1 h_S_)) (broadcastInDim S256x1 ![] bcast_S_S256x1 (constant S_ .f32 0x44800000#32)))
    (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 gain))

theorem normed_at (x : FVec Ideal S256x1024 .f32) (gain : FVec Ideal S1024 .f32) (s : Fin 256) (d : Fin 1024) :
    normed x gain (ix2 s d) = (x (ix2 s d) * rs (fun j => x (ix2 s j)) * gain (ix1 d) : EReal) := by
  pointwise [normed]
  rfl
end

section
open Cert.Reference32Ideal Cert.Reference32Ideal.Gen

/-- The inverse root mean squares of the rows. -/
def root (x : FVec Ideal S256x1024 .f32) : FVec Ideal S256x1 .f32 :=
  Host.rsqrt (addf (Host.divf (broadcastInDim S256x1 ![0] bcast_S256_S256x1_0
    (Host.reduceAdd (mulf x x) (constant S_ .f32 0x00000000#32) reducesTo_S256x1024_S256_d1 h_S_)) (broadcastInDim S256x1 ![] bcast_S_S256x1 (constant S_ .f32 0x44800000#32)))
    (broadcastInDim S256x1 ![] bcast_S_S256x1 (constant S_ .f32 0x358637BD#32)))

theorem root_at (x : FVec Ideal S256x1024 .f32) (s : Fin 256) : root x (ix2 s 0) = rs (fun j => x (ix2 s j)) := by
  pointwise [root]
  rfl

/-- The gain's gradient, as the reference computes it. -/
def gained (x t : FVec Ideal S256x1024 .f32) : FVec Ideal S1x1024 .f32 :=
  broadcastInDim S1x1024 ![1] bcast_S1024_S1x1024_1 (Host.reduceAdd (shapeCast _ (Host.reduceAdd
    (mulf (mulf x (broadcastInDim S256x1024 ![0, 1] bcast_S256x1_S256x1024_0_1 (root x))) t)
    (constant S_ .f32 0x00000000#32) reducesTo_S256x1024_S1024_d0 h_S_) shapeCasts_S1024_S1x1024)
    (constant S_ .f32 0x00000000#32) reducesTo_S1x1024_S1024_d0 h_S_)

theorem gained_at (x t : FVec Ideal S256x1024 .f32) (d : Fin 1024) :
    gained x t (ix2 0 d) = ∑ r : Fin 256, (t (ix2 r d) * (x (ix2 r d) * rs (fun j => x (ix2 r j))) : EReal) := by
  pointwise [gained]
  simp only [root_at, mul_comm]
  exact Fin.sum_univ_one _
end

open Cert.Kernel31Ideal.MemNorm in
theorem algebraic31 : Cert.algebraic_Kernel31Ideal_Reference31Ideal := by
  intro m g m' g' _ hagree
  refine ⟨fun c => arr m c,
    (θ_run Cert.Kernel31Ideal.defs _ _).mono (fun r h c => ⟨(h c).1.trans (final2 m c), (h c).2⟩) (Cert.Kernel31Ideal.Value.run_blocks m g),
    (θ_run Cert.Reference31Ideal.defs _ _).mono (fun r h c => ?_) (Cert.Reference31Ideal.Value.run m' g')⟩
  obtain ⟨a0, a1⟩ := hagree c
  obtain ⟨h0, hargs⟩ := h c
  rw [a0, a1] at h0
  exact ⟨h0.trans (funext (by_ix2 fun s d => normed_at (xin m c) (gain m c) s d)), hargs⟩

theorem frame_reference31 : Cert.quiescent_Reference31Ideal := fun m g _ =>
  (θ_run Cert.Reference31Ideal.defs _ _).mono (fun r h => ⟨fun c => (h c).2, sem_eq_zero_of_no_sems (by decide) r.2⟩)
    (Cert.Reference31Ideal.Value.run m g)

open Cert.Kernel32Ideal.MemGain in
theorem algebraic32 : Cert.algebraic_Kernel32Ideal_Reference32Ideal := by
  intro m g m' g' _ hagree
  refine ⟨fun c i => arr m c (i 1),
    (θ_run Cert.Kernel32Ideal.defs _ _).mono (fun r h c => ⟨(h c).1.trans (final3 m c), (h c).2⟩) (Cert.Kernel32Ideal.Value.run_blocks m g),
    (θ_run Cert.Reference32Ideal.defs _ _).mono (fun r h c => ?_) (Cert.Reference32Ideal.Value.run m' g')⟩
  obtain ⟨a0, a1, a2⟩ := hagree c
  obtain ⟨h0, hargs⟩ := h c
  rw [a0, a2] at h0
  refine ⟨h0.trans (funext (by_ix2 fun z d => ?_)), hargs⟩
  obtain rfl : z = 0 := Subsingleton.elim _ _
  exact gained_at (xin m c) (dout m c) d

theorem frame_reference32 : Cert.quiescent_Reference32Ideal := fun m g _ =>
  (θ_run Cert.Reference32Ideal.defs _ _).mono (fun r h => ⟨fun c => (h c).2, sem_eq_zero_of_no_sems (by decide) r.2⟩)
    (Cert.Reference32Ideal.Value.run m g)

end Cert.MemNorm

end
-- ==== Proof.Finite.lean ====
/- What the precondition says: every entry of the queries and of the keys is a real number. -/
module

public import proofs.«01_k».proof.Defs
public import Idealize.ShloMosaic.Lib.Tactic
public import Idealize.ShloMosaic.Lib.Pointwise

@[expose] public section

set_option maxRecDepth 16384

noncomputable section

namespace Cert.Finite

open Cert.Pre_qk_finite Idealize.ShloMosaic

/-- The predicate's side conditions. -/
theorem facts : Cert.Pre_qk_finite.Facts where
  concatenates_S4096x1024_S256x1024_S4352x1024_d0 := by decide +kernel
  bcast_S_S4352x1024 := by decide +kernel

/-- An extended real strictly between the two infinities is a real number. -/
theorem real_of_between (x : EReal)
    (h : IntOp.andi (BitVec.ofBool (decide ((⊥ : EReal) < x))) (BitVec.ofBool (decide (x < ⊤))) = 1#1) : ∃ a : ℝ, x = a := by
  by_cases h1 : (⊥ : EReal) < x
  · by_cases h2 : x < ⊤
    · exact ⟨x.toReal, (EReal.coe_toReal h2.ne h1.ne').symm⟩
    · rw [decide_eq_true h1, decide_eq_false h2] at h
      exact absurd h (by decide)
  · rw [decide_eq_false h1] at h
    cases hd : decide (x < ⊤) <;> rw [hd] at h <;> exact absurd h (by decide)

theorem pinf : Ideal.ofBits .f32 0x7F800000#32 = ⊤ := by simp [Ideal.ofBits, Ideal.ieee]
theorem ninf : Ideal.ofBits .f32 0xFF800000#32 = ⊥ := by simp [Ideal.ofBits, Ideal.ieee]

section
variable (a0 a1 : FVec Ideal S4096x1024 .f32) (a2 a3 : FVec Ideal S256x1024 .f32) (a4 a5 a6 a7 : FVec Ideal S1024x1024 .f32)

theorem real_q [Facts] (h : fn (F := Ideal) a0 a1 a2 a3 a4 a5 a6 a7 = fun _ => 1#1) (r : Fin 4096) (x : Fin 1024) :
    ∃ a : ℝ, a1 (ix2 r x) = a := by
  have := congrFun h (ix2 ⟨r.val, by omega⟩ x)
  pointwise [fn] at this
  rw [pinf, ninf] at this
  exact real_of_between _ this

theorem real_k [Facts] (h : fn (F := Ideal) a0 a1 a2 a3 a4 a5 a6 a7 = fun _ => 1#1) (r : Fin 256) (x : Fin 1024) :
    ∃ a : ℝ, a2 (ix2 r x) = a := by
  have := congrFun h (ix2 ⟨4096 + r.val, by omega⟩ x)
  pointwise [fn] at this
  rw [pinf, ninf] at this
  exact real_of_between _ this
end

/-- A property of a matrix's entries, from the coordinates to the index. -/
theorem forall_ix2 {a b : ℕ} {P : (⟨2, ![a, b]⟩ : Shape).Idx → Prop} (h : ∀ (i : Fin a) (j : Fin b), P (ix2 i j)) (x : (⟨2, ![a, b]⟩ : Shape).Idx) : P x := by
  have e : x = ix2 (x 0) (x 1) := funext fun i => match i with
    | 0 => rfl
    | 1 => rfl
  exact e ▸ h (x 0) (x 1)

end Cert.Finite

end
-- ==== Proof.GeluGrad.lean ====
/- The derivative of the activation, as the call multiplies it with what reaches it and as the chain rule adds it up, and that
   the two agree for a real factor. -/
module

public import proofs.«01_k».proof.Proof.SoftmaxRow
public import proofs.«01_k».proof.Proof.FfnLayout

@[expose] public section

noncomputable section

namespace Cert.Gelu

open Idealize.ShloMosaic

/-- The constants, as the programs write them. -/
abbrev half : EReal := Ideal.ofBits .f32 0x3F000000#32
abbrev root : EReal := Ideal.ofBits .f32 0x3F4C422A#32
abbrev three : EReal := Ideal.ofBits .f32 0x40400000#32
abbrev num : EReal := Ideal.ofBits .f32 0x472EAB00#32
abbrev den : EReal := Ideal.ofBits .f32 0x49742400#32
abbrev cube : EReal := ((8943 / 200000 : ℝ) : EReal)
abbrev cube3 : EReal := ((26829 / 200000 : ℝ) : EReal)

theorem half_real : half = ((1 / 2 : ℝ) : EReal) := by
  simp [Ideal.ofBits, Ideal.ieee]
  try (rw [← EReal.coe_mul]; norm_num)

theorem three_real : three = ((3 : ℝ) : EReal) := by
  simp [Ideal.ofBits, Ideal.ieee]
  rw [← EReal.coe_mul]
  norm_num

theorem num_real : num = ((44715 : ℝ) : EReal) := by
  simp [Ideal.ofBits, Ideal.ieee]
  rw [← EReal.coe_mul]
  norm_num

theorem den_real : den = ((1000000 : ℝ) : EReal) := by
  simp [Ideal.ofBits, Ideal.ieee]
  rw [← EReal.coe_mul]
  norm_num

theorem root_real : ∃ e : ℝ, 0 < e ∧ root = (e : EReal) := by
  refine ⟨_, ?_, by simp only [Ideal.ofBits, Ideal.ieee]; simp; rw [← EReal.coe_mul]⟩
  norm_num

variable (y : EReal)

/-- The activation's hyperbolic tangent, as the call computes it. -/
def th : EReal := Ideal.tanh (root * (y + cube * (y * y * y)))

/-- The activation's derivative, as the call computes it. -/
def grad : EReal := half * (1 + th y) + half * y * (1 - th y * th y) * (root * (1 + cube3 * y * y))

/-- The hyperbolic tangent, as the reference computes it. -/
def thRef : EReal := Ideal.tanh (root * (y + Ideal.div (num * (y * y * y)) den))

/-- What reaches the tangent's argument. -/
def inner (c : EReal) : EReal := root * (half * (y * c) * ((1 + thRef y) * (1 - thRef y)))

/-- The derivative by the activation's input, as the chain rule gives it. -/
def chain (c : EReal) : EReal := c * (half * (1 + thRef y)) + inner y c + num * Ideal.div (inner y c) den * (three * (y * y))

theorem thRef_eq : thRef y = th y := by
  unfold thRef th
  rw [num_real, den_real, Ideal.div_coe (by norm_num), mul_comm (((44715 : ℝ) : EReal)), mul_assoc (y * y * y), ← EReal.coe_mul,
    mul_comm (y * y * y), show (44715 * (1 / 1000000) : ℝ) = 8943 / 200000 by norm_num]

/-- The two agree. -/
theorem chain_eq (c : ℝ) : chain y c = c * grad y := by
  obtain ⟨e, he, hE⟩ := root_real
  unfold chain inner grad
  rw [thRef_eq, hE, half_real, three_real, num_real, den_real, Ideal.div_coe (by norm_num)]
  induction y using EReal.rec with
  | bot =>
    have ht : th ⊥ = ((-1 : ℝ) : EReal) := by
      unfold th
      rw [hE]
      simp [EReal.coe_mul_bot_of_pos, he, EReal.bot_mul_bot, EReal.top_mul_bot]
    rw [ht]
    have h0 : (1 : EReal) + ((-1 : ℝ) : EReal) = 0 := by rw [← EReal.coe_one, ← EReal.coe_add]; simp
    have h1 : (1 : EReal) - ((-1 : ℝ) : EReal) * ((-1 : ℝ) : EReal) = 0 := by
      rw [← EReal.coe_one, ← EReal.coe_mul, ← EReal.coe_sub]; simp
    simp only [h0, h1, mul_zero, zero_mul, add_zero]
  | top =>
    have ht : th ⊤ = ((1 : ℝ) : EReal) := by
      unfold th
      rw [hE]
      simp [EReal.coe_mul_top_of_pos, he]
    rw [ht]
    have h0 : (1 : EReal) - ((1 : ℝ) : EReal) = 0 := by rw [← EReal.coe_one, ← EReal.coe_sub]; simp
    have h1 : (1 : EReal) - ((1 : ℝ) : EReal) * ((1 : ℝ) : EReal) = 0 := by
      rw [← EReal.coe_one, ← EReal.coe_mul, ← EReal.coe_sub]; simp
    simp only [h0, h1, mul_zero, zero_mul, add_zero]
  | coe y =>
    have ht : th (y : EReal) = ((Real.tanh (e * (y + 8943 / 200000 * (y * y * y))) : ℝ) : EReal) := by
      unfold th
      rw [hE, ← EReal.coe_mul, ← EReal.coe_mul, ← EReal.coe_mul, ← EReal.coe_add, ← EReal.coe_mul, Ideal.tanh_coe]
    rw [ht]
    generalize Real.tanh _ = t
    simp only [← EReal.coe_one, ← EReal.coe_mul, ← EReal.coe_add, ← EReal.coe_sub]
    congr 1
    ring

end Cert.Gelu

end
-- ==== Proof.GluBwd.lean ====
/- The odd mixer's gated output product backwards: what the call leaves in its four results. -/
module

public import proofs.«01_k».proof.Proof.GeluGrad
public import proofs.«01_k».proof.Proof.GluOut
public import proofs.«01_k».proof.Proof.Gen.Kernel33Ideal.Value
public import Idealize.ShloMosaic.Lib.Pipeline.ReadBack

@[expose] public section

set_option maxRecDepth 16384

noncomputable section

namespace Cert.Kernel33Ideal.GluBwd

open Cert.Kernel33Ideal Cert.Kernel33Ideal.Gen Idealize.ShloMosaic Idealize.ShloMosaic.TcCoe Idealize.SL.Sem
open Cert.Ffn (by_ix2 by_ix3 lg)
open Cert.Mix (unit half)
open Cert.Kernel22Ideal.Glu (low high low0 low1 high0 high1)

/- The two named constants. -/
theorem named_a : Named.named (F := Ideal) κ "gelu_a" (φ := .f32) 0x3D372713#32 = Gelu.cube :=
  IdealRules.named_const.ideal_named_scalar _ _ _ _ rfl
theorem named_3a : Named.named (F := Ideal) κ "gelu_3a" (φ := .f32) 0x3E095D4F#32 = Gelu.cube3 :=
  IdealRules.named_const.ideal_named_scalar _ _ _ _ rfl

section
variable (O1 O2 : Vec Ideal S512x1024 .bf16) (D : Vec Ideal S512x1024 .f32)

theorem sig_at (r : Fin 512) (x : Fin 1024) : k0_pay6 (F := Ideal) O2 (ix2 r x) = lg (O2 (ix2 r x)) := by
  pointwise [k0_pay6]
  rfl

theorem lo_at (r : Fin 512) (x : Fin 1024) :
    k0_pay7 (F := Ideal) O2 D (ix2 r x) = (D (ix2 r x) * lg (O2 (ix2 r x)) : EReal) := by
  pointwise [k0_pay7]
  rw [sig_at]

theorem hi_at (r : Fin 512) (x : Fin 1024) :
    k0_pay8 (F := Ideal) O1 O2 D (ix2 r x)
      = (D (ix2 r x) * O1 (ix2 r x) * lg (O2 (ix2 r x)) * (1 - lg (O2 (ix2 r x))) : EReal) := by
  pointwise [k0_pay8]
  rw [sig_at]

/-- Half `p`'s product with a layer of the weight. -/
def prod (A : FVec Ideal S512x1024 .bf16) (p : Fin 2) (W : Vec Ideal S1x512x512 .bf16) (r x : Fin 512) : EReal :=
  ∑ k : Fin 512, (A (ix2 r (half p k)) : EReal) * W (ix3 0 x k)

theorem col0 (x : Fin 512) (h : x.val < 1024) : (⟨x.val, h⟩ : Fin 1024) = half 0 x := Fin.ext (by simp [half])
theorem col1 (x : Fin 512) (h : 512 + x.val < 1024) : (⟨512 + x.val, h⟩ : Fin 1024) = half 1 x := Fin.ext (by simp [half])

theorem first_at (w0 : Vec Ideal S1x512x512 .bf16) (r x : Fin 512) :
    k0_pay9 (F := Ideal) O2 D w0 (ix2 r x) = prod (k0_pay7 O2 D) 0 w0 r x := by
  pointwise [k0_pay9]
  simp only [col0]
  rfl

theorem all_at (A B : FVec Ideal S512x1024 .bf16) (T : FVec Ideal S512x512 .f32) (w1 w2 w3 : Vec Ideal S1x512x512 .bf16) (r x : Fin 512)
    (hB : k0_pay10 (F := Ideal) O2 D = extractStridedSlice S512x512 ![0, 512] B slices_S512x1024_o0_512_S512x512) :
    k0_pay11 (F := Ideal) A T (k0_pay10 O2 D) w1 w2 w3 (ix2 r x)
      = (T (ix2 r x) + prod B 1 w1 r x + prod A 0 w2 r x + prod A 1 w3 r x : EReal) := by
  rw [hB]
  pointwise [k0_pay11]
  simp only [col0, col1]
  rfl
end

section
variable (T : FVec Ideal S512x512 .f32) (Y : Vec Ideal S512x512 .f32)

theorem th_at (r x : Fin 512) : k0_pay12 (F := Ideal) Y (ix2 r x) = Gelu.th (Y (ix2 r x)) := by
  pointwise [k0_pay12]
  rw [named_a]
  rfl

theorem act_at (r x : Fin 512) :
    k0_pay1 (F := Ideal) T (k0_pay13 Y) (k0_pay14 Y) (ix2 r x) = (T (ix2 r x) * Gelu.grad (Y (ix2 r x)) : EReal) := by
  pointwise [k0_pay1, k0_pay13, k0_pay14]
  rw [th_at, named_3a]
  rfl

theorem act2_at (r x : Fin 512) :
    k0_pay2 (F := Ideal) T (k0_pay13 Y) (k0_pay14 Y) (ix2 r x) = (T (ix2 r x) * Gelu.grad (Y (ix2 r x)) : EReal) := by
  pointwise [k0_pay2]
  exact act_at T Y r x

theorem skip_at (d : Vec Ideal S1x512 .f32) (r x : Fin 512) :
    k0_pay3 (F := Ideal) T (k0_pay13 Y) (k0_pay14 Y) d (ix2 r x) = (d (ix2 0 x) * (T (ix2 r x) * Gelu.grad (Y (ix2 r x))) : EReal) := by
  pointwise [k0_pay3]
  rw [act_at T Y r x]

theorem acc_at (A : Vec Ideal S1x512 .f32) (U : Vec Ideal S512x512 .f32) (x : Fin 512) :
    k0_pay4 (F := Ideal) T (k0_pay13 Y) (k0_pay14 Y) A U (ix2 0 x)
      = (A (ix2 0 x) + ∑ r : Fin 512, T (ix2 r x) * Gelu.grad (Y (ix2 r x)) * U (ix2 r x) : EReal) := by
  pointwise [k0_pay4]
  simp only [act_at T Y]

theorem fill (j : S1x512.Idx) : k0_pay5 (F := Ideal) j = 0 := by pointwise [k0_pay5]
end

variable (m : (ℓ : Loc nD τ sig) → Buf (Elt Ideal) ℓ) (c : Dev nD)

/-- The arguments, as arrays of extended reals. -/
abbrev oin : FVec Ideal S4096x2048 .f32 := m ((c : Thread nD τ).loc main_arg0)
abbrev dy : FVec Ideal S4096x1024 .f32 := m ((c : Thread nD τ).loc main_arg1)
abbrev wo : FVec Ideal S512x2048 .f32 := m ((c : Thread nD τ).loc main_arg2)
abbrev yin : FVec Ideal S4096x512 .f32 := m ((c : Thread nD τ).loc main_arg4)
abbrev uin : FVec Ideal S4096x512 .f32 := m ((c : Thread nD τ).loc main_arg5)
abbrev din : FVec Ideal S1x512 .f32 := m ((c : Thread nD τ).loc main_arg6)

theorem idx : ∀ t : Fin cfg0.N, win0_0.index t = ![t.val, 0] ∧ win0_1.index t = ![t.val, 0] ∧ win0_2.index t = ![t.val, 0]
    ∧ win0_3.index t = ![t.val, 0] ∧ win0_4.index t = ![0, 0]
    ∧ win0_5.index t = ![0, 0, 0] ∧ win0_6.index t = ![1, 0, 0] ∧ win0_7.index t = ![2, 0, 0] ∧ win0_8.index t = ![3, 0, 0]
    ∧ win0_9.index t = ![t.val, 0] ∧ win0_10.index t = ![t.val, 0] ∧ win0_11.index t = ![t.val, 0] ∧ win0_12.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 2048) :
    (iblk m c 0 t : Vec Ideal S512x2048 .bf16) (ix2 r x) = oin m c (ix2 (row t r) x) := by
  blk_ext! [iblk, V, idx t, row]

theorem blk1 (t : Fin cfg0.N) (r : Fin 512) (x : Fin 1024) :
    (iblk m c 1 t : Vec Ideal S512x1024 .f32) (ix2 r x) = dy m c (ix2 (row t r) x) := by
  blk_ext [iblk, V, idx t, row]

theorem blk2 (t : Fin cfg0.N) (r x : Fin 512) :
    (iblk m c 2 t : Vec Ideal S512x512 .f32) (ix2 r x) = yin m c (ix2 (row t r) x) := by
  blk_ext [iblk, V, idx t, row]

theorem blk3 (t : Fin cfg0.N) (r x : Fin 512) :
    (iblk m c 3 t : Vec Ideal S512x512 .f32) (ix2 r x) = uin m c (ix2 (row t r) x) := by
  blk_ext [iblk, V, idx t, row]

theorem blk4 (t : Fin cfg0.N) (x : Fin 512) :
    (iblk m c 4 t : Vec Ideal S1x512 .f32) (ix2 0 x) = din m c (ix2 0 x) := by
  blk_ext [iblk, V, idx t]

/-- The odd mixer's two weights in layers, the output weight's rows first. -/
def slab : Vec Ideal S4x768x512 .bf16 := V m c main_v5

theorem slab_low (p : Fin 4) (r x : Fin 512) (h : r.val < 768) :
    slab m c (ix3 p ⟨r.val, h⟩ x) = wo m c (ix2 r (unit p x)) := by
  unfold slab
  entry_read
  pointwise
  rfl

theorem blk5 (t : Fin cfg0.N) (r x : Fin 512) :
    (X0_5 m c t : Vec Ideal S1x512x512 .bf16) (ix3 0 r x) = wo m c (ix2 r (unit 0 x)) := by
  refine Eq.trans ?_ (slab_low m c 0 r x (by omega))
  unfold slab X0_5 Pipeline.Window.fill
  rw [dif_pos (moved0_5 t _)]
  blk_ext [iblk, idx t]

theorem blk6 (t : Fin cfg0.N) (r x : Fin 512) :
    (X0_6 m c t : Vec Ideal S1x512x512 .bf16) (ix3 0 r x) = wo m c (ix2 r (unit 1 x)) := by
  refine Eq.trans ?_ (slab_low m c 1 r x (by omega))
  unfold slab X0_6 Pipeline.Window.fill
  rw [dif_pos (moved0_6 t _)]
  blk_ext [iblk, idx t]

theorem blk7 (t : Fin cfg0.N) (r x : Fin 512) :
    (X0_7 m c t : Vec Ideal S1x512x512 .bf16) (ix3 0 r x) = wo m c (ix2 r (unit 2 x)) := by
  refine Eq.trans ?_ (slab_low m c 2 r x (by omega))
  unfold slab X0_7 Pipeline.Window.fill
  rw [dif_pos (moved0_7 t _)]
  blk_ext [iblk, idx t]

theorem blk8 (t : Fin cfg0.N) (r x : Fin 512) :
    (X0_8 m c t : Vec Ideal S1x512x512 .bf16) (ix3 0 r x) = wo m c (ix2 r (unit 3 x)) := by
  refine Eq.trans ?_ (slab_low m c 3 r x (by omega))
  unfold slab X0_8 Pipeline.Window.fill
  rw [dif_pos (moved0_8 t _)]
  blk_ext [iblk, idx t]

/- Where the two halves' columns lie in a block of the product. -/
theorem low_idx (inb : ∀ a, (![0, 0] : Fin 2 → ℕ) a + (![512, 1024] : Fin 2 → ℕ) a ≤ S512x2048.size a) (i : Fin 512) (j : Fin 1024) :
    (Rect.unit (s := S512x2048) ![0, 0] ![512, 1024] inb).idx (ix2 i j) = ix2 i (low j) := by
  funext a
  refine Fin.ext ((Rect.idx_unit_val _ _ _ _ _).trans ?_)
  match a with
  | 0 => exact Nat.zero_add _
  | 1 => exact Nat.zero_add _

theorem high_idx (inb : ∀ a, (![0, 1024] : Fin 2 → ℕ) a + (![512, 1024] : Fin 2 → ℕ) a ≤ S512x2048.size a) (i : Fin 512) (j : Fin 1024) :
    (Rect.unit (s := S512x2048) ![0, 1024] ![512, 1024] inb).idx (ix2 i j) = ix2 i (high j) := by
  funext a
  refine Fin.ext ((Rect.idx_unit_val _ _ _ _ _).trans ?_)
  match a with
  | 0 => exact Nat.zero_add _
  | 1 => rfl

/-- The derivative by the product, half by half. -/
def lo (s : Fin 4096) (j : Fin 1024) : EReal := dy m c (ix2 s j) * lg (oin m c (ix2 s (high j)))
def hi (s : Fin 4096) (j : Fin 1024) : EReal :=
  dy m c (ix2 s j) * oin m c (ix2 s (low j)) * lg (oin m c (ix2 s (high j))) * (1 - lg (oin m c (ix2 s (high j))))
def dprod (s : Fin 4096) (j : Fin 2048) : EReal := if h : j.val < 1024 then lo m c s ⟨j.val, h⟩ else hi m c s ⟨j.val - 1024, by omega⟩

theorem dprod_low (s : Fin 4096) (j : Fin 1024) : dprod m c s (low j) = lo m c s j := dif_pos j.isLt
theorem dprod_high (s : Fin 4096) (j : Fin 1024) : dprod m c s (high j) = hi m c s j :=
  (dif_neg (by simp [high])).trans (congrArg (hi m c s) (Fin.ext (by simp [high])))

/-- The halves of a block of the product, and the block's derivatives by them. -/
abbrev oLow (t : Fin cfg0.N) : FVec Ideal S512x1024 .bf16 :=
  View.ld (iblk m c 0 t : Vec Ideal S512x2048 .bf16) (Rect.unit (s := S512x2048) ![0, 0] ![512, 1024] inb_S512x2048_S512x1024_0_0)
abbrev oHigh (t : Fin cfg0.N) : FVec Ideal S512x1024 .bf16 :=
  View.ld (iblk m c 0 t : Vec Ideal S512x2048 .bf16) (Rect.unit (s := S512x2048) ![0, 1024] ![512, 1024] inb_S512x2048_S512x1024_0_1024)
abbrev dLow (t : Fin cfg0.N) : FVec Ideal S512x1024 .bf16 := k0_pay7 (F := Ideal) (oHigh m c t) (iblk m c 1 t : Vec Ideal S512x1024 .f32)
abbrev dHigh (t : Fin cfg0.N) : FVec Ideal S512x1024 .bf16 :=
  k0_pay8 (F := Ideal) (oLow m c t) (oHigh m c t) (iblk m c 1 t : Vec Ideal S512x1024 .f32)

theorem oLow_at (t : Fin cfg0.N) (r : Fin 512) (x : Fin 1024) : oLow m c t (ix2 r x) = oin m c (ix2 (row t r) (low x)) :=
  (congrArg (iblk m c 0 t : Vec Ideal S512x2048 .bf16) (low_idx _ r x)).trans (blk0 m c t r (low x))
theorem oHigh_at (t : Fin cfg0.N) (r : Fin 512) (x : Fin 1024) : oHigh m c t (ix2 r x) = oin m c (ix2 (row t r) (high x)) :=
  (congrArg (iblk m c 0 t : Vec Ideal S512x2048 .bf16) (high_idx _ r x)).trans (blk0 m c t r (high x))

theorem dLow_at (t : Fin cfg0.N) (r : Fin 512) (x : Fin 1024) : dLow m c t (ix2 r x) = dprod m c (row t r) (low x) := by
  rw [dprod_low]
  refine (lo_at _ _ r x).trans ?_
  rw [oHigh_at, blk1 m c t]
  rfl

theorem dHigh_at (t : Fin cfg0.N) (r : Fin 512) (x : Fin 1024) : dHigh m c t (ix2 r x) = dprod m c (row t r) (high x) := by
  rw [dprod_high]
  refine (hi_at _ _ _ r x).trans ?_
  rw [oHigh_at, oLow_at, blk1 m c t]
  rfl

/-- What reaches the activation. -/
def dact (s : Fin 4096) (x : Fin 512) : EReal := ∑ j : Fin 2048, dprod m c s j * wo m c (ix2 x j)

/-- A layer's product, in the arrays' terms. -/
theorem prod_eq (t : Fin cfg0.N) (A : FVec Ideal S512x1024 .bf16) (p : Fin 2) (q : Fin 4) (W : Vec Ideal S1x512x512 .bf16)
    (hA : ∀ r x, A (ix2 r (half p x)) = dprod m c (row t r) (unit q x)) (hW : ∀ r x, W (ix3 0 r x) = wo m c (ix2 r (unit q x))) (r x : Fin 512) :
    prod A p W r x = ∑ k, dprod m c (row t r) (unit q k) * wo m c (ix2 x (unit q k)) :=
  Finset.sum_congr rfl fun k _ => congrArg₂ (fun a b : EReal => a * b) (hA r k) (hW x k)

/-- Point `t`'s products. -/
abbrev prods (t : Fin cfg0.N) : FVec Ideal S512x512 .f32 :=
  k0_pay11 (F := Ideal) (dHigh m c t)
    (k0_pay9 (oHigh m c t) (iblk m c 1 t : Vec Ideal S512x1024 .f32) (X0_5 m c t : Vec Ideal S1x512x512 .bf16))
    (k0_pay10 (oHigh m c t) (iblk m c 1 t : Vec Ideal S512x1024 .f32)) (X0_6 m c t : Vec Ideal S1x512x512 .bf16)
    (X0_7 m c t : Vec Ideal S1x512x512 .bf16) (X0_8 m c t : Vec Ideal S1x512x512 .bf16)

theorem prods_at (t : Fin cfg0.N) (r x : Fin 512) : prods m c t (ix2 r x) = dact m c (row t r) x := by
  refine (all_at _ _ (dHigh m c t) (dLow m c t) _ _ _ _ r x rfl).trans ?_
  rw [first_at]
  refine (congrArg₂ (fun x y : EReal => x + y) (congrArg₂ (fun x y : EReal => x + y) (congrArg₂ (fun x y : EReal => x + y)
    (prod_eq m c t _ 0 0 _ (fun r x => (dLow_at m c t r _).trans (by rw [low0])) (blk5 m c t) r x)
    (prod_eq m c t _ 1 1 _ (fun r x => (dLow_at m c t r _).trans (by rw [low1])) (blk6 m c t) r x))
    (prod_eq m c t _ 0 2 _ (fun r x => (dHigh_at m c t r _).trans (by rw [high0])) (blk7 m c t) r x))
    (prod_eq m c t _ 1 3 _ (fun r x => (dHigh_at m c t r _).trans (by rw [high1])) (blk8 m c t) r x)).trans ?_
  exact (Mix.sum_units fun j => dprod m c (row t r) j * wo m c (ix2 x j)).symm

/-- The derivative by the activation's input. -/
def dys (s : Fin 4096) (x : Fin 512) : EReal := dact m c s x * Gelu.grad (yin m c (ix2 s x))

theorem dys_at (t : Fin cfg0.N) (r x : Fin 512) :
    (prods m c t (ix2 r x) * Gelu.grad ((iblk m c 2 t : Vec Ideal S512x512 .f32) (ix2 r x)) : EReal) = dys m c (row t r) x := by
  rw [prods_at, blk2 m c t]
  rfl

/-- The four results. -/
def arrD (i : S4096x2048.Idx) : EReal := dprod m c (i 0) (i 1)
def arrY (i : S4096x512.Idx) : EReal := dys m c (i 0) (i 1)
def arrU (i : S4096x512.Idx) : EReal := din m c (ix2 0 (i 1)) * dys m c (i 0) (i 1)
def skipTerm (s : Fin 4096) (x : Fin 512) : EReal := dys m c s x * uin m c (ix2 s x)
def arrS (x : Fin 512) : EReal := ∑ s : Fin 4096, skipTerm m c s x

/-- Point `t`'s block of the first. -/
def blkD (t : Fin cfg0.N) (y : S512x2048.Idx) : EReal := dprod m c (row t (y 0)) (y 1)

theorem storeLow (t : Fin cfg0.N) (x : S512x1024.Idx) :
    dLow m c t x = blkD m c t ((Rect.unit (s := S512x2048) ![0, 0] ![512, 1024] inb_S512x2048_S512x1024_0_0).emb x) := by
  revert x
  refine by_ix2 fun r x => ?_
  have e : (Rect.unit (s := S512x2048) ![0, 0] ![512, 1024] inb_S512x2048_S512x1024_0_0).emb (ix2 r x) = ix2 r (low x) := low_idx _ r x
  rw [e]
  exact dLow_at m c t r x

theorem storeHigh (t : Fin cfg0.N) (x : S512x1024.Idx) :
    dHigh m c t x = blkD m c t ((Rect.unit (s := S512x2048) ![0, 1024] ![512, 1024] inb_S512x2048_S512x1024_0_1024).emb x) := by
  revert x
  refine by_ix2 fun r x => ?_
  have e : (Rect.unit (s := S512x2048) ![0, 1024] ![512, 1024] inb_S512x2048_S512x1024_0_1024).emb (ix2 r x) = ix2 r (high x) := high_idx _ r x
  rw [e]
  exact dHigh_at m c t r x

theorem outs9 (t : Fin cfg0.N) (y : S512x2048.Idx) : (outsAt0 m c t.val t.isLt).1 y = blkD m c t y := by
  by_cases h : t.val % 8 = 0
  · rw [outsAt0_A m c t h]
    frame_open
    frame_out
    exact View.canon_append_of_piecesOf (Val := Elt Ideal) (e := .bf16) (blkD m c t) [] [_, _]
      ⟨storeHigh m c t, storeLow m c t, trivial⟩ y (View.cover_of_tiledL _ ![512, 1024] (by sl_kernel_rfl) y)
  · rw [outsAt0_B m c t h]
    frame_out
    exact View.canon_append_of_piecesOf (Val := Elt Ideal) (e := .bf16) (blkD m c t) [] [_, _]
      ⟨storeHigh m c t, storeLow m c t, trivial⟩ y (View.cover_of_tiledL _ ![512, 1024] (by sl_kernel_rfl) y)

theorem outs10 (t : Fin cfg0.N) (r x : Fin 512) : (outsAt0 m c t.val t.isLt).2.1 (ix2 r x) = dys m c (row t r) x := by
  by_cases h : t.val % 8 = 0
  · rw [outsAt0_A m c t h]
    frame_open
    frame_out
    exact (act2_at (prods m c t) (iblk m c 2 t : Vec Ideal S512x512 .f32) r x).trans (dys_at m c t r x)
  · rw [outsAt0_B m c t h]
    frame_out
    exact (act2_at (prods m c t) (iblk m c 2 t : Vec Ideal S512x512 .f32) r x).trans (dys_at m c t r x)

theorem outs11 (t : Fin cfg0.N) (r x : Fin 512) :
    (outsAt0 m c t.val t.isLt).2.2.1 (ix2 r x) = din m c (ix2 0 x) * dys m c (row t r) x := by
  by_cases h : t.val % 8 = 0
  · rw [outsAt0_A m c t h]
    frame_open
    frame_out
    refine (skip_at (prods m c t) (iblk m c 2 t : Vec Ideal S512x512 .f32) _ r x).trans ?_
    rw [dys_at, blk4 m c t]
  · rw [outsAt0_B m c t h]
    frame_out
    refine (skip_at (prods m c t) (iblk m c 2 t : Vec Ideal S512x512 .f32) _ r x).trans ?_
    rw [dys_at, blk4 m c t]

/-- Point `t`'s part of the fourth. -/
def partOf (t : Fin cfg0.N) (x : Fin 512) : EReal := ∑ r : Fin 512, skipTerm m c (row t r) x

theorem part_eq (t : Fin cfg0.N) (x : Fin 512) :
    (∑ r : Fin 512, prods m c t (ix2 r x) * Gelu.grad ((iblk m c 2 t : Vec Ideal S512x512 .f32) (ix2 r x))
      * (iblk m c 3 t : Vec Ideal S512x512 .f32) (ix2 r x) : EReal) = partOf m c t x :=
  Finset.sum_congr rfl fun r _ => by
    rw [dys_at, blk3 m c t]
    rfl

theorem outs_A (t : Fin cfg0.N) (h : t.val % 8 = 0) (x : Fin 512) :
    (outsAt0 m c t.val t.isLt).2.2.2 (ix2 0 x) = 0 + partOf m c t x := by
  rw [outsAt0_A m c t h]
  frame_open
  simp (disch := decide) only [↓ View.readCov_skip, ↓ View.readCov_cons_toLoadRect, ↓ View.readCov_fill]
  frame_out
  refine (acc_at (prods m c t) (iblk m c 2 t : Vec Ideal S512x512 .f32) _ (iblk m c 3 t : Vec Ideal S512x512 .f32) x).trans ?_
  rw [part_eq, fill]

theorem outs_B (t : Fin cfg0.N) (h : ¬ t.val % 8 = 0) (x : Fin 512) :
    (outsAt0 m c t.val t.isLt).2.2.2 (ix2 0 x)
      = ((outsAt0 m c (t.val - 1) (Nat.lt_of_le_of_lt (Nat.sub_le _ _) t.isLt)).2.2.2 (ix2 0 x) : EReal) + partOf m c t x := by
  rw [outsAt0_B m c t h]
  frame_out
  refine (acc_at (prods m c t) (iblk m c 2 t : Vec Ideal S512x512 .f32) _ (iblk m c 3 t : Vec Ideal S512x512 .f32) x).trans ?_
  rw [part_eq]

theorem outs_last (x : Fin 512) : (outsAt0 m c t0_7.val t0_7.isLt).2.2.2 (ix2 0 x) = arrS m c x := by
  refine (Pipeline.eq_sum_fin_of_reset_step_apply_last (M := EReal) (fun n h d => (outsAt0 m c n h).2.2.2 (ix2 0 d)) 8 (fun _ => 0)
    (partOf m c) (fun t h d => outs_A m c t h d) (fun t h d => outs_B m c t h d) (le_of_eq N_0) t0_7 rfl x).trans ?_
  rw [zero_add]
  exact Fin.sum_mul_add_congr (L := 4096) (S := cfg0.N) (n := 512) (f := fun s => skipTerm m c s x) (fun _ _ _ => rfl) (congrArg (· * 512) N_0.symm)

theorem final9 : (dats m 0 c).arrAt 9 cfg0.N = arrD m c :=
  (dats m 0 c).arrAt_eq_of_covers 9 _ (by decide +kernel) fun t hf y => by
    blk_simp
    rw [after0_9]
    refine (outs9 m c t y).trans ?_
    show arrD m c (ix2 (row t (y 0)) (y 1)) = _
    refine congrArg (arrD m c) ?_
    blk_ext [idx t, row]

theorem final10 : (dats m 0 c).arrAt 10 cfg0.N = arrY m c :=
  (dats m 0 c).arrAt_eq_of_covers 10 _ (by decide +kernel) fun t hf y => by
    revert y
    refine by_ix2 fun r x => ?_
    blk_simp
    rw [after0_10]
    refine (outs10 m c t r x).trans ?_
    show arrY m c (ix2 (row t r) x) = _
    refine congrArg (arrY m c) ?_
    blk_ext [idx t, row]

theorem final11 : (dats m 0 c).arrAt 11 cfg0.N = arrU m c :=
  (dats m 0 c).arrAt_eq_of_covers 11 _ (by decide +kernel) fun t hf y => by
    revert y
    refine by_ix2 fun r x => ?_
    blk_simp
    rw [after0_11]
    refine (outs11 m c t r x).trans ?_
    show arrU m c (ix2 (row t r) x) = _
    refine congrArg (arrU m c) ?_
    blk_ext [idx t, row]

theorem final12 : (dats m 0 c).arrAt 12 cfg0.N = fun i => arrS m c (i 1) :=
  (dats m 0 c).arrAt_eq_of_after_last 12 t0_7 (by decide +kernel) _ fun j => by
    revert j
    refine by_ix2 fun z x => ?_
    obtain rfl : z = 0 := Subsingleton.elim _ _
    blk_simp
    rw [after0_12]
    exact outs_last m c x

end Cert.Kernel33Ideal.GluBwd

end
-- ==== Proof.GluOutBwd.lean ====
/- The reference's derivative of the odd mixer's gated output product, and that the call's is the same for a real derivative,
   real first halves and real weights. -/
module

public import proofs.«01_k».proof.Defs
public import proofs.«01_k».proof.Proof.Finite
public import proofs.«01_k».proof.Proof.SoftmaxRow
public import proofs.«01_k».proof.Proof.GluBwd
public import proofs.«01_k».proof.Proof.Gen.Reference33Ideal.Run
public import Idealize.ShloMosaic.Lib.Claim
public import Idealize.ShloMosaic.Adequacy
public import Idealize.ShloMosaic.Init

@[expose] public section

set_option maxRecDepth 16384

noncomputable section

namespace Cert.GluOutBwd

open Idealize.ShloMosaic Idealize.SL.Sem
open Cert.Ffn (by_ix2 lg)
open Cert.Kernel22Ideal.Glu (low high)

section
open Cert.Pre_glu_finite Cert.Pre_glu_finite.Facts

/-- The precondition's side conditions. -/
theorem facts : Cert.Pre_glu_finite.Facts where
  slices_S4096x2048_S4096x1024_0_0 := by decide +kernel
  slices_S512x2048_S512x1024_0_0 := by decide +kernel
  slices_S512x2048_S512x1024_0_1024 := by decide +kernel
  concatenates_S4096x1024_S4096x1024_S512x1024_S512x1024_S9216x1024_d0 := by decide +kernel
  bcast_S_S9216x1024 := by decide +kernel

variable (a0 : FVec Ideal S4096x2048 .f32) (a1 : FVec Ideal S4096x1024 .f32) (a2 : FVec Ideal S512x2048 .f32)
  (a3 : FVec Ideal S1024x512 .f32) (a4 a5 : FVec Ideal S4096x512 .f32) (a6 : FVec Ideal S1x512 .f32)

theorem real_dy [Facts] (h : fn (F := Ideal) a0 a1 a2 a3 a4 a5 a6 = fun _ => 1#1) (r : Fin 4096) (x : Fin 1024) :
    ∃ a : ℝ, a1 (ix2 r x) = a := by
  have := congrFun h (ix2 ⟨r.val, by omega⟩ x)
  pointwise [fn] at this
  rw [Cert.Finite.pinf, Cert.Finite.ninf] at this
  exact Cert.Finite.real_of_between _ this

theorem real_o [Facts] (h : fn (F := Ideal) a0 a1 a2 a3 a4 a5 a6 = fun _ => 1#1) (r : Fin 4096) (x : Fin 1024) :
    ∃ a : ℝ, a0 (ix2 r (low x)) = a := by
  have := congrFun h (ix2 ⟨4096 + r.val, by omega⟩ x)
  pointwise [fn] at this
  rw [Cert.Finite.pinf, Cert.Finite.ninf] at this
  exact Cert.Finite.real_of_between _ this

/-- All the rows together are real. -/
theorem real_all [Facts] (h : fn (F := Ideal) a0 a1 a2 a3 a4 a5 a6 = fun _ => 1#1) (i : S9216x1024.Idx) :
    ∃ a : ℝ, (concatenate S9216x1024 0 [⟨S4096x1024, a1⟩, ⟨S4096x1024, extractStridedSlice S4096x1024 ![0, 0] a0 slices_S4096x2048_S4096x1024_0_0⟩,
      ⟨S512x1024, extractStridedSlice S512x1024 ![0, 0] a2 slices_S512x2048_S512x1024_0_0⟩,
      ⟨S512x1024, extractStridedSlice S512x1024 ![0, 1024] a2 slices_S512x2048_S512x1024_0_1024⟩]
      concatenates_S4096x1024_S4096x1024_S512x1024_S512x1024_S9216x1024_d0 i : EReal) = a := by
  refine Cert.Finite.real_of_between _ ?_
  rw [← Cert.Finite.pinf, ← Cert.Finite.ninf]
  exact congrFun h i

theorem real_wl [Facts] (h : fn (F := Ideal) a0 a1 a2 a3 a4 a5 a6 = fun _ => 1#1) (r : Fin 512) (x : Fin 1024) :
    ∃ a : ℝ, a2 (ix2 r (low x)) = a := by
  obtain ⟨a, ha⟩ := real_all a0 a1 a2 a3 a4 a5 a6 h (ix2 ⟨8192 + r.val, by omega⟩ x)
  refine ⟨a, Eq.trans (Eq.symm ?_) ha⟩
  refine (concatenate_apply_piece (t := S9216x1024) 0 [⟨S4096x1024, a1⟩, ⟨S4096x1024, extractStridedSlice S4096x1024 ![0, 0] a0 slices_S4096x2048_S4096x1024_0_0⟩,
      ⟨S512x1024, extractStridedSlice S512x1024 ![0, 0] a2 slices_S512x2048_S512x1024_0_0⟩,
      ⟨S512x1024, extractStridedSlice S512x1024 ![0, 1024] a2 slices_S512x2048_S512x1024_0_1024⟩] _
    (ix2 ⟨8192 + r.val, by omega⟩ x) 2 (by simp) S512x1024 (extractStridedSlice S512x1024 ![0, 0] a2 slices_S512x2048_S512x1024_0_0) rfl rfl 8192 rfl (ix2 r x) ?_ rfl).trans ?_
  · intro b hb
    match b with
    | 0 => exact absurd rfl hb
    | 1 => rfl
  · pointwise
    rfl

theorem real_wh [Facts] (h : fn (F := Ideal) a0 a1 a2 a3 a4 a5 a6 = fun _ => 1#1) (r : Fin 512) (x : Fin 1024) :
    ∃ a : ℝ, a2 (ix2 r (high x)) = a := by
  obtain ⟨a, ha⟩ := real_all a0 a1 a2 a3 a4 a5 a6 h (ix2 ⟨8704 + r.val, by omega⟩ x)
  refine ⟨a, Eq.trans (Eq.symm ?_) ha⟩
  refine (concatenate_apply_piece (t := S9216x1024) 0 [⟨S4096x1024, a1⟩, ⟨S4096x1024, extractStridedSlice S4096x1024 ![0, 0] a0 slices_S4096x2048_S4096x1024_0_0⟩,
      ⟨S512x1024, extractStridedSlice S512x1024 ![0, 0] a2 slices_S512x2048_S512x1024_0_0⟩,
      ⟨S512x1024, extractStridedSlice S512x1024 ![0, 1024] a2 slices_S512x2048_S512x1024_0_1024⟩] _
    (ix2 ⟨8704 + r.val, by omega⟩ x) 3 (by simp) S512x1024 (extractStridedSlice S512x1024 ![0, 1024] a2 slices_S512x2048_S512x1024_0_1024) rfl rfl 8704 rfl (ix2 r x) ?_ rfl).trans ?_
  · intro b hb
    match b with
    | 0 => exact absurd rfl hb
    | 1 => rfl
  · pointwise
    rfl

end

/-- The logistic function is real everywhere. -/
theorem lg_real (g : EReal) : ∃ a : ℝ, lg g = a := by
  induction g using EReal.rec with
  | bot =>
    have h1 : (1 : EReal) + ⊤ = ⊤ := EReal.coe_add_top 1
    exact ⟨0, by simp [lg, Ideal.div, h1]⟩
  | top => exact ⟨1, by simp [lg, Ideal.div]⟩
  | coe g =>
    refine ⟨1 / (1 + Real.exp (-g)), ?_⟩
    have hne : (1 + Real.exp (-g) : ℝ) ≠ 0 := by positivity
    unfold lg
    rw [zero_sub, ← EReal.coe_neg, Ideal.exp_coe, ← EReal.coe_one, ← EReal.coe_add, Ideal.div_coe hne, ← EReal.coe_mul, one_mul]

/-- A column lies in the lower or in the upper half. -/
theorem halves (j : Fin 2048) : (∃ x, j = low x) ∨ ∃ x, j = high x := by
  by_cases h : j.val < 1024
  · exact Or.inl ⟨⟨j.val, h⟩, rfl⟩
  · exact Or.inr ⟨⟨j.val - 1024, by omega⟩, Fin.ext (by simp only [high]; omega)⟩

section
open Cert.Reference33Ideal Cert.Reference33Ideal.Gen

/-- The reference's two halves side by side. -/
def padHigh (A : FVec Ideal S4096x1024 .f32) : FVec Ideal S4096x2048 .f32 :=
  pad S4096x2048 ![0, 1024] ![0, 0] ![0, 0] A (constant S_ .f32 0x00000000#32) pads_S4096x1024_S4096x2048_000_102400 h_S_
def padLow (A : FVec Ideal S4096x1024 .f32) : FVec Ideal S4096x2048 .f32 :=
  pad S4096x2048 ![0, 0] ![0, 1024] ![0, 0] A (constant S_ .f32 0x00000000#32) pads_S4096x1024_S4096x2048_000_010240 h_S_

theorem zero_at (i : S_.Idx) : constant (F := Ideal) S_ .f32 0x00000000#32 i = 0 := by pointwise

theorem padHigh_high (A : FVec Ideal S4096x1024 .f32) (s : Fin 4096) (x : Fin 1024) : padHigh A (ix2 s (high x)) = A (ix2 s x) := by
  unfold padHigh pad
  rw [dif_pos (Fin.forall_fin_two.2 ⟨(show 0 ≤ s.val ∧ (s.val - 0) % (0 + 1) = 0 ∧ (s.val - 0) / (0 + 1) < 4096 by omega),
    (show 1024 ≤ 1024 + x.val ∧ (1024 + x.val - 1024) % (0 + 1) = 0 ∧ (1024 + x.val - 1024) / (0 + 1) < 1024 by omega)⟩)]
  refine congrArg A (funext fun a => Fin.ext ?_)
  match a with
  | 0 => exact (show (s.val - 0) / (0 + 1) = s.val by omega)
  | 1 => exact (show (1024 + x.val - 1024) / (0 + 1) = x.val by omega)

theorem padHigh_low (A : FVec Ideal S4096x1024 .f32) (s : Fin 4096) (x : Fin 1024) : padHigh A (ix2 s (low x)) = 0 := by
  unfold padHigh pad
  rw [dif_neg fun h => absurd (show 1024 ≤ x.val from (h 1).1) (by omega)]
  exact zero_at _

theorem padLow_low (A : FVec Ideal S4096x1024 .f32) (s : Fin 4096) (x : Fin 1024) : padLow A (ix2 s (low x)) = A (ix2 s x) := by
  unfold padLow pad
  rw [dif_pos (Fin.forall_fin_two.2 ⟨(show 0 ≤ s.val ∧ (s.val - 0) % (0 + 1) = 0 ∧ (s.val - 0) / (0 + 1) < 4096 by omega),
    (show 0 ≤ x.val ∧ (x.val - 0) % (0 + 1) = 0 ∧ (x.val - 0) / (0 + 1) < 1024 by omega)⟩)]
  refine congrArg A (funext fun a => Fin.ext ?_)
  match a with
  | 0 => exact (show (s.val - 0) / (0 + 1) = s.val by omega)
  | 1 => exact (show (x.val - 0) / (0 + 1) = x.val by omega)

theorem padLow_high (A : FVec Ideal S4096x1024 .f32) (s : Fin 4096) (x : Fin 1024) : padLow A (ix2 s (high x)) = 0 := by
  unfold padLow pad
  rw [dif_neg fun h => absurd (show (1024 + x.val - 0) / (0 + 1) < 1024 from (h 1).2.2) (by omega)]
  exact zero_at _

variable (O : FVec Ideal S4096x2048 .f32) (D : FVec Ideal S4096x1024 .f32) (W : FVec Ideal S512x2048 .f32)
  (C Y U : FVec Ideal S4096x512 .f32) (d : FVec Ideal S1x512 .f32)

/-- The gate. -/
abbrev gate : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] O slices_S4096x2048_S4096x1024_0_1024))))

/-- The derivative by the gate's half and by the gated half. -/
def byHigh : FVec Ideal S4096x1024 .f32 :=
  mulf (mulf (extractStridedSlice S4096x1024 ![0, 0] O slices_S4096x2048_S4096x1024_0_0) D) (mulf (gate O) (subf (broadcastInDim S4096x1024 ![] bcast_S_S4096x1024 (constant S_ .f32 0x3F800000#32)) (gate O)))
def byLow : FVec Ideal S4096x1024 .f32 := mulf D (gate O)

theorem byHigh_at (s : Fin 4096) (x : Fin 1024) :
    byHigh O D (ix2 s x) = (O (ix2 s (low x)) * D (ix2 s x) * (lg (O (ix2 s (high x))) * (1 - lg (O (ix2 s (high x))))) : EReal) := by
  pointwise [byHigh]
  simp only [lg, zero_sub]
  rfl

theorem byLow_at (s : Fin 4096) (x : Fin 1024) :
    byLow O D (ix2 s x) = (D (ix2 s x) * lg (O (ix2 s (high x))) : EReal) := by
  pointwise [byLow]
  simp only [lg, zero_sub]
  rfl

/-- The derivative by the product. -/
def byProduct : FVec Ideal S4096x2048 .f32 := addf (padHigh (byHigh O D)) (padLow (byLow O D))

theorem byProduct_low (s : Fin 4096) (x : Fin 1024) : byProduct O D (ix2 s (low x)) = (D (ix2 s x) * lg (O (ix2 s (high x))) : EReal) := by
  show (padHigh (byHigh O D) (ix2 s (low x)) + padLow (byLow O D) (ix2 s (low x)) : EReal) = _
  rw [padHigh_low, padLow_low, byLow_at, zero_add]

theorem byProduct_high (s : Fin 4096) (x : Fin 1024) :
    byProduct O D (ix2 s (high x)) = (O (ix2 s (low x)) * D (ix2 s x) * (lg (O (ix2 s (high x))) * (1 - lg (O (ix2 s (high x))))) : EReal) := by
  show (padHigh (byHigh O D) (ix2 s (high x)) + padLow (byLow O D) (ix2 s (high x)) : EReal) = _
  rw [padHigh_high, padLow_high, byHigh_at, add_zero]

/-- What reaches the activation. -/
def reach : FVec Ideal S4096x512 .f32 := Host.dotGeneral dot_S4096x2048_S512x2048_S4096x512_1_1_0_0_n_n none (byProduct O D) W

theorem reach_at (s : Fin 4096) (x : Fin 512) : reach O D W (ix2 s x) = ∑ j : Fin 2048, (byProduct O D (ix2 s j) : EReal) * W (ix2 x j) := by
  pointwise [reach]

/-- The activation's tangent and the derivative by its input. -/
abbrev tangent : FVec Ideal S4096x512 .f32 :=
  Host.tanh (mulf (broadcastInDim S4096x512 ![] bcast_S_S4096x512 (constant S_ .f32 0x3F4C422A#32)) (addf Y (Host.divf (mulf (broadcastInDim S4096x512 ![] bcast_S_S4096x512 (constant S_ .f32 0x472EAB00#32)) (mulf (mulf Y Y) Y)) (broadcastInDim S4096x512 ![] bcast_S_S4096x512 (constant S_ .f32 0x49742400#32)))))
def byInput : FVec Ideal S4096x512 .f32 :=
  addf (addf (mulf C (mulf (broadcastInDim S4096x512 ![] bcast_S_S4096x512 (constant S_ .f32 0x3F000000#32)) (addf (broadcastInDim S4096x512 ![] bcast_S_S4096x512 (constant S_ .f32 0x3F800000#32)) (tangent Y)))) (mulf (broadcastInDim S4096x512 ![] bcast_S_S4096x512 (constant S_ .f32 0x3F4C422A#32)) (mulf (mulf (broadcastInDim S4096x512 ![] bcast_S_S4096x512 (constant S_ .f32 0x3F000000#32)) (mulf Y C)) (mulf (addf (broadcastInDim S4096x512 ![] bcast_S_S4096x512 (constant S_ .f32 0x3F800000#32)) (tangent Y)) (subf (broadcastInDim S4096x512 ![] bcast_S_S4096x512 (constant S_ .f32 0x3F800000#32)) (tangent Y))))))
    (mulf (mulf (broadcastInDim S4096x512 ![] bcast_S_S4096x512 (constant S_ .f32 0x472EAB00#32)) (Host.divf (mulf (broadcastInDim S4096x512 ![] bcast_S_S4096x512 (constant S_ .f32 0x3F4C422A#32)) (mulf (mulf (broadcastInDim S4096x512 ![] bcast_S_S4096x512 (constant S_ .f32 0x3F000000#32)) (mulf Y C)) (mulf (addf (broadcastInDim S4096x512 ![] bcast_S_S4096x512 (constant S_ .f32 0x3F800000#32)) (tangent Y)) (subf (broadcastInDim S4096x512 ![] bcast_S_S4096x512 (constant S_ .f32 0x3F800000#32)) (tangent Y))))) (broadcastInDim S4096x512 ![] bcast_S_S4096x512 (constant S_ .f32 0x49742400#32)))) (mulf (broadcastInDim S4096x512 ![] bcast_S_S4096x512 (constant S_ .f32 0x40400000#32)) (mulf Y Y)))

theorem byInput_at (s : Fin 4096) (x : Fin 512) : byInput C Y (ix2 s x) = Gelu.chain (Y (ix2 s x)) (C (ix2 s x)) := by
  pointwise [byInput]
  rfl

/-- The derivative by the skip's factor. -/
def bySkip : FVec Ideal S1x512 .f32 :=
  shapeCast _ (Host.reduceAdd (mulf C U) (constant S_ .f32 0x00000000#32) reducesTo_S4096x512_S512_d0 h_S_) shapeCasts_S512_S1x512

theorem bySkip_at (x : Fin 512) : bySkip C U (ix2 0 x) = (∑ s : Fin 4096, C (ix2 s x) * U (ix2 s x) : EReal) := by
  pointwise [bySkip]

theorem byU_at (s : Fin 4096) (x : Fin 512) : (mulf (broadcastInDim S4096x512 ![0, 1] bcast_S1x512_S4096x512_0_1 d) C) (ix2 s x) = (d (ix2 0 x) * C (ix2 s x) : EReal) := by
  pointwise
end

/- The reference's named results, by what they are. -/
section
open Cert.Reference33Ideal Cert.Reference33Ideal.Gen Idealize.ShloMosaic.TcCoe
variable (m : (ℓ : Loc nD τ sig) → Buf (Elt Ideal) ℓ) (c : Dev nD)

abbrev backOf : FVec Ideal S4096x512 .f32 :=
  byInput (reach (m ((c.tc : Thread nD τ).loc main_arg0)) (m ((c.tc : Thread nD τ).loc main_arg1)) (m ((c.tc : Thread nD τ).loc main_arg2)))
    (m ((c.tc : Thread nD τ).loc main_arg4))

theorem res_act : Value.res_main_v65 (F := Ideal) m c = truncf .bf16 (backOf m c) bitsLt_bf16_f32 := by
  unfold Value.res_main_v65
  rfl

theorem res_u : Value.res_main_v60 (F := Ideal) m c = mulf (broadcastInDim S4096x512 ![0, 1] bcast_S1x512_S4096x512_0_1 (m ((c.tc : Thread nD τ).loc main_arg6))) (backOf m c) := by
  unfold Value.res_main_v60
  rfl

theorem res_skip : Value.res_main_v63 (F := Ideal) m c = bySkip (backOf m c) (m ((c.tc : Thread nD τ).loc main_arg5)) := by
  unfold Value.res_main_v63
  rfl
end

attribute [local instance] facts

open Cert.Kernel33Ideal.GluBwd in
theorem algebraic33 : Cert.algebraic_Kernel33Ideal_Reference33Ideal_pre_glu_finite := by
  intro m g m' g' hpre hagree
  refine ⟨fun c => arrD m c, fun c => arrY m c, fun c => arrU m c, fun c => fun i => arrS m c (i 1),
    (θ_run Cert.Kernel33Ideal.defs _ _).mono (fun r h c => ⟨(h c).1.trans (final9 m c), (h c).2.1.trans (final10 m c),
      (h c).2.2.1.trans (final11 m c), (h c).2.2.2.1.trans (final12 m c), (h c).2.2.2.2⟩)
      (Cert.Kernel33Ideal.Value.run_blocks m g),
    (θ_run Cert.Reference33Ideal.defs _ _).mono (fun r h c => ?_) (Cert.Reference33Ideal.Value.run m' g')⟩
  obtain ⟨a0, a1, a2, a3, a4, a5, a6⟩ := hagree c
  obtain ⟨h0, h1, h2, h3, hargs⟩ := h c
  rw [res_act] at h1
  rw [res_u] at h2
  rw [res_skip] at h3
  unfold backOf at h1 h2 h3
  rw [a0, a1] at h0
  rw [a0, a1, a2, a4] at h1
  rw [a0, a1, a2, a4, a6] at h2
  rw [a0, a1, a2, a4, a5] at h3
  have elow : ∀ s x, byProduct (oin m c) (dy m c) (ix2 s (low x)) = dprod m c s (low x) := fun s x => by
    rw [byProduct_low, dprod_low]
    rfl
  have ehigh : ∀ s x, byProduct (oin m c) (dy m c) (ix2 s (high x)) = dprod m c s (high x) := fun s x => by
    rw [byProduct_high, dprod_high]
    unfold hi
    rw [mul_comm (oin m c _), mul_assoc (dy m c _ * _)]
  have eprod : ∀ s j, byProduct (oin m c) (dy m c) (ix2 s j) = dprod m c s j := fun s j => by
    obtain ⟨x, rfl⟩ | ⟨x, rfl⟩ := halves j
    · exact elow s x
    · exact ehigh s x
  have rprod : ∀ s j, ∃ a : ℝ, dprod m c s j = a := fun s j => by
    obtain ⟨x, rfl⟩ | ⟨x, rfl⟩ := halves j
    · obtain ⟨a, ha⟩ := real_dy _ _ _ _ _ _ _ (hpre c) s x
      obtain ⟨b, hb⟩ := lg_real (oin m c (ix2 s (high x)))
      refine ⟨a * b, ?_⟩
      rw [dprod_low, EReal.coe_mul]
      exact congrArg₂ (fun x y : EReal => x * y) ha hb
    · obtain ⟨a, ha⟩ := real_dy _ _ _ _ _ _ _ (hpre c) s x
      obtain ⟨o, ho⟩ := real_o _ _ _ _ _ _ _ (hpre c) s x
      obtain ⟨b, hb⟩ := lg_real (oin m c (ix2 s (high x)))
      refine ⟨a * o * b * (1 - b), ?_⟩
      rw [dprod_high, EReal.coe_mul, EReal.coe_mul, EReal.coe_mul, EReal.coe_sub, EReal.coe_one, ← hb]
      exact congrArg (fun z : EReal => z * _ * _) (congrArg₂ (fun x y : EReal => x * y) ha ho)
  have rw_ : ∀ x j, ∃ a : ℝ, wo m c (ix2 x j) = a := fun x j => by
    obtain ⟨y, rfl⟩ | ⟨y, rfl⟩ := halves j
    · exact real_wl _ _ _ _ _ _ _ (hpre c) x y
    · exact real_wh _ _ _ _ _ _ _ (hpre c) x y
  have ract : ∀ s x, ∃ a : ℝ, dact m c s x = a := fun s x => by
    choose a ha using rprod s
    choose b hb using rw_ x
    refine ⟨∑ j, a j * b j, ?_⟩
    rw [← Cert.SoftmaxRow.sum_coe]
    exact Finset.sum_congr rfl fun j _ => by rw [ha, hb, EReal.coe_mul]
  have ereach : ∀ s x, reach (oin m c) (dy m c) (wo m c) (ix2 s x) = dact m c s x := fun s x => by
    rw [reach_at]
    exact Finset.sum_congr rfl fun j _ => by rw [eprod]
  have eact : ∀ s x, byInput (reach (oin m c) (dy m c) (wo m c)) (yin m c) (ix2 s x) = dys m c s x := fun s x => by
    rw [byInput_at, ereach]
    obtain ⟨a, ha⟩ := ract s x
    unfold dys
    rw [ha]
    exact Gelu.chain_eq _ a
  refine ⟨h0.trans (funext (by_ix2 fun s j => eprod s j)), h1.trans (funext (by_ix2 fun s x => eact s x)),
    h2.trans (funext (by_ix2 fun s x => ?_)), h3.trans (funext (by_ix2 fun z x => ?_)), hargs⟩
  · refine (byU_at _ _ s x).trans ?_
    rw [eact]
    rfl
  · obtain rfl : z = 0 := Subsingleton.elim _ _
    refine (bySkip_at _ _ x).trans ?_
    exact Finset.sum_congr rfl fun s _ => congrArg (· * uin m c (ix2 s x)) (eact s x)

theorem frame_reference33 : Cert.quiescent_Reference33Ideal := fun m g _ =>
  (θ_run Cert.Reference33Ideal.defs _ _).mono (fun r h => ⟨fun c => (h c).2.2.2.2, sem_eq_zero_of_no_sems (by decide) r.2⟩)
    (Cert.Reference33Ideal.Value.run m g)

end Cert.GluOutBwd

end
-- ==== Proof.AttnEntry.lean ====
/- The blocks that the kernel's windows stage, read in the arguments' terms: the tokens' rows in blocks of 512, the memory's
   keys and values whole, and the four head-blocks of the output projection out of the stacked weights. -/
module

public import proofs.«01_k».proof.Proof.AttnHead

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.SoftmaxRow

variable (m : (ℓ : Loc nD τ sig) → Buf (Elt Ideal) ℓ) (c : Dev nD)

/-- The arguments, as arrays of extended reals. -/
abbrev dy : FVec Ideal S4096x1024 .f32 := m ((c : Thread nD τ).loc main_arg0)
abbrev q : FVec Ideal S4096x1024 .f32 := m ((c : Thread nD τ).loc main_arg1)
abbrev k : FVec Ideal S256x1024 .f32 := m ((c : Thread nD τ).loc main_arg2)
abbrev v : FVec Ideal S256x1024 .f32 := m ((c : Thread nD τ).loc main_arg3)
abbrev wo : FVec Ideal S1024x1024 .f32 := m ((c : Thread nD τ).loc main_arg7)

theorem idx : ∀ t : Fin cfg0.N, win0_0.index t = ![t.val, 0] ∧ win0_1.index t = ![t.val, 0] ∧ win0_2.index t = ![0, 0]
    ∧ win0_3.index t = ![0, 0] ∧ win0_4.index t = ![0, 3, 0] ∧ win0_5.index t = ![1, 3, 0] ∧ win0_6.index t = ![2, 3, 0]
    ∧ win0_7.index t = ![3, 3, 0] ∧ win0_8.index t = ![t.val, 0] ∧ win0_9.index t = ![0, 0] ∧ win0_10.index t = ![0, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = dy m c (ix2 (row t r) x) := by
  blk_ext [iblk, V, idx t, row]

theorem blk1 (t : Fin cfg0.N) (r : Fin 512) (x : Fin 1024) :
    (iblk m c 1 t : Vec Ideal S512x1024 .bf16) (ix2 r x) = q m c (ix2 (row t r) x) := by
  blk_ext! [iblk, V, idx t, row]

theorem blk2 (t : Fin cfg0.N) (r : Fin 256) (x : Fin 1024) :
    (iblk m c 2 t : Vec Ideal S256x1024 .bf16) (ix2 r x) = k m c (ix2 r x) := by
  blk_ext! [iblk, V, idx t]

theorem blk3 (t : Fin cfg0.N) (r : Fin 256) (x : Fin 1024) :
    (iblk m c 3 t : Vec Ideal S256x1024 .bf16) (ix2 r x) = v m c (ix2 r x) := by
  blk_ext! [iblk, V, idx t]

/-- A square weight cut into four blocks of 256 rows, stacked. -/
def stack (w : FVec Ideal S1024x1024 .f32) : FVec Ideal S4x256x1024 .bf16 :=
  truncf .bf16 (shapeCast S4x256x1024 w shapeCasts_S1024x1024_S4x256x1024 : FVec Ideal S4x256x1024 .f32) bitsLt_bf16_f32

theorem stack_at (w : FVec Ideal S1024x1024 .f32) (h : Fin 4) (d : Fin 256) (x : Fin 1024) :
    stack w (ix3 h d x) = w (ix2 (col h d) x) := by
  pointwise [stack]
  rfl

/-- The four weights of the attention, stacked, side by side along the rows. -/
def slab (a b d e : FVec Ideal S1024x1024 .f32) : FVec Ideal S4x1024x1024 .bf16 :=
  concatenate S4x1024x1024 1 [⟨S4x256x1024, stack a⟩, ⟨S4x256x1024, stack b⟩, ⟨S4x256x1024, stack d⟩, ⟨S4x256x1024, stack e⟩]
    concatenates_S4x256x1024_S4x256x1024_S4x256x1024_S4x256x1024_S4x1024x1024_d1

theorem slab_at (a b d e : FVec Ideal S1024x1024 .f32) (h : Fin 4) (r : Fin 256) (x : Fin 1024) :
    slab a b d e (ix3 h ⟨768 + r.val, by omega⟩ x) = e (ix2 (col h r) x) := by
  rw [← stack_at e h r x]
  generalize ha : stack a = A
  generalize hb : stack b = B
  generalize hd : stack d = D
  generalize he : stack e = E
  unfold slab
  rw [ha, hb, hd, he]
  pointwise
  rw [dif_neg (by omega), dif_neg (by omega), dif_neg (by omega)]
  exact congrArg (fun i => E (ix3 h i x)) (Fin.ext (by dsimp only; omega))

/-- The stacked weights as the kernel finds them. -/
theorem slab_eq : V m c main_v8 = slab (m ((c : Thread nD τ).loc main_arg4)) (m ((c : Thread nD τ).loc main_arg5))
    (m ((c : Thread nD τ).loc main_arg6)) (m ((c : Thread nD τ).loc main_arg7)) := by
  rfl

theorem blk4 (t : Fin cfg0.N) (d : Fin 256) (x : Fin 1024) :
    (iblk m c 4 t : Vec Ideal S1x256x1024 .bf16) (ix3 0 d x) = wo m c (ix2 (col 0 d) x) := by
  rw [← slab_at (m ((c : Thread nD τ).loc main_arg4)) (m ((c : Thread nD τ).loc main_arg5)) (m ((c : Thread nD τ).loc main_arg6)) (wo m c) 0 d x, ← slab_eq]
  blk_simp [iblk]
  generalize V m c main_v8 = S
  blk_ext [idx t]

theorem blk5 (t : Fin cfg0.N) (d : Fin 256) (x : Fin 1024) :
    (iblk m c 5 t : Vec Ideal S1x256x1024 .bf16) (ix3 0 d x) = wo m c (ix2 (col 1 d) x) := by
  rw [← slab_at (m ((c : Thread nD τ).loc main_arg4)) (m ((c : Thread nD τ).loc main_arg5)) (m ((c : Thread nD τ).loc main_arg6)) (wo m c) 1 d x, ← slab_eq]
  blk_simp [iblk]
  generalize V m c main_v8 = S
  blk_ext [idx t]

theorem blk6 (t : Fin cfg0.N) (d : Fin 256) (x : Fin 1024) :
    (iblk m c 6 t : Vec Ideal S1x256x1024 .bf16) (ix3 0 d x) = wo m c (ix2 (col 2 d) x) := by
  rw [← slab_at (m ((c : Thread nD τ).loc main_arg4)) (m ((c : Thread nD τ).loc main_arg5)) (m ((c : Thread nD τ).loc main_arg6)) (wo m c) 2 d x, ← slab_eq]
  blk_simp [iblk]
  generalize V m c main_v8 = S
  blk_ext [idx t]

theorem blk7 (t : Fin cfg0.N) (d : Fin 256) (x : Fin 1024) :
    (iblk m c 7 t : Vec Ideal S1x256x1024 .bf16) (ix3 0 d x) = wo m c (ix2 (col 3 d) x) := by
  rw [← slab_at (m ((c : Thread nD τ).loc main_arg4)) (m ((c : Thread nD τ).loc main_arg5)) (m ((c : Thread nD τ).loc main_arg6)) (wo m c) 3 d x, ← slab_eq]
  blk_simp [iblk]
  generalize V m c main_v8 = S
  blk_ext [idx t]

/-- A load of head 0's columns out of a block with 1024 columns. -/
theorem ldR_0 (B : Vec Ideal S512x1024 .bf16) (r : Fin 512) (d : Fin 256) :
    View.ld B (Rect.unit ![0, 0] ![512, 256] inb_S512x1024_S512x256_0_0) (ix2 r d) = B (ix2 r (col 0 d)) :=
  congrArg B (idx_col 0 _ rfl _ r d)

theorem ldM_0 (B : Vec Ideal S256x1024 .bf16) (r : Fin 256) (d : Fin 256) :
    View.ld B (Rect.unit ![0, 0] ![256, 256] inb_S256x1024_S256x256_0_0) (ix2 r d) = B (ix2 r (col 0 d)) :=
  congrArg B (idx_col 0 _ rfl _ r d)

/-- The loads of head 0 at point `t`. -/
theorem loads0 (t : Fin cfg0.N) : Loads (dy m c) (q m c) (k m c) (v m c) (wo m c) 0 (row t) (iblk m c 0 t)
    (View.ld (iblk m c 1 t : Vec Ideal S512x1024 .bf16) (Rect.unit ![0, 0] ![512, 256] inb_S512x1024_S512x256_0_0))
    (View.ld (iblk m c 2 t : Vec Ideal S256x1024 .bf16) (Rect.unit ![0, 0] ![256, 256] inb_S256x1024_S256x256_0_0))
    (View.ld (iblk m c 3 t : Vec Ideal S256x1024 .bf16) (Rect.unit ![0, 0] ![256, 256] inb_S256x1024_S256x256_0_0)) (iblk m c 4 t) :=
  ⟨blk0 m c t, fun r d => (ldR_0 _ r d).trans (blk1 m c t r _), fun r d => (ldM_0 _ r d).trans (blk2 m c t r _),
    fun r d => (ldM_0 _ r d).trans (blk3 m c t r _), blk4 m c t⟩

/-- A load of head 1's columns out of a block with 1024 columns. -/
theorem ldR_1 (B : Vec Ideal S512x1024 .bf16) (r : Fin 512) (d : Fin 256) :
    View.ld B (Rect.unit ![0, 256] ![512, 256] inb_S512x1024_S512x256_0_256) (ix2 r d) = B (ix2 r (col 1 d)) :=
  congrArg B (idx_col 1 _ rfl _ r d)

theorem ldM_1 (B : Vec Ideal S256x1024 .bf16) (r : Fin 256) (d : Fin 256) :
    View.ld B (Rect.unit ![0, 256] ![256, 256] inb_S256x1024_S256x256_0_256) (ix2 r d) = B (ix2 r (col 1 d)) :=
  congrArg B (idx_col 1 _ rfl _ r d)

/-- The loads of head 1 at point `t`. -/
theorem loads1 (t : Fin cfg0.N) : Loads (dy m c) (q m c) (k m c) (v m c) (wo m c) 1 (row t) (iblk m c 0 t)
    (View.ld (iblk m c 1 t : Vec Ideal S512x1024 .bf16) (Rect.unit ![0, 256] ![512, 256] inb_S512x1024_S512x256_0_256))
    (View.ld (iblk m c 2 t : Vec Ideal S256x1024 .bf16) (Rect.unit ![0, 256] ![256, 256] inb_S256x1024_S256x256_0_256))
    (View.ld (iblk m c 3 t : Vec Ideal S256x1024 .bf16) (Rect.unit ![0, 256] ![256, 256] inb_S256x1024_S256x256_0_256)) (iblk m c 5 t) :=
  ⟨blk0 m c t, fun r d => (ldR_1 _ r d).trans (blk1 m c t r _), fun r d => (ldM_1 _ r d).trans (blk2 m c t r _),
    fun r d => (ldM_1 _ r d).trans (blk3 m c t r _), blk5 m c t⟩

/-- A load of head 2's columns out of a block with 1024 columns. -/
theorem ldR_2 (B : Vec Ideal S512x1024 .bf16) (r : Fin 512) (d : Fin 256) :
    View.ld B (Rect.unit ![0, 512] ![512, 256] inb_S512x1024_S512x256_0_512) (ix2 r d) = B (ix2 r (col 2 d)) :=
  congrArg B (idx_col 2 _ rfl _ r d)

theorem ldM_2 (B : Vec Ideal S256x1024 .bf16) (r : Fin 256) (d : Fin 256) :
    View.ld B (Rect.unit ![0, 512] ![256, 256] inb_S256x1024_S256x256_0_512) (ix2 r d) = B (ix2 r (col 2 d)) :=
  congrArg B (idx_col 2 _ rfl _ r d)

/-- The loads of head 2 at point `t`. -/
theorem loads2 (t : Fin cfg0.N) : Loads (dy m c) (q m c) (k m c) (v m c) (wo m c) 2 (row t) (iblk m c 0 t)
    (View.ld (iblk m c 1 t : Vec Ideal S512x1024 .bf16) (Rect.unit ![0, 512] ![512, 256] inb_S512x1024_S512x256_0_512))
    (View.ld (iblk m c 2 t : Vec Ideal S256x1024 .bf16) (Rect.unit ![0, 512] ![256, 256] inb_S256x1024_S256x256_0_512))
    (View.ld (iblk m c 3 t : Vec Ideal S256x1024 .bf16) (Rect.unit ![0, 512] ![256, 256] inb_S256x1024_S256x256_0_512)) (iblk m c 6 t) :=
  ⟨blk0 m c t, fun r d => (ldR_2 _ r d).trans (blk1 m c t r _), fun r d => (ldM_2 _ r d).trans (blk2 m c t r _),
    fun r d => (ldM_2 _ r d).trans (blk3 m c t r _), blk6 m c t⟩

/-- A load of head 3's columns out of a block with 1024 columns. -/
theorem ldR_3 (B : Vec Ideal S512x1024 .bf16) (r : Fin 512) (d : Fin 256) :
    View.ld B (Rect.unit ![0, 768] ![512, 256] inb_S512x1024_S512x256_0_768) (ix2 r d) = B (ix2 r (col 3 d)) :=
  congrArg B (idx_col 3 _ rfl _ r d)

theorem ldM_3 (B : Vec Ideal S256x1024 .bf16) (r : Fin 256) (d : Fin 256) :
    View.ld B (Rect.unit ![0, 768] ![256, 256] inb_S256x1024_S256x256_0_768) (ix2 r d) = B (ix2 r (col 3 d)) :=
  congrArg B (idx_col 3 _ rfl _ r d)

/-- The loads of head 3 at point `t`. -/
theorem loads3 (t : Fin cfg0.N) : Loads (dy m c) (q m c) (k m c) (v m c) (wo m c) 3 (row t) (iblk m c 0 t)
    (View.ld (iblk m c 1 t : Vec Ideal S512x1024 .bf16) (Rect.unit ![0, 768] ![512, 256] inb_S512x1024_S512x256_0_768))
    (View.ld (iblk m c 2 t : Vec Ideal S256x1024 .bf16) (Rect.unit ![0, 768] ![256, 256] inb_S256x1024_S256x256_0_768))
    (View.ld (iblk m c 3 t : Vec Ideal S256x1024 .bf16) (Rect.unit ![0, 768] ![256, 256] inb_S256x1024_S256x256_0_768)) (iblk m c 7 t) :=
  ⟨blk0 m c t, fun r d => (ldR_3 _ r d).trans (blk1 m c t r _), fun r d => (ldM_3 _ r d).trans (blk2 m c t r _),
    fun r d => (ldM_3 _ r d).trans (blk3 m c t r _), blk7 m c t⟩

end Cert.KernelIdeal.Attn

end
-- ==== Proof.AttnOuts.lean ====
/- What one grid point leaves in the three output blocks: the queries' gradient of its tokens, and the keys' and the values'
   gradients with its tokens' parts added. -/
module

public import proofs.«01_k».proof.Proof.AttnEntry

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.SoftmaxRow

section
variable (X : Vec Ideal S512x1024 .f32) (Q : Vec Ideal S512x256 .bf16) (K V : Vec Ideal S256x256 .bf16)
  (W : Vec Ideal S1x256x1024 .bf16) (acc : FVec Ideal S256x256 .f32)

/- The heads' bodies are head 0's. -/
theorem q1_eq : k0_pay24 (F := Ideal) (k0_pay17 K) (k0_pay18 V) (k0_pay19 (k0_pay6 X) W) (k0_pay20 Q K)
    = k0_pay14 (k0_pay8 K) (k0_pay9 V) (k0_pay10 X W) (k0_pay11 Q K) (constant S512x256 .f32 0#32) := rfl
theorem q2_eq : k0_pay32 (F := Ideal) (k0_pay6 X) (k0_pay26 Q) (k0_pay27 K) V W
    = k0_pay14 (k0_pay8 K) (k0_pay9 V) (k0_pay10 X W) (k0_pay11 Q K) (constant S512x256 .f32 0#32) := rfl
theorem q3_eq : k0_pay2 (F := Ideal) (k0_pay35 K) (k0_pay37 Q K) (k0_pay39 (k0_pay6 X) V W) (k0_pay40 (k0_pay6 X) Q K V W)
    = k0_pay14 (k0_pay8 K) (k0_pay9 V) (k0_pay10 X W) (k0_pay11 Q K) (constant S512x256 .f32 0#32) := rfl
theorem k1_eq : k0_pay25 (F := Ideal) (k0_pay16 Q) (k0_pay18 V) (k0_pay19 (k0_pay6 X) W) (k0_pay20 Q K) acc
    = k0_pay15 (k0_pay7 Q) (k0_pay9 V) (k0_pay10 X W) (k0_pay11 Q K) (constant S512x256 .f32 0#32) acc := rfl
theorem k2_eq : k0_pay33 (F := Ideal) (k0_pay26 Q) (k0_pay31 (k0_pay6 X) (k0_pay26 Q) (k0_pay27 K) V W) acc
    = k0_pay15 (k0_pay7 Q) (k0_pay9 V) (k0_pay10 X W) (k0_pay11 Q K) (constant S512x256 .f32 0#32) acc := rfl
theorem k3_eq : k0_pay3 (F := Ideal) (k0_pay34 Q) (k0_pay37 Q K) (k0_pay39 (k0_pay6 X) V W) (k0_pay40 (k0_pay6 X) Q K V W) acc
    = k0_pay15 (k0_pay7 Q) (k0_pay9 V) (k0_pay10 X W) (k0_pay11 Q K) (constant S512x256 .f32 0#32) acc := rfl
theorem v1_eq : k0_pay22 (F := Ideal) (k0_pay19 (k0_pay6 X) W) (k0_pay20 Q K) acc = k0_pay12 X Q K W acc := rfl
theorem v2_eq : k0_pay30 (F := Ideal) (k0_pay6 X) (k0_pay26 Q) (k0_pay27 K) W acc = k0_pay12 X Q K W acc := rfl
theorem v3_eq : k0_pay38 (F := Ideal) (k0_pay6 X) Q K W acc = k0_pay12 X Q K W acc := rfl
end

theorem fill4 (j : S256x1024.Idx) : k0_pay4 (F := Ideal) j = 0 := by pointwise [k0_pay4]
theorem fill5 (j : S256x1024.Idx) : k0_pay5 (F := Ideal) j = 0 := by pointwise [k0_pay5]

theorem embR_0 (r : Fin 512) (d : Fin 256) :
    (Rect.unit ![0, 0] ![512, 256] inb_S512x1024_S512x256_0_0).emb (ix2 r d) = ix2 r (col 0 d) :=
  idx_col 0 _ rfl _ r d
theorem embM_0 (r : Fin 256) (d : Fin 256) :
    (Rect.unit ![0, 0] ![256, 256] inb_S256x1024_S256x256_0_0).emb (ix2 r d) = ix2 r (col 0 d) :=
  idx_col 0 _ rfl _ r d
theorem ldA_0 (B : Vec Ideal S256x1024 .f32) (r : Fin 256) (d : Fin 256) :
    View.ld B (Rect.unit ![0, 0] ![256, 256] inb_S256x1024_S256x256_0_0) (ix2 r d) = B (ix2 r (col 0 d)) :=
  congrArg B (idx_col 0 _ rfl _ r d)
theorem embR_1 (r : Fin 512) (d : Fin 256) :
    (Rect.unit ![0, 256] ![512, 256] inb_S512x1024_S512x256_0_256).emb (ix2 r d) = ix2 r (col 1 d) :=
  idx_col 1 _ rfl _ r d
theorem embM_1 (r : Fin 256) (d : Fin 256) :
    (Rect.unit ![0, 256] ![256, 256] inb_S256x1024_S256x256_0_256).emb (ix2 r d) = ix2 r (col 1 d) :=
  idx_col 1 _ rfl _ r d
theorem ldA_1 (B : Vec Ideal S256x1024 .f32) (r : Fin 256) (d : Fin 256) :
    View.ld B (Rect.unit ![0, 256] ![256, 256] inb_S256x1024_S256x256_0_256) (ix2 r d) = B (ix2 r (col 1 d)) :=
  congrArg B (idx_col 1 _ rfl _ r d)
theorem embR_2 (r : Fin 512) (d : Fin 256) :
    (Rect.unit ![0, 512] ![512, 256] inb_S512x1024_S512x256_0_512).emb (ix2 r d) = ix2 r (col 2 d) :=
  idx_col 2 _ rfl _ r d
theorem embM_2 (r : Fin 256) (d : Fin 256) :
    (Rect.unit ![0, 512] ![256, 256] inb_S256x1024_S256x256_0_512).emb (ix2 r d) = ix2 r (col 2 d) :=
  idx_col 2 _ rfl _ r d
theorem ldA_2 (B : Vec Ideal S256x1024 .f32) (r : Fin 256) (d : Fin 256) :
    View.ld B (Rect.unit ![0, 512] ![256, 256] inb_S256x1024_S256x256_0_512) (ix2 r d) = B (ix2 r (col 2 d)) :=
  congrArg B (idx_col 2 _ rfl _ r d)
theorem embR_3 (r : Fin 512) (d : Fin 256) :
    (Rect.unit ![0, 768] ![512, 256] inb_S512x1024_S512x256_0_768).emb (ix2 r d) = ix2 r (col 3 d) :=
  idx_col 3 _ rfl _ r d
theorem embM_3 (r : Fin 256) (d : Fin 256) :
    (Rect.unit ![0, 768] ![256, 256] inb_S256x1024_S256x256_0_768).emb (ix2 r d) = ix2 r (col 3 d) :=
  idx_col 3 _ rfl _ r d
theorem ldA_3 (B : Vec Ideal S256x1024 .f32) (r : Fin 256) (d : Fin 256) :
    View.ld B (Rect.unit ![0, 768] ![256, 256] inb_S256x1024_S256x256_0_768) (ix2 r d) = B (ix2 r (col 3 d)) :=
  congrArg B (idx_col 3 _ rfl _ r d)

variable (m : (ℓ : Loc nD τ sig) → Buf (Elt Ideal) ℓ) (c : Dev nD)

/-- The queries' gradient of point `t`'s tokens, as a block. -/
def blkQ (t : Fin cfg0.N) (y : S512x1024.Idx) : EReal := dQ (dy m c) (q m c) (k m c) (v m c) (wo m c) (row t (y 0)) (y 1)

/-- Point `t`'s part of the keys' gradient. -/
def partK (t : Fin cfg0.N) (y : S256x1024.Idx) : EReal :=
  ∑ r : Fin 512, dKrow (dy m c) (q m c) (k m c) (v m c) (wo m c) (row t r) (y 0) (y 1)

/-- Point `t`'s part of the values' gradient. -/
def partV (t : Fin cfg0.N) (y : S256x1024.Idx) : EReal :=
  ∑ r : Fin 512, dVrow (dy m c) (q m c) (k m c) (wo m c) (row t r) (y 0) (y 1)

/-- A block index by its coordinates. -/
theorem at_ix2 {a b : ℕ} {P : (⟨2, ![a, b]⟩ : Shape).Idx → Prop} (h : ∀ (i : Fin a) (j : Fin b), P (ix2 i j)) (x : (⟨2, ![a, b]⟩ : Shape).Idx) : P x := by
  have e : x = ix2 (x 0) (x 1) := funext fun i => match i with
    | 0 => rfl
    | 1 => rfl
  exact e ▸ h (x 0) (x 1)

/- Head 0's stores are the parts of the three blocks that are its own. -/
theorem storeQ0 (t : Fin cfg0.N) (x : S512x256.Idx) :
    k0_pay14 (F := Ideal) (k0_pay8 (View.ld (iblk m c 2 t : Vec Ideal S256x1024 .bf16) (Rect.unit ![0, 0] ![256, 256] inb_S256x1024_S256x256_0_0))) (k0_pay9 (View.ld (iblk m c 3 t : Vec Ideal S256x1024 .bf16) (Rect.unit ![0, 0] ![256, 256] inb_S256x1024_S256x256_0_0))) (k0_pay10 (iblk m c 0 t : Vec Ideal S512x1024 .f32) (iblk m c 4 t : Vec Ideal S1x256x1024 .bf16)) (k0_pay11 (View.ld (iblk m c 1 t : Vec Ideal S512x1024 .bf16) (Rect.unit ![0, 0] ![512, 256] inb_S512x1024_S512x256_0_0)) (View.ld (iblk m c 2 t : Vec Ideal S256x1024 .bf16) (Rect.unit ![0, 0] ![256, 256] inb_S256x1024_S256x256_0_0))) (constant S512x256 .f32 0#32) x
      = blkQ m c t ((Rect.unit (s := S512x1024) ![0, 0] ![512, 256] inb_S512x1024_S512x256_0_0).emb x) := by
  revert x
  refine at_ix2 fun r d => (dQ_at (loads0 m c t) r d).trans ?_
  rw [embR_0]
  rfl
theorem storeK0 (t : Fin cfg0.N) (A : Vec Ideal S256x1024 .f32) (x : S256x256.Idx) :
    k0_pay15 (F := Ideal) (k0_pay7 (View.ld (iblk m c 1 t : Vec Ideal S512x1024 .bf16) (Rect.unit ![0, 0] ![512, 256] inb_S512x1024_S512x256_0_0))) (k0_pay9 (View.ld (iblk m c 3 t : Vec Ideal S256x1024 .bf16) (Rect.unit ![0, 0] ![256, 256] inb_S256x1024_S256x256_0_0))) (k0_pay10 (iblk m c 0 t : Vec Ideal S512x1024 .f32) (iblk m c 4 t : Vec Ideal S1x256x1024 .bf16)) (k0_pay11 (View.ld (iblk m c 1 t : Vec Ideal S512x1024 .bf16) (Rect.unit ![0, 0] ![512, 256] inb_S512x1024_S512x256_0_0)) (View.ld (iblk m c 2 t : Vec Ideal S256x1024 .bf16) (Rect.unit ![0, 0] ![256, 256] inb_S256x1024_S256x256_0_0))) (constant S512x256 .f32 0#32) (View.ld A (Rect.unit ![0, 0] ![256, 256] inb_S256x1024_S256x256_0_0)) x
      = A ((Rect.unit (s := S256x1024) ![0, 0] ![256, 256] inb_S256x1024_S256x256_0_0).emb x) + partK m c t ((Rect.unit (s := S256x1024) ![0, 0] ![256, 256] inb_S256x1024_S256x256_0_0).emb x) := by
  revert x
  refine at_ix2 fun r d => (dK_at (loads0 m c t) _ r d).trans ?_
  rw [embM_0, ldA_0]
  rfl
theorem storeV0 (t : Fin cfg0.N) (A : Vec Ideal S256x1024 .f32) (x : S256x256.Idx) :
    k0_pay12 (F := Ideal) (iblk m c 0 t : Vec Ideal S512x1024 .f32) (View.ld (iblk m c 1 t : Vec Ideal S512x1024 .bf16) (Rect.unit ![0, 0] ![512, 256] inb_S512x1024_S512x256_0_0)) (View.ld (iblk m c 2 t : Vec Ideal S256x1024 .bf16) (Rect.unit ![0, 0] ![256, 256] inb_S256x1024_S256x256_0_0)) (iblk m c 4 t : Vec Ideal S1x256x1024 .bf16) (View.ld A (Rect.unit ![0, 0] ![256, 256] inb_S256x1024_S256x256_0_0)) x
      = A ((Rect.unit (s := S256x1024) ![0, 0] ![256, 256] inb_S256x1024_S256x256_0_0).emb x) + partV m c t ((Rect.unit (s := S256x1024) ![0, 0] ![256, 256] inb_S256x1024_S256x256_0_0).emb x) := by
  revert x
  refine at_ix2 fun r d => (dV_at (loads0 m c t) _ r d).trans ?_
  rw [embM_0, ldA_0]
  rfl
/- Head 1's stores are the parts of the three blocks that are its own. -/
theorem storeQ1 (t : Fin cfg0.N) (x : S512x256.Idx) :
    k0_pay24 (F := Ideal) (k0_pay17 (View.ld (iblk m c 2 t : Vec Ideal S256x1024 .bf16) (Rect.unit ![0, 256] ![256, 256] inb_S256x1024_S256x256_0_256))) (k0_pay18 (View.ld (iblk m c 3 t : Vec Ideal S256x1024 .bf16) (Rect.unit ![0, 256] ![256, 256] inb_S256x1024_S256x256_0_256))) (k0_pay19 (k0_pay6 (iblk m c 0 t : Vec Ideal S512x1024 .f32)) (iblk m c 5 t : Vec Ideal S1x256x1024 .bf16)) (k0_pay20 (View.ld (iblk m c 1 t : Vec Ideal S512x1024 .bf16) (Rect.unit ![0, 256] ![512, 256] inb_S512x1024_S512x256_0_256)) (View.ld (iblk m c 2 t : Vec Ideal S256x1024 .bf16) (Rect.unit ![0, 256] ![256, 256] inb_S256x1024_S256x256_0_256))) x
      = blkQ m c t ((Rect.unit (s := S512x1024) ![0, 256] ![512, 256] inb_S512x1024_S512x256_0_256).emb x) := by
  rw [q1_eq]
  revert x
  refine at_ix2 fun r d => (dQ_at (loads1 m c t) r d).trans ?_
  rw [embR_1]
  rfl
theorem storeK1 (t : Fin cfg0.N) (A : Vec Ideal S256x1024 .f32) (x : S256x256.Idx) :
    k0_pay25 (F := Ideal) (k0_pay16 (View.ld (iblk m c 1 t : Vec Ideal S512x1024 .bf16) (Rect.unit ![0, 256] ![512, 256] inb_S512x1024_S512x256_0_256))) (k0_pay18 (View.ld (iblk m c 3 t : Vec Ideal S256x1024 .bf16) (Rect.unit ![0, 256] ![256, 256] inb_S256x1024_S256x256_0_256))) (k0_pay19 (k0_pay6 (iblk m c 0 t : Vec Ideal S512x1024 .f32)) (iblk m c 5 t : Vec Ideal S1x256x1024 .bf16)) (k0_pay20 (View.ld (iblk m c 1 t : Vec Ideal S512x1024 .bf16) (Rect.unit ![0, 256] ![512, 256] inb_S512x1024_S512x256_0_256)) (View.ld (iblk m c 2 t : Vec Ideal S256x1024 .bf16) (Rect.unit ![0, 256] ![256, 256] inb_S256x1024_S256x256_0_256))) (View.ld A (Rect.unit ![0, 256] ![256, 256] inb_S256x1024_S256x256_0_256)) x
      = A ((Rect.unit (s := S256x1024) ![0, 256] ![256, 256] inb_S256x1024_S256x256_0_256).emb x) + partK m c t ((Rect.unit (s := S256x1024) ![0, 256] ![256, 256] inb_S256x1024_S256x256_0_256).emb x) := by
  rw [k1_eq]
  revert x
  refine at_ix2 fun r d => (dK_at (loads1 m c t) _ r d).trans ?_
  rw [embM_1, ldA_1]
  rfl
theorem storeV1 (t : Fin cfg0.N) (A : Vec Ideal S256x1024 .f32) (x : S256x256.Idx) :
    k0_pay22 (F := Ideal) (k0_pay19 (k0_pay6 (iblk m c 0 t : Vec Ideal S512x1024 .f32)) (iblk m c 5 t : Vec Ideal S1x256x1024 .bf16)) (k0_pay20 (View.ld (iblk m c 1 t : Vec Ideal S512x1024 .bf16) (Rect.unit ![0, 256] ![512, 256] inb_S512x1024_S512x256_0_256)) (View.ld (iblk m c 2 t : Vec Ideal S256x1024 .bf16) (Rect.unit ![0, 256] ![256, 256] inb_S256x1024_S256x256_0_256))) (View.ld A (Rect.unit ![0, 256] ![256, 256] inb_S256x1024_S256x256_0_256)) x
      = A ((Rect.unit (s := S256x1024) ![0, 256] ![256, 256] inb_S256x1024_S256x256_0_256).emb x) + partV m c t ((Rect.unit (s := S256x1024) ![0, 256] ![256, 256] inb_S256x1024_S256x256_0_256).emb x) := by
  rw [v1_eq]
  revert x
  refine at_ix2 fun r d => (dV_at (loads1 m c t) _ r d).trans ?_
  rw [embM_1, ldA_1]
  rfl
/- Head 2's stores are the parts of the three blocks that are its own. -/
theorem storeQ2 (t : Fin cfg0.N) (x : S512x256.Idx) :
    k0_pay32 (F := Ideal) (k0_pay6 (iblk m c 0 t : Vec Ideal S512x1024 .f32)) (k0_pay26 (View.ld (iblk m c 1 t : Vec Ideal S512x1024 .bf16) (Rect.unit ![0, 512] ![512, 256] inb_S512x1024_S512x256_0_512))) (k0_pay27 (View.ld (iblk m c 2 t : Vec Ideal S256x1024 .bf16) (Rect.unit ![0, 512] ![256, 256] inb_S256x1024_S256x256_0_512))) (View.ld (iblk m c 3 t : Vec Ideal S256x1024 .bf16) (Rect.unit ![0, 512] ![256, 256] inb_S256x1024_S256x256_0_512)) (iblk m c 6 t : Vec Ideal S1x256x1024 .bf16) x
      = blkQ m c t ((Rect.unit (s := S512x1024) ![0, 512] ![512, 256] inb_S512x1024_S512x256_0_512).emb x) := by
  rw [q2_eq]
  revert x
  refine at_ix2 fun r d => (dQ_at (loads2 m c t) r d).trans ?_
  rw [embR_2]
  rfl
theorem storeK2 (t : Fin cfg0.N) (A : Vec Ideal S256x1024 .f32) (x : S256x256.Idx) :
    k0_pay33 (F := Ideal) (k0_pay26 (View.ld (iblk m c 1 t : Vec Ideal S512x1024 .bf16) (Rect.unit ![0, 512] ![512, 256] inb_S512x1024_S512x256_0_512))) (k0_pay31 (k0_pay6 (iblk m c 0 t : Vec Ideal S512x1024 .f32)) (k0_pay26 (View.ld (iblk m c 1 t : Vec Ideal S512x1024 .bf16) (Rect.unit ![0, 512] ![512, 256] inb_S512x1024_S512x256_0_512))) (k0_pay27 (View.ld (iblk m c 2 t : Vec Ideal S256x1024 .bf16) (Rect.unit ![0, 512] ![256, 256] inb_S256x1024_S256x256_0_512))) (View.ld (iblk m c 3 t : Vec Ideal S256x1024 .bf16) (Rect.unit ![0, 512] ![256, 256] inb_S256x1024_S256x256_0_512)) (iblk m c 6 t : Vec Ideal S1x256x1024 .bf16)) (View.ld A (Rect.unit ![0, 512] ![256, 256] inb_S256x1024_S256x256_0_512)) x
      = A ((Rect.unit (s := S256x1024) ![0, 512] ![256, 256] inb_S256x1024_S256x256_0_512).emb x) + partK m c t ((Rect.unit (s := S256x1024) ![0, 512] ![256, 256] inb_S256x1024_S256x256_0_512).emb x) := by
  rw [k2_eq]
  revert x
  refine at_ix2 fun r d => (dK_at (loads2 m c t) _ r d).trans ?_
  rw [embM_2, ldA_2]
  rfl
theorem storeV2 (t : Fin cfg0.N) (A : Vec Ideal S256x1024 .f32) (x : S256x256.Idx) :
    k0_pay30 (F := Ideal) (k0_pay6 (iblk m c 0 t : Vec Ideal S512x1024 .f32)) (k0_pay26 (View.ld (iblk m c 1 t : Vec Ideal S512x1024 .bf16) (Rect.unit ![0, 512] ![512, 256] inb_S512x1024_S512x256_0_512))) (k0_pay27 (View.ld (iblk m c 2 t : Vec Ideal S256x1024 .bf16) (Rect.unit ![0, 512] ![256, 256] inb_S256x1024_S256x256_0_512))) (iblk m c 6 t : Vec Ideal S1x256x1024 .bf16) (View.ld A (Rect.unit ![0, 512] ![256, 256] inb_S256x1024_S256x256_0_512)) x
      = A ((Rect.unit (s := S256x1024) ![0, 512] ![256, 256] inb_S256x1024_S256x256_0_512).emb x) + partV m c t ((Rect.unit (s := S256x1024) ![0, 512] ![256, 256] inb_S256x1024_S256x256_0_512).emb x) := by
  rw [v2_eq]
  revert x
  refine at_ix2 fun r d => (dV_at (loads2 m c t) _ r d).trans ?_
  rw [embM_2, ldA_2]
  rfl
/- Head 3's stores are the parts of the three blocks that are its own. -/
theorem storeQ3 (t : Fin cfg0.N) (x : S512x256.Idx) :
    k0_pay2 (F := Ideal) (k0_pay35 (View.ld (iblk m c 2 t : Vec Ideal S256x1024 .bf16) (Rect.unit ![0, 768] ![256, 256] inb_S256x1024_S256x256_0_768))) (k0_pay37 (View.ld (iblk m c 1 t : Vec Ideal S512x1024 .bf16) (Rect.unit ![0, 768] ![512, 256] inb_S512x1024_S512x256_0_768)) (View.ld (iblk m c 2 t : Vec Ideal S256x1024 .bf16) (Rect.unit ![0, 768] ![256, 256] inb_S256x1024_S256x256_0_768))) (k0_pay39 (k0_pay6 (iblk m c 0 t : Vec Ideal S512x1024 .f32)) (View.ld (iblk m c 3 t : Vec Ideal S256x1024 .bf16) (Rect.unit ![0, 768] ![256, 256] inb_S256x1024_S256x256_0_768)) (iblk m c 7 t : Vec Ideal S1x256x1024 .bf16)) (k0_pay40 (k0_pay6 (iblk m c 0 t : Vec Ideal S512x1024 .f32)) (View.ld (iblk m c 1 t : Vec Ideal S512x1024 .bf16) (Rect.unit ![0, 768] ![512, 256] inb_S512x1024_S512x256_0_768)) (View.ld (iblk m c 2 t : Vec Ideal S256x1024 .bf16) (Rect.unit ![0, 768] ![256, 256] inb_S256x1024_S256x256_0_768)) (View.ld (iblk m c 3 t : Vec Ideal S256x1024 .bf16) (Rect.unit ![0, 768] ![256, 256] inb_S256x1024_S256x256_0_768)) (iblk m c 7 t : Vec Ideal S1x256x1024 .bf16)) x
      = blkQ m c t ((Rect.unit (s := S512x1024) ![0, 768] ![512, 256] inb_S512x1024_S512x256_0_768).emb x) := by
  rw [q3_eq]
  revert x
  refine at_ix2 fun r d => (dQ_at (loads3 m c t) r d).trans ?_
  rw [embR_3]
  rfl
theorem storeK3 (t : Fin cfg0.N) (A : Vec Ideal S256x1024 .f32) (x : S256x256.Idx) :
    k0_pay3 (F := Ideal) (k0_pay34 (View.ld (iblk m c 1 t : Vec Ideal S512x1024 .bf16) (Rect.unit ![0, 768] ![512, 256] inb_S512x1024_S512x256_0_768))) (k0_pay37 (View.ld (iblk m c 1 t : Vec Ideal S512x1024 .bf16) (Rect.unit ![0, 768] ![512, 256] inb_S512x1024_S512x256_0_768)) (View.ld (iblk m c 2 t : Vec Ideal S256x1024 .bf16) (Rect.unit ![0, 768] ![256, 256] inb_S256x1024_S256x256_0_768))) (k0_pay39 (k0_pay6 (iblk m c 0 t : Vec Ideal S512x1024 .f32)) (View.ld (iblk m c 3 t : Vec Ideal S256x1024 .bf16) (Rect.unit ![0, 768] ![256, 256] inb_S256x1024_S256x256_0_768)) (iblk m c 7 t : Vec Ideal S1x256x1024 .bf16)) (k0_pay40 (k0_pay6 (iblk m c 0 t : Vec Ideal S512x1024 .f32)) (View.ld (iblk m c 1 t : Vec Ideal S512x1024 .bf16) (Rect.unit ![0, 768] ![512, 256] inb_S512x1024_S512x256_0_768)) (View.ld (iblk m c 2 t : Vec Ideal S256x1024 .bf16) (Rect.unit ![0, 768] ![256, 256] inb_S256x1024_S256x256_0_768)) (View.ld (iblk m c 3 t : Vec Ideal S256x1024 .bf16) (Rect.unit ![0, 768] ![256, 256] inb_S256x1024_S256x256_0_768)) (iblk m c 7 t : Vec Ideal S1x256x1024 .bf16)) (View.ld A (Rect.unit ![0, 768] ![256, 256] inb_S256x1024_S256x256_0_768)) x
      = A ((Rect.unit (s := S256x1024) ![0, 768] ![256, 256] inb_S256x1024_S256x256_0_768).emb x) + partK m c t ((Rect.unit (s := S256x1024) ![0, 768] ![256, 256] inb_S256x1024_S256x256_0_768).emb x) := by
  rw [k3_eq]
  revert x
  refine at_ix2 fun r d => (dK_at (loads3 m c t) _ r d).trans ?_
  rw [embM_3, ldA_3]
  rfl
theorem storeV3 (t : Fin cfg0.N) (A : Vec Ideal S256x1024 .f32) (x : S256x256.Idx) :
    k0_pay38 (F := Ideal) (k0_pay6 (iblk m c 0 t : Vec Ideal S512x1024 .f32)) (View.ld (iblk m c 1 t : Vec Ideal S512x1024 .bf16) (Rect.unit ![0, 768] ![512, 256] inb_S512x1024_S512x256_0_768)) (View.ld (iblk m c 2 t : Vec Ideal S256x1024 .bf16) (Rect.unit ![0, 768] ![256, 256] inb_S256x1024_S256x256_0_768)) (iblk m c 7 t : Vec Ideal S1x256x1024 .bf16) (View.ld A (Rect.unit ![0, 768] ![256, 256] inb_S256x1024_S256x256_0_768)) x
      = A ((Rect.unit (s := S256x1024) ![0, 768] ![256, 256] inb_S256x1024_S256x256_0_768).emb x) + partV m c t ((Rect.unit (s := S256x1024) ![0, 768] ![256, 256] inb_S256x1024_S256x256_0_768).emb x) := by
  rw [v3_eq]
  revert x
  refine at_ix2 fun r d => (dV_at (loads3 m c t) _ r d).trans ?_
  rw [embM_3, ldA_3]
  rfl

theorem outs8 (t : Fin cfg0.N) (y : S512x1024.Idx) : (outsAt0 m c t.val t.isLt).1 y = blkQ m c t y := by
  by_cases h : t.val % 8 = 0
  · rw [outsAt0_A m c t h]
    frame_out
    exact View.canon_append_of_piecesOf (Val := Elt Ideal) (e := .bf16) (blkQ m c t) [] [_, _, _, _]
      ⟨storeQ3 m c t, storeQ2 m c t, storeQ1 m c t, storeQ0 m c t, trivial⟩ y
      (View.cover_of_tiledL _ ![512, 256] (by sl_kernel_rfl) y)
  · rw [outsAt0_B m c t h]
    frame_out
    exact View.canon_append_of_piecesOf (Val := Elt Ideal) (e := .bf16) (blkQ m c t) [] [_, _, _, _]
      ⟨storeQ3 m c t, storeQ2 m c t, storeQ1 m c t, storeQ0 m c t, trivial⟩ y
      (View.cover_of_tiledL _ ![512, 256] (by sl_kernel_rfl) y)

theorem outs9_A (t : Fin cfg0.N) (h : t.val % 8 = 0) (y : S256x1024.Idx) :
    (outsAt0 m c t.val t.isLt).2.1 y = 0 + partK m c t y := by
  rw [outsAt0_A m c t h]
  frame_open
  simp (disch := decide) only [↓ View.readCov_skip, ↓ View.readCov_cons_toLoadRect, ↓ View.readCov_fill]
  frame_out
  refine (View.canon_append_of_piecesOf (Val := Elt Ideal) (e := .f32) (fun y => (k0_pay4 (F := Ideal) y : EReal) + partK m c t y) [_] [_, _, _, _]
      ⟨storeK3 m c t _, storeK2 m c t _, storeK1 m c t _, storeK0 m c t _, trivial⟩ y
      (View.cover_of_tiledL _ ![256, 256] (by sl_kernel_rfl) y)).trans ?_
  exact congrArg (· + partK m c t y) (fill4 y)

theorem outs9_B (t : Fin cfg0.N) (h : ¬ t.val % 8 = 0) (y : S256x1024.Idx) :
    (outsAt0 m c t.val t.isLt).2.1 y = ((outsAt0 m c (t.val - 1) (Nat.lt_of_le_of_lt (Nat.sub_le _ _) t.isLt)).2.1 y : EReal) + partK m c t y := by
  rw [outsAt0_B m c t h]
  frame_out
  exact View.canon_append_of_piecesOf (Val := Elt Ideal) (e := .f32)
      (fun y => ((outsAt0 m c (t.val - 1) (Nat.lt_of_le_of_lt (Nat.sub_le _ _) t.isLt)).2.1 y : EReal) + partK m c t y) [] [_, _, _, _]
      ⟨storeK3 m c t _, storeK2 m c t _, storeK1 m c t _, storeK0 m c t _, trivial⟩ y
      (View.cover_of_tiledL _ ![256, 256] (by sl_kernel_rfl) y)

theorem outs10_A (t : Fin cfg0.N) (h : t.val % 8 = 0) (y : S256x1024.Idx) :
    (outsAt0 m c t.val t.isLt).2.2 y = 0 + partV m c t y := by
  rw [outsAt0_A m c t h]
  frame_open
  simp (disch := decide) only [↓ View.readCov_skip, ↓ View.readCov_cons_toLoadRect, ↓ View.readCov_fill]
  frame_out
  refine (View.canon_append_of_piecesOf (Val := Elt Ideal) (e := .f32) (fun y => (k0_pay5 (F := Ideal) y : EReal) + partV m c t y) [_] [_, _, _, _]
      ⟨storeV3 m c t _, storeV2 m c t _, storeV1 m c t _, storeV0 m c t _, trivial⟩ y
      (View.cover_of_tiledL _ ![256, 256] (by sl_kernel_rfl) y)).trans ?_
  exact congrArg (· + partV m c t y) (fill5 y)

theorem outs10_B (t : Fin cfg0.N) (h : ¬ t.val % 8 = 0) (y : S256x1024.Idx) :
    (outsAt0 m c t.val t.isLt).2.2 y = ((outsAt0 m c (t.val - 1) (Nat.lt_of_le_of_lt (Nat.sub_le _ _) t.isLt)).2.2 y : EReal) + partV m c t y := by
  rw [outsAt0_B m c t h]
  frame_out
  exact View.canon_append_of_piecesOf (Val := Elt Ideal) (e := .f32)
      (fun y => ((outsAt0 m c (t.val - 1) (Nat.lt_of_le_of_lt (Nat.sub_le _ _) t.isLt)).2.2 y : EReal) + partV m c t y) [] [_, _, _, _]
      ⟨storeV3 m c t _, storeV2 m c t _, storeV1 m c t _, storeV0 m c t _, trivial⟩ y
      (View.cover_of_tiledL _ ![256, 256] (by sl_kernel_rfl) y)

end Cert.KernelIdeal.Attn

end
-- ==== Proof.AttnArr.lean ====
/- What the kernel's three result arrays hold at the end. -/
module

public import proofs.«01_k».proof.Proof.AttnOuts

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.SoftmaxRow

variable (m : (ℓ : Loc nD τ sig) → Buf (Elt Ideal) ℓ) (c : Dev nD)

/-- The queries' gradient as an array. -/
def arrQ (i : S4096x1024.Idx) : EReal := dQ (dy m c) (q m c) (k m c) (v m c) (wo m c) (i 0) (i 1)

/-- The keys' gradient as an array: the tokens' parts added. -/
def arrK (i : S256x1024.Idx) : EReal :=
  ∑ r : Fin 4096, dKrow (dy m c) (q m c) (k m c) (v m c) (wo m c) r (i 0) (i 1)

/-- The values' gradient as an array. -/
def arrV (i : S256x1024.Idx) : EReal :=
  ∑ r : Fin 4096, dVrow (dy m c) (q m c) (k m c) (wo m c) r (i 0) (i 1)

theorem final8 : (dats m 0 c).arrAt 8 cfg0.N = arrQ m c := by
  refine (dats m 0 c).arrAt_eq_of_covers 8 _ (by decide +kernel) fun t hf y => ?_
  blk_simp
  rw [after0_8, outs8]
  show arrQ m c (ix2 (row t (y 0)) (y 1)) = _
  refine congrArg (arrQ m c) ?_
  blk_ext [idx t, row]

/-- The points' parts of the keys' gradient are all the tokens'. -/
theorem sumK (y : S256x1024.Idx) : ∑ t : Fin cfg0.N, partK m c t y = arrK m c y :=
  Fin.sum_mul_add_congr (L := 4096) (S := cfg0.N) (n := 512)
    (f := fun r => dKrow (dy m c) (q m c) (k m c) (v m c) (wo m c) r (y 0) (y 1)) (fun _ _ _ => rfl) (congrArg (· * 512) N_0.symm)

theorem sumV (y : S256x1024.Idx) : ∑ t : Fin cfg0.N, partV m c t y = arrV m c y :=
  Fin.sum_mul_add_congr (L := 4096) (S := cfg0.N) (n := 512)
    (f := fun r => dVrow (dy m c) (q m c) (k m c) (wo m c) r (y 0) (y 1)) (fun _ _ _ => rfl) (congrArg (· * 512) N_0.symm)

theorem final9 : (dats m 0 c).arrAt 9 cfg0.N = arrK m c := by
  refine (dats m 0 c).arrAt_eq_of_after_last 9 t0_7 (by decide +kernel) _ fun j => ?_
  blk_simp
  rw [after0_9]
  refine (Pipeline.eq_sum_fin_of_reset_step_apply_last (M := EReal) (fun n h j => (outsAt0 m c n h).2.1 j) 8 (fun _ => 0)
    (partK m c) (fun t h j => outs9_A m c t h j) (fun t h j => outs9_B m c t h j) (le_of_eq N_0) t0_7 rfl j).trans ?_
  rw [zero_add, sumK]

theorem final10 : (dats m 0 c).arrAt 10 cfg0.N = arrV m c := by
  refine (dats m 0 c).arrAt_eq_of_after_last 10 t0_7 (by decide +kernel) _ fun j => ?_
  blk_simp
  rw [after0_10]
  refine (Pipeline.eq_sum_fin_of_reset_step_apply_last (M := EReal) (fun n h j => (outsAt0 m c n h).2.2 j) 8 (fun _ => 0)
    (partV m c) (fun t h j => outs10_A m c t h j) (fun t h j => outs10_B m c t h j) (le_of_eq N_0) t0_7 rfl j).trans ?_
  rw [zero_add, sumV]

end Cert.KernelIdeal.Attn

end
-- ==== Proof.RefValue.lean ====
/- The reference's three results at an index, and their equality with the kernel's form where the scores are real numbers. -/
module

public import proofs.«01_k».proof.Proof.RefSteps

@[expose] public section

set_option maxRecDepth 16384

noncomputable section

namespace Cert.ReferenceIdeal.Steps

open Cert.ReferenceIdeal Cert.ReferenceIdeal.Gen Idealize.ShloMosaic Idealize.ShloMosaic.TcCoe Idealize.SL.Sem
open Cert.Attn Cert.SoftmaxRow

section
variable (dy q : FVec Ideal S4096x1024 .f32) (k v : FVec Ideal S256x1024 .f32) (wo : FVec Ideal S1024x1024 .f32)

/-- The scale is a real number. -/
theorem scale_real : ∃ s : ℝ, scale = s := ⟨1 / 16, by
  simp [scale, Ideal.ofBits, Ideal.ieee]
  rw [← EReal.coe_mul]
  norm_num⟩

/-- Scores of real queries and keys are real. -/
theorem sc_real (hq : ∀ i, ∃ a : ℝ, q i = a) (hk : ∀ i, ∃ a : ℝ, k i = a) (h : Fin 4) (r : Fin 4096) :
    ∃ f : Fin 256 → ℝ, sc q k h r = fun j => (f j : EReal) := by
  choose a ha using hq
  choose b hb using hk
  obtain ⟨s, hs⟩ := scale_real
  refine ⟨fun j => (∑ d : Fin 256, a (ix2 r (col h d)) * b (ix2 j (col h d))) * s, funext fun j => ?_⟩
  unfold sc score
  rw [hs, EReal.coe_mul, ← sum_coe]
  refine congrArg (· * (s : EReal)) (Finset.sum_congr rfl fun d _ => ?_)
  show q (ix2 r (col h d)) * k (ix2 j (col h d)) = _
  rw [EReal.coe_mul, ha, hb]

theorem exps_scores (h : Fin 4) (r : Fin 4096) (j : Fin 256) : exps (scores q k) (ix3 h r j) = ex (sc q k h r) j :=
  (exps_apply _ h r j).trans (congrArg (fun f => ex f j) (funext fun i => scores_apply q k h r i))

theorem probs_scores (h : Fin 4) (r : Fin 4096) (j : Fin 256) : probs (exps (scores q k)) (ix3 h r j) = prob (sc q k h r) j := by
  rw [probs_apply]
  simp only [exps_scores]
  rfl

theorem dProbs_dOuts (h : Fin 4) (r : Fin 4096) (j : Fin 256) : dProbs (dOuts dy wo) v (ix3 h r j) = dProb dy v wo h r j := by
  rw [dProbs_apply]
  simp only [dOuts_apply]
  rfl

/-- The scores' derivative, by the rule of the quotient. -/
theorem dScores_quot (h : Fin 4) (r : Fin 4096) (j : Fin 256) :
    dScores (dProbs (dOuts dy wo) v) (exps (scores q k)) (ix3 h r j)
      = dscoreQuot (sc q k h r) (dProb dy v wo h r) j * scale := by
  rw [dScores_apply]
  simp only [exps_scores, dProbs_dOuts]
  rfl

/-- … which is the form over the softmax itself. -/
theorem dScores_eq (hq : ∀ i, ∃ a : ℝ, q i = a) (hk : ∀ i, ∃ a : ℝ, k i = a) (h : Fin 4) (r : Fin 4096) (j : Fin 256) :
    dScores (dProbs (dOuts dy wo) v) (exps (scores q k)) (ix3 h r j) = dSc dy q k v wo h r j := by
  rw [dScores_quot]
  obtain ⟨f, hf⟩ := sc_real q k hq hk h r
  unfold dSc
  rw [hf, dscore_eq]

theorem outQ_eq (hq : ∀ i, ∃ a : ℝ, q i = a) (hk : ∀ i, ∃ a : ℝ, k i = a) (r : Fin 4096) (x : Fin 1024) :
    outQ (dScores (dProbs (dOuts dy wo) v) (exps (scores q k))) k (ix2 r x) = dQ dy q k v wo r x := by
  rw [outQ_apply]
  simp only [dScores_eq dy q k v wo hq hk]
  rfl

theorem outK_eq (hq : ∀ i, ∃ a : ℝ, q i = a) (hk : ∀ i, ∃ a : ℝ, k i = a) (j : Fin 256) (x : Fin 1024) :
    outK (dScores (dProbs (dOuts dy wo) v) (exps (scores q k))) q (ix2 j x) = ∑ r : Fin 4096, dKrow dy q k v wo r j x := by
  rw [outK_apply]
  simp only [dScores_eq dy q k v wo hq hk]
  rfl

theorem outV_eq (j : Fin 256) (x : Fin 1024) :
    outV (dOuts dy wo) (probs (exps (scores q k))) (ix2 j x) = ∑ r : Fin 4096, dVrow dy q k wo r j x := by
  rw [outV_apply]
  simp only [probs_scores, dOuts_apply]
  exact Finset.sum_congr rfl fun r _ => mul_comm _ _
end

/-- The run, its three results by the steps. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
        = outQ (dScores (dProbs (dOuts (dy m c) (wo m c)) (v m c)) (exps (scores (q m c) (k m c)))) (k m c)
      ∧ r.2.mem ((c.tc : Thread nD τ).loc main_v63)
        = outK (dScores (dProbs (dOuts (dy m c) (wo m c)) (v m c)) (exps (scores (q m c) (k m c)))) (q m c)
      ∧ r.2.mem ((c.tc : Thread nD τ).loc main_v62) = outV (dOuts (dy m c) (wo m c)) (probs (exps (scores (q m c) (k m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res0_eq m c), (h c).2.1.trans (res1_eq m c),
    (h c).2.2.1.trans rfl, (h c).2.2.2⟩) (Value.run (F := Ideal) m ρ)

end Cert.ReferenceIdeal.Steps

end
-- ==== Proof.Hidden.lean ====
/- The derivative by the feed-forward's two hidden halves: what the call leaves in its two results. -/
module

public import proofs.«01_k».proof.Proof.FfnLayout
public import proofs.«01_k».proof.Proof.Gen.Kernel2Ideal.Value
public import Idealize.ShloMosaic.Lib.Pipeline.ReadBack

@[expose] public section

set_option maxRecDepth 16384

noncomputable section

namespace Cert.Kernel2Ideal.Hidden

open Cert.Kernel2Ideal Cert.Kernel2Ideal.Gen Idealize.ShloMosaic Idealize.ShloMosaic.TcCoe Idealize.SL.Sem
open Cert.Ffn

section
variable (X : Vec Ideal S512x1024 .f32) (W : Vec Ideal S1x704x1024 .bf16) (g u : Vec Ideal S1x512x704 .bf16)

/-- A block's derivative by its units. -/
def hid (r : Fin 512) (x : Fin 704) : EReal := ∑ y : Fin 1024, (X (ix2 r y) : EReal) * W (ix3 0 x y)

theorem gate_at (r : Fin 512) (x : Fin 704) :
    k0_pay10 (F := Ideal) X W g u (ix3 0 r x)
      = byGate (hid X W r x * u (ix3 0 r x)) (g (ix3 0 r x)) := by
  pointwise [k0_pay10, k0_pay9, k0_pay8, k0_pay7, k0_pay6]
  rfl

theorem up_at (r : Fin 512) (x : Fin 704) :
    k0_pay12 (F := Ideal) (k0_pay11 X W g) (ix3 0 r x)
      = byUp (hid X W r x) (g (ix3 0 r x)) := by
  pointwise [k0_pay12, k0_pay11, k0_pay9, k0_pay8, k0_pay7, k0_pay6]
  rfl

theorem gate1 : k0_pay16 (F := Ideal) (k0_pay6 X) W g u = k0_pay10 X W g u := rfl
theorem gate2 : k0_pay21 (F := Ideal) (k0_pay6 X) W g u = k0_pay10 X W g u := rfl
theorem gate3 : k0_pay4 (F := Ideal) (k0_pay6 X) W g u = k0_pay10 X W g u := rfl
theorem up1 : k0_pay17 (F := Ideal) (k0_pay6 X) W g = k0_pay12 (k0_pay11 X W g) := rfl
theorem up2 : k0_pay22 (F := Ideal) (k0_pay6 X) W g = k0_pay12 (k0_pay11 X W g) := rfl
theorem up3 : k0_pay5 (F := Ideal) (k0_pay6 X) W g = k0_pay12 (k0_pay11 X W g) := rfl
end

variable (m : (ℓ : Loc nD τ sig) → Buf (Elt Ideal) ℓ) (c : Dev nD)

/-- The arguments, as arrays of extended reals. -/
abbrev dy : FVec Ideal S4096x1024 .f32 := m ((c : Thread nD τ).loc main_arg0)
abbrev gate : FVec Ideal S4096x2816 .f32 := m ((c : Thread nD τ).loc main_arg1)
abbrev up : FVec Ideal S4096x2816 .f32 := m ((c : Thread nD τ).loc main_arg2)
abbrev wd : FVec Ideal S2816x1024 .f32 := m ((c : Thread nD τ).loc main_arg3)

theorem idx : ∀ t : Fin cfg0.N, win0_0.index t = ![t.val, 0] ∧ win0_1.index t = ![0, t.val, 0] ∧ win0_2.index t = ![0, t.val, 0]
    ∧ win0_3.index t = ![0, 0, 0] ∧ win0_4.index t = ![1, 0, 0] ∧ win0_5.index t = ![2, 0, 0] ∧ win0_6.index t = ![3, 0, 0]
    ∧ win0_7.index t = ![0, t.val, 0] ∧ win0_8.index t = ![0, t.val, 0] :=
  (by decide +kernel : ∀ t : Fin grid0.N, _)

/-- Row `r` of point `t`'s block of tokens. -/
def row (t : Fin cfg0.N) (r : Fin 512) : Fin 4096 := ⟨t.val * 512 + r.val, by have := lt_of_lt_of_eq t.isLt N_0; omega⟩

theorem blk0 (t : Fin cfg0.N) (r : Fin 512) (x : Fin 1024) :
    (iblk m c 0 t : Vec Ideal S512x1024 .f32) (ix2 r x) = dy m c (ix2 (row t r) x) := by
  blk_ext [iblk, V, idx t, row]

theorem blk1 (t : Fin cfg0.N) (p : Fin 4) (r : Fin 512) (x : Fin 704) :
    (iblk m c 1 t : Vec Ideal S4x512x704 .bf16) (ix3 p r x) = gate m c (ix2 (row t r) (unit p x)) := by
  blk_ext! [iblk, V, idx t, row, unit]

theorem blk2 (t : Fin cfg0.N) (p : Fin 4) (r : Fin 512) (x : Fin 704) :
    (iblk m c 2 t : Vec Ideal S4x512x704 .bf16) (ix3 p r x) = up m c (ix2 (row t r) (unit p x)) := by
  blk_ext! [iblk, V, idx t, row, unit]

theorem blk3 (t : Fin cfg0.N) (r : Fin 704) (x : Fin 1024) :
    (iblk m c 3 t : Vec Ideal S1x704x1024 .bf16) (ix3 0 r x) = wd m c (ix2 (unit 0 r) x) := by
  blk_ext! [iblk, V, idx t, unit]

theorem blk4 (t : Fin cfg0.N) (r : Fin 704) (x : Fin 1024) :
    (iblk m c 4 t : Vec Ideal S1x704x1024 .bf16) (ix3 0 r x) = wd m c (ix2 (unit 1 r) x) := by
  blk_ext! [iblk, V, idx t, unit]

theorem blk5 (t : Fin cfg0.N) (r : Fin 704) (x : Fin 1024) :
    (iblk m c 5 t : Vec Ideal S1x704x1024 .bf16) (ix3 0 r x) = wd m c (ix2 (unit 2 r) x) := by
  blk_ext! [iblk, V, idx t, unit]

theorem blk6 (t : Fin cfg0.N) (r : Fin 704) (x : Fin 1024) :
    (iblk m c 6 t : Vec Ideal S1x704x1024 .bf16) (ix3 0 r x) = wd m c (ix2 (unit 3 r) x) := by
  blk_ext! [iblk, V, idx t, unit]

/-- The derivative by the gate's half, at a token and a unit. -/
def dGate (s : Fin 4096) (j : Fin 2816) : EReal := byGate (dh (dy m c) (wd m c) s j * up m c (ix2 s j)) (gate m c (ix2 s j))

/-- The derivative by the upper half. -/
def dUp (s : Fin 4096) (j : Fin 2816) : EReal := byUp (dh (dy m c) (wd m c) s j) (gate m c (ix2 s j))

/-- Point `t`'s two blocks. -/
def blkG (t : Fin cfg0.N) (y : S4x512x704.Idx) : EReal := dGate m c (row t (y 1)) (unit (y 0) (y 2))
def blkU (t : Fin cfg0.N) (y : S4x512x704.Idx) : EReal := dUp m c (row t (y 1)) (unit (y 0) (y 2))

section
variable (t : Fin cfg0.N) (p : Fin 4) (o : ℕ) (ho : o = p.val)
  (inb : ∀ a, (![o, 0, 0] : Fin 3 → ℕ) a + (![1, 512, 704] : Fin 3 → ℕ) a ≤ S4x512x704.size a)
  (W : Vec Ideal S1x704x1024 .bf16) (hW : ∀ r x, W (ix3 0 r x) = wd m c (ix2 (unit p r) x))

include ho hW

theorem hidden_at (r : Fin 512) (x : Fin 704) :
    hid (iblk m c 0 t : Vec Ideal S512x1024 .f32) W r x = dh (dy m c) (wd m c) (row t r) (unit p x) :=
  Finset.sum_congr rfl fun y _ => congrArg₂ (fun a b : EReal => a * b) (blk0 m c t r y) (hW x y)

/-- Layer `p`'s store into the first result. -/
theorem storeG (x : S1x512x704.Idx) :
    k0_pay10 (F := Ideal) (iblk m c 0 t : Vec Ideal S512x1024 .f32) W (View.ld (iblk m c 1 t : Vec Ideal S4x512x704 .bf16) (Rect.unit ![o, 0, 0] ![1, 512, 704] inb))
      (View.ld (iblk m c 2 t : Vec Ideal S4x512x704 .bf16) (Rect.unit ![o, 0, 0] ![1, 512, 704] inb)) x
      = blkG m c t ((Rect.unit (s := S4x512x704) ![o, 0, 0] ![1, 512, 704] inb).emb x) := by
  revert x
  refine by_ix3 fun z r x => ?_
  obtain rfl : z = 0 := Subsingleton.elim _ _
  have e : (Rect.unit (s := S4x512x704) ![o, 0, 0] ![1, 512, 704] inb).emb (ix3 0 r x) = ix3 p r x := layer_idx p o ho inb 0 r x
  rw [e]
  refine (gate_at _ _ _ _ r x).trans (congrArg₂ byGate (congrArg₂ (fun a b : EReal => a * b) (hidden_at m c t p o ho W hW r x) ?_) ?_)
  · exact (congrArg (iblk m c 2 t : Vec Ideal S4x512x704 .bf16) e).trans (blk2 m c t p r x)
  · exact (congrArg (iblk m c 1 t : Vec Ideal S4x512x704 .bf16) e).trans (blk1 m c t p r x)

/-- Layer `p`'s store into the second result. -/
theorem storeU (x : S1x512x704.Idx) :
    k0_pay12 (F := Ideal) (k0_pay11 (iblk m c 0 t : Vec Ideal S512x1024 .f32) W (View.ld (iblk m c 1 t : Vec Ideal S4x512x704 .bf16) (Rect.unit ![o, 0, 0] ![1, 512, 704] inb))) x
      = blkU m c t ((Rect.unit (s := S4x512x704) ![o, 0, 0] ![1, 512, 704] inb).emb x) := by
  revert x
  refine by_ix3 fun z r x => ?_
  obtain rfl : z = 0 := Subsingleton.elim _ _
  have e : (Rect.unit (s := S4x512x704) ![o, 0, 0] ![1, 512, 704] inb).emb (ix3 0 r x) = ix3 p r x := layer_idx p o ho inb 0 r x
  rw [e]
  refine (up_at _ _ _ r x).trans (congrArg₂ byUp (hidden_at m c t p o ho W hW r x) ?_)
  exact (congrArg (iblk m c 1 t : Vec Ideal S4x512x704 .bf16) e).trans (blk1 m c t p r x)
end

/- The four layers' stores. -/
theorem storeG0 (t : Fin cfg0.N) (x : S1x512x704.Idx) :
    k0_pay10 (F := Ideal) (iblk m c 0 t : Vec Ideal S512x1024 .f32) (iblk m c 3 t : Vec Ideal S1x704x1024 .bf16) (View.ld (iblk m c 1 t : Vec Ideal S4x512x704 .bf16) r0_2) (View.ld (iblk m c 2 t : Vec Ideal S4x512x704 .bf16) r0_2) x = blkG m c t (r0_2.emb x) :=
  storeG m c t 0 0 rfl _ _ (blk3 m c t) x
theorem storeU0 (t : Fin cfg0.N) (x : S1x512x704.Idx) :
    k0_pay12 (F := Ideal) (k0_pay11 (iblk m c 0 t : Vec Ideal S512x1024 .f32) (iblk m c 3 t : Vec Ideal S1x704x1024 .bf16) (View.ld (iblk m c 1 t : Vec Ideal S4x512x704 .bf16) r0_2)) x = blkU m c t (r0_2.emb x) :=
  storeU m c t 0 0 rfl _ _ (blk3 m c t) x
theorem storeG1 (t : Fin cfg0.N) (x : S1x512x704.Idx) :
    k0_pay16 (F := Ideal) (k0_pay6 (iblk m c 0 t : Vec Ideal S512x1024 .f32)) (iblk m c 4 t : Vec Ideal S1x704x1024 .bf16) (View.ld (iblk m c 1 t : Vec Ideal S4x512x704 .bf16) r0_3) (View.ld (iblk m c 2 t : Vec Ideal S4x512x704 .bf16) r0_3) x = blkG m c t (r0_3.emb x) :=
  storeG m c t 1 1 rfl _ _ (blk4 m c t) x
theorem storeU1 (t : Fin cfg0.N) (x : S1x512x704.Idx) :
    k0_pay17 (F := Ideal) (k0_pay6 (iblk m c 0 t : Vec Ideal S512x1024 .f32)) (iblk m c 4 t : Vec Ideal S1x704x1024 .bf16) (View.ld (iblk m c 1 t : Vec Ideal S4x512x704 .bf16) r0_3) x = blkU m c t (r0_3.emb x) :=
  storeU m c t 1 1 rfl _ _ (blk4 m c t) x
theorem storeG2 (t : Fin cfg0.N) (x : S1x512x704.Idx) :
    k0_pay21 (F := Ideal) (k0_pay6 (iblk m c 0 t : Vec Ideal S512x1024 .f32)) (iblk m c 5 t : Vec Ideal S1x704x1024 .bf16) (View.ld (iblk m c 1 t : Vec Ideal S4x512x704 .bf16) r0_4) (View.ld (iblk m c 2 t : Vec Ideal S4x512x704 .bf16) r0_4) x = blkG m c t (r0_4.emb x) :=
  storeG m c t 2 2 rfl _ _ (blk5 m c t) x
theorem storeU2 (t : Fin cfg0.N) (x : S1x512x704.Idx) :
    k0_pay22 (F := Ideal) (k0_pay6 (iblk m c 0 t : Vec Ideal S512x1024 .f32)) (iblk m c 5 t : Vec Ideal S1x704x1024 .bf16) (View.ld (iblk m c 1 t : Vec Ideal S4x512x704 .bf16) r0_4) x = blkU m c t (r0_4.emb x) :=
  storeU m c t 2 2 rfl _ _ (blk5 m c t) x
theorem storeG3 (t : Fin cfg0.N) (x : S1x512x704.Idx) :
    k0_pay4 (F := Ideal) (k0_pay6 (iblk m c 0 t : Vec Ideal S512x1024 .f32)) (iblk m c 6 t : Vec Ideal S1x704x1024 .bf16) (View.ld (iblk m c 1 t : Vec Ideal S4x512x704 .bf16) r0_5) (View.ld (iblk m c 2 t : Vec Ideal S4x512x704 .bf16) r0_5) x = blkG m c t (r0_5.emb x) :=
  storeG m c t 3 3 rfl _ _ (blk6 m c t) x
theorem storeU3 (t : Fin cfg0.N) (x : S1x512x704.Idx) :
    k0_pay5 (F := Ideal) (k0_pay6 (iblk m c 0 t : Vec Ideal S512x1024 .f32)) (iblk m c 6 t : Vec Ideal S1x704x1024 .bf16) (View.ld (iblk m c 1 t : Vec Ideal S4x512x704 .bf16) r0_5) x = blkU m c t (r0_5.emb x) :=
  storeU m c t 3 3 rfl _ _ (blk6 m c t) x

/-- The two results as arrays. -/
def arrG (i : S4x4096x704.Idx) : EReal := dGate m c (i 1) (unit (i 0) (i 2))
def arrU (i : S4x4096x704.Idx) : EReal := dUp m c (i 1) (unit (i 0) (i 2))

theorem load0 (t : Fin cfg0.N) : k0_pay23 (iblk m c 0 t) (iblk m c 1 t) (iblk m c 2 t) (iblk m c 3 t) (iblk m c 4 t) (iblk m c 5 t) (iblk m c 6 t)
    = k0_pay6 (iblk m c 0 t : Vec Ideal S512x1024 .f32) := by
  unfold k0_pay23
  frame_out

theorem final7 : (dats m 0 c).arrAt 7 cfg0.N = arrG m c := by
  refine (dats m 0 c).arrAt_eq_of_covers 7 _ (by decide +kernel) fun t hf y => ?_
  blk_simp
  rw [after0_7]
  frame_out
  rw [load0]
  refine (View.canon_append_of_piecesOf (Val := Elt Ideal) (e := .bf16) (blkG m c t) [] [_, _, _, _]
    ⟨storeG3 m c t, storeG2 m c t, storeG1 m c t, storeG0 m c t, trivial⟩ y (View.cover_of_tiledL _ ![1, 512, 704] (by sl_kernel_rfl) y)).trans ?_
  show arrG m c (ix3 (y 0) (row t (y 1)) (y 2)) = _
  refine congrArg (arrG m c) ?_
  blk_ext [idx t, row]

theorem final8 : (dats m 0 c).arrAt 8 cfg0.N = arrU m c := by
  refine (dats m 0 c).arrAt_eq_of_covers 8 _ (by decide +kernel) fun t hf y => ?_
  blk_simp
  rw [after0_8]
  frame_out
  rw [load0]
  refine (View.canon_append_of_piecesOf (Val := Elt Ideal) (e := .bf16) (blkU m c t) [] [_, _, _, _]
    ⟨storeU3 m c t, storeU2 m c t, storeU1 m c t, storeU0 m c t, trivial⟩ y (View.cover_of_tiledL _ ![1, 512, 704] (by sl_kernel_rfl) y)).trans ?_
  show arrU m c (ix3 (y 0) (row t (y 1)) (y 2)) = _
  refine congrArg (arrU m c) ?_
  blk_ext [idx t, row]

end Cert.Kernel2Ideal.Hidden

end
-- ==== Proof.HiddenRef.lean ====
/- The reference's derivative by the two hidden halves, and that the call's is the same for real derivatives, upper halves and
   weights. -/
module

public import proofs.«01_k».proof.Defs
public import proofs.«01_k».proof.Proof.Finite
public import proofs.«01_k».proof.Proof.SoftmaxRow
public import proofs.«01_k».proof.Proof.Hidden
public import proofs.«01_k».proof.Proof.Gen.Reference2Ideal.Run
public import Idealize.ShloMosaic.Lib.Claim
public import Idealize.ShloMosaic.Adequacy
public import Idealize.ShloMosaic.Init

@[expose] public section

set_option maxRecDepth 16384

noncomputable section

namespace Cert.HiddenRef

open Idealize.ShloMosaic Idealize.SL.Sem Cert.Ffn

section
open Cert.Pre_hidden_finite

/-- The precondition's side conditions. -/
theorem facts : Cert.Pre_hidden_finite.Facts where
  shapeCasts_S4096x2816_S11264x1024 := by decide +kernel
  concatenates_S4096x1024_S11264x1024_S2816x1024_S18176x1024_d0 := by decide +kernel
  bcast_S_S18176x1024 := by decide +kernel

variable (a0 : FVec Ideal S4096x1024 .f32) (a1 a2 : FVec Ideal S4096x2816 .f32) (a3 : FVec Ideal S2816x1024 .f32)

theorem real_dy [Facts] (h : fn (F := Ideal) a0 a1 a2 a3 = fun _ => 1#1) (r : Fin 4096) (x : Fin 1024) :
    ∃ a : ℝ, a0 (ix2 r x) = a := by
  have := congrFun h (ix2 ⟨r.val, by omega⟩ x)
  pointwise [fn] at this
  rw [Cert.Finite.pinf, Cert.Finite.ninf] at this
  exact Cert.Finite.real_of_between _ this

theorem real_wd [Facts] (h : fn (F := Ideal) a0 a1 a2 a3 = fun _ => 1#1) (r : Fin 2816) (x : Fin 1024) :
    ∃ a : ℝ, a3 (ix2 r x) = a := by
  have := congrFun h (ix2 ⟨15360 + r.val, by omega⟩ x)
  pointwise [fn] at this
  rw [dif_neg (show ¬ 15360 + r.val < 4096 by omega), dif_neg (show ¬ 15360 + r.val - 4096 < 11264 by omega),
    show (⟨15360 + r.val - 4096 - 11264, by omega⟩ : Fin 2816) = r from Fin.ext (by show 15360 + r.val - 4096 - 11264 = r.val; omega)] at this
  rw [Cert.Finite.pinf, Cert.Finite.ninf] at this
  exact Cert.Finite.real_of_between _ this

theorem real_up [Facts] (h : fn (F := Ideal) a0 a1 a2 a3 = fun _ => 1#1) (r : Fin 4096) (j : Fin 2816) :
    ∃ a : ℝ, a2 (ix2 r j) = a := by
  have := congrFun h (ix2 ⟨4096 + (r.val * 2816 + j.val) / 1024, by omega⟩ ⟨(r.val * 2816 + j.val) % 1024, by omega⟩)
  pointwise [fn] at this
  rw [dif_pos (show (r.val * 2816 + j.val) / 1024 < 11264 by omega)] at this
  rw [Cert.Finite.pinf, Cert.Finite.ninf] at this
  exact Cert.Finite.real_of_between _ this
end

/-- The derivative by the gate as the chain rule writes it, a sum of two products. -/
theorem byGate_eq (t : ℝ) (g : EReal) :
    (t : EReal) * lg g + g * t * (lg g * (1 - lg g)) = byGate t g := by
  induction g using EReal.rec with
  | bot =>
    have e : lg ⊥ = 0 := by
      have h1 : (1 : EReal) + ⊤ = ⊤ := EReal.coe_add_top 1
      simp [lg, Ideal.div, h1]
    simp [byGate, e]
  | top =>
    have e : lg ⊤ = 1 := by simp [lg, Ideal.div]
    have h1 : (1 : EReal) - 1 = 0 := by rw [← EReal.coe_one, ← EReal.coe_sub, sub_self, EReal.coe_zero]
    simp [byGate, e, h1]
  | coe g =>
    have e : lg g = ((1 / (1 + Real.exp (-g)) : ℝ) : EReal) := by
      have hne : (1 + Real.exp (-g) : ℝ) ≠ 0 := by positivity
      unfold lg
      rw [zero_sub, ← EReal.coe_neg, Ideal.exp_coe, ← EReal.coe_one, ← EReal.coe_add, Ideal.div_coe hne, ← EReal.coe_mul, one_mul]
    unfold byGate
    rw [e]
    norm_cast
    ring

/-- The derivative by the upper half as the chain rule writes it. -/
theorem byUp_eq (t g : EReal) : g * lg g * t = byUp t g := by
  unfold byUp
  rw [mul_comm t g, mul_assoc, mul_assoc, mul_comm t]

theorem dh_real (dy : (⟨2, ![4096, 1024]⟩ : Shape).Idx → EReal) (wd : (⟨2, ![2816, 1024]⟩ : Shape).Idx → EReal) (s : Fin 4096) (j : Fin 2816)
    (h0 : ∀ r x, ∃ a : ℝ, dy (ix2 r x) = a) (h3 : ∀ r x, ∃ a : ℝ, wd (ix2 r x) = a) : ∃ a : ℝ, dh dy wd s j = a := by
  choose a ha using h0 s
  choose b hb using h3 j
  refine ⟨∑ x, a x * b x, ?_⟩
  rw [← Cert.SoftmaxRow.sum_coe]
  exact Finset.sum_congr rfl fun x _ => by rw [ha, hb, EReal.coe_mul]

section
open Cert.Reference2Ideal Cert.Reference2Ideal.Gen

variable (dy : FVec Ideal S4096x1024 .f32) (gate up : FVec Ideal S4096x2816 .f32) (wd : FVec Ideal S2816x1024 .f32)

/-- The reference's derivative by the gate, in four blocks of columns. -/
def refGate : FVec Ideal S4x4096x704 .bf16 :=
  truncf .bf16 (transpose S4x4096x704 [1, 0, 2] (shapeCast _ (addf (mulf (mulf (Host.dotGeneral dot_S4096x1024_S2816x1024_S4096x2816_1_1_0_0_n_n none dy wd) up) (Host.divf (broadcastInDim S4096x2816 ![] bcast_S_S4096x2816 (constant S_ .f32 0x3F800000#32)) (addf (broadcastInDim S4096x2816 ![] bcast_S_S4096x2816 (constant S_ .f32 0x3F800000#32)) (Host.exp (Host.negf gate)))))
    (mulf (mulf gate (mulf (Host.dotGeneral dot_S4096x1024_S2816x1024_S4096x2816_1_1_0_0_n_n none dy wd) up)) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf gate))))
      (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf gate))))))))
    shapeCasts_S4096x2816_S4096x4x704) transposes_S4096x4x704_S4x4096x704_1_0_2) bitsLt_bf16_f32

/-- The reference's derivative by the upper half. -/
def refUp : FVec Ideal S4x4096x704 .bf16 :=
  truncf .bf16 (transpose S4x4096x704 [1, 0, 2] (shapeCast _ (mulf (mulf gate (Host.divf (broadcastInDim S4096x2816 ![] bcast_S_S4096x2816 (constant S_ .f32 0x3F800000#32)) (addf (broadcastInDim S4096x2816 ![] bcast_S_S4096x2816 (constant S_ .f32 0x3F800000#32)) (Host.exp (Host.negf gate))))) (Host.dotGeneral dot_S4096x1024_S2816x1024_S4096x2816_1_1_0_0_n_n none dy wd))
    shapeCasts_S4096x2816_S4096x4x704) transposes_S4096x4x704_S4x4096x704_1_0_2) bitsLt_bf16_f32

theorem refGate_at (p : Fin 4) (s : Fin 4096) (x : Fin 704) :
    refGate dy gate up wd (ix3 p s x)
      = dh dy wd s (unit p x) * up (ix2 s (unit p x)) * lg (gate (ix2 s (unit p x)))
        + gate (ix2 s (unit p x)) * (dh dy wd s (unit p x) * up (ix2 s (unit p x)))
          * (lg (gate (ix2 s (unit p x))) * (1 - lg (gate (ix2 s (unit p x))))) := by
  pointwise [refGate]
  simp only [lg, zero_sub]
  rfl

theorem refUp_at (p : Fin 4) (s : Fin 4096) (x : Fin 704) :
    refUp dy gate wd (ix3 p s x) = gate (ix2 s (unit p x)) * lg (gate (ix2 s (unit p x))) * dh dy wd s (unit p x) := by
  pointwise [refUp]
  simp only [lg, zero_sub]
  rfl
end

attribute [local instance] facts

theorem algebraic2 : Cert.algebraic_Kernel2Ideal_Reference2Ideal_pre_hidden_finite := by
  intro m g m' g' hpre hagree
  refine ⟨fun c => Cert.Kernel2Ideal.Hidden.arrG m c, fun c => Cert.Kernel2Ideal.Hidden.arrU m c,
    (θ_run Cert.Kernel2Ideal.defs _ _).mono (fun r h c => ⟨(h c).1.trans (Cert.Kernel2Ideal.Hidden.final7 m c),
      (h c).2.1.trans (Cert.Kernel2Ideal.Hidden.final8 m c), (h c).2.2⟩)
      (Cert.Kernel2Ideal.Value.run_blocks m g),
    (θ_run Cert.Reference2Ideal.defs _ _).mono (fun r h c => ?_) (Cert.Reference2Ideal.Value.run m' g')⟩
  obtain ⟨a0, a1, a2, a3⟩ := hagree c
  obtain ⟨h0, h1, hargs⟩ := h c
  rw [a0, a1, a2, a3] at h0
  rw [a0, a1, a3] at h1
  refine ⟨h0.trans (funext (by_ix3 fun p s x => (refGate_at _ _ _ _ p s x).trans ?_)),
    h1.trans (funext (by_ix3 fun p s x => (refUp_at _ _ _ p s x).trans (byUp_eq _ _))), hargs⟩
  obtain ⟨a, ha⟩ := dh_real _ _ s (unit p x) (real_dy _ _ _ _ (hpre c)) (real_wd _ _ _ _ (hpre c))
  obtain ⟨b, hb⟩ := real_up _ _ _ _ (hpre c) s (unit p x)
  have hab : dh (Cert.Kernel2Ideal.Hidden.dy m c) (Cert.Kernel2Ideal.Hidden.wd m c) s (unit p x) * Cert.Kernel2Ideal.Hidden.up m c (ix2 s (unit p x))
    = ((a * b : ℝ) : EReal) := by
    rw [EReal.coe_mul]
    exact congrArg₂ (fun x y : EReal => x * y) ha hb
  show _ = Cert.Kernel2Ideal.Hidden.dGate m c s (unit p x)
  unfold Cert.Kernel2Ideal.Hidden.dGate
  rw [hab, ← byGate_eq]

theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

end Cert.HiddenRef

end
-- ==== Proof.GradDown.lean ====
/- The output weight's gradient: what the call leaves in the gradients' array. -/
module

public import proofs.«01_k».proof.Proof.FfnLayout
public import proofs.«01_k».proof.Proof.Gen.Kernel4Ideal.Value
public import Idealize.ShloMosaic.Lib.Pipeline.ReadBack

@[expose] public section

set_option maxRecDepth 16384

noncomputable section

namespace Cert.Kernel4Ideal.Grad

open Cert.Kernel4Ideal Cert.Kernel4Ideal.Gen Idealize.ShloMosaic Idealize.ShloMosaic.TcCoe Idealize.SL.Sem
open Cert.Ffn

section
variable (A : Vec Ideal S4x704x1024 .f32) (B : Vec Ideal S4x1024x704 .bf16) (X : Vec Ideal S1024x1024 .f32)

/-- A layer's store: the old layer and its part. -/
theorem pay_at (a : Vec Ideal S1x704x1024 .f32) (b : Vec Ideal S1x1024x704 .bf16) (r : Fin 704) (d : Fin 1024) :
    k0_pay4 (F := Ideal) a b X (ix3 0 r d) = (a (ix3 0 r d) : EReal) + ∑ k : Fin 1024, (b (ix3 0 k r) : EReal) * X (ix2 k d) := by
  pointwise [k0_pay4]

/-- The store of layer `p` is that layer of the old block with the tokens' part added. -/
theorem store_at (p : Fin 4) (o : ℕ) (ho : o = p.val)
    (inb : ∀ a, (![o, 0, 0] : Fin 3 → ℕ) a + (![1, 704, 1024] : Fin 3 → ℕ) a ≤ S4x704x1024.size a)
    (inb' : ∀ a, (![o, 0, 0] : Fin 3 → ℕ) a + (![1, 1024, 704] : Fin 3 → ℕ) a ≤ S4x1024x704.size a) (x : S1x704x1024.Idx) :
    k0_pay4 (F := Ideal) (View.ld A (Rect.unit ![o, 0, 0] ![1, 704, 1024] inb)) (View.ld B (Rect.unit ![o, 0, 0] ![1, 1024, 704] inb')) X x
      = (A ((Rect.unit (s := S4x704x1024) ![o, 0, 0] ![1, 704, 1024] inb).emb x) : EReal)
        + part B X ((Rect.unit (s := S4x704x1024) ![o, 0, 0] ![1, 704, 1024] inb).emb x) := by
  revert x
  refine by_ix3 fun z r d => ?_
  obtain rfl : z = 0 := Subsingleton.elim _ _
  have e : (Rect.unit (s := S4x704x1024) ![o, 0, 0] ![1, 704, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (layer_idx p o ho inb' 0 k r))

/- The four layers' stores. -/
theorem store0 (x : S1x704x1024.Idx) :
    k0_pay4 (F := Ideal) (View.ld A (Rect.unit ![0, 0, 0] ![1, 704, 1024] inb_S4x704x1024_S1x704x1024_0_0_0))
      (View.ld B (Rect.unit ![0, 0, 0] ![1, 1024, 704] inb_S4x1024x704_S1x1024x704_0_0_0)) X x
      = (A ((Rect.unit (s := S4x704x1024) ![0, 0, 0] ![1, 704, 1024] inb_S4x704x1024_S1x704x1024_0_0_0).emb x) : EReal)
        + part B X ((Rect.unit (s := S4x704x1024) ![0, 0, 0] ![1, 704, 1024] inb_S4x704x1024_S1x704x1024_0_0_0).emb x) :=
  store_at A B X 0 0 rfl _ _ x
theorem store1 (x : S1x704x1024.Idx) :
    k0_pay5 (F := Ideal) (View.ld A (Rect.unit ![1, 0, 0] ![1, 704, 1024] inb_S4x704x1024_S1x704x1024_1_0_0))
      (View.ld B (Rect.unit ![1, 0, 0] ![1, 1024, 704] inb_S4x1024x704_S1x1024x704_1_0_0)) X x
      = (A ((Rect.unit (s := S4x704x1024) ![1, 0, 0] ![1, 704, 1024] inb_S4x704x1024_S1x704x1024_1_0_0).emb x) : EReal)
        + part B X ((Rect.unit (s := S4x704x1024) ![1, 0, 0] ![1, 704, 1024] inb_S4x704x1024_S1x704x1024_1_0_0).emb x) :=
  store_at A B X 1 1 rfl _ _ x
theorem store2 (x : S1x704x1024.Idx) :
    k0_pay1 (F := Ideal) (k0_pay6 (View.ld A (Rect.unit ![2, 0, 0] ![1, 704, 1024] inb_S4x704x1024_S1x704x1024_2_0_0)))
      (View.ld B (Rect.unit ![2, 0, 0] ![1, 1024, 704] inb_S4x1024x704_S1x1024x704_2_0_0)) X x
      = (A ((Rect.unit (s := S4x704x1024) ![2, 0, 0] ![1, 704, 1024] inb_S4x704x1024_S1x704x1024_2_0_0).emb x) : EReal)
        + part B X ((Rect.unit (s := S4x704x1024) ![2, 0, 0] ![1, 704, 1024] inb_S4x704x1024_S1x704x1024_2_0_0).emb x) :=
  store_at A B X 2 2 rfl _ _ x
theorem store3 (x : S1x704x1024.Idx) :
    k0_pay2 (F := Ideal) (View.ld A (Rect.unit ![3, 0, 0] ![1, 704, 1024] inb_S4x704x1024_S1x704x1024_3_0_0))
      (View.ld B (Rect.unit ![3, 0, 0] ![1, 1024, 704] inb_S4x1024x704_S1x1024x704_3_0_0)) X x
      = (A ((Rect.unit (s := S4x704x1024) ![3, 0, 0] ![1, 704, 1024] inb_S4x704x1024_S1x704x1024_3_0_0).emb x) : EReal)
        + part B X ((Rect.unit (s := S4x704x1024) ![3, 0, 0] ![1, 704, 1024] inb_S4x704x1024_S1x704x1024_3_0_0).emb x) :=
  store_at A B X 3 3 rfl _ _ x

theorem fill (j : S4x704x1024.Idx) : k0_pay3 (F := Ideal) j = 0 := by pointwise [k0_pay3]

end

variable (m : (ℓ : Loc nD τ sig) → Buf (Elt Ideal) ℓ) (c : Dev nD)

/-- The arguments, as arrays of extended reals. -/
abbrev h : FVec Ideal S4096x2816 .f32 := m ((c : Thread nD τ).loc main_arg0)
abbrev dy : FVec Ideal S4096x1024 .f32 := m ((c : Thread nD τ).loc main_arg1)

theorem idx : ∀ t : Fin cfg0.N, win0_0.index t = ![0, t.val, 0] ∧ win0_1.index t = ![t.val, 0] ∧ win0_2.index t = ![0, 0, 0] :=
  (by decide +kernel : ∀ t : Fin grid0.N, _)

/-- Row `r` of point `t`'s block of tokens. -/
def row (t : Fin cfg0.N) (r : Fin 1024) : Fin 4096 := ⟨t.val * 1024 + r.val, by have := lt_of_lt_of_eq t.isLt N_0; omega⟩

theorem blk0 (t : Fin cfg0.N) (p : Fin 4) (r : Fin 1024) (x : Fin 704) :
    (iblk m c 0 t : Vec Ideal S4x1024x704 .bf16) (ix3 p r x) = h m c (ix2 (row t r) (unit p x)) := by
  blk_ext! [iblk, V, idx t, row, unit]

theorem blk1 (t : Fin cfg0.N) (r : Fin 1024) (x : Fin 1024) :
    (iblk m c 1 t : Vec Ideal S1024x1024 .f32) (ix2 r x) = dy m c (ix2 (row t r) x) := by
  blk_ext [iblk, V, idx t, row]

/-- Point `t`'s part. -/
def partOf (t : Fin cfg0.N) (y : S4x704x1024.Idx) : EReal :=
  ∑ k : Fin 1024, (h m c (ix2 (row t k) (unit (y 0) (y 1))) : EReal) * dy m c (ix2 (row t k) (y 2))

theorem part_eq (t : Fin cfg0.N) : part (iblk m c 0 t : Vec Ideal S4x1024x704 .bf16) (iblk m c 1 t : Vec Ideal S1024x1024 .f32) = partOf m c t :=
  funext fun y => Finset.sum_congr rfl fun k _ =>
    congrArg₂ (fun x y : EReal => x * y) (blk0 m c t (y 0) k (y 1)) (blk1 m c t k (y 2))

theorem outs_A (t : Fin cfg0.N) (h : t.val % 4 = 0) (y : S4x704x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S4x1024x704 .bf16) (iblk m c 1 t : Vec Ideal S1024x1024 .f32) y) [_] [_, _, _, _]
      ⟨store3 _ _ _, store2 _ _ _, store1 _ _ _, store0 _ _ _, trivial⟩ y
      (View.cover_of_tiledL _ ![1, 704, 1024] (by sl_kernel_rfl) y)).trans ?_
  exact congrArg (· + part (iblk m c 0 t : Vec Ideal S4x1024x704 .bf16) (iblk m c 1 t : Vec Ideal S1024x1024 .f32) y) (fill y)

theorem outs_B (t : Fin cfg0.N) (h : ¬ t.val % 4 = 0) (y : S4x704x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S4x1024x704 .bf16) (iblk m c 1 t : Vec Ideal S1024x1024 .f32) y) [] [_, _, _, _]
      ⟨store3 _ _ _, store2 _ _ _, store1 _ _ _, store0 _ _ _, trivial⟩ y
      (View.cover_of_tiledL _ ![1, 704, 1024] (by sl_kernel_rfl) y)

/-- The points' parts are all the tokens'. -/
theorem sum_parts (y : S4x704x1024.Idx) : ∑ t : Fin cfg0.N, partOf m c t y = grad (h m c) (dy m c) (y 0) (y 1) (y 2) :=
  Fin.sum_mul_add_congr (L := 4096) (S := cfg0.N) (n := 1024)
    (f := fun s => (h m c (ix2 s (unit (y 0) (y 1))) : EReal) * dy m c (ix2 s (y 2))) (fun _ _ _ => rfl) (congrArg (· * 1024) N_0.symm)

theorem outs_last (y : S4x704x1024.Idx) :
    outsAt0 m c t0_3.val t0_3.isLt y = grad (h m c) (dy m c) (y 0) (y 1) (y 2) := by
  refine (Pipeline.eq_sum_fin_of_reset_step_apply_last (M := EReal) (fun n h j => outsAt0 m c n h j) 4 (fun _ => 0)
    (partOf m c) (fun t h j => outs_A m c t h j) (fun t h j => outs_B m c t h j) (le_of_eq N_0) t0_3 rfl y).trans ?_
  rw [zero_add, sum_parts]

/-- The gradients' array afterwards. -/
def arr (i : S4x704x1024.Idx) : EReal := grad (h m c) (dy m c) (i 0) (i 1) (i 2)

theorem final : (dats m 0 c).arrAt 2 cfg0.N = arr m c := by
  refine (dats m 0 c).arrAt_eq_of_after_last 2 t0_3 (by decide +kernel) _ fun j => ?_
  blk_simp
  rw [after0_2, outs_last]
  rfl

end Cert.Kernel4Ideal.Grad

end
-- ==== Proof.GradGate.lean ====
/- The gate weight's gradient: what the call leaves in its rows of the gradients' array, and that the other rows keep what
   they held. -/
module

public import proofs.«01_k».proof.Proof.FfnLayout
public import proofs.«01_k».proof.Proof.Gen.Kernel5Ideal.Value
public import Idealize.ShloMosaic.Lib.Pipeline.ReadBack

@[expose] public section

set_option maxRecDepth 16384

noncomputable section

namespace Cert.Kernel5Ideal.Grad

open Cert.Kernel5Ideal Cert.Kernel5Ideal.Gen Idealize.ShloMosaic Idealize.ShloMosaic.TcCoe Idealize.SL.Sem
open Cert.Ffn

section
variable (A : Vec Ideal S4x704x1024 .f32) (B : Vec Ideal S4x1024x704 .bf16) (X : Vec Ideal S1024x1024 .bf16)

/-- A layer's store: the old layer and its part. -/
theorem pay_at (a : Vec Ideal S1x704x1024 .f32) (b : Vec Ideal S1x1024x704 .bf16) (r : Fin 704) (d : Fin 1024) :
    k0_pay4 (F := Ideal) a b X (ix3 0 r d) = (a (ix3 0 r d) : EReal) + ∑ k : Fin 1024, (b (ix3 0 k r) : EReal) * X (ix2 k d) := by
  pointwise [k0_pay4]

/-- The store of layer `p` is that layer of the old block with the tokens' part added. -/
theorem store_at (p : Fin 4) (o : ℕ) (ho : o = p.val)
    (inb : ∀ a, (![o, 0, 0] : Fin 3 → ℕ) a + (![1, 704, 1024] : Fin 3 → ℕ) a ≤ S4x704x1024.size a)
    (inb' : ∀ a, (![o, 0, 0] : Fin 3 → ℕ) a + (![1, 1024, 704] : Fin 3 → ℕ) a ≤ S4x1024x704.size a) (x : S1x704x1024.Idx) :
    k0_pay4 (F := Ideal) (View.ld A (Rect.unit ![o, 0, 0] ![1, 704, 1024] inb)) (View.ld B (Rect.unit ![o, 0, 0] ![1, 1024, 704] inb')) X x
      = (A ((Rect.unit (s := S4x704x1024) ![o, 0, 0] ![1, 704, 1024] inb).emb x) : EReal)
        + part B X ((Rect.unit (s := S4x704x1024) ![o, 0, 0] ![1, 704, 1024] inb).emb x) := by
  revert x
  refine by_ix3 fun z r d => ?_
  obtain rfl : z = 0 := Subsingleton.elim _ _
  have e : (Rect.unit (s := S4x704x1024) ![o, 0, 0] ![1, 704, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (layer_idx p o ho inb' 0 k r))

/- The four layers' stores. -/
theorem store0 (x : S1x704x1024.Idx) :
    k0_pay4 (F := Ideal) (View.ld A (Rect.unit ![0, 0, 0] ![1, 704, 1024] inb_S4x704x1024_S1x704x1024_0_0_0))
      (View.ld B (Rect.unit ![0, 0, 0] ![1, 1024, 704] inb_S4x1024x704_S1x1024x704_0_0_0)) X x
      = (A ((Rect.unit (s := S4x704x1024) ![0, 0, 0] ![1, 704, 1024] inb_S4x704x1024_S1x704x1024_0_0_0).emb x) : EReal)
        + part B X ((Rect.unit (s := S4x704x1024) ![0, 0, 0] ![1, 704, 1024] inb_S4x704x1024_S1x704x1024_0_0_0).emb x) :=
  store_at A B X 0 0 rfl _ _ x
theorem store1 (x : S1x704x1024.Idx) :
    k0_pay5 (F := Ideal) (View.ld A (Rect.unit ![1, 0, 0] ![1, 704, 1024] inb_S4x704x1024_S1x704x1024_1_0_0))
      (View.ld B (Rect.unit ![1, 0, 0] ![1, 1024, 704] inb_S4x1024x704_S1x1024x704_1_0_0)) X x
      = (A ((Rect.unit (s := S4x704x1024) ![1, 0, 0] ![1, 704, 1024] inb_S4x704x1024_S1x704x1024_1_0_0).emb x) : EReal)
        + part B X ((Rect.unit (s := S4x704x1024) ![1, 0, 0] ![1, 704, 1024] inb_S4x704x1024_S1x704x1024_1_0_0).emb x) :=
  store_at A B X 1 1 rfl _ _ x
theorem store2 (x : S1x704x1024.Idx) :
    k0_pay1 (F := Ideal) (k0_pay6 (View.ld A (Rect.unit ![2, 0, 0] ![1, 704, 1024] inb_S4x704x1024_S1x704x1024_2_0_0)))
      (View.ld B (Rect.unit ![2, 0, 0] ![1, 1024, 704] inb_S4x1024x704_S1x1024x704_2_0_0)) X x
      = (A ((Rect.unit (s := S4x704x1024) ![2, 0, 0] ![1, 704, 1024] inb_S4x704x1024_S1x704x1024_2_0_0).emb x) : EReal)
        + part B X ((Rect.unit (s := S4x704x1024) ![2, 0, 0] ![1, 704, 1024] inb_S4x704x1024_S1x704x1024_2_0_0).emb x) :=
  store_at A B X 2 2 rfl _ _ x
theorem store3 (x : S1x704x1024.Idx) :
    k0_pay2 (F := Ideal) (View.ld A (Rect.unit ![3, 0, 0] ![1, 704, 1024] inb_S4x704x1024_S1x704x1024_3_0_0))
      (View.ld B (Rect.unit ![3, 0, 0] ![1, 1024, 704] inb_S4x1024x704_S1x1024x704_3_0_0)) X x
      = (A ((Rect.unit (s := S4x704x1024) ![3, 0, 0] ![1, 704, 1024] inb_S4x704x1024_S1x704x1024_3_0_0).emb x) : EReal)
        + part B X ((Rect.unit (s := S4x704x1024) ![3, 0, 0] ![1, 704, 1024] inb_S4x704x1024_S1x704x1024_3_0_0).emb x) :=
  store_at A B X 3 3 rfl _ _ x

theorem fill (j : S4x704x1024.Idx) : k0_pay3 (F := Ideal) j = 0 := by pointwise [k0_pay3]

end

variable (m : (ℓ : Loc nD τ sig) → Buf (Elt Ideal) ℓ) (c : Dev nD)

/-- The arguments, as arrays of extended reals. -/
abbrev dg : FVec Ideal S4096x2816 .f32 := m ((c : Thread nD τ).loc main_arg0)
abbrev xn : FVec Ideal S4096x1024 .f32 := m ((c : Thread nD τ).loc main_arg1)
abbrev old : FVec Ideal S4x1408x1024 .f32 := m ((c : Thread nD τ).loc main_arg2)

theorem idx : ∀ t : Fin cfg0.N, win0_0.index t = ![0, t.val, 0] ∧ win0_1.index t = ![t.val, 0] ∧ win0_2.index t = ![0, 0, 0] :=
  (by decide +kernel : ∀ t : Fin grid0.N, _)

/-- Row `r` of point `t`'s block of tokens. -/
def row (t : Fin cfg0.N) (r : Fin 1024) : Fin 4096 := ⟨t.val * 1024 + r.val, by have := lt_of_lt_of_eq t.isLt N_0; omega⟩

theorem blk0 (t : Fin cfg0.N) (p : Fin 4) (r : Fin 1024) (x : Fin 704) :
    (iblk m c 0 t : Vec Ideal S4x1024x704 .bf16) (ix3 p r x) = dg m c (ix2 (row t r) (unit p x)) := by
  blk_ext! [iblk, V, idx t, row, unit]

theorem blk1 (t : Fin cfg0.N) (r : Fin 1024) (x : Fin 1024) :
    (iblk m c 1 t : Vec Ideal S1024x1024 .bf16) (ix2 r x) = xn m c (ix2 (row t r) x) := by
  blk_ext! [iblk, V, idx t, row]

theorem old_eq : V m c main_v4 = old m c := by rfl

/-- Point `t`'s part. -/
def partOf (t : Fin cfg0.N) (y : S4x704x1024.Idx) : EReal :=
  ∑ k : Fin 1024, (dg m c (ix2 (row t k) (unit (y 0) (y 1))) : EReal) * xn m c (ix2 (row t k) (y 2))

theorem part_eq (t : Fin cfg0.N) : part (iblk m c 0 t : Vec Ideal S4x1024x704 .bf16) (iblk m c 1 t : Vec Ideal S1024x1024 .bf16) = partOf m c t :=
  funext fun y => Finset.sum_congr rfl fun k _ =>
    congrArg₂ (fun x y : EReal => x * y) (blk0 m c t (y 0) k (y 1)) (blk1 m c t k (y 2))

theorem outs_A (t : Fin cfg0.N) (h : t.val % 4 = 0) (y : S4x704x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S4x1024x704 .bf16) (iblk m c 1 t : Vec Ideal S1024x1024 .bf16) y) [_] [_, _, _, _]
      ⟨store3 _ _ _, store2 _ _ _, store1 _ _ _, store0 _ _ _, trivial⟩ y
      (View.cover_of_tiledL _ ![1, 704, 1024] (by sl_kernel_rfl) y)).trans ?_
  exact congrArg (· + part (iblk m c 0 t : Vec Ideal S4x1024x704 .bf16) (iblk m c 1 t : Vec Ideal S1024x1024 .bf16) y) (fill y)

theorem outs_B (t : Fin cfg0.N) (h : ¬ t.val % 4 = 0) (y : S4x704x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S4x1024x704 .bf16) (iblk m c 1 t : Vec Ideal S1024x1024 .bf16) y) [] [_, _, _, _]
      ⟨store3 _ _ _, store2 _ _ _, store1 _ _ _, store0 _ _ _, trivial⟩ y
      (View.cover_of_tiledL _ ![1, 704, 1024] (by sl_kernel_rfl) y)

/-- The points' parts are all the tokens'. -/
theorem sum_parts (y : S4x704x1024.Idx) : ∑ t : Fin cfg0.N, partOf m c t y = grad (dg m c) (xn m c) (y 0) (y 1) (y 2) :=
  Fin.sum_mul_add_congr (L := 4096) (S := cfg0.N) (n := 1024)
    (f := fun s => (dg m c (ix2 s (unit (y 0) (y 1))) : EReal) * xn m c (ix2 s (y 2))) (fun _ _ _ => rfl) (congrArg (· * 1024) N_0.symm)

theorem outs_last (y : S4x704x1024.Idx) :
    outsAt0 m c t0_3.val t0_3.isLt y = grad (dg m c) (xn m c) (y 0) (y 1) (y 2) := by
  refine (Pipeline.eq_sum_fin_of_reset_step_apply_last (M := EReal) (fun n h j => outsAt0 m c n h j) 4 (fun _ => 0)
    (partOf m c) (fun t h j => outs_A m c t h j) (fun t h j => outs_B m c t h j) (le_of_eq N_0) t0_3 rfl y).trans ?_
  rw [zero_add, sum_parts]

/-- The gradients' array afterwards: rows 0 to 703 of each layer are the gradient, the others as before. -/
def arr (i : S4x1408x1024.Idx) : EReal :=
  if (i 1).val < 704 then grad (dg m c) (xn m c) (i 0) (half (i 1)) (i 2) else old m c i

theorem final : (dats m 0 c).arrAt 2 cfg0.N = arr m c := by
  refine (dats m 0 c).arrAt_eq_of_coversWhere_of_agree 2 _ (fun β => β (1 : Fin 3) = 0) (by decide +kernel) (fun t hf y => ?_) (fun j hj => ?_)
  · obtain rfl : t = t0_3 := Fin.ext (by have := (flush0_2 t).mp hf; have := lt_of_lt_of_eq t.isLt N_0; show t.val = 3; omega)
    blk_simp
    rw [after0_2, outs_last]
    have hy : ∀ y : S4x704x1024.Idx, grad (dg m c) (xn m c) (y 0) (y 1) (y 2)
        = arr m c (ix3 (y 0) (⟨(y 1).val, (y 1).isLt.trans (by decide)⟩ : Fin 1408) (y 2)) := fun y => by
      refine Eq.symm ((if_pos (y 1).isLt).trans ?_)
      exact congrArg (fun r => grad (dg m c) (xn m c) (y 0) r (y 2)) (half_low (y 1) _)
    refine (hy y).trans (congrArg (arr m c) ?_)
    blk_ext [idx t0_3]
  · blk_simp [Pipeline.Window.cell_apply] at hj
    rw [A_eq]
    exact (congrFun (old_eq m c) _).trans (if_neg (c := (j 1).val < 704) (by omega)).symm

end Cert.Kernel5Ideal.Grad

end
-- ==== Proof.GradUp.lean ====
/- The up weight's gradient: what the call leaves in its rows of the gradients' array, and that the other rows keep what
   they held. -/
module

public import proofs.«01_k».proof.Proof.FfnLayout
public import proofs.«01_k».proof.Proof.Gen.Kernel6Ideal.Value
public import Idealize.ShloMosaic.Lib.Pipeline.ReadBack

@[expose] public section

set_option maxRecDepth 16384

noncomputable section

namespace Cert.Kernel6Ideal.Grad

open Cert.Kernel6Ideal Cert.Kernel6Ideal.Gen Idealize.ShloMosaic Idealize.ShloMosaic.TcCoe Idealize.SL.Sem
open Cert.Ffn

section
variable (A : Vec Ideal S4x704x1024 .f32) (B : Vec Ideal S4x1024x704 .bf16) (X : Vec Ideal S1024x1024 .bf16)

/-- A layer's store: the old layer and its part. -/
theorem pay_at (a : Vec Ideal S1x704x1024 .f32) (b : Vec Ideal S1x1024x704 .bf16) (r : Fin 704) (d : Fin 1024) :
    k0_pay4 (F := Ideal) a b X (ix3 0 r d) = (a (ix3 0 r d) : EReal) + ∑ k : Fin 1024, (b (ix3 0 k r) : EReal) * X (ix2 k d) := by
  pointwise [k0_pay4]

/-- The store of layer `p` is that layer of the old block with the tokens' part added. -/
theorem store_at (p : Fin 4) (o : ℕ) (ho : o = p.val)
    (inb : ∀ a, (![o, 0, 0] : Fin 3 → ℕ) a + (![1, 704, 1024] : Fin 3 → ℕ) a ≤ S4x704x1024.size a)
    (inb' : ∀ a, (![o, 0, 0] : Fin 3 → ℕ) a + (![1, 1024, 704] : Fin 3 → ℕ) a ≤ S4x1024x704.size a) (x : S1x704x1024.Idx) :
    k0_pay4 (F := Ideal) (View.ld A (Rect.unit ![o, 0, 0] ![1, 704, 1024] inb)) (View.ld B (Rect.unit ![o, 0, 0] ![1, 1024, 704] inb')) X x
      = (A ((Rect.unit (s := S4x704x1024) ![o, 0, 0] ![1, 704, 1024] inb).emb x) : EReal)
        + part B X ((Rect.unit (s := S4x704x1024) ![o, 0, 0] ![1, 704, 1024] inb).emb x) := by
  revert x
  refine by_ix3 fun z r d => ?_
  obtain rfl : z = 0 := Subsingleton.elim _ _
  have e : (Rect.unit (s := S4x704x1024) ![o, 0, 0] ![1, 704, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (layer_idx p o ho inb' 0 k r))

/- The four layers' stores. -/
theorem store0 (x : S1x704x1024.Idx) :
    k0_pay4 (F := Ideal) (View.ld A (Rect.unit ![0, 0, 0] ![1, 704, 1024] inb_S4x704x1024_S1x704x1024_0_0_0))
      (View.ld B (Rect.unit ![0, 0, 0] ![1, 1024, 704] inb_S4x1024x704_S1x1024x704_0_0_0)) X x
      = (A ((Rect.unit (s := S4x704x1024) ![0, 0, 0] ![1, 704, 1024] inb_S4x704x1024_S1x704x1024_0_0_0).emb x) : EReal)
        + part B X ((Rect.unit (s := S4x704x1024) ![0, 0, 0] ![1, 704, 1024] inb_S4x704x1024_S1x704x1024_0_0_0).emb x) :=
  store_at A B X 0 0 rfl _ _ x
theorem store1 (x : S1x704x1024.Idx) :
    k0_pay5 (F := Ideal) (View.ld A (Rect.unit ![1, 0, 0] ![1, 704, 1024] inb_S4x704x1024_S1x704x1024_1_0_0))
      (View.ld B (Rect.unit ![1, 0, 0] ![1, 1024, 704] inb_S4x1024x704_S1x1024x704_1_0_0)) X x
      = (A ((Rect.unit (s := S4x704x1024) ![1, 0, 0] ![1, 704, 1024] inb_S4x704x1024_S1x704x1024_1_0_0).emb x) : EReal)
        + part B X ((Rect.unit (s := S4x704x1024) ![1, 0, 0] ![1, 704, 1024] inb_S4x704x1024_S1x704x1024_1_0_0).emb x) :=
  store_at A B X 1 1 rfl _ _ x
theorem store2 (x : S1x704x1024.Idx) :
    k0_pay1 (F := Ideal) (k0_pay6 (View.ld A (Rect.unit ![2, 0, 0] ![1, 704, 1024] inb_S4x704x1024_S1x704x1024_2_0_0)))
      (View.ld B (Rect.unit ![2, 0, 0] ![1, 1024, 704] inb_S4x1024x704_S1x1024x704_2_0_0)) X x
      = (A ((Rect.unit (s := S4x704x1024) ![2, 0, 0] ![1, 704, 1024] inb_S4x704x1024_S1x704x1024_2_0_0).emb x) : EReal)
        + part B X ((Rect.unit (s := S4x704x1024) ![2, 0, 0] ![1, 704, 1024] inb_S4x704x1024_S1x704x1024_2_0_0).emb x) :=
  store_at A B X 2 2 rfl _ _ x
theorem store3 (x : S1x704x1024.Idx) :
    k0_pay2 (F := Ideal) (View.ld A (Rect.unit ![3, 0, 0] ![1, 704, 1024] inb_S4x704x1024_S1x704x1024_3_0_0))
      (View.ld B (Rect.unit ![3, 0, 0] ![1, 1024, 704] inb_S4x1024x704_S1x1024x704_3_0_0)) X x
      = (A ((Rect.unit (s := S4x704x1024) ![3, 0, 0] ![1, 704, 1024] inb_S4x704x1024_S1x704x1024_3_0_0).emb x) : EReal)
        + part B X ((Rect.unit (s := S4x704x1024) ![3, 0, 0] ![1, 704, 1024] inb_S4x704x1024_S1x704x1024_3_0_0).emb x) :=
  store_at A B X 3 3 rfl _ _ x

theorem fill (j : S4x704x1024.Idx) : k0_pay3 (F := Ideal) j = 0 := by pointwise [k0_pay3]

end

variable (m : (ℓ : Loc nD τ sig) → Buf (Elt Ideal) ℓ) (c : Dev nD)

/-- The arguments, as arrays of extended reals. -/
abbrev du : FVec Ideal S4096x2816 .f32 := m ((c : Thread nD τ).loc main_arg0)
abbrev xn : FVec Ideal S4096x1024 .f32 := m ((c : Thread nD τ).loc main_arg1)
abbrev old : FVec Ideal S4x1408x1024 .f32 := m ((c : Thread nD τ).loc main_arg2)

theorem idx : ∀ t : Fin cfg0.N, win0_0.index t = ![0, t.val, 0] ∧ win0_1.index t = ![t.val, 0] ∧ win0_2.index t = ![0, 1, 0] :=
  (by decide +kernel : ∀ t : Fin grid0.N, _)

/-- Row `r` of point `t`'s block of tokens. -/
def row (t : Fin cfg0.N) (r : Fin 1024) : Fin 4096 := ⟨t.val * 1024 + r.val, by have := lt_of_lt_of_eq t.isLt N_0; omega⟩

theorem blk0 (t : Fin cfg0.N) (p : Fin 4) (r : Fin 1024) (x : Fin 704) :
    (iblk m c 0 t : Vec Ideal S4x1024x704 .bf16) (ix3 p r x) = du m c (ix2 (row t r) (unit p x)) := by
  blk_ext! [iblk, V, idx t, row, unit]

theorem blk1 (t : Fin cfg0.N) (r : Fin 1024) (x : Fin 1024) :
    (iblk m c 1 t : Vec Ideal S1024x1024 .bf16) (ix2 r x) = xn m c (ix2 (row t r) x) := by
  blk_ext! [iblk, V, idx t, row]

theorem old_eq : V m c main_v4 = old m c := by rfl

/-- Point `t`'s part. -/
def partOf (t : Fin cfg0.N) (y : S4x704x1024.Idx) : EReal :=
  ∑ k : Fin 1024, (du m c (ix2 (row t k) (unit (y 0) (y 1))) : EReal) * xn m c (ix2 (row t k) (y 2))

theorem part_eq (t : Fin cfg0.N) : part (iblk m c 0 t : Vec Ideal S4x1024x704 .bf16) (iblk m c 1 t : Vec Ideal S1024x1024 .bf16) = partOf m c t :=
  funext fun y => Finset.sum_congr rfl fun k _ =>
    congrArg₂ (fun x y : EReal => x * y) (blk0 m c t (y 0) k (y 1)) (blk1 m c t k (y 2))

theorem outs_A (t : Fin cfg0.N) (h : t.val % 4 = 0) (y : S4x704x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S4x1024x704 .bf16) (iblk m c 1 t : Vec Ideal S1024x1024 .bf16) y) [_] [_, _, _, _]
      ⟨store3 _ _ _, store2 _ _ _, store1 _ _ _, store0 _ _ _, trivial⟩ y
      (View.cover_of_tiledL _ ![1, 704, 1024] (by sl_kernel_rfl) y)).trans ?_
  exact congrArg (· + part (iblk m c 0 t : Vec Ideal S4x1024x704 .bf16) (iblk m c 1 t : Vec Ideal S1024x1024 .bf16) y) (fill y)

theorem outs_B (t : Fin cfg0.N) (h : ¬ t.val % 4 = 0) (y : S4x704x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S4x1024x704 .bf16) (iblk m c 1 t : Vec Ideal S1024x1024 .bf16) y) [] [_, _, _, _]
      ⟨store3 _ _ _, store2 _ _ _, store1 _ _ _, store0 _ _ _, trivial⟩ y
      (View.cover_of_tiledL _ ![1, 704, 1024] (by sl_kernel_rfl) y)

/-- The points' parts are all the tokens'. -/
theorem sum_parts (y : S4x704x1024.Idx) : ∑ t : Fin cfg0.N, partOf m c t y = grad (du m c) (xn m c) (y 0) (y 1) (y 2) :=
  Fin.sum_mul_add_congr (L := 4096) (S := cfg0.N) (n := 1024)
    (f := fun s => (du m c (ix2 s (unit (y 0) (y 1))) : EReal) * xn m c (ix2 s (y 2))) (fun _ _ _ => rfl) (congrArg (· * 1024) N_0.symm)

theorem outs_last (y : S4x704x1024.Idx) :
    outsAt0 m c t0_3.val t0_3.isLt y = grad (du m c) (xn m c) (y 0) (y 1) (y 2) := by
  refine (Pipeline.eq_sum_fin_of_reset_step_apply_last (M := EReal) (fun n h j => outsAt0 m c n h j) 4 (fun _ => 0)
    (partOf m c) (fun t h j => outs_A m c t h j) (fun t h j => outs_B m c t h j) (le_of_eq N_0) t0_3 rfl y).trans ?_
  rw [zero_add, sum_parts]

/-- The gradients' array afterwards: rows 704 to 1407 of each layer are the gradient, the others as before. -/
def arr (i : S4x1408x1024.Idx) : EReal :=
  if (i 1).val < 704 then old m c i else grad (du m c) (xn m c) (i 0) (half (i 1)) (i 2)

theorem final : (dats m 0 c).arrAt 2 cfg0.N = arr m c := by
  refine (dats m 0 c).arrAt_eq_of_coversWhere_of_agree 2 _ (fun β => β (1 : Fin 3) = 1) (by decide +kernel) (fun t hf y => ?_) (fun j hj => ?_)
  · obtain rfl : t = t0_3 := Fin.ext (by have := (flush0_2 t).mp hf; have := lt_of_lt_of_eq t.isLt N_0; show t.val = 3; omega)
    blk_simp
    rw [after0_2, outs_last]
    have hy : ∀ y : S4x704x1024.Idx, grad (du m c) (xn m c) (y 0) (y 1) (y 2)
        = arr m c (ix3 (y 0) (⟨704 + (y 1).val, Nat.add_lt_add_left (y 1).isLt 704⟩ : Fin 1408) (y 2)) := fun y => by
      refine Eq.symm ((if_neg (Nat.not_lt.mpr (Nat.le_add_right 704 (y 1).val))).trans ?_)
      exact congrArg (fun r => grad (du m c) (xn m c) (y 0) r (y 2)) (half_high (y 1) _)
    refine (hy y).trans (congrArg (arr m c) ?_)
    blk_ext [idx t0_3]
  · blk_simp [Pipeline.Window.cell_apply] at hj
    rw [A_eq]
    exact (congrFun (old_eq m c) _).trans (if_pos (c := (j 1).val < 704) (by have : (j 1).val < 1408 := (j 1).isLt; omega)).symm

end Cert.Kernel6Ideal.Grad

end
-- ==== Proof.GradClaims.lean ====
/- The three weights' gradients of the reference, and that they are the arrays the calls leave. -/
module

public import proofs.«01_k».proof.Defs
public import proofs.«01_k».proof.Proof.GradDown
public import proofs.«01_k».proof.Proof.GradGate
public import proofs.«01_k».proof.Proof.GradUp
public import proofs.«01_k».proof.Proof.Gen.Reference4Ideal.Run
public import proofs.«01_k».proof.Proof.Gen.Reference5Ideal.Run
public import proofs.«01_k».proof.Proof.Gen.Reference6Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Ffn

section
open Cert.Reference4Ideal Cert.Reference4Ideal.Gen

/-- The output weight's gradient as the reference computes it. -/
def refDown (h : FVec Ideal S4096x2816 .f32) (dy : FVec Ideal S4096x1024 .f32) : FVec Ideal S4x704x1024 .f32 :=
  shapeCast _ (transpose S2816x1024 [1, 0] (Host.dotGeneral dot_S4096x1024_S4096x2816_S1024x2816_0_0_1_1_n_n none dy h) transposes_S1024x2816_S2816x1024_1_0) shapeCasts_S2816x1024_S4x704x1024

theorem refDown_at (h : FVec Ideal S4096x2816 .f32) (dy : FVec Ideal S4096x1024 .f32) (p : Fin 4) (r : Fin 704) (d : Fin 1024) :
    refDown h dy (ix3 p r d) = grad h dy p r d := by
  pointwise [refDown]
  exact Finset.sum_congr rfl fun s _ => mul_comm _ _
end

section
open Cert.Reference5Ideal Cert.Reference5Ideal.Gen

/-- The array with the gate weight's gradient as the reference computes it. -/
def refGate (dg : FVec Ideal S4096x2816 .f32) (xn : FVec Ideal S4096x1024 .f32) (old : FVec Ideal S4x1408x1024 .f32) : FVec Ideal S4x1408x1024 .f32 :=
  concatenate S4x1408x1024 1 [⟨S4x704x1024, (shapeCast _ (transpose S2816x1024 [1, 0] (transpose S1024x2816 [1, 0] (Host.dotGeneral dot_S4096x2816_S4096x1024_S2816x1024_0_0_1_1_n_n none dg xn) transposes_S2816x1024_S1024x2816_1_0) transposes_S1024x2816_S2816x1024_1_0) shapeCasts_S2816x1024_S4x704x1024)⟩,
    ⟨S4x704x1024, (extractStridedSlice S4x704x1024 ![0, 704, 0] old slices_S4x1408x1024_S4x704x1024_0_704_0)⟩] concatenates_S4x704x1024_S4x704x1024_S4x1408x1024_d1

theorem refGate_at (dg : FVec Ideal S4096x2816 .f32) (xn : FVec Ideal S4096x1024 .f32) (old : FVec Ideal S4x1408x1024 .f32)
    (p : Fin 4) (x : Fin 1408) (d : Fin 1024) :
    refGate dg xn old (ix3 p x d) = (if x.val < 704 then grad dg xn p (half x) d else old (ix3 p x d) : EReal) := by
  pointwise [refGate]
  by_cases h : x.val < 704
  · rw [dif_pos h, if_pos h]
    have e : half x = ⟨x.val, h⟩ := Fin.ext (Nat.mod_eq_of_lt h)
    rw [e]
    rfl
  · rw [dif_neg h, if_neg h]
    exact congrArg (fun i => old (ix3 p i d)) (Fin.ext (by dsimp only; omega))
end

section
open Cert.Reference6Ideal Cert.Reference6Ideal.Gen

/-- The array with the up weight's gradient as the reference computes it. -/
def refUp (du : FVec Ideal S4096x2816 .f32) (xn : FVec Ideal S4096x1024 .f32) (old : FVec Ideal S4x1408x1024 .f32) : FVec Ideal S4x1408x1024 .f32 :=
  concatenate S4x1408x1024 1 [⟨S4x704x1024, (extractStridedSlice S4x704x1024 ![0, 0, 0] old slices_S4x1408x1024_S4x704x1024_0_0_0)⟩,
    ⟨S4x704x1024, (shapeCast _ (transpose S2816x1024 [1, 0] (transpose S1024x2816 [1, 0] (Host.dotGeneral dot_S4096x2816_S4096x1024_S2816x1024_0_0_1_1_n_n none du xn) transposes_S2816x1024_S1024x2816_1_0) transposes_S1024x2816_S2816x1024_1_0) shapeCasts_S2816x1024_S4x704x1024)⟩] concatenates_S4x704x1024_S4x704x1024_S4x1408x1024_d1

theorem refUp_at (du : FVec Ideal S4096x2816 .f32) (xn : FVec Ideal S4096x1024 .f32) (old : FVec Ideal S4x1408x1024 .f32)
    (p : Fin 4) (x : Fin 1408) (d : Fin 1024) :
    refUp du xn old (ix3 p x d) = (if x.val < 704 then old (ix3 p x d) else grad du xn p (half x) d : EReal) := by
  pointwise [refUp]
  by_cases h : x.val < 704
  · rw [dif_pos h, if_pos h]
  · rw [dif_neg h, if_neg h]
    have e : half x = ⟨x.val - 704, by omega⟩ := Fin.ext (by simp only [half]; omega)
    rw [e]
    rfl
end

theorem algebraic4 : Cert.algebraic_Kernel4Ideal_Reference4Ideal := by
  intro m g m' g' _ hagree
  refine ⟨fun c => Cert.Kernel4Ideal.Grad.arr m c,
    (θ_run Cert.Kernel4Ideal.defs _ _).mono (fun r h c => ⟨(h c).1.trans (Cert.Kernel4Ideal.Grad.final m c), (h c).2⟩)
      (Cert.Kernel4Ideal.Value.run_blocks m g),
    (θ_run Cert.Reference4Ideal.defs _ _).mono (fun r h c => ?_) (Cert.Reference4Ideal.Value.run m' g')⟩
  obtain ⟨a0, a1, -⟩ := hagree c
  have h0 := (h c).1
  rw [a0, a1] at h0
  exact ⟨h0.trans (funext (by_ix3 fun p r d => refDown_at _ _ p r d)), (h c).2⟩

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem algebraic5 : Cert.algebraic_Kernel5Ideal_Reference5Ideal := by
  intro m g m' g' _ hagree
  refine ⟨fun c => Cert.Kernel5Ideal.Grad.arr m c,
    (θ_run Cert.Kernel5Ideal.defs _ _).mono (fun r h c => ⟨(h c).1.trans (Cert.Kernel5Ideal.Grad.final m c), (h c).2⟩)
      (Cert.Kernel5Ideal.Value.run_blocks m g),
    (θ_run Cert.Reference5Ideal.defs _ _).mono (fun r h c => ?_) (Cert.Reference5Ideal.Value.run m' g')⟩
  obtain ⟨a0, a1, a2⟩ := hagree c
  have h0 := (h c).1
  rw [a0, a1, a2] at h0
  exact ⟨h0.trans (funext (by_ix3 fun p x d => refGate_at _ _ _ p x d)), (h c).2⟩

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem algebraic6 : Cert.algebraic_Kernel6Ideal_Reference6Ideal := by
  intro m g m' g' _ hagree
  refine ⟨fun c => Cert.Kernel6Ideal.Grad.arr m c,
    (θ_run Cert.Kernel6Ideal.defs _ _).mono (fun r h c => ⟨(h c).1.trans (Cert.Kernel6Ideal.Grad.final m c), (h c).2⟩)
      (Cert.Kernel6Ideal.Value.run_blocks m g),
    (θ_run Cert.Reference6Ideal.defs _ _).mono (fun r h c => ?_) (Cert.Reference6Ideal.Value.run m' g')⟩
  obtain ⟨a0, a1, a2⟩ := hagree c
  have h0 := (h c).1
  rw [a0, a1, a2] at h0
  exact ⟨h0.trans (funext (by_ix3 fun p x d => refUp_at _ _ _ p x d)), (h c).2⟩

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

end Cert.Proof

end
-- ==== Proof.GradWo.lean ====
/- The attention's output weight's gradient: what the call leaves in its rows of the gradients' array, and that the other rows
   keep what they held. -/
module

public import proofs.«01_k».proof.Proof.ProjLayout
public import proofs.«01_k».proof.Proof.Gen.Kernel7Ideal.Value
public import Idealize.ShloMosaic.Lib.Pipeline.ReadBack

@[expose] public section

set_option maxRecDepth 16384

noncomputable section

namespace Cert.Kernel7Ideal.Grad

open Cert.Kernel7Ideal Cert.Kernel7Ideal.Gen Idealize.ShloMosaic Idealize.ShloMosaic.TcCoe Idealize.SL.Sem
open Cert.Proj
open Cert.Ffn (by_ix2 by_ix3 layer_idx)

section
variable (A : Vec Ideal S4x256x1024 .f32) (B : Vec Ideal S2048x1024 .bf16) (X : Vec Ideal S2048x1024 .f32)

/-- A layer's store: the old layer and its part. -/
theorem pay_at (a : Vec Ideal S1x256x1024 .f32) (b : Vec Ideal S2048x256 .bf16) (r : Fin 256) (d : Fin 1024) :
    k0_pay4 (F := Ideal) a b X (ix3 0 r d) = (a (ix3 0 r d) : EReal) + ∑ k : Fin 2048, (b (ix2 k r) : EReal) * X (ix2 k d) := by
  pointwise [k0_pay4]

/-- The store of layer `p` is that layer of the old block with the tokens' part added. -/
theorem store_at (p : Fin 4) (o o' : ℕ) (ho : o = p.val) (ho' : o' = p.val * 256)
    (inb : ∀ a, (![o, 0, 0] : Fin 3 → ℕ) a + (![1, 256, 1024] : Fin 3 → ℕ) a ≤ S4x256x1024.size a)
    (inb' : ∀ a, (![0, o'] : Fin 2 → ℕ) a + (![2048, 256] : Fin 2 → ℕ) a ≤ S2048x1024.size a) (x : S1x256x1024.Idx) :
    k0_pay4 (F := Ideal) (View.ld A (Rect.unit ![o, 0, 0] ![1, 256, 1024] inb)) (View.ld B (Rect.unit ![0, o'] ![2048, 256] inb')) X x
      = (A ((Rect.unit (s := S4x256x1024) ![o, 0, 0] ![1, 256, 1024] inb).emb x) : EReal)
        + part B X ((Rect.unit (s := S4x256x1024) ![o, 0, 0] ![1, 256, 1024] inb).emb x) := by
  revert x
  refine by_ix3 fun z r d => ?_
  obtain rfl : z = 0 := Subsingleton.elim _ _
  have e : (Rect.unit (s := S4x256x1024) ![o, 0, 0] ![1, 256, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (cols_idx p o' ho' inb' k r))

/- The four layers' stores. -/
theorem store0 (x : S1x256x1024.Idx) :
    k0_pay4 (F := Ideal) (View.ld A (Rect.unit ![0, 0, 0] ![1, 256, 1024] inb_S4x256x1024_S1x256x1024_0_0_0))
      (View.ld B (Rect.unit ![0, 0] ![2048, 256] inb_S2048x1024_S2048x256_0_0)) X x
      = (A ((Rect.unit (s := S4x256x1024) ![0, 0, 0] ![1, 256, 1024] inb_S4x256x1024_S1x256x1024_0_0_0).emb x) : EReal)
        + part B X ((Rect.unit (s := S4x256x1024) ![0, 0, 0] ![1, 256, 1024] inb_S4x256x1024_S1x256x1024_0_0_0).emb x) :=
  store_at A B X 0 0 0 rfl rfl _ _ x
theorem store1 (x : S1x256x1024.Idx) :
    k0_pay5 (F := Ideal) (View.ld A (Rect.unit ![1, 0, 0] ![1, 256, 1024] inb_S4x256x1024_S1x256x1024_1_0_0))
      (View.ld B (Rect.unit ![0, 256] ![2048, 256] inb_S2048x1024_S2048x256_0_256)) X x
      = (A ((Rect.unit (s := S4x256x1024) ![1, 0, 0] ![1, 256, 1024] inb_S4x256x1024_S1x256x1024_1_0_0).emb x) : EReal)
        + part B X ((Rect.unit (s := S4x256x1024) ![1, 0, 0] ![1, 256, 1024] inb_S4x256x1024_S1x256x1024_1_0_0).emb x) :=
  store_at A B X 1 1 256 rfl rfl _ _ x
theorem store2 (x : S1x256x1024.Idx) :
    k0_pay1 (F := Ideal) (k0_pay6 (View.ld A (Rect.unit ![2, 0, 0] ![1, 256, 1024] inb_S4x256x1024_S1x256x1024_2_0_0)))
      (View.ld B (Rect.unit ![0, 512] ![2048, 256] inb_S2048x1024_S2048x256_0_512)) X x
      = (A ((Rect.unit (s := S4x256x1024) ![2, 0, 0] ![1, 256, 1024] inb_S4x256x1024_S1x256x1024_2_0_0).emb x) : EReal)
        + part B X ((Rect.unit (s := S4x256x1024) ![2, 0, 0] ![1, 256, 1024] inb_S4x256x1024_S1x256x1024_2_0_0).emb x) :=
  store_at A B X 2 2 512 rfl rfl _ _ x
theorem store3 (x : S1x256x1024.Idx) :
    k0_pay2 (F := Ideal) (View.ld A (Rect.unit ![3, 0, 0] ![1, 256, 1024] inb_S4x256x1024_S1x256x1024_3_0_0))
      (View.ld B (Rect.unit ![0, 768] ![2048, 256] inb_S2048x1024_S2048x256_0_768)) X x
      = (A ((Rect.unit (s := S4x256x1024) ![3, 0, 0] ![1, 256, 1024] inb_S4x256x1024_S1x256x1024_3_0_0).emb x) : EReal)
        + part B X ((Rect.unit (s := S4x256x1024) ![3, 0, 0] ![1, 256, 1024] inb_S4x256x1024_S1x256x1024_3_0_0).emb x) :=
  store_at A B X 3 3 768 rfl rfl _ _ x

theorem fill (j : S4x256x1024.Idx) : k0_pay3 (F := Ideal) j = 0 := by pointwise [k0_pay3]

end

variable (m : (ℓ : Loc nD τ sig) → Buf (Elt Ideal) ℓ) (c : Dev nD)

/-- The arguments, as arrays of extended reals. -/
abbrev o : FVec Ideal S4096x1024 .f32 := m ((c : Thread nD τ).loc main_arg0)
abbrev dy : FVec Ideal S4096x1024 .f32 := m ((c : Thread nD τ).loc main_arg1)
abbrev old : FVec Ideal S4x1024x1024 .f32 := m ((c : Thread nD τ).loc main_arg2)

theorem idx : ∀ t : Fin cfg0.N, win0_0.index t = ![t.val, 0] ∧ win0_1.index t = ![t.val, 0] ∧ win0_2.index t = ![0, 3, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = o m c (ix2 (row t r) x) := by
  blk_ext! [iblk, V, idx t, row]

theorem blk1 (t : Fin cfg0.N) (r : Fin 2048) (x : Fin 1024) :
    (iblk m c 1 t : Vec Ideal S2048x1024 .f32) (ix2 r x) = dy m c (ix2 (row t r) x) := by
  blk_ext [iblk, V, idx t, row]

theorem old_eq : V m c main_v1 = old m c := by rfl

/-- Point `t`'s part. -/
def partOf (t : Fin cfg0.N) (y : S4x256x1024.Idx) : EReal :=
  ∑ k : Fin 2048, (o m c (ix2 (row t k) (unit (y 0) (y 1))) : EReal) * dy m c (ix2 (row t k) (y 2))

theorem part_eq (t : Fin cfg0.N) : part (iblk m c 0 t : Vec Ideal S2048x1024 .bf16) (iblk m c 1 t : Vec Ideal S2048x1024 .f32) = partOf m c t :=
  funext fun y => Finset.sum_congr rfl fun k _ =>
    congrArg₂ (fun x y : EReal => x * y) (blk0 m c t k (unit (y 0) (y 1))) (blk1 m c t k (y 2))

theorem outs_A (t : Fin cfg0.N) (h : t.val % 2 = 0) (y : S4x256x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S2048x1024 .bf16) (iblk m c 1 t : Vec Ideal S2048x1024 .f32) y) [_] [_, _, _, _]
      ⟨store3 _ _ _, store2 _ _ _, store1 _ _ _, store0 _ _ _, trivial⟩ y
      (View.cover_of_tiledL _ ![1, 256, 1024] (by sl_kernel_rfl) y)).trans ?_
  exact congrArg (· + part (iblk m c 0 t : Vec Ideal S2048x1024 .bf16) (iblk m c 1 t : Vec Ideal S2048x1024 .f32) y) (fill y)

theorem outs_B (t : Fin cfg0.N) (h : ¬ t.val % 2 = 0) (y : S4x256x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S2048x1024 .bf16) (iblk m c 1 t : Vec Ideal S2048x1024 .f32) y) [] [_, _, _, _]
      ⟨store3 _ _ _, store2 _ _ _, store1 _ _ _, store0 _ _ _, trivial⟩ y
      (View.cover_of_tiledL _ ![1, 256, 1024] (by sl_kernel_rfl) y)

/-- The points' parts are all the tokens'. -/
theorem sum_parts (y : S4x256x1024.Idx) : ∑ t : Fin cfg0.N, partOf m c t y = grad (o m c) (dy m c) (y 0) (y 1) (y 2) :=
  Fin.sum_mul_add_congr (L := 4096) (S := cfg0.N) (n := 2048)
    (f := fun s => (o m c (ix2 s (unit (y 0) (y 1))) : EReal) * dy m c (ix2 s (y 2))) (fun _ _ _ => rfl) (congrArg (· * 2048) N_0.symm)

theorem outs_last (y : S4x256x1024.Idx) :
    outsAt0 m c t0_1.val t0_1.isLt y = grad (o m c) (dy m c) (y 0) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards: rows 768 to 1023 of each layer are the gradient, the others as before. -/
def arr (i : S4x1024x1024.Idx) : EReal :=
  if (i 1).val < 768 then old m c i else grad (o m c) (dy m c) (i 0) (quarter (i 1)) (i 2)

theorem final : (dats m 0 c).arrAt 2 cfg0.N = arr m c := by
  refine (dats m 0 c).arrAt_eq_of_coversWhere_of_agree 2 _ (fun β => β (1 : Fin 3) = 3) (by decide +kernel) (fun t hf y => ?_) (fun j hj => ?_)
  · obtain rfl : t = t0_1 := Fin.ext (by have := (flush0_2 t).mp hf; have := lt_of_lt_of_eq t.isLt N_0; show t.val = 1; omega)
    blk_simp
    rw [after0_2, outs_last]
    have hy : ∀ y : S4x256x1024.Idx, grad (o m c) (dy m c) (y 0) (y 1) (y 2)
        = arr m c (ix3 (y 0) (⟨768 + (y 1).val, by have h : (y 1).val < 256 := (y 1).isLt; omega⟩ : Fin 1024) (y 2)) := fun y => by
      refine Eq.symm ((if_neg (c := 768 + (y 1).val < 768) (by omega)).trans ?_)
      exact congrArg (fun r => grad (o m c) (dy m c) (y 0) r (y 2)) (quarter_high (y 1) _)
    refine (hy y).trans (congrArg (arr m c) ?_)
    blk_ext [idx t0_1]
  · blk_simp [Pipeline.Window.cell_apply] at hj
    rw [A_eq]
    exact (congrFun (old_eq m c) _).trans (if_pos (c := (j 1).val < 768) (by have h : (j 1).val < 1024 := (j 1).isLt; omega)).symm

end Cert.Kernel7Ideal.Grad

end
-- ==== Proof.GradWq.lean ====
/- The attention's query weight's gradient: what the call leaves in its rows of the gradients' array, and that the other rows
   keep what they held. -/
module

public import proofs.«01_k».proof.Proof.ProjLayout
public import proofs.«01_k».proof.Proof.Gen.Kernel8Ideal.Value
public import Idealize.ShloMosaic.Lib.Pipeline.ReadBack

@[expose] public section

set_option maxRecDepth 16384

noncomputable section

namespace Cert.Kernel8Ideal.Grad

open Cert.Kernel8Ideal Cert.Kernel8Ideal.Gen Idealize.ShloMosaic Idealize.ShloMosaic.TcCoe Idealize.SL.Sem
open Cert.Proj
open Cert.Ffn (by_ix2 by_ix3 layer_idx)

section
variable (A : Vec Ideal S4x256x1024 .f32) (B : Vec Ideal S2048x1024 .bf16) (X : Vec Ideal S2048x1024 .bf16)

/-- A layer's store: the old layer and its part. -/
theorem pay_at (a : Vec Ideal S1x256x1024 .f32) (b : Vec Ideal S2048x256 .bf16) (r : Fin 256) (d : Fin 1024) :
    k0_pay4 (F := Ideal) a b X (ix3 0 r d) = (a (ix3 0 r d) : EReal) + ∑ k : Fin 2048, (b (ix2 k r) : EReal) * X (ix2 k d) := by
  pointwise [k0_pay4]

/-- The store of layer `p` is that layer of the old block with the tokens' part added. -/
theorem store_at (p : Fin 4) (o o' : ℕ) (ho : o = p.val) (ho' : o' = p.val * 256)
    (inb : ∀ a, (![o, 0, 0] : Fin 3 → ℕ) a + (![1, 256, 1024] : Fin 3 → ℕ) a ≤ S4x256x1024.size a)
    (inb' : ∀ a, (![0, o'] : Fin 2 → ℕ) a + (![2048, 256] : Fin 2 → ℕ) a ≤ S2048x1024.size a) (x : S1x256x1024.Idx) :
    k0_pay4 (F := Ideal) (View.ld A (Rect.unit ![o, 0, 0] ![1, 256, 1024] inb)) (View.ld B (Rect.unit ![0, o'] ![2048, 256] inb')) X x
      = (A ((Rect.unit (s := S4x256x1024) ![o, 0, 0] ![1, 256, 1024] inb).emb x) : EReal)
        + part B X ((Rect.unit (s := S4x256x1024) ![o, 0, 0] ![1, 256, 1024] inb).emb x) := by
  revert x
  refine by_ix3 fun z r d => ?_
  obtain rfl : z = 0 := Subsingleton.elim _ _
  have e : (Rect.unit (s := S4x256x1024) ![o, 0, 0] ![1, 256, 1024] inb).emb (ix3 0 r d) = ix3 p r d := layer_idx p o ho inb 0 r d
  rw [e]
  refine (pay_at X _ _ r d).trans (congrArg₂ (fun x y : EReal => x + y) (congrArg A e) (Finset.sum_congr rfl fun k _ => ?_))
  exact congrArg (fun x : EReal => x * X (ix2 k d)) (congrArg B (cols_idx p o' ho' inb' k r))

/- The four layers' stores. -/
theorem store0 (x : S1x256x1024.Idx) :
    k0_pay4 (F := Ideal) (View.ld A (Rect.unit ![0, 0, 0] ![1, 256, 1024] inb_S4x256x1024_S1x256x1024_0_0_0))
      (View.ld B (Rect.unit ![0, 0] ![2048, 256] inb_S2048x1024_S2048x256_0_0)) X x
      = (A ((Rect.unit (s := S4x256x1024) ![0, 0, 0] ![1, 256, 1024] inb_S4x256x1024_S1x256x1024_0_0_0).emb x) : EReal)
        + part B X ((Rect.unit (s := S4x256x1024) ![0, 0, 0] ![1, 256, 1024] inb_S4x256x1024_S1x256x1024_0_0_0).emb x) :=
  store_at A B X 0 0 0 rfl rfl _ _ x
theorem store1 (x : S1x256x1024.Idx) :
    k0_pay5 (F := Ideal) (View.ld A (Rect.unit ![1, 0, 0] ![1, 256, 1024] inb_S4x256x1024_S1x256x1024_1_0_0))
      (View.ld B (Rect.unit ![0, 256] ![2048, 256] inb_S2048x1024_S2048x256_0_256)) X x
      = (A ((Rect.unit (s := S4x256x1024) ![1, 0, 0] ![1, 256, 1024] inb_S4x256x1024_S1x256x1024_1_0_0).emb x) : EReal)
        + part B X ((Rect.unit (s := S4x256x1024) ![1, 0, 0] ![1, 256, 1024] inb_S4x256x1024_S1x256x1024_1_0_0).emb x) :=
  store_at A B X 1 1 256 rfl rfl _ _ x
theorem store2 (x : S1x256x1024.Idx) :
    k0_pay1 (F := Ideal) (k0_pay6 (View.ld A (Rect.unit ![2, 0, 0] ![1, 256, 1024] inb_S4x256x1024_S1x256x1024_2_0_0)))
      (View.ld B (Rect.unit ![0, 512] ![2048, 256] inb_S2048x1024_S2048x256_0_512)) X x
      = (A ((Rect.unit (s := S4x256x1024) ![2, 0, 0] ![1, 256, 1024] inb_S4x256x1024_S1x256x1024_2_0_0).emb x) : EReal)
        + part B X ((Rect.unit (s := S4x256x1024) ![2, 0, 0] ![1, 256, 1024] inb_S4x256x1024_S1x256x1024_2_0_0).emb x) :=
  store_at A B X 2 2 512 rfl rfl _ _ x
theorem store3 (x : S1x256x1024.Idx) :
    k0_pay2 (F := Ideal) (View.ld A (Rect.unit ![3, 0, 0] ![1, 256, 1024] inb_S4x256x1024_S1x256x1024_3_0_0))
      (View.ld B (Rect.unit ![0, 768] ![2048, 256] inb_S2048x1024_S2048x256_0_768)) X x
      = (A ((Rect.unit (s := S4x256x1024) ![3, 0, 0] ![1, 256, 1024] inb_S4x256x1024_S1x256x1024_3_0_0).emb x) : EReal)
        + part B X ((Rect.unit (s := S4x256x1024) ![3, 0, 0] ![1, 256, 1024] inb_S4x256x1024_S1x256x1024_3_0_0).emb x) :=
  store_at A B X 3 3 768 rfl rfl _ _ x

theorem fill (j : S4x256x1024.Idx) : k0_pay3 (F := Ideal) j = 0 := by pointwise [k0_pay3]

end

variable (m : (ℓ : Loc nD τ sig) → Buf (Elt Ideal) ℓ) (c : Dev nD)

/-- The arguments, as arrays of extended reals. -/
abbrev xn : FVec Ideal S4096x1024 .f32 := m ((c : Thread nD τ).loc main_arg0)
abbrev dq : FVec Ideal S4096x1024 .f32 := m ((c : Thread nD τ).loc main_arg1)
abbrev old : FVec Ideal S4x1024x1024 .f32 := m ((c : Thread nD τ).loc main_arg2)

theorem idx : ∀ t : Fin cfg0.N, win0_0.index t = ![t.val, 0] ∧ win0_1.index t = ![t.val, 0] ∧ win0_2.index t = ![0, 0, 0] :=
  (by decide +kernel : ∀ t : Fin grid0.N, _)

/-- Row `r` of point `t`'s block of tokens. -/
def row (t : Fin cfg0.N) (r : Fin 2048) : Fin 4096 := ⟨t.val * 2048 + r.val, by have := lt_of_lt_of_eq t.isLt N_0; omega⟩

theorem blk0 (t : Fin cfg0.N) (r : Fin 2048) (x : Fin 1024) :
    (iblk m c 0 t : Vec Ideal S2048x1024 .bf16) (ix2 r x) = xn m c (ix2 (row t r) x) := by
  blk_ext! [iblk, V, idx t, row]

theorem blk1 (t : Fin cfg0.N) (r : Fin 2048) (x : Fin 1024) :
    (iblk m c 1 t : Vec Ideal S2048x1024 .bf16) (ix2 r x) = dq m c (ix2 (row t r) x) := by
  blk_ext! [iblk, V, idx t, row]

theorem old_eq : V m c main_v2 = old m c := by rfl

/-- Point `t`'s part. -/
def partOf (t : Fin cfg0.N) (y : S4x256x1024.Idx) : EReal :=
  ∑ k : Fin 2048, (xn m c (ix2 (row t k) (unit (y 0) (y 1))) : EReal) * dq m c (ix2 (row t k) (y 2))

theorem part_eq (t : Fin cfg0.N) : part (iblk m c 0 t : Vec Ideal S2048x1024 .bf16) (iblk m c 1 t : Vec Ideal S2048x1024 .bf16) = partOf m c t :=
  funext fun y => Finset.sum_congr rfl fun k _ =>
    congrArg₂ (fun x y : EReal => x * y) (blk0 m c t k (unit (y 0) (y 1))) (blk1 m c t k (y 2))

theorem outs_A (t : Fin cfg0.N) (h : t.val % 2 = 0) (y : S4x256x1024.Idx) :
    outsAt0 m c t.val t.isLt y = 0 + partOf m c t y := by
  rw [outsAt0_A m c t h]
  frame_open
  simp (disch := decide) only [↓ View.readCov_skip, ↓ View.readCov_cons_toLoadRect, ↓ View.readCov_fill]
  frame_out
  rw [← part_eq]
  refine (View.canon_append_of_piecesOf (Val := Elt Ideal) (e := .f32)
      (fun y => (k0_pay3 (F := Ideal) y : EReal) + part (iblk m c 0 t : Vec Ideal S2048x1024 .bf16) (iblk m c 1 t : Vec Ideal S2048x1024 .bf16) y) [_] [_, _, _, _]
      ⟨store3 _ _ _, store2 _ _ _, store1 _ _ _, store0 _ _ _, trivial⟩ y
      (View.cover_of_tiledL _ ![1, 256, 1024] (by sl_kernel_rfl) y)).trans ?_
  exact congrArg (· + part (iblk m c 0 t : Vec Ideal S2048x1024 .bf16) (iblk m c 1 t : Vec Ideal S2048x1024 .bf16) y) (fill y)

theorem outs_B (t : Fin cfg0.N) (h : ¬ t.val % 2 = 0) (y : S4x256x1024.Idx) :
    outsAt0 m c t.val t.isLt y = (outsAt0 m c (t.val - 1) (Nat.lt_of_le_of_lt (Nat.sub_le _ _) t.isLt) y : EReal) + partOf m c t y := by
  rw [outsAt0_B m c t h]
  frame_out
  rw [← part_eq]
  exact View.canon_append_of_piecesOf (Val := Elt Ideal) (e := .f32)
      (fun y => (outsAt0 m c (t.val - 1) (Nat.lt_of_le_of_lt (Nat.sub_le _ _) t.isLt) y : EReal)
        + part (iblk m c 0 t : Vec Ideal S2048x1024 .bf16) (iblk m c 1 t : Vec Ideal S2048x1024 .bf16) y) [] [_, _, _, _]
      ⟨store3 _ _ _, store2 _ _ _, store1 _ _ _, store0 _ _ _, trivial⟩ y
      (View.cover_of_tiledL _ ![1, 256, 1024] (by sl_kernel_rfl) y)

/-- The points' parts are all the tokens'. -/
theorem sum_parts (y : S4x256x1024.Idx) : ∑ t : Fin cfg0.N, partOf m c t y = grad (xn m c) (dq m c) (y 0) (y 1) (y 2) :=
  Fin.sum_mul_add_congr (L := 4096) (S := cfg0.N) (n := 2048)
    (f := fun s => (xn m c (ix2 s (unit (y 0) (y 1))) : EReal) * dq m c (ix2 s (y 2))) (fun _ _ _ => rfl) (congrArg (· * 2048) N_0.symm)

theorem outs_last (y : S4x256x1024.Idx) :
    outsAt0 m c t0_1.val t0_1.isLt y = grad (xn m c) (dq m c) (y 0) (y 1) (y 2) := by
  refine (Pipeline.eq_sum_fin_of_reset_step_apply_last (M := EReal) (fun n h j => outsAt0 m c n h j) 2 (fun _ => 0)
    (partOf m c) (fun t h j => outs_A m c t h j) (fun t h j => outs_B m c t h j) (le_of_eq N_0) t0_1 rfl y).trans ?_
  rw [zero_add, sum_parts]

/-- The gradients' array afterwards: rows 0 to 255 of each layer are the gradient, the others as before. -/
def arr (i : S4x1024x1024.Idx) : EReal :=
  if (i 1).val < 256 then grad (xn m c) (dq m c) (i 0) (quarter (i 1)) (i 2) else old m c i

theorem final : (dats m 0 c).arrAt 2 cfg0.N = arr m c := by
  refine (dats m 0 c).arrAt_eq_of_coversWhere_of_agree 2 _ (fun β => β (1 : Fin 3) = 0) (by decide +kernel) (fun t hf y => ?_) (fun j hj => ?_)
  · obtain rfl : t = t0_1 := Fin.ext (by have := (flush0_2 t).mp hf; have := lt_of_lt_of_eq t.isLt N_0; show t.val = 1; omega)
    blk_simp
    rw [after0_2, outs_last]
    have hy : ∀ y : S4x256x1024.Idx, grad (xn m c) (dq m c) (y 0) (y 1) (y 2)
        = arr m c (ix3 (y 0) (⟨(y 1).val, (y 1).isLt.trans (by decide)⟩ : Fin 1024) (y 2)) := fun y => by
      refine Eq.symm ((if_pos (y 1).isLt).trans ?_)
      exact congrArg (fun r => grad (xn m c) (dq m c) (y 0) r (y 2)) (quarter_low (y 1) _)
    refine (hy y).trans (congrArg (arr m c) ?_)
    blk_ext [idx t0_1]
  · blk_simp [Pipeline.Window.cell_apply] at hj
    rw [A_eq]
    exact (congrFun (old_eq m c) _).trans (if_neg (c := (j 1).val < 256) (by omega)).symm

end Cert.Kernel8Ideal.Grad

end
-- ==== Proof.GradAttnClaims.lean ====
/- The attention's two weights' gradients of the reference, and that they are the arrays the calls leave. -/
module

public import proofs.«01_k».proof.Defs
public import proofs.«01_k».proof.Proof.GradWo
public import proofs.«01_k».proof.Proof.GradWq
public import proofs.«01_k».proof.Proof.Gen.Reference7Ideal.Run
public import proofs.«01_k».proof.Proof.Gen.Reference8Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Proj
open Cert.Ffn (by_ix3)

section
open Cert.Reference7Ideal Cert.Reference7Ideal.Gen

/-- The array with the output weight's gradient as the reference computes it. -/
def refWo (o dy : FVec Ideal S4096x1024 .f32) (old : FVec Ideal S4x1024x1024 .f32) : FVec Ideal S4x1024x1024 .f32 :=
  concatenate S4x1024x1024 1 [⟨S4x768x1024, (extractStridedSlice S4x768x1024 ![0, 0, 0] old slices_S4x1024x1024_S4x768x1024_0_0_0)⟩, ⟨S4x256x1024, (shapeCast _ (transpose S1024x1024 [1, 0] (Host.dotGeneral dot_S4096x1024_S4096x1024_S1024x1024_0_0_1_1_n_n none dy o) transposes_S1024x1024_S1024x1024_1_0) shapeCasts_S1024x1024_S4x256x1024)⟩] concatenates_S4x768x1024_S4x256x1024_S4x1024x1024_d1

theorem refWo_at (o dy : FVec Ideal S4096x1024 .f32) (old : FVec Ideal S4x1024x1024 .f32) (p : Fin 4) (x : Fin 1024) (d : Fin 1024) :
    refWo o dy old (ix3 p x d) = (if x.val < 768 then old (ix3 p x d) else grad o dy p (quarter x) d : EReal) := by
  pointwise [refWo]
  by_cases h : x.val < 768
  · rw [dif_pos h, if_pos h]
  · rw [dif_neg h, if_neg h]
    have e : quarter x = ⟨x.val - 768, by omega⟩ := Fin.ext (by simp only [quarter]; omega)
    rw [e]
    exact Finset.sum_congr rfl fun s _ => mul_comm (G := EReal) _ _
end

section
open Cert.Reference8Ideal Cert.Reference8Ideal.Gen

/-- The array with the query weight's gradient as the reference computes it. -/
def refWq (xn dq : FVec Ideal S4096x1024 .f32) (old : FVec Ideal S4x1024x1024 .f32) : FVec Ideal S4x1024x1024 .f32 :=
  concatenate S4x1024x1024 1 [⟨S4x256x1024, (shapeCast _ (transpose S1024x1024 [1, 0] (Host.dotGeneral dot_S4096x1024_S4096x1024_S1024x1024_0_0_1_1_n_n none dq xn) transposes_S1024x1024_S1024x1024_1_0) shapeCasts_S1024x1024_S4x256x1024)⟩, ⟨S4x768x1024, (extractStridedSlice S4x768x1024 ![0, 256, 0] old slices_S4x1024x1024_S4x768x1024_0_256_0)⟩] concatenates_S4x256x1024_S4x768x1024_S4x1024x1024_d1

theorem refWq_at (xn dq : FVec Ideal S4096x1024 .f32) (old : FVec Ideal S4x1024x1024 .f32) (p : Fin 4) (x : Fin 1024) (d : Fin 1024) :
    refWq xn dq old (ix3 p x d) = (if x.val < 256 then grad xn dq p (quarter x) d else old (ix3 p x d) : EReal) := by
  pointwise [refWq]
  by_cases h : x.val < 256
  · rw [dif_pos h, if_pos h]
    have e : quarter x = ⟨x.val, h⟩ := Fin.ext (Nat.mod_eq_of_lt h)
    rw [e]
    exact Finset.sum_congr rfl fun s _ => mul_comm (G := EReal) _ _
  · rw [dif_neg h, if_neg h]
    exact congrArg (fun i => old (ix3 p i d)) (Fin.ext (by dsimp only; omega))
end

theorem algebraic7 : Cert.algebraic_Kernel7Ideal_Reference7Ideal := by
  intro m g m' g' _ hagree
  refine ⟨fun c => Cert.Kernel7Ideal.Grad.arr m c,
    (θ_run Cert.Kernel7Ideal.defs _ _).mono (fun r h c => ⟨(h c).1.trans (Cert.Kernel7Ideal.Grad.final m c), (h c).2⟩)
      (Cert.Kernel7Ideal.Value.run_blocks m g),
    (θ_run Cert.Reference7Ideal.defs _ _).mono (fun r h c => ?_) (Cert.Reference7Ideal.Value.run m' g')⟩
  obtain ⟨a0, a1, a2⟩ := hagree c
  have h0 := (h c).1
  rw [a0, a1, a2] at h0
  exact ⟨h0.trans (funext (by_ix3 fun p x d => refWo_at _ _ _ p x d)), (h c).2⟩

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem algebraic8 : Cert.algebraic_Kernel8Ideal_Reference8Ideal := by
  intro m g m' g' _ hagree
  refine ⟨fun c => Cert.Kernel8Ideal.Grad.arr m c,
    (θ_run Cert.Kernel8Ideal.defs _ _).mono (fun r h c => ⟨(h c).1.trans (Cert.Kernel8Ideal.Grad.final m c), (h c).2⟩)
      (Cert.Kernel8Ideal.Value.run_blocks m g),
    (θ_run Cert.Reference8Ideal.defs _ _).mono (fun r h c => ?_) (Cert.Reference8Ideal.Value.run m' g')⟩
  obtain ⟨a0, a1, a2⟩ := hagree c
  have h0 := (h c).1
  rw [a0, a1, a2] at h0
  exact ⟨h0.trans (funext (by_ix3 fun p x d => refWq_at _ _ _ p x d)), (h c).2⟩

theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

end Cert.Proof

end
-- ==== Proof.QBwdRef.lean ====
/- The reference's gradient of the query product's input and gain, and that the call's is the same. -/
module

public import proofs.«01_k».proof.Proof.InBwdRef
public import proofs.«01_k».proof.Proof.QBwd
public import proofs.«01_k».proof.Proof.Gen.Reference9Ideal.Run

@[expose] public section

set_option maxRecDepth 16384

noncomputable section

namespace Cert.QBwdRef

open Idealize.ShloMosaic Idealize.SL.Sem Cert.NormRow
open Cert.Ffn (by_ix2)
open Cert.InBwdRef (refX refX_at refN refN_at gained gained_at)

section
open Cert.Reference9Ideal Cert.Reference9Ideal.Gen

variable (a : FVec Ideal S4096x1024 .f32) (w : FVec Ideal S1024x1024 .f32)

/-- The gradient by the normalised rows. -/
def gradN : FVec Ideal S4096x1024 .f32 := Host.dotGeneral dot_S4096x1024_S1024x1024_S4096x1024_1_1_0_0_n_n none a w

theorem gradN_at (s : Fin 4096) (d : Fin 1024) : gradN a w (ix2 s d) = ∑ k : Fin 1024, (a (ix2 s k) : EReal) * w (ix2 d k) := by
  pointwise [gradN]
end

theorem algebraic9 : Cert.algebraic_Kernel9Ideal_Reference9Ideal := by
  intro m g m' g' _ hagree
  refine ⟨fun c => Cert.Kernel9Ideal.QBwd.arrX m c, fun c i => Cert.Kernel9Ideal.QBwd.arrN m c (i 1),
    (θ_run Cert.Kernel9Ideal.defs _ _).mono (fun r h c => ⟨(h c).1.trans (Cert.Kernel9Ideal.QBwd.final8 m c),
      (h c).2.1.trans (Cert.Kernel9Ideal.QBwd.final9 m c), (h c).2.2⟩)
      (Cert.Kernel9Ideal.Value.run_blocks m g),
    (θ_run Cert.Reference9Ideal.defs _ _).mono (fun r h c => ?_) (Cert.Reference9Ideal.Value.run m' g')⟩
  obtain ⟨a0, a1, a2, a3, a4, a5, a6, a7⟩ := hagree c
  obtain ⟨h0, h1, hargs⟩ := h c
  unfold Cert.Reference9Ideal.Value.res_main_v38 at h0
  rw [a0, a1, a5, a6, a7] at h0
  rw [a0, a1, a5] at h1
  refine ⟨h0.trans (funext (by_ix2 fun s d => ?_)), h1.trans (funext (by_ix2 fun z d => ?_)), hargs⟩
  · refine (refX_at (Cert.Kernel9Ideal.QBwd.xin m c) (Cert.Kernel9Ideal.QBwd.dres m c)
      (gained (Cert.Kernel9Ideal.QBwd.gain m c) (gradN (Cert.Kernel9Ideal.QBwd.dq m c) (Cert.Kernel9Ideal.QBwd.wq m c))) s d).trans ?_
    simp only [gained_at, gradN_at]
    exact dx_eq _ _ _ _
  · obtain rfl : z = 0 := Subsingleton.elim _ _
    refine (refN_at (Cert.Kernel9Ideal.QBwd.xin m c) (gradN (Cert.Kernel9Ideal.QBwd.dq m c) (Cert.Kernel9Ideal.QBwd.wq m c)) d).trans ?_
    simp only [gradN_at]
    rfl

theorem frame_reference9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run m g)

end Cert.QBwdRef

end
-- ==== Proof.lean ====
/- The claims of this certificate: the kernel, its reading over the extended reals and the reference run, leave their
   arguments alone and end with every semaphore at zero; and over the extended reals the kernel's gradients are the
   reference's. The first pair is the attention's three gradients (for real queries and keys); the second the gated
   feed-forward's two hidden derivatives (for real gradients, upper halves and weights); the third its gradients by the
   input and the gain; the next three those by its three weights. The seventh and eighth are the gradients by the attention's
   output and query weights, the ninth those by the query product's input and gain; the tenth is the feed-forward's first half
   with the gated units, the eleventh its second half with the residual. Of the mixers: the twelfth is the even input product's
   gradients by input and gain, the next three the gradients by the even input weight (two halves) and output weight, the
   sixteenth the output product's gradient by its input, the nineteenth and the twenty-fourth the even products forwards, the
   twenty-third the odd input weight's gradient, the twenty-fifth and the twenty-second the odd mixer's input product and gated
   output product forwards, the last the gated output product backwards (for real gradients, gated halves and weights). The
   seventeenth, twentieth and eighteenth are the attention forwards, the twenty-first the last down product with the loss and
   its first two gradients. Of the memory: the twenty-ninth and thirtieth are its key and value products, the three before them the gradients of these by their input and by
   their weights, the thirty-first and thirty-second its norm and the gradient by the norm's gain. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.MixBwdRef
public import proofs.«01_k».proof.Proof.MixOutBwd
public import proofs.«01_k».proof.Proof.QFwd
public import proofs.«01_k».proof.Proof.AttnOut
public import proofs.«01_k».proof.Proof.AttnFwd
public import proofs.«01_k».proof.Proof.MixIn
public import proofs.«01_k».proof.Proof.MixOut
public import proofs.«01_k».proof.Proof.GradMixClaims
public import proofs.«01_k».proof.Proof.LossHeadRef
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.OddIn
public import proofs.«01_k».proof.Proof.GluOut
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.MemBwd
public import proofs.«01_k».proof.Proof.GradWk
public import proofs.«01_k».proof.Proof.GradWv
public import proofs.«01_k».proof.Proof.MemK
public import proofs.«01_k».proof.Proof.MemV
public import proofs.«01_k».proof.Proof.MemNorm
public import proofs.«01_k».proof.Proof.GluOutBwd
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.AttnArr
public import proofs.«01_k».proof.Proof.RefValue
public import proofs.«01_k».proof.Proof.Finite
public import proofs.«01_k».proof.Proof.HiddenRef
public import proofs.«01_k».proof.Proof.InBwdRef
public import proofs.«01_k».proof.Proof.GradClaims
public import proofs.«01_k».proof.Proof.GradAttnClaims
public import proofs.«01_k».proof.Proof.QBwdRef
public import proofs.«01_k».proof.Proof.FfnUpRef
public import proofs.«01_k».proof.Proof.Down
public import Idealize.ShloMosaic.Lib.Claim
public import Idealize.ShloMosaic.Adequacy
public import Idealize.ShloMosaic.Init

@[expose] public section

noncomputable section

namespace Cert.Proof

open Idealize.ShloMosaic Idealize.SL.Sem Cert.Attn

attribute [local instance] Cert.Finite.facts Cert.HiddenRef.facts

/-- A matrix's array by its entries. -/
theorem ext2 {a b : ℕ} {f g : (⟨2, ![a, b]⟩ : Shape).Idx → EReal} (h : ∀ (i : Fin a) (j : Fin b), f (ix2 i j) = g (ix2 i j)) : f = g :=
  funext (Cert.Finite.forall_ix2 h)

section
open Cert.KernelIdeal.Attn Cert.ReferenceIdeal.Steps

theorem algebraic : Cert.algebraic_KernelIdeal_ReferenceIdeal_pre_qk_finite := by
  intro m g m' g' hpre hagree
  have hq : ∀ c i, ∃ a : ℝ, Cert.KernelIdeal.Attn.q m c i = a :=
    fun c => Cert.Finite.forall_ix2 (Cert.Finite.real_q _ _ _ _ _ _ _ _ (hpre c))
  have hk : ∀ c i, ∃ a : ℝ, Cert.KernelIdeal.Attn.k m c i = a :=
    fun c => Cert.Finite.forall_ix2 (Cert.Finite.real_k _ _ _ _ _ _ _ _ (hpre c))
  refine ⟨fun c => arrQ m c, fun c => arrK m c, fun c => arrV m c,
    (θ_run Cert.KernelIdeal.defs _ _).mono (fun r h c => ⟨(h c).1.trans (final8 m c), (h c).2.1.trans (final9 m c),
      (h c).2.2.1.trans (final10 m c), (h c).2.2.2⟩) (Cert.KernelIdeal.Value.run_blocks m g),
    (θ_run Cert.ReferenceIdeal.defs _ _).mono (fun r h c => ?_) (Cert.ReferenceIdeal.Steps.run_steps m' g')⟩
  obtain ⟨a0, a1, a2, a3, -, -, -, a7⟩ := hagree c
  obtain ⟨h0, h1, h2, hargs⟩ := h c
  dsimp only [Cert.ReferenceIdeal.Steps.dy, Cert.ReferenceIdeal.Steps.q, Cert.ReferenceIdeal.Steps.k,
    Cert.ReferenceIdeal.Steps.v, Cert.ReferenceIdeal.Steps.wo] at h0 h1 h2
  rw [a0, a1, a2, a3, a7] at h0 h1
  rw [a0, a1, a2, a7] at h2
  exact ⟨h0.trans (ext2 fun r x => outQ_eq _ _ _ _ _ (hq c) (hk c) r x),
    h1.trans (ext2 fun j x => outK_eq _ _ _ _ _ (hq c) (hk c) j x),
    h2.trans (ext2 fun j x => outV_eq _ _ _ _ j x), hargs⟩
end

theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
   Cert.Kernel33.Gen.facts, Cert.Kernel33Ideal.Gen.facts, Cert.Reference33Ideal.Gen.facts,
 Cert.Finite.facts, Cert.HiddenRef.facts, Cert.GluOutBwd.facts,
  fun m ρ _ => Cert.Kernel.Gen.frame m ρ,
  fun m ρ _ => Cert.KernelIdeal.Gen.frame m ρ,
  fun m ρ _ => Cert.KernelIdeal.Gen.frame m ρ,
  frame_reference,
  fun m g _ => frame_reference m g trivial,
  fun m ρ _ => Cert.Kernel2.Gen.frame m ρ,
  fun m ρ _ => Cert.Kernel2Ideal.Gen.frame m ρ,
  fun m ρ _ => Cert.Kernel2Ideal.Gen.frame m ρ,
  Cert.HiddenRef.frame_reference2,
  fun m g _ => Cert.HiddenRef.frame_reference2 m g trivial,
  fun m ρ _ => Cert.Kernel3.Gen.frame m ρ,
  fun m ρ _ => Cert.Kernel3Ideal.Gen.frame m ρ,
  Cert.InBwdRef.frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  Cert.QBwdRef.frame_reference9,
  fun m ρ _ => Cert.Kernel10.Gen.frame m ρ,
  fun m ρ _ => Cert.Kernel10Ideal.Gen.frame m ρ,
  Cert.FfnUpRef.frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  Cert.MixBwdRef.frame_reference12,
  fun m ρ _ => Cert.Kernel13.Gen.frame m ρ,
  fun m ρ _ => Cert.Kernel13Ideal.Gen.frame m ρ,
  Cert.GradMix.frame_reference13,
  fun m ρ _ => Cert.Kernel14.Gen.frame m ρ,
  fun m ρ _ => Cert.Kernel14Ideal.Gen.frame m ρ,
  Cert.GradMix.frame_reference14,
  fun m ρ _ => Cert.Kernel15.Gen.frame m ρ,
  fun m ρ _ => Cert.Kernel15Ideal.Gen.frame m ρ,
  Cert.GradMix.frame_reference15,
  fun m ρ _ => Cert.Kernel16.Gen.frame m ρ,
  fun m ρ _ => Cert.Kernel16Ideal.Gen.frame m ρ,
  Cert.MixOutBwd.frame_reference16,
  fun m ρ _ => Cert.Kernel17.Gen.frame m ρ,
  fun m ρ _ => Cert.Kernel17Ideal.Gen.frame m ρ,
  Cert.QFwd.frame_reference17,
  fun m ρ _ => Cert.Kernel18.Gen.frame m ρ,
  fun m ρ _ => Cert.Kernel18Ideal.Gen.frame m ρ,
  Cert.AttnOut.frame_reference18,
  fun m ρ _ => Cert.Kernel19.Gen.frame m ρ,
  fun m ρ _ => Cert.Kernel19Ideal.Gen.frame m ρ,
  Cert.MixIn.frame_reference19,
  fun m ρ _ => Cert.Kernel20.Gen.frame m ρ,
  fun m ρ _ => Cert.Kernel20Ideal.Gen.frame m ρ,
  Cert.AttnFwd.frame_reference20,
  fun m ρ _ => Cert.Kernel21.Gen.frame m ρ,
  fun m ρ _ => Cert.Kernel21Ideal.Gen.frame m ρ,
  Cert.LossHeadRef.frame_reference21,
  fun m ρ _ => Cert.Kernel22.Gen.frame m ρ,
  fun m ρ _ => Cert.Kernel22Ideal.Gen.frame m ρ,
  Cert.GluOut.frame_reference22,
  fun m ρ _ => Cert.Kernel23.Gen.frame m ρ,
  fun m ρ _ => Cert.Kernel23Ideal.Gen.frame m ρ,
  Cert.GradMix.frame_reference23,
  fun m ρ _ => Cert.Kernel24.Gen.frame m ρ,
  fun m ρ _ => Cert.Kernel24Ideal.Gen.frame m ρ,
  Cert.MixOut.frame_reference24,
  fun m ρ _ => Cert.Kernel25.Gen.frame m ρ,
  fun m ρ _ => Cert.Kernel25Ideal.Gen.frame m ρ,
  Cert.OddIn.frame_reference25,
  fun m ρ _ => Cert.Kernel26.Gen.frame m ρ,
  fun m ρ _ => Cert.Kernel26Ideal.Gen.frame m ρ,
  Cert.MemBwd.frame_reference26,
  fun m ρ _ => Cert.Kernel27.Gen.frame m ρ,
  fun m ρ _ => Cert.Kernel27Ideal.Gen.frame m ρ,
  Cert.GradWk.frame_reference27,
  fun m ρ _ => Cert.Kernel28.Gen.frame m ρ,
  fun m ρ _ => Cert.Kernel28Ideal.Gen.frame m ρ,
  Cert.GradWv.frame_reference28,
  fun m ρ _ => Cert.Kernel29.Gen.frame m ρ,
  fun m ρ _ => Cert.Kernel29Ideal.Gen.frame m ρ,
  Cert.MemK.frame_reference29,
  fun m ρ _ => Cert.Kernel30.Gen.frame m ρ,
  fun m ρ _ => Cert.Kernel30Ideal.Gen.frame m ρ,
  Cert.MemV.frame_reference30,
  fun m ρ _ => Cert.Kernel31.Gen.frame m ρ,
  fun m ρ _ => Cert.Kernel31Ideal.Gen.frame m ρ,
  Cert.MemNorm.frame_reference31,
  fun m ρ _ => Cert.Kernel32.Gen.frame m ρ,
  fun m ρ _ => Cert.Kernel32Ideal.Gen.frame m ρ,
  Cert.MemNorm.frame_reference32,
  fun m ρ _ => Cert.Kernel33.Gen.frame m ρ,
  fun m ρ _ => Cert.Kernel33Ideal.Gen.frame m ρ,
  fun m ρ _ => Cert.Kernel33Ideal.Gen.frame m ρ,
  Cert.GluOutBwd.frame_reference33,
  fun m g _ => Cert.GluOutBwd.frame_reference33 m g trivial,
  trivial,
  algebraic,
  trivial,
  Cert.HiddenRef.algebraic2,
  trivial,
  Cert.InBwdRef.algebraic3,
  trivial,
  algebraic4,
  trivial,
  algebraic5,
  trivial,
  algebraic6,
  trivial,
  algebraic7,
  trivial,
  algebraic8,
  trivial,
  Cert.QBwdRef.algebraic9,
  trivial,
  Cert.FfnUpRef.algebraic10,
  trivial,
  algebraic11,
  trivial,
  Cert.MixBwdRef.algebraic12,
  trivial,
  Cert.GradMix.algebraic13,
  trivial,
  Cert.GradMix.algebraic14,
  trivial,
  Cert.GradMix.algebraic15,
  trivial,
  Cert.MixOutBwd.algebraic16,
  trivial,
  Cert.QFwd.algebraic17,
  trivial,
  Cert.AttnOut.algebraic18,
  trivial,
  Cert.MixIn.algebraic19,
  trivial,
  Cert.AttnFwd.algebraic20,
  trivial,
  Cert.LossHeadRef.algebraic21,
  trivial,
  Cert.GluOut.algebraic22,
  trivial,
  Cert.GradMix.algebraic23,
  trivial,
  Cert.MixOut.algebraic24,
  trivial,
  Cert.OddIn.algebraic25,
  trivial,
  Cert.MemBwd.algebraic26,
  trivial,
  Cert.GradWk.algebraic27,
  trivial,
  Cert.GradWv.algebraic28,
  trivial,
  Cert.MemK.algebraic29,
  trivial,
  Cert.MemV.algebraic30,
  trivial,
  Cert.MemNorm.algebraic31,
  trivial,
  Cert.MemNorm.algebraic32,
  ⟨IdealRules.named_const.statement Cert.Kernel33Ideal.κ "gelu_a" .f32 0x3D372713#32 ((8943 / 200000 : ℝ) : EReal) rfl,
    IdealRules.named_const.statement Cert.Kernel33Ideal.κ "gelu_3a" .f32 0x3E095D4F#32 ((26829 / 200000 : ℝ) : EReal) rfl⟩,
  Cert.GluOutBwd.algebraic33⟩

end Cert.Proof

end
